-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_steps [hPre_finite_steps : Cert.Pre_finite_steps.Facts] (m : (ℓ : Loc Cert.SsdIdeal.nD Cert.SsdIdeal.τ Cert.SsdIdeal.sig) → Buf (Elt Ideal) ℓ) : Prop :=
  ∀ c : Dev Cert.SsdIdeal.nD,
    (Cert.Pre_finite_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7))).1 = (fun _ => 1#1)
    ∧ (Cert.Pre_finite_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7))).2.1 = (fun _ => 1#1)
    ∧ (Cert.Pre_finite_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7))).2.2 = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_steps [hPre_finite_steps : Cert.Pre_finite_steps.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_steps.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7))).1 = (fun _ => 1#1)
    ∧ (Cert.Pre_finite_steps.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7))).2.1 = (fun _ => 1#1)
    ∧ (Cert.Pre_finite_steps.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7))).2.2 = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdIdeal_pre_finite_steps [hSsdIdeal : Cert.SsdIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_steps m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def quiescent_SsdRefIdeal_pre_finite_steps [hSsdRefIdeal : Cert.SsdRefIdeal.Facts] [hPre_finite_steps : Cert.Pre_finite_steps.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_steps m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v77) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)) →
    ∃ (v0 : (c : Dev Cert.WoutIdeal.nD) → Buf (Elt Ideal) ((c.tc : Thread Cert.WoutIdeal.nD Cert.WoutIdeal.τ).loc Cert.WoutIdeal.main_v3)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v3) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v36) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)) →
    ∃ (v0 : (c : Dev Cert.WinIdeal.nD) → Buf (Elt Ideal) ((c.tc : Thread Cert.WinIdeal.nD Cert.WinIdeal.τ).loc Cert.WinIdeal.main_v9)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v9) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v73) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v98) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Ssd_SsdIdeal : Prop :=
  True

def algebraic_SsdIdeal_SsdRefIdeal_pre_finite_steps [hSsdIdeal : Cert.SsdIdeal.Facts] [hSsdRefIdeal : Cert.SsdRefIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite_steps m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)) →
    ∃ (v0 : (c : Dev Cert.SsdIdeal.nD) → Buf (Elt Ideal) ((c.tc : Thread Cert.SsdIdeal.nD Cert.SsdIdeal.τ).loc Cert.SsdIdeal.main_v23)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v23) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v268) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7))

def Claim : Prop :=
  ∃ (hMlp : Cert.Mlp.Facts) (hMlpIdeal : Cert.MlpIdeal.Facts) (hMlpRefIdeal : Cert.MlpRefIdeal.Facts) (hWout : Cert.Wout.Facts) (hWoutIdeal : Cert.WoutIdeal.Facts) (hWoutRefIdeal : Cert.WoutRefIdeal.Facts) (hWin : Cert.Win.Facts) (hWinIdeal : Cert.WinIdeal.Facts) (hWinRefIdeal : Cert.WinRefIdeal.Facts) (hMerge : Cert.Merge.Facts) (hMergeIdeal : Cert.MergeIdeal.Facts) (hMergeRefIdeal : Cert.MergeRefIdeal.Facts) (hSsd : Cert.Ssd.Facts) (hSsdIdeal : Cert.SsdIdeal.Facts) (hSsdRefIdeal : Cert.SsdRefIdeal.Facts) (hPre_finite_steps : Cert.Pre_finite_steps.Facts),
    quiescent_Mlp (hMlp := hMlp)
    ∧ quiescent_MlpIdeal (hMlpIdeal := hMlpIdeal)
    ∧ quiescent_MlpRefIdeal (hMlpRefIdeal := hMlpRefIdeal)
    ∧ quiescent_Wout (hWout := hWout)
    ∧ quiescent_WoutIdeal (hWoutIdeal := hWoutIdeal)
    ∧ quiescent_WoutRefIdeal (hWoutRefIdeal := hWoutRefIdeal)
    ∧ quiescent_Win (hWin := hWin)
    ∧ quiescent_WinIdeal (hWinIdeal := hWinIdeal)
    ∧ quiescent_WinRefIdeal (hWinRefIdeal := hWinRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ssd (hSsd := hSsd)
    ∧ quiescent_SsdIdeal (hSsdIdeal := hSsdIdeal)
    ∧ quiescent_SsdIdeal_pre_finite_steps (hSsdIdeal := hSsdIdeal) (hPre_finite_steps := hPre_finite_steps)
    ∧ quiescent_SsdRefIdeal (hSsdRefIdeal := hSsdRefIdeal)
    ∧ quiescent_SsdRefIdeal_pre_finite_steps (hSsdRefIdeal := hSsdRefIdeal) (hPre_finite_steps := hPre_finite_steps)
    ∧ preserves_Mlp_MlpIdeal
    ∧ algebraic_MlpIdeal_MlpRefIdeal (hMlpIdeal := hMlpIdeal) (hMlpRefIdeal := hMlpRefIdeal)
    ∧ preserves_Wout_WoutIdeal
    ∧ algebraic_WoutIdeal_WoutRefIdeal (hWoutIdeal := hWoutIdeal) (hWoutRefIdeal := hWoutRefIdeal)
    ∧ preserves_Win_WinIdeal
    ∧ algebraic_WinIdeal_WinRefIdeal (hWinIdeal := hWinIdeal) (hWinRefIdeal := hWinRefIdeal)
    ∧ preserves_Merge_MergeIdeal
    ∧ algebraic_MergeIdeal_MergeRefIdeal (hMergeIdeal := hMergeIdeal) (hMergeRefIdeal := hMergeRefIdeal)
    ∧ preserves_Ssd_SsdIdeal
    ∧ algebraic_SsdIdeal_SsdRefIdeal_pre_finite_steps (hSsdIdeal := hSsdIdeal) (hSsdRefIdeal := hSsdRefIdeal) (hPre_finite_steps := hPre_finite_steps)
-- ==== Pre_finite_steps.lean ====
abbrev S2x8448x2048 : Shape := ⟨3, ![2, 8448, 2048]⟩
abbrev S2x8448x32 : Shape := ⟨3, ![2, 8448, 32]⟩
abbrev S5x2048 : Shape := ⟨2, ![5, 2048]⟩
abbrev S2048 : Shape := ⟨1, ![2048]⟩
abbrev S2x16 : Shape := ⟨2, ![2, 16]⟩
abbrev S2x8448x1024 : Shape := ⟨3, ![2, 8448, 1024]⟩
abbrev S16 : Shape := ⟨1, ![16]⟩
abbrev S2x8448x16 : Shape := ⟨3, ![2, 8448, 16]⟩
abbrev S_ : Shape := ⟨0, ![]⟩
abbrev S1x16 : Shape := ⟨2, ![1, 16]⟩

class Facts : Prop where
  slices_S2x8448x32_S2x8448x16_0_0_0 : S2x8448x32.Slices ![0, 0, 0] S2x8448x16
  bcast_S_S2x8448x16 : S_.BroadcastsInDim S2x8448x16 (![] : Fin 0 → Fin S2x8448x16.rank)
  slices_S2x16_S1x16_0_0 : S2x16.Slices ![0, 0] S1x16
  shapeCasts_S1x16_S16 : S1x16.ShapeCasts S16
  bcast_S_S16 : S_.BroadcastsInDim S16 (![] : Fin 0 → Fin S16.rank)

variable [Facts]

def fn {F : FTy → Type} [FloatOps F] (main_arg0 : FVec F S2x8448x2048 .f32) (main_arg1 : FVec F S2x8448x32 .f32) (main_arg2 : FVec F S5x2048 .f32) (main_arg3 : FVec F S2048 .f32) (main_arg4 : FVec F S2x16 .f32) (main_arg5 : FVec F S2x16 .f32) (main_arg6 : FVec F S2x8448x1024 .f32) (main_arg7 : FVec F S16 .f32) : IVec S2x8448x16 1 × IVec S16 1 × IVec S16 1 :=
  let main_v0 : FVec F S2x8448x16 .f32 := (extractStridedSlice S2x8448x16 ![0, 0, 0] · slices_S2x8448x32_S2x8448x16_0_0_0) main_arg1
  let main_v1 : FVec F S2x8448x16 .f32 := Host.absf main_v0
  let main_cst : FVec F S_ .f32 := constant S_ .f32 0x7F800000#32
  let main_v2 : FVec F S2x8448x16 .f32 := broadcastInDim S2x8448x16 ![] bcast_S_S2x8448x16 main_cst
  let main_v3 : IVec S2x8448x16 1 := cmpf .olt main_v1 main_v2
  let main_v4 : FVec F S1x16 .f32 := (extractStridedSlice S1x16 ![0, 0] · slices_S2x16_S1x16_0_0) main_arg4
  let main_v5 : FVec F S16 .f32 := shapeCast S16 main_v4 shapeCasts_S1x16_S16
  let main_v6 : FVec F S16 .f32 := Host.absf main_v5
  let main_cst_0 : FVec F S_ .f32 := constant S_ .f32 0x7F800000#32
  let main_v7 : FVec F S16 .f32 := broadcastInDim S16 ![] bcast_S_S16 main_cst_0
  let main_v8 : IVec S16 1 := cmpf .olt main_v6 main_v7
  let main_v9 : FVec F S1x16 .f32 := (extractStridedSlice S1x16 ![0, 0] · slices_S2x16_S1x16_0_0) main_arg5
  let main_v10 : FVec F S16 .f32 := shapeCast S16 main_v9 shapeCasts_S1x16_S16
  let main_v11 : FVec F S16 .f32 := Host.absf main_v10
  let main_cst_1 : FVec F S_ .f32 := constant S_ .f32 0x7F800000#32
  let main_v12 : FVec F S16 .f32 := broadcastInDim S16 ![] bcast_S_S16 main_cst_1
  let main_v13 : IVec S16 1 := cmpf .olt main_v11 main_v12
  (main_v3, main_v8, main_v13)
-- ==== Mlp.lean ====
abbrev S16896x4096 : Shape := ⟨2, ![16896, 4096]⟩
abbrev S4096 : Shape := ⟨1, ![4096]⟩
abbrev S3x24576 : Shape := ⟨2, ![3, 24576]⟩
abbrev S4096x16384 : Shape := ⟨2, ![4096, 16384]⟩
abbrev S16384x4096 : Shape := ⟨2, ![16384, 4096]⟩
abbrev S3x6x4096 : Shape := ⟨3, ![3, 6, 4096]⟩
abbrev S_ : Shape := ⟨0, ![]⟩
abbrev S3x8x4096 : Shape := ⟨3, ![3, 8, 4096]⟩
abbrev S1x4096 : Shape := ⟨2, ![1, 4096]⟩
abbrev S512x4096 : Shape := ⟨2, ![512, 4096]⟩
abbrev S1x8x4096 : Shape := ⟨3, ![1, 8, 4096]⟩
abbrev S4096x512 : Shape := ⟨2, ![4096, 512]⟩
abbrev S512 : Shape := ⟨1, ![512]⟩
abbrev S512x1 : Shape := ⟨2, ![512, 1]⟩
abbrev S1x1x4096 : Shape := ⟨3, ![1, 1, 4096]⟩
abbrev S512x512 : Shape := ⟨2, ![512, 512]⟩

abbrev nBuf : Space → Nat
  | .hbm => 13
  | .vmem => 9
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S3x24576, .f32⟩
  | .hbm, ⟨3, _⟩ => ⟨S4096x16384, .f32⟩
  | .hbm, ⟨4, _⟩ => ⟨S16384x4096, .f32⟩
  | .hbm, ⟨5, _⟩ => ⟨S3x6x4096, .f32⟩
  | .hbm, ⟨6, _⟩ => ⟨S_, .i32⟩
  | .hbm, ⟨7, _⟩ => ⟨S_, .f32⟩
  | .hbm, ⟨8, _⟩ => ⟨S3x8x4096, .f32⟩
  | .hbm, ⟨9, _⟩ => ⟨S4096x16384, .bf16⟩
  | .hbm, ⟨10, _⟩ => ⟨S16384x4096, .bf16⟩
  | .hbm, ⟨11, _⟩ => ⟨S1x4096, .f32⟩
  | .hbm, ⟨12, _⟩ => ⟨S16896x4096, .f32⟩
  | .local _ .vmem, ⟨0, _⟩ => ⟨S512x4096, .f32⟩
  | .local _ .vmem, ⟨1, _⟩ => ⟨S1x4096, .f32⟩
  | .local _ .vmem, ⟨2, _⟩ => ⟨S1x8x4096, .f32⟩
  | .local _ .vmem, ⟨3, _⟩ => ⟨S4096x512, .bf16⟩
  | .local _ .vmem, ⟨4, _⟩ => ⟨S4096x512, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .f32⟩
  | .local _ .vmem, ⟨8, _⟩ => ⟨S512x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![33, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== MlpRefIdeal.lean ====
abbrev S16896x4096 : Shape := ⟨2, ![16896, 4096]⟩
abbrev S4096 : Shape := ⟨1, ![4096]⟩
abbrev S3x24576 : Shape := ⟨2, ![3, 24576]⟩
abbrev S4096x16384 : Shape := ⟨2, ![4096, 16384]⟩
abbrev S16384x4096 : Shape := ⟨2, ![16384, 4096]⟩
abbrev S2x8192x4096 : Shape := ⟨3, ![2, 8192, 4096]⟩
abbrev S512x4096 : Shape := ⟨2, ![512, 4096]⟩
abbrev S2x256x4096 : Shape := ⟨3, ![2, 256, 4096]⟩
abbrev S2x24576 : Shape := ⟨2, ![2, 24576]⟩
abbrev S2x1x24576 : Shape := ⟨3, ![2, 1, 24576]⟩
abbrev S2x1x4096 : Shape := ⟨3, ![2, 1, 4096]⟩
abbrev S1x24576 : Shape := ⟨2, ![1, 24576]⟩
abbrev S24576 : Shape := ⟨1, ![24576]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x16384 : Shape := ⟨3, ![2, 8192, 16384]⟩
abbrev S2x256 : Shape := ⟨2, ![2, 256]⟩
abbrev S2x256x1 : Shape := ⟨3, ![2, 256, 1]⟩
abbrev S2x256x16384 : Shape := ⟨3, ![2, 256, 16384]⟩

abbrev nBuf : Space → Nat
  | .hbm => 95
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S3x24576, .f32⟩
  | .hbm, ⟨3, _⟩ => ⟨S4096x16384, .f32⟩
  | .hbm, ⟨4, _⟩ => ⟨S16384x4096, .f32⟩
  | .hbm, ⟨5, _⟩ => ⟨S16384x4096, .f32⟩
  | .hbm, ⟨6, _⟩ => ⟨S2x8192x4096, .f32⟩
  | .hbm, ⟨7, _⟩ => ⟨S512x4096, .f32⟩
  | .hbm, ⟨8, _⟩ => ⟨S2x256x4096, .f32⟩
  | .hbm, ⟨9, _⟩ => ⟨S2x24576, .f32⟩
  | .hbm, ⟨10, _⟩ => ⟨S2x1x24576, .f32⟩
  | .hbm, ⟨11, _⟩ => ⟨S2x1x4096, .f32⟩
  | .hbm, ⟨12, _⟩ => ⟨S2x1x4096, .f32⟩
  | .hbm, ⟨13, _⟩ => ⟨S2x1x4096, .f32⟩
  | .hbm, ⟨14, _⟩ => ⟨S2x1x4096, .f32⟩
  | .hbm, ⟨15, _⟩ => ⟨S2x1x4096, .f32⟩
  | .hbm, ⟨16, _⟩ => ⟨S2x1x4096, .f32⟩
  | .hbm, ⟨17, _⟩ => ⟨S1x24576, .f32⟩
  | .hbm, ⟨18, _⟩ => ⟨S24576, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S2x8192x4096, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x4096, .f32⟩
  | .hbm, ⟨37, _⟩ => ⟨S2x8192x4096, .f32⟩
  | .hbm, ⟨38, _⟩ => ⟨S1x1x4096, .f32⟩
  | .hbm, ⟨39, _⟩ => ⟨S2x8192x4096, .f32⟩
  | .hbm, ⟨40, _⟩ => ⟨S2x8192x4096, .f32⟩
  | .hbm, ⟨41, _⟩ => ⟨S_, .f32⟩
  | .hbm, ⟨42, _⟩ => ⟨S2x1x4096, .f32⟩
  | .hbm, ⟨43, _⟩ => ⟨S2x1x4096, .f32⟩
  | .hbm, ⟨44, _⟩ => ⟨S2x8192x4096, .f32⟩
  | .hbm, ⟨45, _⟩ => ⟨S2x8192x4096, .f32⟩
  | .hbm, ⟨46, _⟩ => ⟨S2x8192x4096, .f32⟩
  | .hbm, ⟨47, _⟩ => ⟨S2x8192x4096, .f32⟩
  | .hbm, ⟨48, _⟩ => ⟨S2x8192x16384, .f32⟩
  | .hbm, ⟨49, _⟩ => ⟨S_, .f32⟩
  | .hbm, ⟨50, _⟩ => ⟨S2x8192x16384, .f32⟩
  | .hbm, ⟨51, _⟩ => ⟨S2x8192x16384, .f32⟩
  | .hbm, ⟨52, _⟩ => ⟨S2x8192x16384, .f32⟩
  | .hbm, ⟨53, _⟩ => ⟨S2x8192x4096, .f32⟩
  | .hbm, ⟨54, _⟩ => ⟨S2x8192x4096, .f32⟩
  | .hbm, ⟨55, _⟩ => ⟨S2x8192x4096, .f32⟩
  | .hbm, ⟨56, _⟩ => ⟨S2x8192x4096, .f32⟩
  | .hbm, ⟨57, _⟩ => ⟨S2x256x4096, .f32⟩
  | .hbm, ⟨58, _⟩ => ⟨S_, .f32⟩
  | .hbm, ⟨59, _⟩ => ⟨S2x256, .f32⟩
  | .hbm, ⟨60, _⟩ => ⟨S2x256x1, .f32⟩
  | .hbm, ⟨61, _⟩ => ⟨S_, .f32⟩
  | .hbm, ⟨62, _⟩ => ⟨S2x256x1, .f32⟩
  | .hbm, ⟨63, _⟩ => ⟨S2x256x1, .f32⟩
  | .hbm, ⟨64, _⟩ => ⟨S_, .f32⟩
  | .hbm, ⟨65, _⟩ => ⟨S2x256x1, .f32⟩
  | .hbm, ⟨66, _⟩ => ⟨S2x256x1, .f32⟩
  | .hbm, ⟨67, _⟩ => ⟨S2x256x1, .f32⟩
  | .hbm, ⟨68, _⟩ => ⟨S2x256x4096, .f32⟩
  | .hbm, ⟨69, _⟩ => ⟨S2x256x4096, .f32⟩
  | .hbm, ⟨70, _⟩ => ⟨S1x1x4096, .f32⟩
  | .hbm, ⟨71, _⟩ => ⟨S2x256x4096, .f32⟩
  | .hbm, ⟨72, _⟩ => ⟨S2x256x4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S1x1x4096, .f32⟩
  | .hbm, ⟨77, _⟩ => ⟨S2x256x4096, .f32⟩
  | .hbm, ⟨78, _⟩ => ⟨S2x256x4096, .f32⟩
  | .hbm, ⟨79, _⟩ => ⟨S1x1x4096, .f32⟩
  | .hbm, ⟨80, _⟩ => ⟨S2x256x4096, .f32⟩
  | .hbm, ⟨81, _⟩ => ⟨S2x256x4096, .f32⟩
  | .hbm, ⟨82, _⟩ => ⟨S2x256x16384, .f32⟩
  | .hbm, ⟨83, _⟩ => ⟨S_, .f32⟩
  | .hbm, ⟨84, _⟩ => ⟨S2x256x16384, .f32⟩
  | .hbm, ⟨85, _⟩ => ⟨S2x256x16384, .f32⟩
  | .hbm, ⟨86, _⟩ => ⟨S2x256x16384, .f32⟩
  | .hbm, ⟨87, _⟩ => ⟨S2x256x4096, .f32⟩
  | .hbm, ⟨88, _⟩ => ⟨S1x1x4096, .f32⟩
  | .hbm, ⟨89, _⟩ => ⟨S2x256x4096, .f32⟩
  | .hbm, ⟨90, _⟩ => ⟨S2x256x4096, .f32⟩
  | .hbm, ⟨91, _⟩ => ⟨S2x256x4096, .f32⟩
  | .hbm, ⟨92, _⟩ => ⟨S16384x4096, .f32⟩
  | .hbm, ⟨93, _⟩ => ⟨S512x4096, .f32⟩
  | .hbm, ⟨94, _⟩ => ⟨S16896x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_call0_cst : Ref sig .tc := ⟨.hbm, 49, rfl⟩
abbrev main_call0_v0 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call1_cst : Ref sig .tc := ⟨.hbm, 83, rfl⟩
abbrev main_call1_v0 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩

abbrev nD : Nat := 1
abbrev τ : Topo := Topo.v7x

variable {F : FTy → Type} [FloatOps F]
-- ==== Wout.lean ====
abbrev S16896x4096 : Shape := ⟨2, ![16896, 4096]⟩
abbrev S4096x4096 : Shape := ⟨2, ![4096, 4096]⟩
abbrev S3x24576 : Shape := ⟨2, ![3, 24576]⟩
abbrev S3x6x4096 : Shape := ⟨3, ![3, 6, 4096]⟩
abbrev S_ : Shape := ⟨0, ![]⟩
abbrev S3x8x4096 : Shape := ⟨3, ![3, 8, 4096]⟩
abbrev S512x4096 : Shape := ⟨2, ![512, 4096]⟩
abbrev S4096x1024 : Shape := ⟨2, ![4096, 1024]⟩
abbrev S512x1024 : Shape := ⟨2, ![512, 1024]⟩
abbrev S1x8x1024 : Shape := ⟨3, ![1, 8, 1024]⟩
abbrev S1x1x1024 : Shape := ⟨3, ![1, 1, 1024]⟩
abbrev S1x1024 : Shape := ⟨2, ![1, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S3x24576, .f32⟩
  | .hbm, ⟨4, _⟩ => ⟨S4096x4096, .bf16⟩
  | .hbm, ⟨5, _⟩ => ⟨S3x6x4096, .f32⟩
  | .hbm, ⟨6, _⟩ => ⟨S_, .i32⟩
  | .hbm, ⟨7, _⟩ => ⟨S_, .f32⟩
  | .hbm, ⟨8, _⟩ => ⟨S3x8x4096, .f32⟩
  | .hbm, ⟨9, _⟩ => ⟨S16896x4096, .f32⟩
  | .local _ .vmem, ⟨0, _⟩ => ⟨S512x4096, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x8x1024, .f32⟩
  | .local _ .vmem, ⟨6, _⟩ => ⟨S1x8x1024, .f32⟩
  | .local _ .vmem, ⟨7, _⟩ => ⟨S512x1024, .f32⟩
  | .local _ .vmem, ⟨8, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![33, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  ![v19.toNat, c0_i32_6.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WoutRefIdeal.lean ====
abbrev S16896x4096 : Shape := ⟨2, ![16896, 4096]⟩
abbrev S4096x4096 : Shape := ⟨2, ![4096, 4096]⟩
abbrev S3x24576 : Shape := ⟨2, ![3, 24576]⟩
abbrev S16384x4096 : Shape := ⟨2, ![16384, 4096]⟩
abbrev S2x8192x4096 : Shape := ⟨3, ![2, 8192, 4096]⟩
abbrev S512x4096 : Shape := ⟨2, ![512, 4096]⟩
abbrev S2x256x4096 : Shape := ⟨3, ![2, 256, 4096]⟩
abbrev S2x24576 : Shape := ⟨2, ![2, 24576]⟩
abbrev S2x1x24576 : Shape := ⟨3, ![2, 1, 24576]⟩
abbrev S2x1x4096 : Shape := ⟨3, ![2, 1, 4096]⟩
abbrev S1x24576 : Shape := ⟨2, ![1, 24576]⟩
abbrev S24576 : Shape := ⟨1, ![24576]⟩
abbrev S4096 : Shape := ⟨1, ![4096]⟩
abbrev S1x1x4096 : Shape := ⟨3, ![1, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S3x24576, .f32⟩
  | .hbm, ⟨4, _⟩ => ⟨S16896x4096, .f32⟩
  | .hbm, ⟨5, _⟩ => ⟨S16384x4096, .f32⟩
  | .hbm, ⟨6, _⟩ => ⟨S2x8192x4096, .f32⟩
  | .hbm, ⟨7, _⟩ => ⟨S512x4096, .f32⟩
  | .hbm, ⟨8, _⟩ => ⟨S2x256x4096, .f32⟩
  | .hbm, ⟨9, _⟩ => ⟨S16384x4096, .f32⟩
  | .hbm, ⟨10, _⟩ => ⟨S2x8192x4096, .f32⟩
  | .hbm, ⟨11, _⟩ => ⟨S512x4096, .f32⟩
  | .hbm, ⟨12, _⟩ => ⟨S2x256x4096, .f32⟩
  | .hbm, ⟨13, _⟩ => ⟨S2x24576, .f32⟩
  | .hbm, ⟨14, _⟩ => ⟨S2x1x24576, .f32⟩
  | .hbm, ⟨15, _⟩ => ⟨S2x1x4096, .f32⟩
  | .hbm, ⟨16, _⟩ => ⟨S2x1x4096, .f32⟩
  | .hbm, ⟨17, _⟩ => ⟨S2x1x4096, .f32⟩
  | .hbm, ⟨18, _⟩ => ⟨S2x1x4096, .f32⟩
  | .hbm, ⟨19, _⟩ => ⟨S2x1x4096, .f32⟩
  | .hbm, ⟨20, _⟩ => ⟨S2x1x4096, .f32⟩
  | .hbm, ⟨21, _⟩ => ⟨S1x24576, .f32⟩
  | .hbm, ⟨22, _⟩ => ⟨S24576, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S2x8192x4096, .f32⟩
  | .hbm, ⟨30, _⟩ => ⟨S2x8192x4096, .f32⟩
  | .hbm, ⟨31, _⟩ => ⟨S2x8192x4096, .f32⟩
  | .hbm, ⟨32, _⟩ => ⟨S2x8192x4096, .f32⟩
  | .hbm, ⟨33, _⟩ => ⟨S2x256x4096, .f32⟩
  | .hbm, ⟨34, _⟩ => ⟨S1x1x4096, .f32⟩
  | .hbm, ⟨35, _⟩ => ⟨S2x256x4096, .f32⟩
  | .hbm, ⟨36, _⟩ => ⟨S2x256x4096, .f32⟩
  | .hbm, ⟨37, _⟩ => ⟨S2x256x4096, .f32⟩
  | .hbm, ⟨38, _⟩ => ⟨S16384x4096, .f32⟩
  | .hbm, ⟨39, _⟩ => ⟨S512x4096, .f32⟩
  | .hbm, ⟨40, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩

abbrev nD : Nat := 1
abbrev τ : Topo := Topo.v7x

variable {F : FTy → Type} [FloatOps F]
-- ==== Win.lean ====
abbrev S16896x4096 : Shape := ⟨2, ![16896, 4096]⟩
abbrev S4096 : Shape := ⟨1, ![4096]⟩
abbrev S3x24576 : Shape := ⟨2, ![3, 24576]⟩
abbrev S4096x6688 : Shape := ⟨2, ![4096, 6688]⟩
abbrev S3x6x4096 : Shape := ⟨3, ![3, 6, 4096]⟩
abbrev S_ : Shape := ⟨0, ![]⟩
abbrev S3x8x4096 : Shape := ⟨3, ![3, 8, 4096]⟩
abbrev S4096x6144 : Shape := ⟨2, ![4096, 6144]⟩
abbrev S4096x32 : Shape := ⟨2, ![4096, 32]⟩
abbrev S4096x512 : Shape := ⟨2, ![4096, 512]⟩
abbrev S4096x480 : Shape := ⟨2, ![4096, 480]⟩
abbrev S4096x7168 : Shape := ⟨2, ![4096, 7168]⟩
abbrev S1x4096 : Shape := ⟨2, ![1, 4096]⟩
abbrev S16896x7168 : Shape := ⟨2, ![16896, 7168]⟩
abbrev S512x4096 : Shape := ⟨2, ![512, 4096]⟩
abbrev S1x8x4096 : Shape := ⟨3, ![1, 8, 4096]⟩
abbrev S4096x1024 : Shape := ⟨2, ![4096, 1024]⟩
abbrev S512x1024 : Shape := ⟨2, ![512, 1024]⟩
abbrev S1x1x4096 : Shape := ⟨3, ![1, 1, 4096]⟩
abbrev S512 : Shape := ⟨1, ![512]⟩
abbrev S512x1 : Shape := ⟨2, ![512, 1]⟩

abbrev nBuf : Space → Nat
  | .hbm => 17
  | .vmem => 8
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S3x24576, .f32⟩
  | .hbm, ⟨3, _⟩ => ⟨S4096x6688, .f32⟩
  | .hbm, ⟨4, _⟩ => ⟨S3x6x4096, .f32⟩
  | .hbm, ⟨5, _⟩ => ⟨S_, .i32⟩
  | .hbm, ⟨6, _⟩ => ⟨S_, .f32⟩
  | .hbm, ⟨7, _⟩ => ⟨S3x8x4096, .f32⟩
  | .hbm, ⟨8, _⟩ => ⟨S4096x6144, .f32⟩
  | .hbm, ⟨9, _⟩ => ⟨S4096x32, .f32⟩
  | .hbm, ⟨10, _⟩ => ⟨S4096x512, .f32⟩
  | .hbm, ⟨11, _⟩ => ⟨S_, .f32⟩
  | .hbm, ⟨12, _⟩ => ⟨S4096x480, .f32⟩
  | .hbm, ⟨13, _⟩ => ⟨S4096x7168, .f32⟩
  | .hbm, ⟨14, _⟩ => ⟨S4096x7168, .bf16⟩
  | .hbm, ⟨15, _⟩ => ⟨S1x4096, .f32⟩
  | .hbm, ⟨16, _⟩ => ⟨S16896x7168, .f32⟩
  | .local _ .vmem, ⟨0, _⟩ => ⟨S512x4096, .f32⟩
  | .local _ .vmem, ⟨1, _⟩ => ⟨S1x4096, .f32⟩
  | .local _ .vmem, ⟨2, _⟩ => ⟨S1x8x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![33, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WinRefIdeal.lean ====
abbrev S16896x4096 : Shape := ⟨2, ![16896, 4096]⟩
abbrev S4096 : Shape := ⟨1, ![4096]⟩
abbrev S3x24576 : Shape := ⟨2, ![3, 24576]⟩
abbrev S4096x6688 : Shape := ⟨2, ![4096, 6688]⟩
abbrev S16384x4096 : Shape := ⟨2, ![16384, 4096]⟩
abbrev S2x8192x4096 : Shape := ⟨3, ![2, 8192, 4096]⟩
abbrev S512x4096 : Shape := ⟨2, ![512, 4096]⟩
abbrev S2x256x4096 : Shape := ⟨3, ![2, 256, 4096]⟩
abbrev S2x24576 : Shape := ⟨2, ![2, 24576]⟩
abbrev S2x1x24576 : Shape := ⟨3, ![2, 1, 24576]⟩
abbrev S2x1x4096 : Shape := ⟨3, ![2, 1, 4096]⟩
abbrev S1x24576 : Shape := ⟨2, ![1, 24576]⟩
abbrev S24576 : Shape := ⟨1, ![24576]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x6688 : Shape := ⟨3, ![2, 8192, 6688]⟩
abbrev S2x256 : Shape := ⟨2, ![2, 256]⟩
abbrev S2x256x1 : Shape := ⟨3, ![2, 256, 1]⟩
abbrev S2x256x6688 : Shape := ⟨3, ![2, 256, 6688]⟩
abbrev S16384x6688 : Shape := ⟨2, ![16384, 6688]⟩
abbrev S512x6688 : Shape := ⟨2, ![512, 6688]⟩
abbrev S16896x6688 : Shape := ⟨2, ![16896, 6688]⟩
abbrev S16896x1024 : Shape := ⟨2, ![16896, 1024]⟩
abbrev S16896x2048 : Shape := ⟨2, ![16896, 2048]⟩
abbrev S16896x32 : Shape := ⟨2, ![16896, 32]⟩
abbrev S16896x512 : Shape := ⟨2, ![16896, 512]⟩
abbrev S16896x480 : Shape := ⟨2, ![16896, 480]⟩
abbrev S16896x7168 : Shape := ⟨2, ![16896, 7168]⟩

abbrev nBuf : Space → Nat
  | .hbm => 87
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S3x24576, .f32⟩
  | .hbm, ⟨3, _⟩ => ⟨S4096x6688, .f32⟩
  | .hbm, ⟨4, _⟩ => ⟨S16384x4096, .f32⟩
  | .hbm, ⟨5, _⟩ => ⟨S2x8192x4096, .f32⟩
  | .hbm, ⟨6, _⟩ => ⟨S512x4096, .f32⟩
  | .hbm, ⟨7, _⟩ => ⟨S2x256x4096, .f32⟩
  | .hbm, ⟨8, _⟩ => ⟨S2x24576, .f32⟩
  | .hbm, ⟨9, _⟩ => ⟨S2x1x24576, .f32⟩
  | .hbm, ⟨10, _⟩ => ⟨S2x1x4096, .f32⟩
  | .hbm, ⟨11, _⟩ => ⟨S2x1x4096, .f32⟩
  | .hbm, ⟨12, _⟩ => ⟨S2x1x4096, .f32⟩
  | .hbm, ⟨13, _⟩ => ⟨S2x1x4096, .f32⟩
  | .hbm, ⟨14, _⟩ => ⟨S2x1x4096, .f32⟩
  | .hbm, ⟨15, _⟩ => ⟨S2x1x4096, .f32⟩
  | .hbm, ⟨16, _⟩ => ⟨S1x24576, .f32⟩
  | .hbm, ⟨17, _⟩ => ⟨S24576, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S2x8192x4096, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x4096, .f32⟩
  | .hbm, ⟨36, _⟩ => ⟨S2x8192x4096, .f32⟩
  | .hbm, ⟨37, _⟩ => ⟨S1x1x4096, .f32⟩
  | .hbm, ⟨38, _⟩ => ⟨S2x8192x4096, .f32⟩
  | .hbm, ⟨39, _⟩ => ⟨S2x8192x4096, .f32⟩
  | .hbm, ⟨40, _⟩ => ⟨S_, .f32⟩
  | .hbm, ⟨41, _⟩ => ⟨S2x1x4096, .f32⟩
  | .hbm, ⟨42, _⟩ => ⟨S2x1x4096, .f32⟩
  | .hbm, ⟨43, _⟩ => ⟨S2x8192x4096, .f32⟩
  | .hbm, ⟨44, _⟩ => ⟨S2x8192x4096, .f32⟩
  | .hbm, ⟨45, _⟩ => ⟨S2x8192x4096, .f32⟩
  | .hbm, ⟨46, _⟩ => ⟨S2x8192x4096, .f32⟩
  | .hbm, ⟨47, _⟩ => ⟨S2x8192x6688, .f32⟩
  | .hbm, ⟨48, _⟩ => ⟨S2x256x4096, .f32⟩
  | .hbm, ⟨49, _⟩ => ⟨S_, .f32⟩
  | .hbm, ⟨50, _⟩ => ⟨S2x256, .f32⟩
  | .hbm, ⟨51, _⟩ => ⟨S2x256x1, .f32⟩
  | .hbm, ⟨52, _⟩ => ⟨S_, .f32⟩
  | .hbm, ⟨53, _⟩ => ⟨S2x256x1, .f32⟩
  | .hbm, ⟨54, _⟩ => ⟨S2x256x1, .f32⟩
  | .hbm, ⟨55, _⟩ => ⟨S_, .f32⟩
  | .hbm, ⟨56, _⟩ => ⟨S2x256x1, .f32⟩
  | .hbm, ⟨57, _⟩ => ⟨S2x256x1, .f32⟩
  | .hbm, ⟨58, _⟩ => ⟨S2x256x1, .f32⟩
  | .hbm, ⟨59, _⟩ => ⟨S2x256x4096, .f32⟩
  | .hbm, ⟨60, _⟩ => ⟨S2x256x4096, .f32⟩
  | .hbm, ⟨61, _⟩ => ⟨S1x1x4096, .f32⟩
  | .hbm, ⟨62, _⟩ => ⟨S2x256x4096, .f32⟩
  | .hbm, ⟨63, _⟩ => ⟨S2x256x4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S1x1x4096, .f32⟩
  | .hbm, ⟨68, _⟩ => ⟨S2x256x4096, .f32⟩
  | .hbm, ⟨69, _⟩ => ⟨S2x256x4096, .f32⟩
  | .hbm, ⟨70, _⟩ => ⟨S1x1x4096, .f32⟩
  | .hbm, ⟨71, _⟩ => ⟨S2x256x4096, .f32⟩
  | .hbm, ⟨72, _⟩ => ⟨S2x256x4096, .f32⟩
  | .hbm, ⟨73, _⟩ => ⟨S2x256x6688, .f32⟩
  | .hbm, ⟨74, _⟩ => ⟨S16384x6688, .f32⟩
  | .hbm, ⟨75, _⟩ => ⟨S512x6688, .f32⟩
  | .hbm, ⟨76, _⟩ => ⟨S16896x6688, .f32⟩
  | .hbm, ⟨77, _⟩ => ⟨S16896x1024, .f32⟩
  | .hbm, ⟨78, _⟩ => ⟨S16896x1024, .f32⟩
  | .hbm, ⟨79, _⟩ => ⟨S16896x1024, .f32⟩
  | .hbm, ⟨80, _⟩ => ⟨S16896x1024, .f32⟩
  | .hbm, ⟨81, _⟩ => ⟨S16896x2048, .f32⟩
  | .hbm, ⟨82, _⟩ => ⟨S16896x32, .f32⟩
  | .hbm, ⟨83, _⟩ => ⟨S16896x512, .f32⟩
  | .hbm, ⟨84, _⟩ => ⟨S_, .f32⟩
  | .hbm, ⟨85, _⟩ => ⟨S16896x480, .f32⟩
  | .hbm, ⟨86, _⟩ => ⟨S16896x7168, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_7 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]
-- ==== Merge.lean ====
abbrev S16896x7168 : Shape := ⟨2, ![16896, 7168]⟩
abbrev S16896x1024 : Shape := ⟨2, ![16896, 1024]⟩
abbrev S1024 : Shape := ⟨1, ![1024]⟩
abbrev S1024x1024 : Shape := ⟨2, ![1024, 1024]⟩
abbrev S3x512x4096 : Shape := ⟨3, ![3, 512, 4096]⟩
abbrev S3x4096 : Shape := ⟨2, ![3, 4096]⟩
abbrev S3x1024x4096 : Shape := ⟨3, ![3, 1024, 4096]⟩
abbrev S1x1024 : Shape := ⟨2, ![1, 1024]⟩
abbrev S3x1x4096 : Shape := ⟨3, ![3, 1, 4096]⟩
abbrev S16896x4096 : Shape := ⟨2, ![16896, 4096]⟩
abbrev S512x512 : Shape := ⟨2, ![512, 512]⟩
abbrev S512x1024 : Shape := ⟨2, ![512, 1024]⟩
abbrev S3x512x1024 : Shape := ⟨3, ![3, 512, 1024]⟩
abbrev S3x1x1024 : Shape := ⟨3, ![3, 1, 1024]⟩
abbrev S3x1024x1024 : Shape := ⟨3, ![3, 1024, 1024]⟩
abbrev S1x512x1024 : Shape := ⟨3, ![1, 512, 1024]⟩
abbrev S512 : Shape := ⟨1, ![512]⟩
abbrev S512x1 : Shape := ⟨2, ![512, 1]⟩
abbrev S1x1x1024 : Shape := ⟨3, ![1, 1, 1024]⟩
abbrev S1x1024x1024 : Shape := ⟨3, ![1, 1024, 1024]⟩

abbrev nBuf : Space → Nat
  | .hbm => 18
  | .vmem => 19
  | .smem => 0
  | _ => 0

abbrev bufTy : (tb : Table) → Fin (tcTables nBuf tb) → BufTy
  | .hbm, ⟨0, _⟩ => ⟨S16896x7168, .f32⟩
  | .hbm, ⟨1, _⟩ => ⟨S16896x1024, .f32⟩
  | .hbm, ⟨2, _⟩ => ⟨S16896x1024, .f32⟩
  | .hbm, ⟨3, _⟩ => ⟨S16896x1024, .f32⟩
  | .hbm, ⟨4, _⟩ => ⟨S16896x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S3x512x4096, .f32⟩
  | .hbm, ⟨9, _⟩ => ⟨S3x4096, .f32⟩
  | .hbm, ⟨10, _⟩ => ⟨S3x1024x4096, .f32⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S3x512x4096, .bf16⟩
  | .hbm, ⟨15, _⟩ => ⟨S3x1x4096, .f32⟩
  | .hbm, ⟨16, _⟩ => ⟨S3x1024x4096, .bf16⟩
  | .hbm, ⟨17, _⟩ => ⟨S16896x4096, .bf16⟩
  | .local _ .vmem, ⟨0, _⟩ => ⟨S512x512, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S3x512x1024, .bf16⟩
  | .local _ .vmem, ⟨10, _⟩ => ⟨S3x512x1024, .bf16⟩
  | .local _ .vmem, ⟨11, _⟩ => ⟨S3x1x1024, .f32⟩
  | .local _ .vmem, ⟨12, _⟩ => ⟨S3x1x1024, .f32⟩
  | .local _ .vmem, ⟨13, _⟩ => ⟨S3x1024x1024, .bf16⟩
  | .local _ .vmem, ⟨14, _⟩ => ⟨S3x1024x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .bf16⟩
  | .local _ .vmem, ⟨18, _⟩ => ⟨S3x512x1024, .bf16⟩
  | _, _ => ⟨S16896x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![33, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S3x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S3x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S16896x7168 : Shape := ⟨2, ![16896, 7168]⟩
abbrev S16896x1024 : Shape := ⟨2, ![16896, 1024]⟩
abbrev S1024 : Shape := ⟨1, ![1024]⟩
abbrev S1024x1024 : Shape := ⟨2, ![1024, 1024]⟩
abbrev S3x512x4096 : Shape := ⟨3, ![3, 512, 4096]⟩
abbrev S3x4096 : Shape := ⟨2, ![3, 4096]⟩
abbrev S3x1024x4096 : Shape := ⟨3, ![3, 1024, 4096]⟩
abbrev S16896x512 : Shape := ⟨2, ![16896, 512]⟩
abbrev S_ : Shape := ⟨0, ![]⟩
abbrev S1x1024 : Shape := ⟨2, ![1, 1024]⟩
abbrev S16896 : Shape := ⟨1, ![16896]⟩
abbrev S16896x1 : Shape := ⟨2, ![16896, 1]⟩
abbrev S1x512x4096 : Shape := ⟨3, ![1, 512, 4096]⟩
abbrev S512x4096 : Shape := ⟨2, ![512, 4096]⟩
abbrev S16896x4096 : Shape := ⟨2, ![16896, 4096]⟩
abbrev S1x4096 : Shape := ⟨2, ![1, 4096]⟩
abbrev S4096 : Shape := ⟨1, ![4096]⟩
abbrev S1x1024x4096 : Shape := ⟨3, ![1, 1024, 4096]⟩
abbrev S1024x4096 : Shape := ⟨2, ![1024, 4096]⟩

abbrev nBuf : Space → Nat
  | .hbm => 133
  | .vmem => 0
  | .smem => 0
  | _ => 0

abbrev hbmTy0_0 (i : Nat) : BufTy := match i % 128 with
  | 0 => ⟨S16896x7168, .f32⟩
  | 1 => ⟨S16896x1024, .f32⟩
  | 2 => ⟨S16896x1024, .f32⟩
  | 3 => ⟨S16896x1024, .f32⟩
  | 4 => ⟨S16896x1024, .f32⟩
  | 5 => ⟨S1024, .f32⟩
  | 6 => ⟨S1024x1024, .f32⟩
  | 7 => ⟨S1024, .f32⟩
  | 8 => ⟨S3x512x4096, .f32⟩
  | 9 => ⟨S3x4096, .f32⟩
  | 10 => ⟨S3x1024x4096, .f32⟩
  | 11 => ⟨S16896x1024, .f32⟩
  | 12 => ⟨S16896x512, .f32⟩
  | 13 => ⟨S16896x1024, .f32⟩
  | 14 => ⟨S16896x1024, .f32⟩
  | 15 => ⟨S16896x1024, .f32⟩
  | 16 => ⟨S_, .f32⟩
  | 17 => ⟨S16896x1024, .f32⟩
  | 18 => ⟨S16896x1024, .f32⟩
  | 19 => ⟨S16896x1024, .f32⟩
  | 20 => ⟨S_, .f32⟩
  | 21 => ⟨S16896x1024, .f32⟩
  | 22 => ⟨S16896x1024, .f32⟩
  | 23 => ⟨S16896x1024, .f32⟩
  | 24 => ⟨S_, .f32⟩
  | 25 => ⟨S16896x1024, .f32⟩
  | 26 => ⟨S16896x1024, .f32⟩
  | 27 => ⟨S_, .f32⟩
  | 28 => ⟨S16896x1024, .f32⟩
  | 29 => ⟨S16896x1024, .f32⟩
  | 30 => ⟨S16896x1024, .f32⟩
  | 31 => ⟨S16896x1024, .f32⟩
  | 32 => ⟨S1x1024, .f32⟩
  | 33 => ⟨S16896x1024, .f32⟩
  | 34 => ⟨S16896x1024, .f32⟩
  | 35 => ⟨S16896x1024, .f32⟩
  | 36 => ⟨S16896x1024, .f32⟩
  | 37 => ⟨S_, .f32⟩
  | 38 => ⟨S16896x1024, .f32⟩
  | 39 => ⟨S16896x1024, .f32⟩
  | 40 => ⟨S_, .f32⟩
  | 41 => ⟨S16896x1024, .f32⟩
  | 42 => ⟨S16896x1024, .f32⟩
  | 43 => ⟨S16896x1024, .f32⟩
  | 44 => ⟨S16896x1024, .f32⟩
  | 45 => ⟨S16896x1024, .f32⟩
  | 46 => ⟨S_, .f32⟩
  | 47 => ⟨S16896x1024, .f32⟩
  | 48 => ⟨S16896x1024, .f32⟩
  | 49 => ⟨S_, .f32⟩
  | 50 => ⟨S16896x1024, .f32⟩
  | 51 => ⟨S16896x1024, .f32⟩
  | 52 => ⟨S16896x1024, .f32⟩
  | 53 => ⟨S16896x1024, .f32⟩
  | 54 => ⟨S16896x1024, .f32⟩
  | 55 => ⟨S_, .f32⟩
  | 56 => ⟨S16896, .f32⟩
  | 57 => ⟨S16896x1, .f32⟩
  | 58 => ⟨S_, .f32⟩
  | 59 => ⟨S16896x1, .f32⟩
  | 60 => ⟨S16896x1, .f32⟩
  | 61 => ⟨S_, .f32⟩
  | 62 => ⟨S16896x1, .f32⟩
  | 63 => ⟨S16896x1, .f32⟩
  | 64 => ⟨S16896x1, .f32⟩
  | 65 => ⟨S16896x1024, .f32⟩
  | 66 => ⟨S16896x1024, .f32⟩
  | 67 => ⟨S1x1024, .f32⟩
  | 68 => ⟨S16896x1024, .f32⟩
  | 69 => ⟨S16896x1024, .f32⟩
  | 70 => ⟨S1x512x4096, .f32⟩
  | 71 => ⟨S512x4096, .f32⟩
  | 72 => ⟨S16896x4096, .f32⟩
  | 73 => ⟨S1x4096, .f32⟩
  | 74 => ⟨S4096, .f32⟩
  | 75 => ⟨S1x4096, .f32⟩
  | 76 => ⟨S16896x4096, .f32⟩
  | 77 => ⟨S16896x4096, .f32⟩
  | 78 => ⟨S16896x4096, .f32⟩
  | 79 => ⟨S16896x4096, .f32⟩
  | 80 => ⟨S_, .f32⟩
  | 81 => ⟨S16896x4096, .f32⟩
  | 82 => ⟨S16896x4096, .f32⟩
  | 83 => ⟨S_, .f32⟩
  | 84 => ⟨S16896x4096, .f32⟩
  | 85 => ⟨S16896x4096, .f32⟩
  | 86 => ⟨S1x1024x4096, .f32⟩
  | 87 => ⟨S1024x4096, .f32⟩
  | 88 => ⟨S16896x4096, .f32⟩
  | 89 => ⟨S16896x4096, .f32⟩
  | 90 => ⟨S1x512x4096, .f32⟩
  | 91 => ⟨S512x4096, .f32⟩
  | 92 => ⟨S16896x4096, .f32⟩
  | 93 => ⟨S1x4096, .f32⟩
  | 94 => ⟨S4096, .f32⟩
  | 95 => ⟨S1x4096, .f32⟩
  | 96 => ⟨S16896x4096, .f32⟩
  | 97 => ⟨S16896x4096, .f32⟩
  | 98 => ⟨S16896x4096, .f32⟩
  | 99 => ⟨S16896x4096, .f32⟩
  | 100 => ⟨S_, .f32⟩
  | 101 => ⟨S16896x4096, .f32⟩
  | 102 => ⟨S16896x4096, .f32⟩
  | 103 => ⟨S_, .f32⟩
  | 104 => ⟨S16896x4096, .f32⟩
  | 105 => ⟨S16896x4096, .f32⟩
  | 106 => ⟨S1x1024x4096, .f32⟩
  | 107 => ⟨S1024x4096, .f32⟩
  | 108 => ⟨S16896x4096, .f32⟩
  | 109 => ⟨S16896x4096, .f32⟩
  | 110 => ⟨S1x512x4096, .f32⟩
  | 111 => ⟨S512x4096, .f32⟩
  | 112 => ⟨S16896x4096, .f32⟩
  | 113 => ⟨S1x4096, .f32⟩
  | 114 => ⟨S4096, .f32⟩
  | 115 => ⟨S1x4096, .f32⟩
  | 116 => ⟨S16896x4096, .f32⟩
  | 117 => ⟨S16896x4096, .f32⟩
  | 118 => ⟨S16896x4096, .f32⟩
  | 119 => ⟨S16896x4096, .f32⟩
  | 120 => ⟨S_, .f32⟩
  | 121 => ⟨S16896x4096, .f32⟩
  | 122 => ⟨S16896x4096, .f32⟩
  | 123 => ⟨S_, .f32⟩
  | 124 => ⟨S16896x4096, .f32⟩
  | 125 => ⟨S16896x4096, .f32⟩
  | 126 => ⟨S1x1024x4096, .f32⟩
  | 127 => ⟨S1024x4096, .f32⟩
  | _ => ⟨S16896x7168, .f32⟩

abbrev hbmTy0_1 (i : Nat) : BufTy := match i % 128 with
  | 0 => ⟨S16896x4096, .f32⟩
  | 1 => ⟨S16896x4096, .f32⟩
  | 2 => ⟨S16896x4096, .f32⟩
  | 3 => ⟨S16896x4096, .f32⟩
  | 4 => ⟨S16896x4096, .bf16⟩
  | _ => ⟨S16896x7168, .f32⟩

abbrev hbmTy (i : Nat) : BufTy := match i / 128 with
  | 0 => hbmTy0_0 i
  | 1 => hbmTy0_1 i
  | _ => ⟨S16896x7168, .f32⟩

abbrev bufTy : (tb : Table) → Fin (tcTables nBuf tb) → BufTy
  | .hbm, ⟨i, _⟩ => hbmTy i
  | _, _ => ⟨S16896x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_10 : Ref sig .tc := ⟨.hbm, 100, rfl⟩
abbrev main_v70 : Ref sig .tc := ⟨.hbm, 101, rfl⟩
abbrev main_v71 : Ref sig .tc := ⟨.hbm, 102, rfl⟩
abbrev main_cst_11 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_12 : Ref sig .tc := ⟨.hbm, 120, rfl⟩
abbrev main_v88 : Ref sig .tc := ⟨.hbm, 121, rfl⟩
abbrev main_v89 : Ref sig .tc := ⟨.hbm, 122, rfl⟩
abbrev main_cst_13 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]
-- ==== Ssd.lean ====
abbrev S2x8448x2048 : Shape := ⟨3, ![2, 8448, 2048]⟩
abbrev S2x8448x32 : Shape := ⟨3, ![2, 8448, 32]⟩
abbrev S5x2048 : Shape := ⟨2, ![5, 2048]⟩
abbrev S2048 : Shape := ⟨1, ![2048]⟩
abbrev S2x16 : Shape := ⟨2, ![2, 16]⟩
abbrev S2x8448x1024 : Shape := ⟨3, ![2, 8448, 1024]⟩
abbrev S16 : Shape := ⟨1, ![16]⟩
abbrev S2x8448x2x16 : Shape := ⟨4, ![2, 8448, 2, 16]⟩
abbrev S2x2x8448x16 : Shape := ⟨4, ![2, 2, 8448, 16]⟩
abbrev S2x2x16x8448 : Shape := ⟨4, ![2, 2, 16, 8448]⟩
abbrev S2x1x16x8448 : Shape := ⟨4, ![2, 1, 16, 8448]⟩
abbrev S2x16x8448 : Shape := ⟨3, ![2, 16, 8448]⟩
abbrev S2x1x8448x16 : Shape := ⟨4, ![2, 1, 8448, 16]⟩
abbrev S2x8448x16 : Shape := ⟨3, ![2, 8448, 16]⟩
abbrev S1x16 : Shape := ⟨2, ![1, 16]⟩
abbrev S16x1 : Shape := ⟨2, ![16, 1]⟩
abbrev S16x2 : Shape := ⟨2, ![16, 2]⟩
abbrev S_ : Shape := ⟨0, ![]⟩
abbrev S8x2048 : Shape := ⟨2, ![8, 2048]⟩
abbrev S1x2048 : Shape := ⟨2, ![1, 2048]⟩
abbrev S16x64 : Shape := ⟨2, ![16, 64]⟩
abbrev S1024 : Shape := ⟨1, ![1024]⟩
abbrev S1x1024 : Shape := ⟨2, ![1, 1024]⟩
abbrev S1x8x2048 : Shape := ⟨3, ![1, 8, 2048]⟩
abbrev S1x128x2048 : Shape := ⟨3, ![1, 128, 2048]⟩
abbrev S1x16x128 : Shape := ⟨3, ![1, 16, 128]⟩
abbrev S1x128x16 : Shape := ⟨3, ![1, 128, 16]⟩
abbrev S1x128x1024 : Shape := ⟨3, ![1, 128, 1024]⟩
abbrev S4x128x256 : Shape := ⟨3, ![4, 128, 256]⟩
abbrev S144x2048 : Shape := ⟨2, ![144, 2048]⟩
abbrev S128x2048 : Shape := ⟨2, ![128, 2048]⟩
abbrev S16x128 : Shape := ⟨2, ![16, 128]⟩
abbrev S128x16 : Shape := ⟨2, ![128, 16]⟩
abbrev S128x128 : Shape := ⟨2, ![128, 128]⟩
abbrev S1x128x256 : Shape := ⟨3, ![1, 128, 256]⟩
abbrev S128x256 : Shape := ⟨2, ![128, 256]⟩
abbrev S128x1 : Shape := ⟨2, ![128, 1]⟩
abbrev S1x128 : Shape := ⟨2, ![1, 128]⟩
abbrev S128x64 : Shape := ⟨2, ![128, 64]⟩
abbrev S1x1 : Shape := ⟨2, ![1, 1]⟩
abbrev S1x64 : Shape := ⟨2, ![1, 64]⟩
abbrev S1x256 : Shape := ⟨2, ![1, 256]⟩

abbrev nBuf : Space → Nat
  | .hbm => 34
  | .vmem => 22
  | .smem => 0
  | _ => 0

abbrev bufTy : (tb : Table) → Fin (tcTables nBuf tb) → BufTy
  | .hbm, ⟨0, _⟩ => ⟨S2x8448x2048, .f32⟩
  | .hbm, ⟨1, _⟩ => ⟨S2x8448x32, .f32⟩
  | .hbm, ⟨2, _⟩ => ⟨S5x2048, .f32⟩
  | .hbm, ⟨3, _⟩ => ⟨S2048, .f32⟩
  | .hbm, ⟨4, _⟩ => ⟨S2x16, .f32⟩
  | .hbm, ⟨5, _⟩ => ⟨S2x16, .f32⟩
  | .hbm, ⟨6, _⟩ => ⟨S2x8448x1024, .f32⟩
  | .hbm, ⟨7, _⟩ => ⟨S16, .f32⟩
  | .hbm, ⟨8, _⟩ => ⟨S2x8448x2x16, .f32⟩
  | .hbm, ⟨9, _⟩ => ⟨S2x2x8448x16, .f32⟩
  | .hbm, ⟨10, _⟩ => ⟨S2x8448x2x16, .f32⟩
  | .hbm, ⟨11, _⟩ => ⟨S2x2x16x8448, .f32⟩
  | .hbm, ⟨12, _⟩ => ⟨S2x1x16x8448, .f32⟩
  | .hbm, ⟨13, _⟩ => ⟨S2x16x8448, .f32⟩
  | .hbm, ⟨14, _⟩ => ⟨S2x1x8448x16, .f32⟩
  | .hbm, ⟨15, _⟩ => ⟨S2x8448x16, .f32⟩
  | .hbm, ⟨16, _⟩ => ⟨S1x16, .f32⟩
  | .hbm, ⟨17, _⟩ => ⟨S16, .f32⟩
  | .hbm, ⟨18, _⟩ => ⟨S1x16, .f32⟩
  | .hbm, ⟨19, _⟩ => ⟨S16, .f32⟩
  | .hbm, ⟨20, _⟩ => ⟨S16x1, .f32⟩
  | .hbm, ⟨21, _⟩ => ⟨S16x1, .f32⟩
  | .hbm, ⟨22, _⟩ => ⟨S16x2, .f32⟩
  | .hbm, ⟨23, _⟩ => ⟨S1x16, .f32⟩
  | .hbm, ⟨24, _⟩ => ⟨S1x16, .f32⟩
  | .hbm, ⟨25, _⟩ => ⟨S2x16, .f32⟩
  | .hbm, ⟨26, _⟩ => ⟨S_, .i32⟩
  | .hbm, ⟨27, _⟩ => ⟨S_, .f32⟩
  | .hbm, ⟨28, _⟩ => ⟨S8x2048, .f32⟩
  | .hbm, ⟨29, _⟩ => ⟨S1x2048, .f32⟩
  | .hbm, ⟨30, _⟩ => ⟨S16x64, .f32⟩
  | .hbm, ⟨31, _⟩ => ⟨S1024, .f32⟩
  | .hbm, ⟨32, _⟩ => ⟨S1x1024, .f32⟩
  | .hbm, ⟨33, _⟩ => ⟨S2x8448x1024, .f32⟩
  | .local _ .vmem, ⟨0, _⟩ => ⟨S1x8x2048, .f32⟩
  | .local _ .vmem, ⟨1, _⟩ => ⟨S1x8x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x8x2048, .f32⟩
  | .local _ .vmem, ⟨5, _⟩ => ⟨S1x8x2048, .f32⟩
  | .local _ .vmem, ⟨6, _⟩ => ⟨S8x2048, .f32⟩
  | .local _ .vmem, ⟨7, _⟩ => ⟨S1x2048, .f32⟩
  | .local _ .vmem, ⟨8, _⟩ => ⟨S1x16x128, .f32⟩
  | .local _ .vmem, ⟨9, _⟩ => ⟨S1x16x128, .f32⟩
  | .local _ .vmem, ⟨10, _⟩ => ⟨S1x128x16, .f32⟩
  | .local _ .vmem, ⟨11, _⟩ => ⟨S1x128x16, .f32⟩
  | .local _ .vmem, ⟨12, _⟩ => ⟨S16x2, .f32⟩
  | .local _ .vmem, ⟨13, _⟩ => ⟨S2x16, .f32⟩
  | .local _ .vmem, ⟨14, _⟩ => ⟨S1x128x1024, .f32⟩
  | .local _ .vmem, ⟨15, _⟩ => ⟨S1x128x1024, .f32⟩
  | .local _ .vmem, ⟨16, _⟩ => ⟨S1x1024, .f32⟩
  | .local _ .vmem, ⟨17, _⟩ => ⟨S1x128x1024, .f32⟩
  | .local _ .vmem, ⟨18, _⟩ => ⟨S1x128x1024, .f32⟩
  | .local _ .vmem, ⟨19, _⟩ => ⟨S4x128x256, .f32⟩
  | .local _ .vmem, ⟨20, _⟩ => ⟨S144x2048, .f32⟩
  | .local _ .vmem, ⟨21, _⟩ => ⟨S128x2048, .f32⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 66], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SsdRefIdeal.lean ====
abbrev S2x8448x2048 : Shape := ⟨3, ![2, 8448, 2048]⟩
abbrev S2x8448x32 : Shape := ⟨3, ![2, 8448, 32]⟩
abbrev S5x2048 : Shape := ⟨2, ![5, 2048]⟩
abbrev S2048 : Shape := ⟨1, ![2048]⟩
abbrev S2x16 : Shape := ⟨2, ![2, 16]⟩
abbrev S2x8448x1024 : Shape := ⟨3, ![2, 8448, 1024]⟩
abbrev S16 : Shape := ⟨1, ![16]⟩
abbrev S2x256x2048 : Shape := ⟨3, ![2, 256, 2048]⟩
abbrev S_ : Shape := ⟨0, ![]⟩
abbrev S2x260x2048 : Shape := ⟨3, ![2, 260, 2048]⟩
abbrev S1x2048 : Shape := ⟨2, ![1, 2048]⟩
abbrev S1x1x2048 : Shape := ⟨3, ![1, 1, 2048]⟩
abbrev S2x8192x2048 : Shape := ⟨3, ![2, 8192, 2048]⟩
abbrev S2x8196x2048 : Shape := ⟨3, ![2, 8196, 2048]⟩
abbrev S2x256x16 : Shape := ⟨3, ![2, 256, 16]⟩
abbrev S2x8192x16 : Shape := ⟨3, ![2, 8192, 16]⟩
abbrev S2x16x64x128 : Shape := ⟨4, ![2, 16, 64, 128]⟩
abbrev S1x16 : Shape := ⟨2, ![1, 16]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x256x4x4x128 : Shape := ⟨5, ![2, 256, 4, 4, 128]⟩
abbrev S2x256x16x128 : Shape := ⟨4, ![2, 256, 16, 128]⟩
abbrev S1x1x16 : Shape := ⟨3, ![1, 1, 16]⟩
abbrev S2x256x16x64 : Shape := ⟨4, ![2, 256, 16, 64]⟩
abbrev S2x256x16x1 : Shape := ⟨4, ![2, 256, 16, 1]⟩
abbrev S2x2x128x16x64 : Shape := ⟨5, ![2, 2, 128, 16, 64]⟩
abbrev S2x2x128x16x128 : Shape := ⟨5, ![2, 2, 128, 16, 128]⟩
abbrev S2x2x128x16 : Shape := ⟨4, ![2, 2, 128, 16]⟩
abbrev S2x16x2x128 : Shape := ⟨4, ![2, 16, 2, 128]⟩
abbrev S2x16x2x128x128 : Shape := ⟨5, ![2, 16, 2, 128, 128]⟩
abbrev S128x128 : Shape := ⟨2, ![128, 128]⟩
abbrev S2x16x2x128x1 : Shape := ⟨5, ![2, 16, 2, 128, 1]⟩
abbrev S2x16x2x1x128 : Shape := ⟨5, ![2, 16, 2, 1, 128]⟩
abbrev S2x2x16x64x128 : Shape := ⟨5, ![2, 2, 16, 64, 128]⟩
abbrev S2x16x2x1 : Shape := ⟨4, ![2, 16, 2, 1]⟩
abbrev S2x2x128x16x1 : Shape := ⟨5, ![2, 2, 128, 16, 1]⟩
abbrev S2x1x16x64x128 : Shape := ⟨5, ![2, 1, 16, 64, 128]⟩
abbrev S2x3x16x64x128 : Shape := ⟨5, ![2, 3, 16, 64, 128]⟩
abbrev S2x16x2 : Shape := ⟨3, ![2, 16, 2]⟩
abbrev S2x16x3 : Shape := ⟨3, ![2, 16, 3]⟩
abbrev S3x3 : Shape := ⟨2, ![3, 3]⟩
abbrev S2x16x3x1 : Shape := ⟨4, ![2, 16, 3, 1]⟩
abbrev S2x16x1x3 : Shape := ⟨4, ![2, 16, 1, 3]⟩
abbrev S2x16x3x3 : Shape := ⟨4, ![2, 16, 3, 3]⟩
abbrev S2x16x64x128x3 : Shape := ⟨5, ![2, 16, 64, 128, 3]⟩
abbrev S2x8192x1024 : Shape := ⟨3, ![2, 8192, 1024]⟩
abbrev S2x8192x512 : Shape := ⟨3, ![2, 8192, 512]⟩
abbrev S2x8192x4x128 : Shape := ⟨4, ![2, 8192, 4, 128]⟩
abbrev S2x8192x4x4x128 : Shape := ⟨5, ![2, 8192, 4, 4, 128]⟩
abbrev S2x8192x16x128 : Shape := ⟨4, ![2, 8192, 16, 128]⟩
abbrev S2x8192x16x64 : Shape := ⟨4, ![2, 8192, 16, 64]⟩
abbrev S2x8192x16x1 : Shape := ⟨4, ![2, 8192, 16, 1]⟩
abbrev S2x64x128x16x64 : Shape := ⟨5, ![2, 64, 128, 16, 64]⟩
abbrev S2x64x128x16x128 : Shape := ⟨5, ![2, 64, 128, 16, 128]⟩
abbrev S2x64x128x16 : Shape := ⟨4, ![2, 64, 128, 16]⟩
abbrev S2x16x64x128x128 : Shape := ⟨5, ![2, 16, 64, 128, 128]⟩
abbrev S2x16x64x128x1 : Shape := ⟨5, ![2, 16, 64, 128, 1]⟩
abbrev S2x16x64x1x128 : Shape := ⟨5, ![2, 16, 64, 1, 128]⟩
abbrev S2x64x16x64x128 : Shape := ⟨5, ![2, 64, 16, 64, 128]⟩
abbrev S2x16x64x1 : Shape := ⟨4, ![2, 16, 64, 1]⟩
abbrev S2x64x128x16x1 : Shape := ⟨5, ![2, 64, 128, 16, 1]⟩
abbrev S2x65x16x64x128 : Shape := ⟨5, ![2, 65, 16, 64, 128]⟩
abbrev S2x16x64 : Shape := ⟨3, ![2, 16, 64]⟩
abbrev S2x16x65 : Shape := ⟨3, ![2, 16, 65]⟩
abbrev S65x65 : Shape := ⟨2, ![65, 65]⟩
abbrev S2x16x65x1 : Shape := ⟨4, ![2, 16, 65, 1]⟩
abbrev S2x16x1x65 : Shape := ⟨4, ![2, 16, 1, 65]⟩
abbrev S2x16x65x65 : Shape := ⟨4, ![2, 16, 65, 65]⟩
abbrev S2x16x64x128x65 : Shape := ⟨5, ![2, 16, 64, 128, 65]⟩
abbrev S16x1 : Shape := ⟨2, ![16, 1]⟩
abbrev S1x1x16x1 : Shape := ⟨4, ![1, 1, 16, 1]⟩

abbrev nBuf : Space → Nat
  | .hbm => 392
  | .vmem => 0
  | .smem => 0
  | _ => 0

abbrev hbmTy0_0 (i : Nat) : BufTy := match i % 128 with
  | 0 => ⟨S2x8448x2048, .f32⟩
  | 1 => ⟨S2x8448x32, .f32⟩
  | 2 => ⟨S5x2048, .f32⟩
  | 3 => ⟨S2048, .f32⟩
  | 4 => ⟨S2x16, .f32⟩
  | 5 => ⟨S2x16, .f32⟩
  | 6 => ⟨S2x8448x1024, .f32⟩
  | 7 => ⟨S16, .f32⟩
  | 8 => ⟨S2x256x2048, .f32⟩
  | 9 => ⟨S_, .i32⟩
  | 10 => ⟨S_, .f32⟩
  | 11 => ⟨S2x260x2048, .f32⟩
  | 12 => ⟨S2x256x2048, .f32⟩
  | 13 => ⟨S1x2048, .f32⟩
  | 14 => ⟨S2048, .f32⟩
  | 15 => ⟨S1x1x2048, .f32⟩
  | 16 => ⟨S2x256x2048, .f32⟩
  | 17 => ⟨S2x256x2048, .f32⟩
  | 18 => ⟨S2x256x2048, .f32⟩
  | 19 => ⟨S1x2048, .f32⟩
  | 20 => ⟨S2048, .f32⟩
  | 21 => ⟨S1x1x2048, .f32⟩
  | 22 => ⟨S2x256x2048, .f32⟩
  | 23 => ⟨S2x256x2048, .f32⟩
  | 24 => ⟨S2x256x2048, .f32⟩
  | 25 => ⟨S2x256x2048, .f32⟩
  | 26 => ⟨S1x2048, .f32⟩
  | 27 => ⟨S2048, .f32⟩
  | 28 => ⟨S1x1x2048, .f32⟩
  | 29 => ⟨S2x256x2048, .f32⟩
  | 30 => ⟨S2x256x2048, .f32⟩
  | 31 => ⟨S2x256x2048, .f32⟩
  | 32 => ⟨S2x256x2048, .f32⟩
  | 33 => ⟨S1x2048, .f32⟩
  | 34 => ⟨S2048, .f32⟩
  | 35 => ⟨S1x1x2048, .f32⟩
  | 36 => ⟨S2x256x2048, .f32⟩
  | 37 => ⟨S2x256x2048, .f32⟩
  | 38 => ⟨S2x256x2048, .f32⟩
  | 39 => ⟨S2x256x2048, .f32⟩
  | 40 => ⟨S1x2048, .f32⟩
  | 41 => ⟨S2048, .f32⟩
  | 42 => ⟨S1x1x2048, .f32⟩
  | 43 => ⟨S2x256x2048, .f32⟩
  | 44 => ⟨S2x256x2048, .f32⟩
  | 45 => ⟨S2x256x2048, .f32⟩
  | 46 => ⟨S1x1x2048, .f32⟩
  | 47 => ⟨S2x256x2048, .f32⟩
  | 48 => ⟨S2x256x2048, .f32⟩
  | 49 => ⟨S2x256x2048, .f32⟩
  | 50 => ⟨S2x256x2048, .f32⟩
  | 51 => ⟨S_, .f32⟩
  | 52 => ⟨S2x256x2048, .f32⟩
  | 53 => ⟨S2x256x2048, .f32⟩
  | 54 => ⟨S_, .f32⟩
  | 55 => ⟨S2x256x2048, .f32⟩
  | 56 => ⟨S2x256x2048, .f32⟩
  | 57 => ⟨S2x256x2048, .f32⟩
  | 58 => ⟨S2x8192x2048, .f32⟩
  | 59 => ⟨S_, .i32⟩
  | 60 => ⟨S_, .f32⟩
  | 61 => ⟨S2x8196x2048, .f32⟩
  | 62 => ⟨S2x8192x2048, .f32⟩
  | 63 => ⟨S1x2048, .f32⟩
  | 64 => ⟨S2048, .f32⟩
  | 65 => ⟨S1x1x2048, .f32⟩
  | 66 => ⟨S2x8192x2048, .f32⟩
  | 67 => ⟨S2x8192x2048, .f32⟩
  | 68 => ⟨S2x8192x2048, .f32⟩
  | 69 => ⟨S1x2048, .f32⟩
  | 70 => ⟨S2048, .f32⟩
  | 71 => ⟨S1x1x2048, .f32⟩
  | 72 => ⟨S2x8192x2048, .f32⟩
  | 73 => ⟨S2x8192x2048, .f32⟩
  | 74 => ⟨S2x8192x2048, .f32⟩
  | 75 => ⟨S2x8192x2048, .f32⟩
  | 76 => ⟨S1x2048, .f32⟩
  | 77 => ⟨S2048, .f32⟩
  | 78 => ⟨S1x1x2048, .f32⟩
  | 79 => ⟨S2x8192x2048, .f32⟩
  | 80 => ⟨S2x8192x2048, .f32⟩
  | 81 => ⟨S2x8192x2048, .f32⟩
  | 82 => ⟨S2x8192x2048, .f32⟩
  | 83 => ⟨S1x2048, .f32⟩
  | 84 => ⟨S2048, .f32⟩
  | 85 => ⟨S1x1x2048, .f32⟩
  | 86 => ⟨S2x8192x2048, .f32⟩
  | 87 => ⟨S2x8192x2048, .f32⟩
  | 88 => ⟨S2x8192x2048, .f32⟩
  | 89 => ⟨S2x8192x2048, .f32⟩
  | 90 => ⟨S1x2048, .f32⟩
  | 91 => ⟨S2048, .f32⟩
  | 92 => ⟨S1x1x2048, .f32⟩
  | 93 => ⟨S2x8192x2048, .f32⟩
  | 94 => ⟨S2x8192x2048, .f32⟩
  | 95 => ⟨S2x8192x2048, .f32⟩
  | 96 => ⟨S1x1x2048, .f32⟩
  | 97 => ⟨S2x8192x2048, .f32⟩
  | 98 => ⟨S2x8192x2048, .f32⟩
  | 99 => ⟨S2x8192x2048, .f32⟩
  | 100 => ⟨S2x8192x2048, .f32⟩
  | 101 => ⟨S_, .f32⟩
  | 102 => ⟨S2x8192x2048, .f32⟩
  | 103 => ⟨S2x8192x2048, .f32⟩
  | 104 => ⟨S_, .f32⟩
  | 105 => ⟨S2x8192x2048, .f32⟩
  | 106 => ⟨S2x8192x2048, .f32⟩
  | 107 => ⟨S2x8192x2048, .f32⟩
  | 108 => ⟨S2x256x16, .f32⟩
  | 109 => ⟨S2x8192x16, .f32⟩
  | 110 => ⟨S_, .f32⟩
  | 111 => ⟨S2x16x64x128, .f32⟩
  | 112 => ⟨S1x16, .f32⟩
  | 113 => ⟨S16, .f32⟩
  | 114 => ⟨S1x16, .f32⟩
  | 115 => ⟨S16, .f32⟩
  | 116 => ⟨S2x256x1024, .f32⟩
  | 117 => ⟨S2x256x512, .f32⟩
  | 118 => ⟨S2x256x512, .f32⟩
  | 119 => ⟨S2x256x4x128, .f32⟩
  | 120 => ⟨S2x256x4x4x128, .f32⟩
  | 121 => ⟨S2x256x16x128, .f32⟩
  | 122 => ⟨S2x256x4x128, .f32⟩
  | 123 => ⟨S2x256x4x4x128, .f32⟩
  | 124 => ⟨S2x256x16x128, .f32⟩
  | 125 => ⟨S1x1x16, .f32⟩
  | 126 => ⟨S2x256x16, .f32⟩
  | 127 => ⟨S2x256x16, .f32⟩
  | _ => ⟨S2x8448x2048, .f32⟩

abbrev hbmTy0_1 (i : Nat) : BufTy := match i % 128 with
  | 0 => ⟨S_, .f32⟩
  | 1 => ⟨S2x256x16, .f32⟩
  | 2 => ⟨S2x256x16, .f32⟩
  | 3 => ⟨S2x256x16, .f32⟩
  | 4 => ⟨S2x256x16, .f32⟩
  | 5 => ⟨S2x256x16, .i1⟩
  | 6 => ⟨S2x256x16, .f32⟩
  | 7 => ⟨S2x256x16, .f32⟩
  | 8 => ⟨S2x256x16, .f32⟩
  | 9 => ⟨S2x256x16, .f32⟩
  | 10 => ⟨S2x256x16, .f32⟩
  | 11 => ⟨S2x256x16, .f32⟩
  | 12 => ⟨S2x256x16, .f32⟩
  | 13 => ⟨S2x256x16, .f32⟩
  | 14 => ⟨S16, .f32⟩
  | 15 => ⟨S16, .f32⟩
  | 16 => ⟨S2x256x16x64, .f32⟩
  | 17 => ⟨S2x256x16x1, .f32⟩
  | 18 => ⟨S2x256x16x64, .f32⟩
  | 19 => ⟨S2x256x16x64, .f32⟩
  | 20 => ⟨S1x1x16, .f32⟩
  | 21 => ⟨S2x256x16, .f32⟩
  | 22 => ⟨S2x256x16, .f32⟩
  | 23 => ⟨S2x2x128x16x64, .f32⟩
  | 24 => ⟨S2x2x128x16x128, .f32⟩
  | 25 => ⟨S2x2x128x16x128, .f32⟩
  | 26 => ⟨S2x2x128x16, .f32⟩
  | 27 => ⟨S2x16x2x128, .f32⟩
  | 28 => ⟨S_, .f32⟩
  | 29 => ⟨S_, .f32⟩
  | 30 => ⟨S2x16x2x128, .f32⟩
  | 31 => ⟨S2x16x2x128x128, .f32⟩
  | 32 => ⟨S_, .f32⟩
  | 33 => ⟨S_, .f32⟩
  | 34 => ⟨S2x16x2x128, .f32⟩
  | 35 => ⟨S_, .i1⟩
  | 36 => ⟨S128x128, .i1⟩
  | 37 => ⟨S128x128, .i32⟩
  | 38 => ⟨S_, .i32⟩
  | 39 => ⟨S128x128, .i32⟩
  | 40 => ⟨S128x128, .i32⟩
  | 41 => ⟨S128x128, .i32⟩
  | 42 => ⟨S128x128, .i1⟩
  | 43 => ⟨S_, .i1⟩
  | 44 => ⟨S128x128, .i1⟩
  | 45 => ⟨S128x128, .i1⟩
  | 46 => ⟨S2x16x2x128x1, .f32⟩
  | 47 => ⟨S2x16x2x1x128, .f32⟩
  | 48 => ⟨S2x16x2x128x128, .f32⟩
  | 49 => ⟨S2x16x2x128x128, .f32⟩
  | 50 => ⟨S2x16x2x128x128, .f32⟩
  | 51 => ⟨S_, .f32⟩
  | 52 => ⟨S_, .f32⟩
  | 53 => ⟨S2x16x2x128x128, .i1⟩
  | 54 => ⟨S2x16x2x128x128, .f32⟩
  | 55 => ⟨S2x16x2x128x128, .f32⟩
  | 56 => ⟨S2x16x2x128x128, .f32⟩
  | 57 => ⟨S2x16x2x128x128, .f32⟩
  | 58 => ⟨S2x2x16x64x128, .f32⟩
  | 59 => ⟨S2x2x128x16x64, .f32⟩
  | 60 => ⟨S2x16x2x1, .f32⟩
  | 61 => ⟨S2x16x2x128, .f32⟩
  | 62 => ⟨S2x16x2x128, .f32⟩
  | 63 => ⟨S2x16x2x128, .f32⟩
  | 64 => ⟨S2x2x128x16, .f32⟩
  | 65 => ⟨S2x2x128x16x1, .f32⟩
  | 66 => ⟨S2x2x128x16x128, .f32⟩
  | 67 => ⟨S2x2x128x16x128, .f32⟩
  | 68 => ⟨S2x2x16x64x128, .f32⟩
  | 69 => ⟨S2x1x16x64x128, .f32⟩
  | 70 => ⟨S2x3x16x64x128, .f32⟩
  | 71 => ⟨S2x16x2x1, .f32⟩
  | 72 => ⟨S2x16x2, .f32⟩
  | 73 => ⟨S_, .i32⟩
  | 74 => ⟨S_, .f32⟩
  | 75 => ⟨S2x16x3, .f32⟩
  | 76 => ⟨S_, .f32⟩
  | 77 => ⟨S_, .f32⟩
  | 78 => ⟨S2x16x3, .f32⟩
  | 79 => ⟨S_, .i1⟩
  | 80 => ⟨S3x3, .i1⟩
  | 81 => ⟨S3x3, .i32⟩
  | 82 => ⟨S_, .i32⟩
  | 83 => ⟨S3x3, .i32⟩
  | 84 => ⟨S3x3, .i32⟩
  | 85 => ⟨S3x3, .i32⟩
  | 86 => ⟨S3x3, .i1⟩
  | 87 => ⟨S_, .i1⟩
  | 88 => ⟨S3x3, .i1⟩
  | 89 => ⟨S3x3, .i1⟩
  | 90 => ⟨S2x16x3x1, .f32⟩
  | 91 => ⟨S2x16x1x3, .f32⟩
  | 92 => ⟨S2x16x3x3, .f32⟩
  | 93 => ⟨S2x16x3x3, .f32⟩
  | 94 => ⟨S2x16x3x3, .f32⟩
  | 95 => ⟨S_, .f32⟩
  | 96 => ⟨S_, .f32⟩
  | 97 => ⟨S2x16x3x3, .i1⟩
  | 98 => ⟨S2x16x3x3, .f32⟩
  | 99 => ⟨S2x16x3x3, .f32⟩
  | 100 => ⟨S2x16x3x3, .f32⟩
  | 101 => ⟨S2x16x64x128x3, .f32⟩
  | 102 => ⟨S2x3x16x64x128, .f32⟩
  | 103 => ⟨S2x2x16x64x128, .f32⟩
  | 104 => ⟨S2x1x16x64x128, .f32⟩
  | 105 => ⟨S2x16x64x128, .f32⟩
  | 106 => ⟨S2x2x16x64x128, .f32⟩
  | 107 => ⟨S2x2x128x16x64, .f32⟩
  | 108 => ⟨S2x16x2x128, .f32⟩
  | 109 => ⟨S2x2x128x16, .f32⟩
  | 110 => ⟨S2x2x128x16x1, .f32⟩
  | 111 => ⟨S2x2x128x16x64, .f32⟩
  | 112 => ⟨S2x2x128x16x64, .f32⟩
  | 113 => ⟨S2x2x128x16x64, .f32⟩
  | 114 => ⟨S2x256x16x64, .f32⟩
  | 115 => ⟨S1x16, .f32⟩
  | 116 => ⟨S16, .f32⟩
  | 117 => ⟨S1x16, .f32⟩
  | 118 => ⟨S16, .f32⟩
  | 119 => ⟨S2x8192x1024, .f32⟩
  | 120 => ⟨S2x8192x512, .f32⟩
  | 121 => ⟨S2x8192x512, .f32⟩
  | 122 => ⟨S2x8192x4x128, .f32⟩
  | 123 => ⟨S2x8192x4x4x128, .f32⟩
  | 124 => ⟨S2x8192x16x128, .f32⟩
  | 125 => ⟨S2x8192x4x128, .f32⟩
  | 126 => ⟨S2x8192x4x4x128, .f32⟩
  | 127 => ⟨S2x8192x16x128, .f32⟩
  | _ => ⟨S2x8448x2048, .f32⟩

abbrev hbmTy0_2 (i : Nat) : BufTy := match i % 128 with
  | 0 => ⟨S1x1x16, .f32⟩
  | 1 => ⟨S2x8192x16, .f32⟩
  | 2 => ⟨S2x8192x16, .f32⟩
  | 3 => ⟨S_, .f32⟩
  | 4 => ⟨S2x8192x16, .f32⟩
  | 5 => ⟨S2x8192x16, .f32⟩
  | 6 => ⟨S2x8192x16, .f32⟩
  | 7 => ⟨S2x8192x16, .f32⟩
  | 8 => ⟨S2x8192x16, .i1⟩
  | 9 => ⟨S2x8192x16, .f32⟩
  | 10 => ⟨S2x8192x16, .f32⟩
  | 11 => ⟨S2x8192x16, .f32⟩
  | 12 => ⟨S2x8192x16, .f32⟩
  | 13 => ⟨S2x8192x16, .f32⟩
  | 14 => ⟨S2x8192x16, .f32⟩
  | 15 => ⟨S2x8192x16, .f32⟩
  | 16 => ⟨S2x8192x16, .f32⟩
  | 17 => ⟨S16, .f32⟩
  | 18 => ⟨S16, .f32⟩
  | 19 => ⟨S2x8192x16x64, .f32⟩
  | 20 => ⟨S2x8192x16x1, .f32⟩
  | 21 => ⟨S2x8192x16x64, .f32⟩
  | 22 => ⟨S2x8192x16x64, .f32⟩
  | 23 => ⟨S1x1x16, .f32⟩
  | 24 => ⟨S2x8192x16, .f32⟩
  | 25 => ⟨S2x8192x16, .f32⟩
  | 26 => ⟨S2x64x128x16x64, .f32⟩
  | 27 => ⟨S2x64x128x16x128, .f32⟩
  | 28 => ⟨S2x64x128x16x128, .f32⟩
  | 29 => ⟨S2x64x128x16, .f32⟩
  | 30 => ⟨S2x16x64x128, .f32⟩
  | 31 => ⟨S_, .f32⟩
  | 32 => ⟨S_, .f32⟩
  | 33 => ⟨S2x16x64x128, .f32⟩
  | 34 => ⟨S2x16x64x128x128, .f32⟩
  | 35 => ⟨S_, .f32⟩
  | 36 => ⟨S_, .f32⟩
  | 37 => ⟨S2x16x64x128, .f32⟩
  | 38 => ⟨S_, .i1⟩
  | 39 => ⟨S128x128, .i1⟩
  | 40 => ⟨S128x128, .i32⟩
  | 41 => ⟨S_, .i32⟩
  | 42 => ⟨S128x128, .i32⟩
  | 43 => ⟨S128x128, .i32⟩
  | 44 => ⟨S128x128, .i32⟩
  | 45 => ⟨S128x128, .i1⟩
  | 46 => ⟨S_, .i1⟩
  | 47 => ⟨S128x128, .i1⟩
  | 48 => ⟨S128x128, .i1⟩
  | 49 => ⟨S2x16x64x128x1, .f32⟩
  | 50 => ⟨S2x16x64x1x128, .f32⟩
  | 51 => ⟨S2x16x64x128x128, .f32⟩
  | 52 => ⟨S2x16x64x128x128, .f32⟩
  | 53 => ⟨S2x16x64x128x128, .f32⟩
  | 54 => ⟨S_, .f32⟩
  | 55 => ⟨S_, .f32⟩
  | 56 => ⟨S2x16x64x128x128, .i1⟩
  | 57 => ⟨S2x16x64x128x128, .f32⟩
  | 58 => ⟨S2x16x64x128x128, .f32⟩
  | 59 => ⟨S2x16x64x128x128, .f32⟩
  | 60 => ⟨S2x16x64x128x128, .f32⟩
  | 61 => ⟨S2x64x16x64x128, .f32⟩
  | 62 => ⟨S2x64x128x16x64, .f32⟩
  | 63 => ⟨S2x16x64x1, .f32⟩
  | 64 => ⟨S2x16x64x128, .f32⟩
  | 65 => ⟨S2x16x64x128, .f32⟩
  | 66 => ⟨S2x16x64x128, .f32⟩
  | 67 => ⟨S2x64x128x16, .f32⟩
  | 68 => ⟨S2x64x128x16x1, .f32⟩
  | 69 => ⟨S2x64x128x16x128, .f32⟩
  | 70 => ⟨S2x64x128x16x128, .f32⟩
  | 71 => ⟨S2x64x16x64x128, .f32⟩
  | 72 => ⟨S2x1x16x64x128, .f32⟩
  | 73 => ⟨S2x65x16x64x128, .f32⟩
  | 74 => ⟨S2x16x64x1, .f32⟩
  | 75 => ⟨S2x16x64, .f32⟩
  | 76 => ⟨S_, .i32⟩
  | 77 => ⟨S_, .f32⟩
  | 78 => ⟨S2x16x65, .f32⟩
  | 79 => ⟨S_, .f32⟩
  | 80 => ⟨S_, .f32⟩
  | 81 => ⟨S2x16x65, .f32⟩
  | 82 => ⟨S_, .i1⟩
  | 83 => ⟨S65x65, .i1⟩
  | 84 => ⟨S65x65, .i32⟩
  | 85 => ⟨S_, .i32⟩
  | 86 => ⟨S65x65, .i32⟩
  | 87 => ⟨S65x65, .i32⟩
  | 88 => ⟨S65x65, .i32⟩
  | 89 => ⟨S65x65, .i1⟩
  | 90 => ⟨S_, .i1⟩
  | 91 => ⟨S65x65, .i1⟩
  | 92 => ⟨S65x65, .i1⟩
  | 93 => ⟨S2x16x65x1, .f32⟩
  | 94 => ⟨S2x16x1x65, .f32⟩
  | 95 => ⟨S2x16x65x65, .f32⟩
  | 96 => ⟨S2x16x65x65, .f32⟩
  | 97 => ⟨S2x16x65x65, .f32⟩
  | 98 => ⟨S_, .f32⟩
  | 99 => ⟨S_, .f32⟩
  | 100 => ⟨S2x16x65x65, .i1⟩
  | 101 => ⟨S2x16x65x65, .f32⟩
  | 102 => ⟨S2x16x65x65, .f32⟩
  | 103 => ⟨S2x16x65x65, .f32⟩
  | 104 => ⟨S2x16x64x128x65, .f32⟩
  | 105 => ⟨S2x65x16x64x128, .f32⟩
  | 106 => ⟨S2x64x16x64x128, .f32⟩
  | 107 => ⟨S2x1x16x64x128, .f32⟩
  | 108 => ⟨S2x16x64x128, .f32⟩
  | 109 => ⟨S2x64x16x64x128, .f32⟩
  | 110 => ⟨S2x64x128x16x64, .f32⟩
  | 111 => ⟨S2x16x64x128, .f32⟩
  | 112 => ⟨S2x64x128x16, .f32⟩
  | 113 => ⟨S2x64x128x16x1, .f32⟩
  | 114 => ⟨S2x64x128x16x64, .f32⟩
  | 115 => ⟨S2x64x128x16x64, .f32⟩
  | 116 => ⟨S2x64x128x16x64, .f32⟩
  | 117 => ⟨S2x8192x16x64, .f32⟩
  | 118 => ⟨S2x256x1024, .f32⟩
  | 119 => ⟨S2x256x16x64, .f32⟩
  | 120 => ⟨S16x1, .f32⟩
  | 121 => ⟨S1x1x16x1, .f32⟩
  | 122 => ⟨S2x256x16x64, .f32⟩
  | 123 => ⟨S2x256x16x64, .f32⟩
  | 124 => ⟨S2x256x16x64, .f32⟩
  | 125 => ⟨S2x8192x1024, .f32⟩
  | 126 => ⟨S2x8192x16x64, .f32⟩
  | 127 => ⟨S16x1, .f32⟩
  | _ => ⟨S2x8448x2048, .f32⟩

abbrev hbmTy0_3 (i : Nat) : BufTy := match i % 128 with
  | 0 => ⟨S1x1x16x1, .f32⟩
  | 1 => ⟨S2x8192x16x64, .f32⟩
  | 2 => ⟨S2x8192x16x64, .f32⟩
  | 3 => ⟨S2x8192x16x64, .f32⟩
  | 4 => ⟨S2x256x1024, .f32⟩
  | 5 => ⟨S2x8192x1024, .f32⟩
  | 6 => ⟨S2x8448x1024, .f32⟩
  | 7 => ⟨S2x8448x1024, .f32⟩
  | _ => ⟨S2x8448x2048, .f32⟩

abbrev hbmTy (i : Nat) : BufTy := match i / 128 with
  | 0 => hbmTy0_0 i
  | 1 => hbmTy0_1 i
  | 2 => hbmTy0_2 i
  | 3 => hbmTy0_3 i
  | _ => ⟨S2x8448x2048, .f32⟩

abbrev bufTy : (tb : Table) → Fin (tcTables nBuf tb) → BufTy
  | .hbm, ⟨i, _⟩ => hbmTy i
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v39 : Ref sig .tc := ⟨.hbm, 57, rfl⟩
abbrev main_v40 : Ref sig .tc := ⟨.hbm, 58, rfl⟩
abbrev main_c_0 : Ref sig .tc := ⟨.hbm, 59, rfl⟩
abbrev main_call2_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call3_v0 : Ref sig .tc := ⟨.hbm, 99, rfl⟩
abbrev main_call3_v1 : Ref sig .tc := ⟨.hbm, 100, rfl⟩
abbrev main_call3_cst : Ref sig .tc := ⟨.hbm, 101, rfl⟩
abbrev main_call3_v2 : Ref sig .tc := ⟨.hbm, 102, rfl⟩
abbrev main_call3_v3 : Ref sig .tc := ⟨.hbm, 103, rfl⟩
abbrev main_call3_cst_0 : Ref sig .tc := ⟨.hbm, 104, rfl⟩
abbrev main_call3_v4 : Ref sig .tc := ⟨.hbm, 105, rfl⟩
abbrev main_call3_v5 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_call4_cst : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_call5_call0_cst : Ref sig .tc := ⟨.hbm, 156, rfl⟩
abbrev main_call5_call0_v0 : Ref sig .tc := ⟨.hbm, 157, rfl⟩
abbrev main_v114 : Ref sig .tc := ⟨.hbm, 158, rfl⟩
abbrev main_v115 : Ref sig .tc := ⟨.hbm, 159, rfl⟩
abbrev main_call6_call0_cst : Ref sig .tc := ⟨.hbm, 160, rfl⟩
abbrev main_call6_call0_v0 : Ref sig .tc := ⟨.hbm, 161, rfl⟩
abbrev main_v116 : Ref sig .tc := ⟨.hbm, 162, rfl⟩
abbrev main_c_1 : Ref sig .tc := ⟨.hbm, 163, rfl⟩
abbrev main_v117 : Ref sig .tc := ⟨.hbm, 164, rfl⟩
abbrev main_call7_v0 : Ref sig .tc := ⟨.hbm, 165, rfl⟩
abbrev main_call7_c : Ref sig .tc := ⟨.hbm, 166, rfl⟩
abbrev main_call7_v1 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_c_0 : Ref sig .tc := ⟨.hbm, 171, rfl⟩
abbrev main_call7_v5 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_2 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_c_3 : Ref sig .tc := ⟨.hbm, 201, rfl⟩
abbrev main_call9_v0 : Ref sig .tc := ⟨.hbm, 202, rfl⟩
abbrev main_v142 : Ref sig .tc := ⟨.hbm, 203, rfl⟩
abbrev main_call10_call0_cst : Ref sig .tc := ⟨.hbm, 204, rfl⟩
abbrev main_call10_call0_v0 : Ref sig .tc := ⟨.hbm, 205, rfl⟩
abbrev main_v143 : Ref sig .tc := ⟨.hbm, 206, rfl⟩
abbrev main_c_4 : Ref sig .tc := ⟨.hbm, 207, rfl⟩
abbrev main_v144 : Ref sig .tc := ⟨.hbm, 208, rfl⟩
abbrev main_call11_v0 : Ref sig .tc := ⟨.hbm, 209, rfl⟩
abbrev main_call11_c : Ref sig .tc := ⟨.hbm, 210, rfl⟩
abbrev main_call11_v1 : Ref sig .tc := ⟨.hbm, 211, rfl⟩
abbrev main_call11_v2 : Ref sig .tc := ⟨.hbm, 212, rfl⟩
abbrev main_call11_v3 : Ref sig .tc := ⟨.hbm, 213, rfl⟩
abbrev main_call11_v4 : Ref sig .tc := ⟨.hbm, 214, rfl⟩
abbrev main_call11_c_0 : Ref sig .tc := ⟨.hbm, 215, rfl⟩
abbrev main_call11_v5 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_cst_5 : Ref sig .tc := ⟨.hbm, 223, rfl⟩
abbrev main_call12_v0 : Ref sig .tc := ⟨.hbm, 224, rfl⟩
abbrev main_call12_v1 : Ref sig .tc := ⟨.hbm, 225, rfl⟩
abbrev main_call12_v2 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_call13_cst : Ref sig .tc := ⟨.hbm, 259, rfl⟩
abbrev main_call13_v0 : Ref sig .tc := ⟨.hbm, 260, rfl⟩
abbrev main_call13_v1 : Ref sig .tc := ⟨.hbm, 261, rfl⟩
abbrev main_call13_v2 : Ref sig .tc := ⟨.hbm, 262, rfl⟩
abbrev main_call13_v3 : Ref sig .tc := ⟨.hbm, 263, rfl⟩
abbrev main_call13_v4 : Ref sig .tc := ⟨.hbm, 264, rfl⟩
abbrev main_call13_v5 : Ref sig .tc := ⟨.hbm, 265, rfl⟩
abbrev main_call13_v6 : Ref sig .tc := ⟨.hbm, 266, rfl⟩
abbrev main_call13_v7 : Ref sig .tc := ⟨.hbm, 267, rfl⟩
abbrev main_call13_v8 : Ref sig .tc := ⟨.hbm, 268, rfl⟩
abbrev main_call13_v9 : Ref sig .tc := ⟨.hbm, 269, rfl⟩
abbrev main_call13_v10 : Ref sig .tc := ⟨.hbm, 270, rfl⟩
abbrev main_call13_v11 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_call14_call0_cst : Ref sig .tc := ⟨.hbm, 287, rfl⟩
abbrev main_call14_call0_v0 : Ref sig .tc := ⟨.hbm, 288, rfl⟩
abbrev main_v198 : Ref sig .tc := ⟨.hbm, 289, rfl⟩
abbrev main_v199 : Ref sig .tc := ⟨.hbm, 290, rfl⟩
abbrev main_call15_call0_cst : Ref sig .tc := ⟨.hbm, 291, rfl⟩
abbrev main_call15_call0_v0 : Ref sig .tc := ⟨.hbm, 292, rfl⟩
abbrev main_v200 : Ref sig .tc := ⟨.hbm, 293, rfl⟩
abbrev main_c_6 : Ref sig .tc := ⟨.hbm, 294, rfl⟩
abbrev main_v201 : Ref sig .tc := ⟨.hbm, 295, rfl⟩
abbrev main_call16_v0 : Ref sig .tc := ⟨.hbm, 296, rfl⟩
abbrev main_call16_c : Ref sig .tc := ⟨.hbm, 297, rfl⟩
abbrev main_call16_v1 : Ref sig .tc := ⟨.hbm, 298, rfl⟩
abbrev main_call16_v2 : Ref sig .tc := ⟨.hbm, 299, rfl⟩
abbrev main_call16_v3 : Ref sig .tc := ⟨.hbm, 300, rfl⟩
abbrev main_call16_v4 : Ref sig .tc := ⟨.hbm, 301, rfl⟩
abbrev main_call16_c_0 : Ref sig .tc := ⟨.hbm, 302, rfl⟩
abbrev main_call16_v5 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_cst_7 : Ref sig .tc := ⟨.hbm, 310, rfl⟩
abbrev main_call17_v0 : Ref sig .tc := ⟨.hbm, 311, rfl⟩
abbrev main_call17_v1 : Ref sig .tc := ⟨.hbm, 312, rfl⟩
abbrev main_call17_v2 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩
abbrev main_v225 : Ref sig .tc := ⟨.hbm, 331, rfl⟩
abbrev main_c_8 : Ref sig .tc := ⟨.hbm, 332, rfl⟩
abbrev main_call18_v0 : Ref sig .tc := ⟨.hbm, 333, rfl⟩
abbrev main_v226 : Ref sig .tc := ⟨.hbm, 334, rfl⟩
abbrev main_call19_call0_cst : Ref sig .tc := ⟨.hbm, 335, rfl⟩
abbrev main_call19_call0_v0 : Ref sig .tc := ⟨.hbm, 336, rfl⟩
abbrev main_v227 : Ref sig .tc := ⟨.hbm, 337, rfl⟩
abbrev main_c_9 : Ref sig .tc := ⟨.hbm, 338, rfl⟩
abbrev main_v228 : Ref sig .tc := ⟨.hbm, 339, rfl⟩
abbrev main_call20_v0 : Ref sig .tc := ⟨.hbm, 340, rfl⟩
abbrev main_call20_c : Ref sig .tc := ⟨.hbm, 341, rfl⟩
abbrev main_call20_v1 : Ref sig .tc := ⟨.hbm, 342, rfl⟩
abbrev main_call20_v2 : Ref sig .tc := ⟨.hbm, 343, rfl⟩
abbrev main_call20_v3 : Ref sig .tc := ⟨.hbm, 344, rfl⟩
abbrev main_call20_v4 : Ref sig .tc := ⟨.hbm, 345, rfl⟩
abbrev main_call20_c_0 : Ref sig .tc := ⟨.hbm, 346, rfl⟩
abbrev main_call20_v5 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_cst_10 : Ref sig .tc := ⟨.hbm, 354, rfl⟩
abbrev main_call21_v0 : Ref sig .tc := ⟨.hbm, 355, rfl⟩
abbrev main_call21_v1 : Ref sig .tc := ⟨.hbm, 356, rfl⟩
abbrev main_call21_v2 : Ref sig .tc := ⟨.hbm, 357, rfl⟩
abbrev main_v235 : Ref sig .tc := ⟨.hbm, 358, rfl⟩
abbrev main_v236 : Ref sig .tc := ⟨.hbm, 359, rfl⟩
abbrev main_v237 : Ref sig .tc := ⟨.hbm, 360, rfl⟩
abbrev main_v238 : Ref sig .tc := ⟨.hbm, 361, rfl⟩
abbrev main_v239 : Ref sig .tc := ⟨.hbm, 362, rfl⟩
abbrev main_v240 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩
abbrev main_v253 : Ref sig .tc := ⟨.hbm, 376, rfl⟩
abbrev main_v254 : Ref sig .tc := ⟨.hbm, 377, rfl⟩
abbrev main_v255 : Ref sig .tc := ⟨.hbm, 378, rfl⟩
abbrev main_v256 : Ref sig .tc := ⟨.hbm, 379, rfl⟩
abbrev main_v257 : Ref sig .tc := ⟨.hbm, 380, rfl⟩
abbrev main_v258 : Ref sig .tc := ⟨.hbm, 381, rfl⟩
abbrev main_v259 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_v267 : Ref sig .tc := ⟨.hbm, 390, rfl⟩
abbrev main_v268 : Ref sig .tc := ⟨.hbm, 391, rfl⟩

abbrev nD : Nat := 1
abbrev τ : Topo := Topo.v7x

variable {F : FTy → Type} [FloatOps F]
-- ==== Proof.MlpRef.lean ====
module

public import proofs.«01_k».proof.Proof.Gen.MlpRefIdeal
public import Idealize.ShloMosaic.Lib.Pointwise

@[expose] public section

set_option maxRecDepth 16384

noncomputable section

namespace Cert.MlpRefIdeal.Spec

open Cert.MlpRefIdeal Cert.MlpRefIdeal.Gen Idealize.ShloMosaic Idealize.ShloMosaic.TcCoe
open scoped BigOperators

/-- The modulated norm of the latent tokens. -/
def hidL (a0 : FVec Ideal S16896x4096 .f32) (a1 : FVec Ideal S4096 .f32) (a2 : FVec Ideal S3x24576 .f32) : FVec Ideal S2x8192x4096 .f32 :=
  addf (mulf (mulf (mulf (shapeCast _ (extractStridedSlice S16384x4096 ![0, 0] a0 slices_S16896x4096_S16384x4096_0_0) shapeCasts_S16384x4096_S2x8192x4096) (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf (shapeCast _ (extractStridedSlice S16384x4096 ![0, 0] a0 slices_S16896x4096_S16384x4096_0_0) shapeCasts_S16384x4096_S2x8192x4096) (shapeCast _ (extractStridedSlice S16384x4096 ![0, 0] a0 slices_S16896x4096_S16384x4096_0_0) shapeCasts_S16384x4096_S2x8192x4096)) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 a1))) (broadcastInDim S2x8192x4096 ![0, 1, 2] bcast_S2x1x4096_S2x8192x4096_0_1_2 (addf (broadcastInDim S2x1x4096 ![] bcast_S_S2x1x4096 (constant S_ .f32 0x3F800000#32)) (extractStridedSlice S2x1x4096 ![0, 0, 16384] (broadcastInDim S2x1x24576 ![0, 2] bcast_S2x24576_S2x1x24576_0_2 (extractStridedSlice S2x24576 ![1, 0] a2 slices_S3x24576_S2x24576_1_0)) slices_S2x1x24576_S2x1x4096_0_0_16384)))) (broadcastInDim S2x8192x4096 ![0, 1, 2] bcast_S2x1x4096_S2x8192x4096_0_1_2 (extractStridedSlice S2x1x4096 ![0, 0, 12288] (broadcastInDim S2x1x24576 ![0, 2] bcast_S2x24576_S2x1x24576_0_2 (extractStridedSlice S2x24576 ![1, 0] a2 slices_S3x24576_S2x24576_1_0)) slices_S2x1x24576_S2x1x4096_0_0_12288))

/-- The modulated norm of the context tokens. -/
def hidC (a0 : FVec Ideal S16896x4096 .f32) (a1 : FVec Ideal S4096 .f32) (a2 : FVec Ideal S3x24576 .f32) : FVec Ideal S2x256x4096 .f32 :=
  addf (mulf (mulf (mulf (shapeCast _ (extractStridedSlice S512x4096 ![16384, 0] a0 slices_S16896x4096_S512x4096_16384_0) shapeCasts_S512x4096_S2x256x4096) (broadcastInDim S2x256x4096 ![0, 1, 2] bcast_S2x256x1_S2x256x4096_0_1_2 (Host.rsqrt (addf (Host.divf (broadcastInDim S2x256x1 ![0, 1] bcast_S2x256_S2x256x1_0_1 (Host.reduceAdd (mulf (shapeCast _ (extractStridedSlice S512x4096 ![16384, 0] a0 slices_S16896x4096_S512x4096_16384_0) shapeCasts_S512x4096_S2x256x4096) (shapeCast _ (extractStridedSlice S512x4096 ![16384, 0] a0 slices_S16896x4096_S512x4096_16384_0) shapeCasts_S512x4096_S2x256x4096)) (constant S_ .f32 0x00000000#32) reducesTo_S2x256x4096_S2x256_d2 h_S_)) (broadcastInDim S2x256x1 ![] bcast_S_S2x256x1 (constant S_ .f32 0x45800000#32))) (broadcastInDim S2x256x1 ![] bcast_S_S2x256x1 (constant S_ .f32 0x358637BD#32)))))) (broadcastInDim S2x256x4096 ![0, 1, 2] bcast_S1x1x4096_S2x256x4096_0_1_2 (broadcastInDim S1x1x4096 ![2] bcast_S4096_S1x1x4096_2 a1))) (broadcastInDim S2x256x4096 ![0, 1, 2] bcast_S1x1x4096_S2x256x4096_0_1_2 (broadcastInDim S1x1x4096 ![2] bcast_S4096_S1x1x4096_2 (addf (broadcastInDim S4096 ![] bcast_S_S4096 (constant S_ .f32 0x3F800000#32)) (extractStridedSlice S4096 ![16384] (shapeCast _ (extractStridedSlice S1x24576 ![0, 0] a2 slices_S3x24576_S1x24576_0_0) shapeCasts_S1x24576_S24576) slices_S24576_S4096_16384))))) (broadcastInDim S2x256x4096 ![0, 1, 2] bcast_S1x1x4096_S2x256x4096_0_1_2 (broadcastInDim S1x1x4096 ![2] bcast_S4096_S1x1x4096_2 (extractStridedSlice S4096 ![12288] (shapeCast _ (extractStridedSlice S1x24576 ![0, 0] a2 slices_S3x24576_S1x24576_0_0) shapeCasts_S1x24576_S24576) slices_S24576_S4096_12288)))

/-- The rectified hidden units of the latent tokens. -/
def upL (a0 : FVec Ideal S16896x4096 .f32) (a1 : FVec Ideal S4096 .f32) (a2 : FVec Ideal S3x24576 .f32) (a3 : FVec Ideal S4096x16384 .f32) : FVec Ideal S2x8192x16384 .f32 :=
  maximumf (Host.dotGeneral dot_S2x8192x4096_S4096x16384_S2x8192x16384_2_0_01_1_n_n none (hidL a0 a1 a2) a3) (broadcastInDim S2x8192x16384 ![] bcast_S_S2x8192x16384 (constant S_ .f32 0x00000000#32))

/-- The rectified hidden units of the context tokens. -/
def upC (a0 : FVec Ideal S16896x4096 .f32) (a1 : FVec Ideal S4096 .f32) (a2 : FVec Ideal S3x24576 .f32) (a3 : FVec Ideal S4096x16384 .f32) : FVec Ideal S2x256x16384 .f32 :=
  maximumf (Host.dotGeneral dot_S2x256x4096_S4096x16384_S2x256x16384_2_0_01_1_n_n none (hidC a0 a1 a2) a3) (broadcastInDim S2x256x16384 ![] bcast_S_S2x256x16384 (constant S_ .f32 0x00000000#32))

/-- The reference's result as one term of its arguments. -/
def ref (a0 : FVec Ideal S16896x4096 .f32) (a1 : FVec Ideal S4096 .f32) (a2 : FVec Ideal S3x24576 .f32) (a3 : FVec Ideal S4096x16384 .f32) (a4 : FVec Ideal S16384x4096 .f32) : FVec Ideal S16896x4096 .f32 :=
  concatenate S16896x4096 0 [⟨S16384x4096, (shapeCast _ (addf (shapeCast _ (extractStridedSlice S16384x4096 ![0, 0] a0 slices_S16896x4096_S16384x4096_0_0) shapeCasts_S16384x4096_S2x8192x4096) (mulf (broadcastInDim S2x8192x4096 ![0, 1, 2] bcast_S2x1x4096_S2x8192x4096_0_1_2 (extractStridedSlice S2x1x4096 ![0, 0, 20480] (broadcastInDim S2x1x24576 ![0, 2] bcast_S2x24576_S2x1x24576_0_2 (extractStridedSlice S2x24576 ![1, 0] a2 slices_S3x24576_S2x24576_1_0)) slices_S2x1x24576_S2x1x4096_0_0_20480)) (Host.dotGeneral dot_S2x8192x16384_S16384x4096_S2x8192x4096_2_0_01_1_n_n none (mulf (upL a0 a1 a2 a3) (upL a0 a1 a2 a3)) a4))) shapeCasts_S2x8192x4096_S16384x4096)⟩, ⟨S512x4096, (shapeCast _ (addf (shapeCast _ (extractStridedSlice S512x4096 ![16384, 0] a0 slices_S16896x4096_S512x4096_16384_0) shapeCasts_S512x4096_S2x256x4096) (mulf (broadcastInDim S2x256x4096 ![0, 1, 2] bcast_S1x1x4096_S2x256x4096_0_1_2 (broadcastInDim S1x1x4096 ![2] bcast_S4096_S1x1x4096_2 (extractStridedSlice S4096 ![20480] (shapeCast _ (extractStridedSlice S1x24576 ![0, 0] a2 slices_S3x24576_S1x24576_0_0) shapeCasts_S1x24576_S24576) slices_S24576_S4096_20480))) (Host.dotGeneral dot_S2x256x16384_S16384x4096_S2x256x4096_2_0_01_1_n_n none (mulf (upC a0 a1 a2 a3) (upC a0 a1 a2 a3)) a4))) shapeCasts_S2x256x4096_S512x4096)⟩] concatenates_S16384x4096_S512x4096_S16896x4096_d0

/-- The row of the modulation table that row `r` of the tokens takes: the latents of batch `b` take row `1 + b`, the context tokens row 0. -/
def grp (r : Fin 16896) : Fin 3 := if h : r.val < 16384 then ⟨1 + r.val / 8192, by omega⟩ else 0

/-- The modulated norm of token `r` at channel `k`. -/
def hid (a0 : FVec Ideal S16896x4096 .f32) (a1 : FVec Ideal S4096 .f32) (a2 : FVec Ideal S3x24576 .f32) (r : Fin 16896) (k : Fin 4096) : EReal :=
  a0 (ix2 r k) * Ideal.rsqrt (Ideal.div (∑ l : Fin 4096, a0 (ix2 r l) * a0 (ix2 r l)) (Ideal.ofBits .f32 0x45800000#32) + Ideal.ofBits .f32 0x358637BD#32)
    * a1 (ix1 k) * (1 + a2 (ix2 (grp r) ⟨16384 + k.val, by omega⟩)) + a2 (ix2 (grp r) ⟨12288 + k.val, by omega⟩)

/-- The hidden unit `f` of token `r`, before it is squared. -/
def up (a0 : FVec Ideal S16896x4096 .f32) (a1 : FVec Ideal S4096 .f32) (a2 : FVec Ideal S3x24576 .f32) (a3 : FVec Ideal S4096x16384 .f32) (r : Fin 16896) (f : Fin 16384) : EReal :=
  max (∑ k : Fin 4096, hid a0 a1 a2 r k * a3 (ix2 k f)) 0

theorem hidL_at (a0 : FVec Ideal S16896x4096 .f32) (a1 : FVec Ideal S4096 .f32) (a2 : FVec Ideal S3x24576 .f32) (b : Fin 2) (l : Fin 8192) (k : Fin 4096) (r : Fin 16896) (hr : r.val = b.val * 8192 + l.val) :
    hidL a0 a1 a2 (ix3 b l k) = hid a0 a1 a2 r k := by
  obtain ⟨r, hr0⟩ := r
  change r = _ at hr
  have h : b.val * 8192 + l.val < 16384 := by omega
  subst hr
  pointwise [hidL, hid, grp]
  simp only [dif_pos h]
  have e : (b.val * 8192 + l.val) / 8192 = b.val := by omega
  simp only [e, zero_add]

theorem hidC_at (a0 : FVec Ideal S16896x4096 .f32) (a1 : FVec Ideal S4096 .f32) (a2 : FVec Ideal S3x24576 .f32) (b : Fin 2) (l : Fin 256) (k : Fin 4096) (r : Fin 16896) (hr : r.val = 16384 + (b.val * 256 + l.val)) :
    hidC a0 a1 a2 (ix3 b l k) = hid a0 a1 a2 r k := by
  obtain ⟨r, hr0⟩ := r
  change r = _ at hr
  have h : ¬ 16384 + (b.val * 256 + l.val) < 16384 := by omega
  subst hr
  pointwise [hidC, hid, grp]

theorem upL_at (a0 : FVec Ideal S16896x4096 .f32) (a1 : FVec Ideal S4096 .f32) (a2 : FVec Ideal S3x24576 .f32) (a3 : FVec Ideal S4096x16384 .f32) (b : Fin 2) (l : Fin 8192) (f : Fin 16384) (r : Fin 16896) (hr : r.val = b.val * 8192 + l.val) :
    upL a0 a1 a2 a3 (ix3 b l f) = up a0 a1 a2 a3 r f := by
  pointwise [upL, up]
  simp only [hidL_at a0 a1 a2 b l _ r hr]

theorem upC_at (a0 : FVec Ideal S16896x4096 .f32) (a1 : FVec Ideal S4096 .f32) (a2 : FVec Ideal S3x24576 .f32) (a3 : FVec Ideal S4096x16384 .f32) (b : Fin 2) (l : Fin 256) (f : Fin 16384) (r : Fin 16896) (hr : r.val = 16384 + (b.val * 256 + l.val)) :
    upC a0 a1 a2 a3 (ix3 b l f) = up a0 a1 a2 a3 r f := by
  pointwise [upC, up]
  simp only [hidC_at a0 a1 a2 b l _ r hr]

theorem ref_at (a0 : FVec Ideal S16896x4096 .f32) (a1 : FVec Ideal S4096 .f32) (a2 : FVec Ideal S3x24576 .f32) (a3 : FVec Ideal S4096x16384 .f32) (a4 : FVec Ideal S16384x4096 .f32)
    (r : Fin 16896) (q : Fin 4096) :
    ref a0 a1 a2 a3 a4 (ix2 r q) = a0 (ix2 r q) + a2 (ix2 (grp r) ⟨20480 + q.val, by omega⟩) *
      ∑ f : Fin 16384, up a0 a1 a2 a3 r f * up a0 a1 a2 a3 r f * a4 (ix2 f q) := by
  pointwise [ref]
  by_cases h : r.val < 16384
  · simp only [dif_pos h, grp]
    have e : r.val / 8192 * 8192 + r.val % 8192 = r.val := by omega
    simp only [upL_at a0 a1 a2 a3 ⟨r.val / 8192, by omega⟩ ⟨r.val % 8192, by omega⟩ _ r e.symm]
    simp only [e]
  · simp only [dif_neg h, grp]
    have e : 16384 + ((r.val - 16384) / 256 * 256 + (r.val - 16384) % 256) = r.val := by omega
    simp only [upC_at a0 a1 a2 a3 ⟨(r.val - 16384) / 256, by omega⟩ ⟨(r.val - 16384) % 256, by omega⟩ _ r e.symm]
    simp only [e]

end Cert.MlpRefIdeal.Spec

end
-- ==== Proof.MlpValue.lean ====
module

public import proofs.«01_k».proof.Proof.MlpRef
public import proofs.«01_k».proof.Proof.Gen.MlpIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MlpIdeal.Proj

open Cert.MlpIdeal Cert.MlpIdeal.Gen
open Cert.MlpRefIdeal.Spec (grp hid up ref ref_at)

variable (m : (ℓ : Loc nD τ sig) → Buf (Elt Ideal) ℓ)

theorem idx : ∀ t : Fin cfg0.N, win0_0.index t = ![t.val / 32, 0]
    ∧ win0_1.index t = ![0, 0]
    ∧ win0_2.index t = ![if t.val / 32 < 32 then 1 + t.val / 512 else 0, 0, 0]
    ∧ win0_3.index t = ![0, t.val % 32]
    ∧ win0_4.index t = ![t.val % 32, 0]
    ∧ win0_5.index t = ![t.val / 32, 0] :=
  (by decide +kernel : ∀ t : Fin grid0.N, _)

/-- The padded modulation table, read at one of its six used rows. -/
theorem table (c : Dev nD) (g : Fin 3) (s : Fin 6) (q : Fin 4096) :
    V m c main_v1 (ix3 g (⟨s.val, by omega⟩ : Fin 8) q) = m ((c : Thread nD τ).loc main_arg2) (ix2 g ⟨s.val * 4096 + q.val, by omega⟩) := by
  have e : V m c main_v1 = pad S3x8x4096 ![0, 0, 0] ![0, 2, 0] ![0, 0, 0] (shapeCast S3x6x4096 (show FVec Ideal S3x24576 .f32 from m ((c : Thread nD τ).loc main_arg2)) shapeCasts_S3x24576_S3x6x4096) (sitofp .f32 (constantI S_ 32 0#32) : FVec Ideal S_ .f32) pads_S3x6x4096_S3x8x4096_000_020_000 h_S_ := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

theorem V1 (c : Dev nD) (g : Fin 1) (q : Fin 4096) :
    V m c main_v4 (ix2 g q) = m ((c : Thread nD τ).loc main_arg1) (ix1 q) := by
  have e : V m c main_v4 = shapeCast S1x4096 (show FVec Ideal S4096 .f32 from m ((c : Thread nD τ).loc main_arg1)) shapeCasts_S4096_S1x4096 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

/-- The token of row `y` of the row tile `n`. -/
def row (n : ℕ) (y : Fin 512) : Fin 16896 := ⟨n % 33 * 512 + y.val, by omega⟩

theorem b0 (c : Dev nD) (t : Fin cfg0.N) (a : Fin 512) (q : Fin 4096) :
    iblk m c 0 t (ix2 a q) = m ((c : Thread nD τ).loc main_arg0) (ix2 (row (t.val / 32) a) q) := by
  blk_ext [iblk, V, idx t, row]

theorem b1 (c : Dev nD) (t : Fin cfg0.N) (q : Fin 4096) :
    iblk m c 1 t (ix2 (0 : Fin 1) q) = m ((c : Thread nD τ).loc main_arg1) (ix1 q) := by
  refine Eq.trans ?_ (V1 m c 0 q)
  blk_ext [iblk, idx t]

theorem b2 (c : Dev nD) (t : Fin cfg0.N) (s : Fin 6) (q : Fin 4096) (a : Fin 512) :
    iblk m c 2 t (ix3 (0 : Fin 1) (⟨s.val, by omega⟩ : Fin 8) q) = m ((c : Thread nD τ).loc main_arg2) (ix2 (grp (row (t.val / 32) a)) ⟨s.val * 4096 + q.val, by omega⟩) := by
  refine Eq.trans ?_ (table m c _ s q)
  have ht : t.val < 1056 := lt_of_lt_of_eq t.isLt N_0
  blk_ext [iblk, idx t, row, grp]
  have hr : (row (t.val / 32) a).val = t.val / 32 % 33 * 512 + a.val := rfl
  split_ifs <;> first | omega | (simp only [Fin.val_zero]; omega)

theorem b3 (c : Dev nD) (t : Fin cfg0.N) (k : Fin 4096) (f : Fin 512) :
    iblk m c 3 t (ix2 k f) = m ((c : Thread nD τ).loc main_arg3) (ix2 k ⟨t.val % 32 * 512 + f.val, by omega⟩) := by
  have e : iblk m c 3 t (ix2 k f) = V m c main_v2 (ix2 k ⟨t.val % 32 * 512 + f.val, by omega⟩) := by
    blk_ext [iblk, idx t]
  rw [e]
  have e : V m c main_v2 = (truncf .bf16 (show FVec Ideal S4096x16384 .f32 from m ((c : Thread nD τ).loc main_arg3)) bitsLt_bf16_f32 : FVec Ideal S4096x16384 .bf16) := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

theorem b4 (c : Dev nD) (t : Fin cfg0.N) (f : Fin 512) (q : Fin 4096) :
    iblk m c 4 t (ix2 f q) = m ((c : Thread nD τ).loc main_arg4) (ix2 ⟨t.val % 32 * 512 + f.val, by omega⟩ q) := by
  have e : iblk m c 4 t (ix2 f q) = V m c main_v3 (ix2 ⟨t.val % 32 * 512 + f.val, by omega⟩ q) := by
    blk_ext [iblk, idx t]
  rw [e]
  have e : V m c main_v3 = (truncf .bf16 (show FVec Ideal S16384x4096 .f32 from m ((c : Thread nD τ).loc main_arg4)) bitsLt_bf16_f32 : FVec Ideal S16384x4096 .bf16) := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

theorem pay1_at (v21 : Vec Ideal S512x4096 .f32) (v32 : Vec Ideal S1x4096 .f32) (v36 v42 : Vec Ideal S1x1x4096 .f32) (a : Fin 512) (k : Fin 4096) :
    k0_pay1 (F := Ideal) v21 v32 v36 v42 (ix2 a k) = v21 (ix2 a k) * Ideal.rsqrt (Ideal.div (∑ l : Fin 4096, v21 (ix2 a l) * v21 (ix2 a l)) (Ideal.ofBits .f32 0x45800000#32) + Ideal.ofBits .f32 0x358637BD#32)
      * v32 (ix2 (0 : Fin 1) k) * (1 + v36 (ix3 (0 : Fin 1) (0 : Fin 1) k)) + v42 (ix3 (0 : Fin 1) (0 : Fin 1) k) := by
  pointwise [k0_pay1]

theorem pay2_at (a : Fin 512) (k : Fin 4096) : k0_pay2 (F := Ideal) (ix2 a k) = 0 := by
  pointwise [k0_pay2]

theorem pay3_at (v3 : Vec Ideal S512x4096 .bf16) (v4 : Vec Ideal S4096x512 .bf16) (v11 : Vec Ideal S512x4096 .f32) (v13 : Vec Ideal S512x4096 .bf16) (a : Fin 512) (q : Fin 4096) :
    k0_pay3 (F := Ideal) v3 v4 v11 v13 (ix2 a q) = v11 (ix2 a q) + ∑ f : Fin 512, max (∑ k : Fin 4096, v3 (ix2 a k) * v4 (ix2 k f)) 0 * max (∑ k : Fin 4096, v3 (ix2 a k) * v4 (ix2 k f)) 0 * v13 (ix2 f q) := by
  pointwise [k0_pay3]

theorem pay4_at (v21 : Vec Ideal S512x4096 .f32) (v22 : Vec Ideal S1x1x4096 .f32) (v24 : Vec Ideal S512x4096 .f32) (a : Fin 512) (q : Fin 4096) :
    k0_pay4 (F := Ideal) v21 v22 v24 (ix2 a q) = v21 (ix2 a q) + v22 (ix3 (0 : Fin 1) (0 : Fin 1) q) * v24 (ix2 a q) := by
  pointwise [k0_pay4]

section
variable (a0 : FVec Ideal S16896x4096 .f32) (a1 : FVec Ideal S4096 .f32) (a2 : FVec Ideal S3x24576 .f32) (a3 : FVec Ideal S4096x16384 .f32) (a4 : FVec Ideal S16384x4096 .f32)

/-- What the tile `s` of the hidden units adds to the result of token `r` at channel `q`. -/
def part (r : Fin 16896) (q : Fin 4096) (s : ℕ) : EReal :=
  ∑ f : Fin 512, up a0 a1 a2 a3 r ⟨s % 32 * 512 + f.val, by omega⟩ * up a0 a1 a2 a3 r ⟨s % 32 * 512 + f.val, by omega⟩ * a4 (ix2 ⟨s % 32 * 512 + f.val, by omega⟩ q)

theorem ref_tiles (r : Fin 16896) (q : Fin 4096) :
    ref a0 a1 a2 a3 a4 (ix2 r q) = a0 (ix2 r q) + a2 (ix2 (grp r) ⟨20480 + q.val, by omega⟩) * ∑ s ∈ Finset.range 32, part a0 a1 a2 a3 a4 r q s := by
  rw [ref_at, ← Fin.sum_univ_eq_sum_range (fun s => part a0 a1 a2 a3 a4 r q s) 32]
  refine congrArg (fun z => a0 (ix2 r q) + a2 (ix2 (grp r) ⟨20480 + q.val, by omega⟩) * z) ?_
  refine (Fin.sum_univ_tiles 32 512 rfl _).trans ?_
  refine Finset.sum_congr rfl fun s _ => ?_
  unfold part
  refine Finset.sum_congr rfl fun f _ => ?_
  have e : s.val % 32 = s.val := Nat.mod_eq_of_lt s.isLt
  simp only [e]
end

end Cert.MlpIdeal.Proj

end
-- ==== Proof.MlpStep.lean ====
module

public import proofs.«01_k».proof.Proof.MlpValue
public import proofs.«01_k».proof.Proof.Gen.MlpIdeal.Frame
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MlpIdeal.Proj

open Cert.MlpIdeal Cert.MlpIdeal.Gen
open Cert.MlpRefIdeal.Spec (grp hid up ref ref_at)

variable (m : (ℓ : Loc nD τ sig) → Buf (Elt Ideal) ℓ)

/-- The value of the modulated norm from the blocks of a point. -/
theorem norm_point (c : Dev nD) (t : Fin cfg0.N) (v36 v42 : Vec Ideal S1x1x4096 .f32)
    (h36 : ∀ k, v36 (ix3 (0 : Fin 1) (0 : Fin 1) k) = iblk m c 2 t (ix3 (0 : Fin 1) (4 : Fin 8) k))
    (h42 : ∀ k, v42 (ix3 (0 : Fin 1) (0 : Fin 1) k) = iblk m c 2 t (ix3 (0 : Fin 1) (3 : Fin 8) k)) (a : Fin 512) (k : Fin 4096) :
    k0_pay1 (F := Ideal) (iblk m c 0 t) (iblk m c 1 t) v36 v42 (ix2 a k)
      = hid (m ((c : Thread nD τ).loc main_arg0)) (m ((c : Thread nD τ).loc main_arg1)) (m ((c : Thread nD τ).loc main_arg2)) (row (t.val / 32) a) k := by
  rw [pay1_at, h36, h42]
  have e4 := b2 m c t (4 : Fin 6) k a
  have e3 := b2 m c t (3 : Fin 6) k a
  unfold hid
  simp only [b0 m c t a, b1 m c t k]
  exact congrArg₂ (· + ·) (congrArg (fun z => _ * (1 + z)) e4) e3

/-- What the two products of a point add, when the row tile's norm is `v3`. -/
theorem part_point (c : Dev nD) (t : Fin cfg0.N) (v3 : Vec Ideal S512x4096 .bf16) (v11 : Vec Ideal S512x4096 .f32) (a : Fin 512) (q : Fin 4096)
    (h3 : ∀ k, v3 (ix2 a k) = hid (m ((c : Thread nD τ).loc main_arg0)) (m ((c : Thread nD τ).loc main_arg1)) (m ((c : Thread nD τ).loc main_arg2)) (row (t.val / 32) a) k) :
    k0_pay3 (F := Ideal) v3 (iblk m c 3 t) v11 (iblk m c 4 t) (ix2 a q)
      = v11 (ix2 a q) + part (m ((c : Thread nD τ).loc main_arg0)) (m ((c : Thread nD τ).loc main_arg1)) (m ((c : Thread nD τ).loc main_arg2)) (m ((c : Thread nD τ).loc main_arg3)) (m ((c : Thread nD τ).loc main_arg4)) (row (t.val / 32) a) q (t.val % 32) := by
  rw [pay3_at]
  unfold part up
  have e : t.val % 32 % 32 = t.val % 32 := by omega
  simp only [h3, b3 m c t, b4 m c t, e]

theorem stepA (c : Dev nD) (t : Fin cfg0.N) (h0 : t.val % 32 = 0) (h1 : ¬t.val % 32 = 31) (a : Fin 512) :
    (∀ k, (outsAt0 m c t.val t.isLt).2 (ix2 a k) = hid (m ((c : Thread nD τ).loc main_arg0)) (m ((c : Thread nD τ).loc main_arg1)) (m ((c : Thread nD τ).loc main_arg2)) (row (t.val / 32) a) k) ∧
    (∀ q, (outsAt0 m c t.val t.isLt).1 (ix2 a q) = 0 + part (m ((c : Thread nD τ).loc main_arg0)) (m ((c : Thread nD τ).loc main_arg1)) (m ((c : Thread nD τ).loc main_arg2)) (m ((c : Thread nD τ).loc main_arg3)) (m ((c : Thread nD τ).loc main_arg4)) (row (t.val / 32) a) q (t.val % 32)) := by
  rw [outsAt0_A m c t h0 h1]
  constructor
  · intro k
    frame_out
    refine norm_point m c t _ _ (fun k => ?_) (fun k => ?_) a k
    · pointwise
    · pointwise
  · intro q
    frame_out
    refine (part_point m c t _ _ a q fun k => ?_).trans (by rw [pay2_at])
    refine norm_point m c t _ _ (fun k => ?_) (fun k => ?_) a k
    · pointwise
    · pointwise

theorem stepB (c : Dev nD) (t : Fin cfg0.N) (h0 : ¬ t.val % 32 = 0) (h1 : ¬t.val % 32 = 31) (a : Fin 512)
    (hp : ∀ k, (outsAt0 m c (t.val - 1) (Nat.lt_of_le_of_lt (Nat.sub_le _ _) t.isLt)).2 (ix2 a k) = hid (m ((c : Thread nD τ).loc main_arg0)) (m ((c : Thread nD τ).loc main_arg1)) (m ((c : Thread nD τ).loc main_arg2)) (row (t.val / 32) a) k) :
    (∀ k, (outsAt0 m c t.val t.isLt).2 (ix2 a k) = hid (m ((c : Thread nD τ).loc main_arg0)) (m ((c : Thread nD τ).loc main_arg1)) (m ((c : Thread nD τ).loc main_arg2)) (row (t.val / 32) a) k) ∧
    (∀ q, (outsAt0 m c t.val t.isLt).1 (ix2 a q) = (outsAt0 m c (t.val - 1) (Nat.lt_of_le_of_lt (Nat.sub_le _ _) t.isLt)).1 (ix2 a q) + part (m ((c : Thread nD τ).loc main_arg0)) (m ((c : Thread nD τ).loc main_arg1)) (m ((c : Thread nD τ).loc main_arg2)) (m ((c : Thread nD τ).loc main_arg3)) (m ((c : Thread nD τ).loc main_arg4)) (row (t.val / 32) a) q (t.val % 32)) := by
  rw [outsAt0_B m c t h0 h1]
  constructor
  · intro k
    exact hp k
  · intro q
    frame_out
    rw [read_unread_whole]
    exact part_point m c t _ _ a q hp

theorem stepC (c : Dev nD) (t : Fin cfg0.N) (h0 : ¬ t.val % 32 = 0) (h1 : t.val % 32 = 31) (a : Fin 512)
    (hp : ∀ k, (outsAt0 m c (t.val - 1) (Nat.lt_of_le_of_lt (Nat.sub_le _ _) t.isLt)).2 (ix2 a k) = hid (m ((c : Thread nD τ).loc main_arg0)) (m ((c : Thread nD τ).loc main_arg1)) (m ((c : Thread nD τ).loc main_arg2)) (row (t.val / 32) a) k) (q : Fin 4096) :
    (outsAt0 m c t.val t.isLt).1 (ix2 a q) = (show FVec Ideal S16896x4096 .f32 from m ((c : Thread nD τ).loc main_arg0)) (ix2 (row (t.val / 32) a) q) + (show FVec Ideal S3x24576 .f32 from m ((c : Thread nD τ).loc main_arg2)) (ix2 (grp (row (t.val / 32) a)) ⟨20480 + q.val, by omega⟩) *
      ((outsAt0 m c (t.val - 1) (Nat.lt_of_le_of_lt (Nat.sub_le _ _) t.isLt)).1 (ix2 a q) + part (m ((c : Thread nD τ).loc main_arg0)) (m ((c : Thread nD τ).loc main_arg1)) (m ((c : Thread nD τ).loc main_arg2)) (m ((c : Thread nD τ).loc main_arg3)) (m ((c : Thread nD τ).loc main_arg4)) (row (t.val / 32) a) q (t.val % 32)) := by
  rw [outsAt0_C m c t h0 h1]
  frame_out
  rw [read_unread_whole, pay4_at, part_point m c t _ _ a q hp, b0 m c t a q]
  refine congrArg₂ (· + ·) rfl (congrArg₂ (· * ·) ?_ rfl)
  refine Eq.trans ?_ (b2 m c t (5 : Fin 6) q a)
  pointwise

/-- The contents after every point: the row tile's norm, and the sum of the parts so far. -/
theorem inv (c : Dev nD) (n : ℕ) : ∀ hn : n < cfg0.N, ∀ a : Fin 512,
    (n % 32 ≠ 31 → ∀ k, (outsAt0 m c n hn).2 (ix2 a k) = hid (m ((c : Thread nD τ).loc main_arg0)) (m ((c : Thread nD τ).loc main_arg1)) (m ((c : Thread nD τ).loc main_arg2)) (row (n / 32) a) k) ∧
    (n % 32 ≠ 31 → ∀ q, (outsAt0 m c n hn).1 (ix2 a q) = ∑ s ∈ Finset.range (n % 32 + 1), part (m ((c : Thread nD τ).loc main_arg0)) (m ((c : Thread nD τ).loc main_arg1)) (m ((c : Thread nD τ).loc main_arg2)) (m ((c : Thread nD τ).loc main_arg3)) (m ((c : Thread nD τ).loc main_arg4)) (row (n / 32) a) q s) ∧
    (n % 32 = 31 → ∀ q, (outsAt0 m c n hn).1 (ix2 a q) = ref (m ((c : Thread nD τ).loc main_arg0)) (m ((c : Thread nD τ).loc main_arg1)) (m ((c : Thread nD τ).loc main_arg2)) (m ((c : Thread nD τ).loc main_arg3)) (m ((c : Thread nD τ).loc main_arg4)) (ix2 (row (n / 32) a) q)) := by
  induction n with
  | zero =>
    intro hn a
    obtain ⟨hA, hB⟩ := stepA m c ⟨0, hn⟩ (Nat.zero_mod 32) (by change ¬ 0 % 32 = 31; omega) a
    refine ⟨fun _ => hA, fun _ q => (hB q).trans ?_, fun h => absurd h (by decide)⟩
    simp
  | succ n ih =>
    intro hn a
    by_cases h0 : (n + 1) % 32 = 0
    · obtain ⟨hA, hB⟩ := stepA m c ⟨n + 1, hn⟩ h0 (by change ¬ (n + 1) % 32 = 31; omega) a
      refine ⟨fun _ => hA, fun _ q => (hB q).trans ?_, fun h => absurd h (by omega)⟩
      simp only [h0]
      simp
    · have hd : (n + 1) / 32 = n / 32 := by omega
      have hm : (n + 1) % 32 = n % 32 + 1 := by omega
      obtain ⟨i2, i1, -⟩ := ih (Nat.lt_of_succ_lt hn) a
      have i2 := i2 (by omega)
      have i1 := i1 (by omega)
      rw [← hd] at i2 i1
      by_cases h1 : (n + 1) % 32 = 31
      · refine ⟨fun h => absurd h1 h, fun h => absurd h1 h, fun _ q => ?_⟩
        refine (stepC m c ⟨n + 1, hn⟩ h0 h1 a i2 q).trans ?_
        rw [ref_tiles]
        refine congrArg₂ (· + ·) rfl (congrArg₂ (· * ·) rfl ?_)
        refine (congrArg₂ (· + ·) (i1 q) rfl).trans ?_
        have e : n % 32 + 1 = 31 := by omega
        simp only [e, h1]
        exact (Finset.sum_range_succ _ 31).symm
      · obtain ⟨hA, hB⟩ := stepB m c ⟨n + 1, hn⟩ h0 h1 a i2
        refine ⟨fun _ => hA, fun _ q => (hB q).trans ?_, fun h => absurd h h1⟩
        refine (congrArg₂ (· + ·) (i1 q) rfl).trans ?_
        simp only [hm]
        exact (Finset.sum_range_succ _ (n % 32 + 1)).symm

theorem final (c : Dev nD) : (dats m 0 c).arrAt 5 (cfgs 0).N = ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  have h := (flush0_5 t).mp hf
  refine (congrArg _ (eq_ix2 y)).trans ?_
  refine ((inv m c t.val t.isLt (y 0)).2.2 h (y 1)).trans ?_
  have ht : t.val < 1056 := lt_of_lt_of_eq t.isLt N_0
  refine congrArg _ ?_
  blk_ext [idx t, row]

end Cert.MlpIdeal.Proj

end
-- ==== Proof.MlpClaim.lean ====
module

public import proofs.«01_k».proof.Defs
public import proofs.«01_k».proof.Proof.Gen.Mlp.Frame
public import proofs.«01_k».proof.Proof.Gen.MlpIdeal.Value
public import proofs.«01_k».proof.Proof.Gen.MlpRefIdeal.Run
public import proofs.«01_k».proof.Proof.MlpStep
public import Idealize.ShloMosaic.Lib.Claim
public import Idealize.ShloMosaic.Lib.Quiescent

@[expose] public section

set_option maxRecDepth 16384

noncomputable section

namespace Cert.Proof

open Idealize.ShloMosaic Idealize.SL.Sem

/-- The reference runs, keeps its arguments and has no counters to end away from zero. -/
theorem mlp_ref_still : Cert.quiescent_MlpRefIdeal := by
  intro m g _
  refine (θ_run Cert.MlpRefIdeal.defs _ _).mono ?_ (Cert.MlpRefIdeal.Value.run (F := Ideal) m g)
  intro r h
  exact ⟨fun c => (h c).2, sem_eq_zero_of_no_sems (by decide) r.2⟩

/-- The kernel's result is the reference's, on all arguments. -/
theorem mlp_value : Cert.algebraic_MlpIdeal_MlpRefIdeal := by
  pair_intro
  · run_from Cert.MlpIdeal.Value.run_blocks m g
  · run_from Cert.MlpRefIdeal.Value.run m' g'
    refine Eq.trans ?_ (Cert.MlpIdeal.Proj.final m c).symm
    obtain ⟨h0, h1, h2, h3, h4⟩ := hagree c
    rw [← h0, ← h1, ← h2, ← h3, ← h4]
    rfl

end Cert.Proof

end
-- ==== Proof.WoutRef.lean ====
module

public import proofs.«01_k».proof.Proof.Gen.WoutRefIdeal
public import Idealize.ShloMosaic.Lib.Pointwise

@[expose] public section

set_option maxRecDepth 16384

noncomputable section

namespace Cert.WoutRefIdeal.Spec

open Cert.WoutRefIdeal Cert.WoutRefIdeal.Gen Idealize.ShloMosaic Idealize.ShloMosaic.TcCoe
open scoped BigOperators

/-- The reference's result as one term of its arguments. -/
def ref (a0 : FVec Ideal S16896x4096 .bf16) (a1 : FVec Ideal S4096x4096 .f32) (a2 : FVec Ideal S16896x4096 .f32) (a3 : FVec Ideal S3x24576 .f32) : FVec Ideal S16896x4096 .f32 :=
  concatenate S16896x4096 0 [⟨S16384x4096, (shapeCast _ (addf (shapeCast _ (extractStridedSlice S16384x4096 ![0, 0] a2 slices_S16896x4096_S16384x4096_0_0) shapeCasts_S16384x4096_S2x8192x4096) (mulf (broadcastInDim S2x8192x4096 ![0, 1, 2] bcast_S2x1x4096_S2x8192x4096_0_1_2 (extractStridedSlice S2x1x4096 ![0, 0, 8192] (broadcastInDim S2x1x24576 ![0, 2] bcast_S2x24576_S2x1x24576_0_2 (extractStridedSlice S2x24576 ![1, 0] a3 slices_S3x24576_S2x24576_1_0)) slices_S2x1x24576_S2x1x4096_0_0_8192)) (Host.dotGeneral dot_S2x8192x4096_S4096x4096_S2x8192x4096_2_0_01_1_n_n none (shapeCast _ (extractStridedSlice S16384x4096 ![0, 0] (extf .f32 a0 bitsLt_bf16_f32) slices_S16896x4096_S16384x4096_0_0) shapeCasts_S16384x4096_S2x8192x4096) a1))) shapeCasts_S2x8192x4096_S16384x4096)⟩, ⟨S512x4096, (shapeCast _ (addf (shapeCast _ (extractStridedSlice S512x4096 ![16384, 0] a2 slices_S16896x4096_S512x4096_16384_0) shapeCasts_S512x4096_S2x256x4096) (mulf (broadcastInDim S2x256x4096 ![0, 1, 2] bcast_S1x1x4096_S2x256x4096_0_1_2 (broadcastInDim S1x1x4096 ![2] bcast_S4096_S1x1x4096_2 (extractStridedSlice S4096 ![8192] (shapeCast _ (extractStridedSlice S1x24576 ![0, 0] a3 slices_S3x24576_S1x24576_0_0) shapeCasts_S1x24576_S24576) slices_S24576_S4096_8192))) (Host.dotGeneral dot_S2x256x4096_S4096x4096_S2x256x4096_2_0_01_1_n_n none (shapeCast _ (extractStridedSlice S512x4096 ![16384, 0] (extf .f32 a0 bitsLt_bf16_f32) slices_S16896x4096_S512x4096_16384_0) shapeCasts_S512x4096_S2x256x4096) a1))) shapeCasts_S2x256x4096_S512x4096)⟩] concatenates_S16384x4096_S512x4096_S16896x4096_d0

/-- The row of the modulation table that row `r` of the tokens takes: the latents of batch `b` take row `1 + b`, the context tokens row 0. -/
def grp (r : Fin 16896) : Fin 3 := if h : r.val < 16384 then ⟨1 + r.val / 8192, by omega⟩ else 0

theorem ref_at (a0 : FVec Ideal S16896x4096 .bf16) (a1 : FVec Ideal S4096x4096 .f32) (a2 : FVec Ideal S16896x4096 .f32) (a3 : FVec Ideal S3x24576 .f32)
    (r : Fin 16896) (q : Fin 4096) :
    ref a0 a1 a2 a3 (ix2 r q) = a2 (ix2 r q) + a3 (ix2 (grp r) ⟨8192 + q.val, by omega⟩) * ∑ k : Fin 4096, a0 (ix2 r k) * a1 (ix2 k q) := by
  pointwise [ref]
  unfold grp
  by_cases h : r.val < 16384
  · simp only [dif_pos h]
    have e : r.val / 8192 * 8192 + r.val % 8192 = r.val := by omega
    simp only [e]
  · simp only [dif_neg h]
    have e : 16384 + ((r.val - 16384) / 256 * 256 + (r.val - 16384) % 256) = r.val := by omega
    simp only [e]

end Cert.WoutRefIdeal.Spec

end
-- ==== Proof.WoutValue.lean ====
module

public import proofs.«01_k».proof.Proof.WoutRef
public import proofs.«01_k».proof.Proof.Gen.WoutIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WoutIdeal.Proj

open Cert.WoutIdeal Cert.WoutIdeal.Gen

variable (m : (ℓ : Loc nD τ sig) → Buf (Elt Ideal) ℓ)

theorem idx : ∀ t : Fin cfg0.N, win0_0.index t = ![t.val / 4, 0]
    ∧ win0_1.index t = ![0, t.val % 4]
    ∧ win0_2.index t = ![t.val / 4, t.val % 4]
    ∧ win0_3.index t = ![if t.val / 4 < 32 then 1 + t.val / 64 else 0, 0, t.val % 4]
    ∧ win0_4.index t = ![t.val / 4, t.val % 4] :=
  (by decide +kernel : ∀ t : Fin grid0.N, _)

/-- The padded modulation table, read at one of its six used rows. -/
theorem table (c : Dev nD) (g : Fin 3) (q : Fin 4096) :
    V m c main_v2 (ix3 g (2 : Fin 8) q) = m ((c : Thread nD τ).loc main_arg3) (ix2 g ⟨8192 + q.val, by omega⟩) := by
  have e : V m c main_v2 = pad S3x8x4096 ![0, 0, 0] ![0, 2, 0] ![0, 0, 0] (shapeCast S3x6x4096 (show FVec Ideal S3x24576 .f32 from m ((c : Thread nD τ).loc main_arg3)) shapeCasts_S3x24576_S3x6x4096) (sitofp .f32 (constantI S_ 32 0#32) : FVec Ideal S_ .f32) pads_S3x6x4096_S3x8x4096_000_020_000 h_S_ := by
    unfold V
    simp only [hostOps0, hostOps0_1, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

theorem point (c : Dev nD) (t : Fin cfg0.N) (y) :
    k0_pay1 (iblk m c 0 t) (iblk m c 1 t) (iblk m c 2 t) (View.ld (iblk m c 3 t) r0_3) y
      = Cert.WoutRefIdeal.Spec.ref (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1]
  have h := Cert.WoutRefIdeal.Spec.ref_at (m ((c : Thread nD τ).loc main_arg0)) (m ((c : Thread nD τ).loc main_arg1)) (m ((c : Thread nD τ).loc
        main_arg2)) (m ((c : Thread nD τ).loc main_arg3)) ((((cfg0.win 4).blk t).view.emb y) 0) ((((cfg0.win 4).blk t).view.emb y) 1)
  refine Eq.trans ?_ ((congrArg _ (eq_ix2 _)).trans h).symm
  blk_point [iblk, V, idx t]
  have e : (win0_3.blk t).view.emb (ix3 0 2 (y 1)) = ix3 (Cert.WoutRefIdeal.Spec.grp ((win0_4.blk t).view.emb y 0)) (2 : Fin 8) ((win0_4.blk t).view.emb y 1) := by
    blk_ext [idx t, Cert.WoutRefIdeal.Spec.grp]
    split_ifs with h1 h2 <;> first | omega | (simp only [Fin.val_zero]; omega)
  rw [e]
  refine (table m c _ _).trans ?_
  blk_ext [idx t]

theorem final (c : Dev nD) : (dats m 0 c).arrAt 4 (cfgs 0).N = Cert.WoutRefIdeal.Spec.ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.WoutIdeal.Proj

end
-- ==== Proof.WoutClaim.lean ====
module

public import proofs.«01_k».proof.Defs
public import proofs.«01_k».proof.Proof.Gen.Wout.Frame
public import proofs.«01_k».proof.Proof.Gen.WoutIdeal.Value
public import proofs.«01_k».proof.Proof.Gen.WoutRefIdeal.Run
public import proofs.«01_k».proof.Proof.WoutValue
public import Idealize.ShloMosaic.Lib.Claim
public import Idealize.ShloMosaic.Lib.Quiescent

@[expose] public section

set_option maxRecDepth 16384

noncomputable section

namespace Cert.Proof

open Idealize.ShloMosaic Idealize.SL.Sem

/-- The reference runs, keeps its arguments and has no counters to end away from zero. -/
theorem wout_ref_still : Cert.quiescent_WoutRefIdeal := by
  intro m g _
  refine (θ_run Cert.WoutRefIdeal.defs _ _).mono ?_ (Cert.WoutRefIdeal.Value.run (F := Ideal) m g)
  intro r h
  exact ⟨fun c => (h c).2, sem_eq_zero_of_no_sems (by decide) r.2⟩

/-- The kernel's result is the reference's, on all arguments. -/
theorem wout_value : Cert.algebraic_WoutIdeal_WoutRefIdeal := by
  pair_intro
  · run_from Cert.WoutIdeal.Value.run_blocks m g
  · run_from Cert.WoutRefIdeal.Value.run m' g'
    refine Eq.trans ?_ (Cert.WoutIdeal.Proj.final m c).symm
    obtain ⟨h0, h1, h2, h3⟩ := hagree c
    rw [← h0, ← h1, ← h2, ← h3]
    rfl

end Cert.Proof

end
-- ==== Proof.WinRef.lean ====
module

public import proofs.«01_k».proof.Proof.Gen.WinRefIdeal
public import Idealize.ShloMosaic.Lib.Pointwise

@[expose] public section

set_option maxRecDepth 16384

noncomputable section

namespace Cert.WinRefIdeal.Spec

open Cert.WinRefIdeal Cert.WinRefIdeal.Gen Idealize.ShloMosaic Idealize.ShloMosaic.TcCoe
open scoped BigOperators

/-- The modulated norm of the latent tokens. -/
def hidL (a0 : FVec Ideal S16896x4096 .f32) (a1 : FVec Ideal S4096 .f32) (a2 : FVec Ideal S3x24576 .f32) : FVec Ideal S2x8192x4096 .f32 :=
  addf (mulf (mulf (mulf (shapeCast _ (extractStridedSlice S16384x4096 ![0, 0] a0 slices_S16896x4096_S16384x4096_0_0) shapeCasts_S16384x4096_S2x8192x4096) (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf (shapeCast _ (extractStridedSlice S16384x4096 ![0, 0] a0 slices_S16896x4096_S16384x4096_0_0) shapeCasts_S16384x4096_S2x8192x4096) (shapeCast _ (extractStridedSlice S16384x4096 ![0, 0] a0 slices_S16896x4096_S16384x4096_0_0) shapeCasts_S16384x4096_S2x8192x4096)) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 a1))) (broadcastInDim S2x8192x4096 ![0, 1, 2] bcast_S2x1x4096_S2x8192x4096_0_1_2 (addf (broadcastInDim S2x1x4096 ![] bcast_S_S2x1x4096 (constant S_ .f32 0x3F800000#32)) (extractStridedSlice S2x1x4096 ![0, 0, 4096] (broadcastInDim S2x1x24576 ![0, 2] bcast_S2x24576_S2x1x24576_0_2 (extractStridedSlice S2x24576 ![1, 0] a2 slices_S3x24576_S2x24576_1_0)) slices_S2x1x24576_S2x1x4096_0_0_4096)))) (broadcastInDim S2x8192x4096 ![0, 1, 2] bcast_S2x1x4096_S2x8192x4096_0_1_2 (extractStridedSlice S2x1x4096 ![0, 0, 0] (broadcastInDim S2x1x24576 ![0, 2] bcast_S2x24576_S2x1x24576_0_2 (extractStridedSlice S2x24576 ![1, 0] a2 slices_S3x24576_S2x24576_1_0)) slices_S2x1x24576_S2x1x4096_0_0_0))

/-- The modulated norm of the context tokens. -/
def hidC (a0 : FVec Ideal S16896x4096 .f32) (a1 : FVec Ideal S4096 .f32) (a2 : FVec Ideal S3x24576 .f32) : FVec Ideal S2x256x4096 .f32 :=
  addf (mulf (mulf (mulf (shapeCast _ (extractStridedSlice S512x4096 ![16384, 0] a0 slices_S16896x4096_S512x4096_16384_0) shapeCasts_S512x4096_S2x256x4096) (broadcastInDim S2x256x4096 ![0, 1, 2] bcast_S2x256x1_S2x256x4096_0_1_2 (Host.rsqrt (addf (Host.divf (broadcastInDim S2x256x1 ![0, 1] bcast_S2x256_S2x256x1_0_1 (Host.reduceAdd (mulf (shapeCast _ (extractStridedSlice S512x4096 ![16384, 0] a0 slices_S16896x4096_S512x4096_16384_0) shapeCasts_S512x4096_S2x256x4096) (shapeCast _ (extractStridedSlice S512x4096 ![16384, 0] a0 slices_S16896x4096_S512x4096_16384_0) shapeCasts_S512x4096_S2x256x4096)) (constant S_ .f32 0x00000000#32) reducesTo_S2x256x4096_S2x256_d2 h_S_)) (broadcastInDim S2x256x1 ![] bcast_S_S2x256x1 (constant S_ .f32 0x45800000#32))) (broadcastInDim S2x256x1 ![] bcast_S_S2x256x1 (constant S_ .f32 0x358637BD#32)))))) (broadcastInDim S2x256x4096 ![0, 1, 2] bcast_S1x1x4096_S2x256x4096_0_1_2 (broadcastInDim S1x1x4096 ![2] bcast_S4096_S1x1x4096_2 a1))) (broadcastInDim S2x256x4096 ![0, 1, 2] bcast_S1x1x4096_S2x256x4096_0_1_2 (broadcastInDim S1x1x4096 ![2] bcast_S4096_S1x1x4096_2 (addf (broadcastInDim S4096 ![] bcast_S_S4096 (constant S_ .f32 0x3F800000#32)) (extractStridedSlice S4096 ![4096] (shapeCast _ (extractStridedSlice S1x24576 ![0, 0] a2 slices_S3x24576_S1x24576_0_0) shapeCasts_S1x24576_S24576) slices_S24576_S4096_4096))))) (broadcastInDim S2x256x4096 ![0, 1, 2] bcast_S1x1x4096_S2x256x4096_0_1_2 (broadcastInDim S1x1x4096 ![2] bcast_S4096_S1x1x4096_2 (extractStridedSlice S4096 ![0] (shapeCast _ (extractStridedSlice S1x24576 ![0, 0] a2 slices_S3x24576_S1x24576_0_0) shapeCasts_S1x24576_S24576) slices_S24576_S4096_0)))

/-- The projection of all tokens, latents first. -/
def prj (a0 : FVec Ideal S16896x4096 .f32) (a1 : FVec Ideal S4096 .f32) (a2 : FVec Ideal S3x24576 .f32) (a3 : FVec Ideal S4096x6688 .f32) : FVec Ideal S16896x6688 .f32 :=
  concatenate S16896x6688 0 [⟨S16384x6688, (shapeCast _ (Host.dotGeneral dot_S2x8192x4096_S4096x6688_S2x8192x6688_2_0_01_1_n_n none (hidL a0 a1 a2) a3) shapeCasts_S2x8192x6688_S16384x6688)⟩, ⟨S512x6688, (shapeCast _ (Host.dotGeneral dot_S2x256x4096_S4096x6688_S2x256x6688_2_0_01_1_n_n none (hidC a0 a1 a2) a3) shapeCasts_S2x256x6688_S512x6688)⟩] concatenates_S16384x6688_S512x6688_S16896x6688_d0

/-- The reference's result as one term of its arguments. -/
def ref (a0 : FVec Ideal S16896x4096 .f32) (a1 : FVec Ideal S4096 .f32) (a2 : FVec Ideal S3x24576 .f32) (a3 : FVec Ideal S4096x6688 .f32) : FVec Ideal S16896x7168 .f32 :=
  (concatenate S16896x7168 1 [⟨S16896x1024, ((extractStridedSlice S16896x1024 ![0, 0] (prj a0 a1 a2 a3) slices_S16896x6688_S16896x1024_0_0) : FVec Ideal S16896x1024 .f32)⟩, ⟨S16896x1024, ((extractStridedSlice S16896x1024 ![0, 1024] (prj a0 a1 a2 a3) slices_S16896x6688_S16896x1024_0_1024) : FVec Ideal S16896x1024 .f32)⟩, ⟨S16896x1024, ((extractStridedSlice S16896x1024 ![0, 2048] (prj a0 a1 a2 a3) slices_S16896x6688_S16896x1024_0_2048) : FVec Ideal S16896x1024 .f32)⟩, ⟨S16896x1024, ((extractStridedSlice S16896x1024 ![0, 3072] (prj a0 a1 a2 a3) slices_S16896x6688_S16896x1024_0_3072) : FVec Ideal S16896x1024 .f32)⟩, ⟨S16896x2048, ((extractStridedSlice S16896x2048 ![0, 4096] (prj a0 a1 a2 a3) slices_S16896x6688_S16896x2048_0_4096) : FVec Ideal S16896x2048 .f32)⟩, ⟨S16896x512, ((extractStridedSlice S16896x512 ![0, 6176] (prj a0 a1 a2 a3) slices_S16896x6688_S16896x512_0_6176) : FVec Ideal S16896x512 .f32)⟩, ⟨S16896x32, ((extractStridedSlice S16896x32 ![0, 6144] (prj a0 a1 a2 a3) slices_S16896x6688_S16896x32_0_6144) : FVec Ideal S16896x32 .f32)⟩, ⟨S16896x480, ((broadcastInDim S16896x480 ![] bcast_S_S16896x480 (constant S_ .f32 0x00000000#32)) : FVec Ideal S16896x480 .f32)⟩] concatenates_S16896x1024_S16896x1024_S16896x1024_S16896x1024_S16896x2048_S16896x512_S16896x32_S16896x480_S16896x7168_d1 : FVec Ideal S16896x7168 .f32)

/-- The row of the modulation table that a token uses: the context row, or its batch entry's row. -/
def grp (r : Fin 16896) : Fin 3 := if h : r.val < 16384 then ⟨1 + r.val / 8192, by omega⟩ else 0

/-- The modulated norm of token `r` at channel `k`. -/
def hid (a0 : FVec Ideal S16896x4096 .f32) (a1 : FVec Ideal S4096 .f32) (a2 : FVec Ideal S3x24576 .f32) (r : Fin 16896) (k : Fin 4096) : EReal :=
  a0 (ix2 r k) * Ideal.rsqrt (Ideal.div (∑ l : Fin 4096, a0 (ix2 r l) * a0 (ix2 r l)) (Ideal.ofBits .f32 0x45800000#32) + Ideal.ofBits .f32 0x358637BD#32)
    * a1 (ix1 k) * (1 + a2 (ix2 (grp r) ⟨4096 + k.val, by omega⟩)) + a2 (ix2 (grp r) ⟨k.val, by omega⟩)

theorem hidL_at (a0 : FVec Ideal S16896x4096 .f32) (a1 : FVec Ideal S4096 .f32) (a2 : FVec Ideal S3x24576 .f32) (b : Fin 2) (l : Fin 8192) (k : Fin 4096) (r : Fin 16896) (hr : r.val = b.val * 8192 + l.val) :
    hidL a0 a1 a2 (ix3 b l k) = hid a0 a1 a2 r k := by
  obtain ⟨r, hr0⟩ := r
  change r = _ at hr
  have h : b.val * 8192 + l.val < 16384 := by omega
  subst hr
  pointwise [hidL, hid, grp]
  simp only [dif_pos h]
  have e : (b.val * 8192 + l.val) / 8192 = b.val := by omega
  simp only [e, zero_add]

theorem hidC_at (a0 : FVec Ideal S16896x4096 .f32) (a1 : FVec Ideal S4096 .f32) (a2 : FVec Ideal S3x24576 .f32) (b : Fin 2) (l : Fin 256) (k : Fin 4096) (r : Fin 16896) (hr : r.val = 16384 + (b.val * 256 + l.val)) :
    hidC a0 a1 a2 (ix3 b l k) = hid a0 a1 a2 r k := by
  obtain ⟨r, hr0⟩ := r
  change r = _ at hr
  have h : ¬ 16384 + (b.val * 256 + l.val) < 16384 := by omega
  subst hr
  pointwise [hidC, hid, grp]

theorem prj_at (a0 : FVec Ideal S16896x4096 .f32) (a1 : FVec Ideal S4096 .f32) (a2 : FVec Ideal S3x24576 .f32) (a3 : FVec Ideal S4096x6688 .f32) (r : Fin 16896) (j : Fin 6688) :
    prj a0 a1 a2 a3 (ix2 r j) = ∑ k : Fin 4096, hid a0 a1 a2 r k * a3 (ix2 k j) := by
  pointwise [prj]
  by_cases h : r.val < 16384
  · simp only [dif_pos h]
    have e : r.val / 8192 * 8192 + r.val % 8192 = r.val := by omega
    simp only [hidL_at a0 a1 a2 ⟨r.val / 8192, by omega⟩ ⟨r.val % 8192, by omega⟩ _ r e.symm]
  · simp only [dif_neg h]
    have e : 16384 + ((r.val - 16384) / 256 * 256 + (r.val - 16384) % 256) = r.val := by omega
    simp only [hidC_at a0 a1 a2 ⟨(r.val - 16384) / 256, by omega⟩ ⟨(r.val - 16384) % 256, by omega⟩ _ r e.symm]

/-- The weight of the result's column `j`: the columns in the order the layer reads them, and zeros at the end. -/
def wcol (a3 : FVec Ideal S4096x6688 .f32) (k : Fin 4096) (j : Fin 7168) : EReal :=
  if h : j.val < 6144 then a3 (ix2 k ⟨j.val, by omega⟩) else if h : j.val < 6656 then a3 (ix2 k ⟨j.val + 32, by omega⟩)
    else if h : j.val < 6688 then a3 (ix2 k ⟨j.val - 512, by omega⟩) else 0

theorem wcol_low (a3 : FVec Ideal S4096x6688 .f32) (k : Fin 4096) (j : Fin 7168) (i : Fin 6688) (h : j.val < 6144) (e : i.val = j.val) :
    a3 (ix2 k i) = wcol a3 k j := by
  unfold wcol
  rw [dif_pos h]
  exact congrArg (fun z => a3 (ix2 k z)) (Fin.ext e)

theorem wcol_mid (a3 : FVec Ideal S4096x6688 .f32) (k : Fin 4096) (j : Fin 7168) (i : Fin 6688) (h : 6144 ≤ j.val) (h' : j.val < 6656) (e : i.val = j.val + 32) :
    a3 (ix2 k i) = wcol a3 k j := by
  unfold wcol
  rw [dif_neg (by omega), dif_pos h']
  exact congrArg (fun z => a3 (ix2 k z)) (Fin.ext e)

theorem wcol_high (a3 : FVec Ideal S4096x6688 .f32) (k : Fin 4096) (j : Fin 7168) (i : Fin 6688) (h : 6656 ≤ j.val) (h' : j.val < 6688) (e : i.val = j.val - 512) :
    a3 (ix2 k i) = wcol a3 k j := by
  unfold wcol
  rw [dif_neg (by omega), dif_neg (by omega), dif_pos h']
  exact congrArg (fun z => a3 (ix2 k z)) (Fin.ext e)

theorem wcol_pad (a3 : FVec Ideal S4096x6688 .f32) (k : Fin 4096) (j : Fin 7168) (h : 6688 ≤ j.val) :
    0 = wcol a3 k j := by
  unfold wcol
  rw [dif_neg (by omega), dif_neg (by omega), dif_neg (by omega)]

theorem ref_at (a0 : FVec Ideal S16896x4096 .f32) (a1 : FVec Ideal S4096 .f32) (a2 : FVec Ideal S3x24576 .f32) (a3 : FVec Ideal S4096x6688 .f32) (r : Fin 16896) (j : Fin 7168) :
    ref a0 a1 a2 a3 (ix2 r j) = ∑ k : Fin 4096, hid a0 a1 a2 r k * wcol a3 k j := by
  pointwise [ref]
  simp only [prj_at]
  split_ifs <;> first
    | exact Finset.sum_congr rfl fun k _ => congrArg (fun z => hid a0 a1 a2 r k * z) (wcol_low a3 k j _ (by omega) (by dsimp only <;> omega))
    | exact Finset.sum_congr rfl fun k _ => congrArg (fun z => hid a0 a1 a2 r k * z) (wcol_mid a3 k j _ (by omega) (by omega) (by dsimp only <;> omega))
    | exact Finset.sum_congr rfl fun k _ => congrArg (fun z => hid a0 a1 a2 r k * z) (wcol_high a3 k j _ (by omega) (by omega) (by dsimp only <;> omega))
    | (refine (Finset.sum_eq_zero fun k _ => ?_).symm
       rw [← wcol_pad a3 k j (by omega), mul_zero])

end Cert.WinRefIdeal.Spec

end
-- ==== Proof.WinValue.lean ====
module

public import proofs.«01_k».proof.Proof.WinRef
public import proofs.«01_k».proof.Proof.Gen.WinIdeal.Frame
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WinIdeal.Proj

open Cert.WinIdeal Cert.WinIdeal.Gen
open Cert.WinRefIdeal.Spec (grp hid wcol wcol_low wcol_mid wcol_high wcol_pad ref ref_at)

variable (m : (ℓ : Loc nD τ sig) → Buf (Elt Ideal) ℓ)

theorem idx : ∀ t : Fin cfg0.N, win0_0.index t = ![t.val / 7, 0]
    ∧ win0_1.index t = ![0, 0]
    ∧ win0_2.index t = ![if t.val / 7 < 32 then 1 + t.val / 112 else 0, 0, 0]
    ∧ win0_3.index t = ![0, t.val % 7]
    ∧ win0_4.index t = ![t.val / 7, t.val % 7] :=
  (by decide +kernel : ∀ t : Fin grid0.N, _)

/-- The padded modulation table, read at one of its six used rows. -/
theorem table (c : Dev nD) (g : Fin 3) (s : Fin 6) (q : Fin 4096) :
    V m c main_v1 (ix3 g (⟨s.val, by omega⟩ : Fin 8) q) = m ((c : Thread nD τ).loc main_arg2) (ix2 g ⟨s.val * 4096 + q.val, by omega⟩) := by
  have e : V m c main_v1 = pad S3x8x4096 ![0, 0, 0] ![0, 2, 0] ![0, 0, 0] (shapeCast S3x6x4096 (show FVec Ideal S3x24576 .f32 from m ((c : Thread nD τ).loc main_arg2)) shapeCasts_S3x24576_S3x6x4096) (sitofp .f32 (constantI S_ 32 0#32) : FVec Ideal S_ .f32) pads_S3x6x4096_S3x8x4096_000_020_000 h_S_ := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

theorem gain (c : Dev nD) (g : Fin 1) (q : Fin 4096) :
    V m c main_v8 (ix2 g q) = m ((c : Thread nD τ).loc main_arg1) (ix1 q) := by
  have e : V m c main_v8 = shapeCast S1x4096 (show FVec Ideal S4096 .f32 from m ((c : Thread nD τ).loc main_arg1)) shapeCasts_S4096_S1x4096 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

/-- The weight handed to the kernel: its columns reordered and padded with zeros. -/
theorem weight (c : Dev nD) (k : Fin 4096) (j : Fin 7168) :
    V m c main_v7 (ix2 k j) = wcol (m ((c : Thread nD τ).loc main_arg3)) k j := by
  have e : V m c main_v7 = (truncf .bf16 (concatenate S4096x7168 1 [⟨S4096x6144, (extractStridedSlice S4096x6144 ![0, 0] (show FVec Ideal S4096x6688 .f32 from (m ((c : Thread nD τ).loc main_arg3))) slices_S4096x6688_S4096x6144_0_0 : FVec Ideal S4096x6144 .f32)⟩, ⟨S4096x512, (extractStridedSlice S4096x512 ![0, 6176] (show FVec Ideal S4096x6688 .f32 from (m ((c : Thread nD τ).loc main_arg3))) slices_S4096x6688_S4096x512_0_6176 : FVec Ideal S4096x512 .f32)⟩, ⟨S4096x32, (extractStridedSlice S4096x32 ![0, 6144] (show FVec Ideal S4096x6688 .f32 from (m ((c : Thread nD τ).loc main_arg3))) slices_S4096x6688_S4096x32_0_6144 : FVec Ideal S4096x32 .f32)⟩, ⟨S4096x480, (broadcastInDim S4096x480 ![] bcast_S_S4096x480 (constant S_ .f32 0x00000000#32 : FVec Ideal S_ .f32) : FVec Ideal S4096x480 .f32)⟩] concatenates_S4096x6144_S4096x512_S4096x32_S4096x480_S4096x7168_d1 : FVec Ideal S4096x7168 .f32) bitsLt_bf16_f32 : FVec Ideal S4096x7168 .bf16) := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  split_ifs <;> first
    | exact wcol_low (m ((c : Thread nD τ).loc main_arg3)) k j _ (by omega) (by dsimp only <;> omega)
    | exact wcol_mid (m ((c : Thread nD τ).loc main_arg3)) k j _ (by omega) (by omega) (by dsimp only <;> omega)
    | exact wcol_high (m ((c : Thread nD τ).loc main_arg3)) k j _ (by omega) (by omega) (by dsimp only <;> omega)
    | exact wcol_pad (m ((c : Thread nD τ).loc main_arg3)) k j (by omega)

/-- The token of row `y` of the row tile `n`. -/
def row (n : ℕ) (y : Fin 512) : Fin 16896 := ⟨n % 33 * 512 + y.val, by omega⟩

theorem b0 (c : Dev nD) (t : Fin cfg0.N) (a : Fin 512) (q : Fin 4096) :
    iblk m c 0 t (ix2 a q) = m ((c : Thread nD τ).loc main_arg0) (ix2 (row (t.val / 7) a) q) := by
  blk_ext [iblk, V, idx t, row]

theorem b1 (c : Dev nD) (t : Fin cfg0.N) (q : Fin 4096) :
    iblk m c 1 t (ix2 (0 : Fin 1) q) = m ((c : Thread nD τ).loc main_arg1) (ix1 q) := by
  refine Eq.trans ?_ (gain m c 0 q)
  blk_ext [iblk, idx t]

theorem b2 (c : Dev nD) (t : Fin cfg0.N) (s : Fin 6) (q : Fin 4096) (a : Fin 512) :
    iblk m c 2 t (ix3 (0 : Fin 1) (⟨s.val, by omega⟩ : Fin 8) q) = m ((c : Thread nD τ).loc main_arg2) (ix2 (grp (row (t.val / 7) a)) ⟨s.val * 4096 + q.val, by omega⟩) := by
  refine Eq.trans ?_ (table m c _ s q)
  have ht : t.val < 231 := lt_of_lt_of_eq t.isLt N_0
  blk_ext [iblk, idx t, row, grp]
  have hr : (row (t.val / 7) a).val = t.val / 7 % 33 * 512 + a.val := rfl
  split_ifs <;> first | omega | (simp only [Fin.val_zero]; omega)

theorem b3 (c : Dev nD) (t : Fin cfg0.N) (k : Fin 4096) (f : Fin 1024) :
    iblk m c 3 t (ix2 k f) = wcol (m ((c : Thread nD τ).loc main_arg3)) k ⟨t.val % 7 * 1024 + f.val, by omega⟩ := by
  refine Eq.trans ?_ (weight m c k _)
  blk_ext [iblk, idx t]

theorem pay1_at (v21 : Vec Ideal S512x4096 .f32) (v32 : Vec Ideal S1x4096 .f32) (v42 v36 : Vec Ideal S1x1x4096 .f32) (a : Fin 512) (k : Fin 4096) :
    k0_pay1 (F := Ideal) v21 v32 v42 v36 (ix2 a k) = v21 (ix2 a k) * Ideal.rsqrt (Ideal.div (∑ l : Fin 4096, v21 (ix2 a l) * v21 (ix2 a l)) (Ideal.ofBits .f32 0x45800000#32) + Ideal.ofBits .f32 0x358637BD#32)
      * v32 (ix2 (0 : Fin 1) k) * (1 + v36 (ix3 (0 : Fin 1) (0 : Fin 1) k)) + v42 (ix3 (0 : Fin 1) (0 : Fin 1) k) := by
  pointwise [k0_pay1]

theorem pay2_at (v3 : Vec Ideal S512x4096 .bf16) (v4 : Vec Ideal S4096x1024 .bf16) (a : Fin 512) (q : Fin 1024) :
    k0_pay2 (F := Ideal) v3 v4 (ix2 a q) = ∑ k : Fin 4096, v3 (ix2 a k) * v4 (ix2 k q) := by
  pointwise [k0_pay2]

/-- The value of the modulated norm from the blocks of a point. -/
theorem norm_point (c : Dev nD) (t : Fin cfg0.N) (v42 v36 : Vec Ideal S1x1x4096 .f32)
    (h42 : ∀ k, v42 (ix3 (0 : Fin 1) (0 : Fin 1) k) = iblk m c 2 t (ix3 (0 : Fin 1) (0 : Fin 8) k))
    (h36 : ∀ k, v36 (ix3 (0 : Fin 1) (0 : Fin 1) k) = iblk m c 2 t (ix3 (0 : Fin 1) (1 : Fin 8) k)) (a : Fin 512) (k : Fin 4096) :
    k0_pay1 (F := Ideal) (iblk m c 0 t) (iblk m c 1 t) v42 v36 (ix2 a k) = hid (m ((c : Thread nD τ).loc main_arg0)) (m ((c : Thread nD τ).loc main_arg1)) (m ((c : Thread nD τ).loc main_arg2)) (row (t.val / 7) a) k := by
  rw [pay1_at, h36, h42]
  have e1 := b2 m c t (1 : Fin 6) k a
  have e0 := (b2 m c t (0 : Fin 6) k a).trans (congrArg (fun z => m ((c : Thread nD τ).loc main_arg2) (ix2 (grp (row (t.val / 7) a)) z)) (Fin.ext (by simp : _ = (⟨k.val, by omega⟩ : Fin 24576).val)))
  unfold hid
  simp only [b0 m c t a, b1 m c t k]
  exact congrArg₂ (· + ·) (congrArg (fun z => _ * (1 + z)) e1) e0

/-- The product of a point, when the row tile's norm is `v3`. -/
theorem prod_point (c : Dev nD) (t : Fin cfg0.N) (v3 : Vec Ideal S512x4096 .bf16) (a : Fin 512) (q : Fin 1024)
    (h3 : ∀ k, v3 (ix2 a k) = hid (m ((c : Thread nD τ).loc main_arg0)) (m ((c : Thread nD τ).loc main_arg1)) (m ((c : Thread nD τ).loc main_arg2)) (row (t.val / 7) a) k) :
    k0_pay2 (F := Ideal) v3 (iblk m c 3 t) (ix2 a q) = ref (m ((c : Thread nD τ).loc main_arg0)) (m ((c : Thread nD τ).loc main_arg1)) (m ((c : Thread nD τ).loc main_arg2)) (m ((c : Thread nD τ).loc main_arg3)) (ix2 (row (t.val / 7) a) ⟨t.val % 7 * 1024 + q.val, by omega⟩) := by
  rw [pay2_at, ref_at]
  simp only [h3, b3 m c t]

theorem stepA (c : Dev nD) (t : Fin cfg0.N) (h0 : t.val % 7 = 0) (a : Fin 512) :
    (∀ k, (outsAt0 m c t.val t.isLt).2 (ix2 a k) = hid (m ((c : Thread nD τ).loc main_arg0)) (m ((c : Thread nD τ).loc main_arg1)) (m ((c : Thread nD τ).loc main_arg2)) (row (t.val / 7) a) k) ∧
    (∀ q, (outsAt0 m c t.val t.isLt).1 (ix2 a q) = ref (m ((c : Thread nD τ).loc main_arg0)) (m ((c : Thread nD τ).loc main_arg1)) (m ((c : Thread nD τ).loc main_arg2)) (m ((c : Thread nD τ).loc main_arg3)) (ix2 (row (t.val / 7) a) ⟨t.val % 7 * 1024 + q.val, by omega⟩)) := by
  rw [outsAt0_A m c t h0]
  constructor
  · intro k
    frame_out
    refine norm_point m c t _ _ (fun k => ?_) (fun k => ?_) a k
    · pointwise
    · pointwise
  · intro q
    frame_out
    refine prod_point m c t _ a q fun k => ?_
    refine norm_point m c t _ _ (fun k => ?_) (fun k => ?_) a k
    · pointwise
    · pointwise

theorem stepB (c : Dev nD) (t : Fin cfg0.N) (h0 : ¬ t.val % 7 = 0) (a : Fin 512)
    (hp : ∀ k, (outsAt0 m c (t.val - 1) (Nat.lt_of_le_of_lt (Nat.sub_le _ _) t.isLt)).2 (ix2 a k) = hid (m ((c : Thread nD τ).loc main_arg0)) (m ((c : Thread nD τ).loc main_arg1)) (m ((c : Thread nD τ).loc main_arg2)) (row (t.val / 7) a) k) :
    (∀ k, (outsAt0 m c t.val t.isLt).2 (ix2 a k) = hid (m ((c : Thread nD τ).loc main_arg0)) (m ((c : Thread nD τ).loc main_arg1)) (m ((c : Thread nD τ).loc main_arg2)) (row (t.val / 7) a) k) ∧
    (∀ q, (outsAt0 m c t.val t.isLt).1 (ix2 a q) = ref (m ((c : Thread nD τ).loc main_arg0)) (m ((c : Thread nD τ).loc main_arg1)) (m ((c : Thread nD τ).loc main_arg2)) (m ((c : Thread nD τ).loc main_arg3)) (ix2 (row (t.val / 7) a) ⟨t.val % 7 * 1024 + q.val, by omega⟩)) := by
  rw [outsAt0_B m c t h0]
  constructor
  · intro k
    exact hp k
  · intro q
    frame_out
    rw [read_unread_whole]
    exact prod_point m c t _ a q hp

/-- The contents after every point: the row tile's norm, and the reference's block. -/
theorem inv (c : Dev nD) (n : ℕ) : ∀ hn : n < cfg0.N, ∀ a : Fin 512,
    (∀ k, (outsAt0 m c n hn).2 (ix2 a k) = hid (m ((c : Thread nD τ).loc main_arg0)) (m ((c : Thread nD τ).loc main_arg1)) (m ((c : Thread nD τ).loc main_arg2)) (row (n / 7) a) k) ∧
    (∀ q, (outsAt0 m c n hn).1 (ix2 a q) = ref (m ((c : Thread nD τ).loc main_arg0)) (m ((c : Thread nD τ).loc main_arg1)) (m ((c : Thread nD τ).loc main_arg2)) (m ((c : Thread nD τ).loc main_arg3)) (ix2 (row (n / 7) a) ⟨n % 7 * 1024 + q.val, by omega⟩)) := by
  induction n with
  | zero =>
    intro hn a
    exact stepA m c ⟨0, hn⟩ (Nat.zero_mod 7) a
  | succ n ih =>
    intro hn a
    by_cases h0 : (n + 1) % 7 = 0
    · exact stepA m c ⟨n + 1, hn⟩ h0 a
    · have hd : (n + 1) / 7 = n / 7 := by omega
      obtain ⟨i2, -⟩ := ih (Nat.lt_of_succ_lt hn) a
      rw [← hd] at i2
      exact stepB m c ⟨n + 1, hn⟩ h0 a i2

theorem final (c : Dev nD) : (dats m 0 c).arrAt 4 (cfgs 0).N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  refine (congrArg _ (eq_ix2 y)).trans ?_
  refine ((inv m c t.val t.isLt (y 0)).2 (y 1)).trans ?_
  have ht : t.val < 231 := lt_of_lt_of_eq t.isLt N_0
  refine congrArg _ ?_
  blk_ext [idx t, row]

end Cert.WinIdeal.Proj

end
-- ==== Proof.WinClaim.lean ====
module

public import proofs.«01_k».proof.Defs
public import proofs.«01_k».proof.Proof.Gen.Win.Frame
public import proofs.«01_k».proof.Proof.Gen.WinIdeal.Value
public import proofs.«01_k».proof.Proof.Gen.WinRefIdeal.Run
public import proofs.«01_k».proof.Proof.WinValue
public import Idealize.ShloMosaic.Lib.Claim
public import Idealize.ShloMosaic.Lib.Quiescent

@[expose] public section

set_option maxRecDepth 16384

noncomputable section

namespace Cert.Proof

open Idealize.ShloMosaic Idealize.SL.Sem

/-- The reference runs, keeps its arguments and has no counters to end away from zero. -/
theorem win_ref_still : Cert.quiescent_WinRefIdeal := by
  intro m g _
  refine (θ_run Cert.WinRefIdeal.defs _ _).mono ?_ (Cert.WinRefIdeal.Value.run (F := Ideal) m g)
  intro r h
  exact ⟨fun c => (h c).2, sem_eq_zero_of_no_sems (by decide) r.2⟩

/-- The kernel's result is the reference's, on all arguments. -/
theorem win_value : Cert.algebraic_WinIdeal_WinRefIdeal := by
  pair_intro
  · run_from Cert.WinIdeal.Value.run_blocks m g
  · run_from Cert.WinRefIdeal.Value.run m' g'
    refine Eq.trans ?_ (Cert.WinIdeal.Proj.final m c).symm
    obtain ⟨h0, h1, h2, h3⟩ := hagree c
    rw [← h0, ← h1, ← h2, ← h3]
    rfl

end Cert.Proof

end
-- ==== Proof.SsdSum.lean ====
module

public import Idealize.ShloMosaic.Lib.Pointwise
public import Idealize.ShloMosaic.Lib.Claim

@[expose] public section

set_option maxRecDepth 16384

noncomputable section

open Idealize.ShloMosaic
open scoped BigOperators

namespace Cert.ScanSum

theorem foldl_add {n : ℕ} (f : Fin n → EReal) : (List.finRange n).foldl (fun r i => r + f i) 0 = ∑ i, f i := by
  rw [Fin.sum_univ_def, List.sum_eq_foldl, List.foldl_map]

/-- A window's sum from zero, over the window's positions. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
            then x (fun a => ⟨_, (hin a).2⟩) else 0 := by
  unfold Ideal.hostReduceWindowAdd Host.reduceWindow
  refine (foldl_add _).trans ?_
  refine Eq.trans ?_ (Equiv.sum_comp (⟨s.rank, window⟩ : Shape).rowMajor.symm (fun w => if hin : ∀ a, lo a ≤ (j (a.cast h.1.symm)).val * strides a + (w a).val
              ∧ (j (a.cast h.1.symm)).val * strides a + (w a).val - lo a < s.size a
            then x (fun a => ⟨_, (hin a).2⟩) else 0))
  refine Finset.sum_congr rfl fun n _ => ?_
  dsimp only
  split_ifs <;> rfl

/-- A window of the whole length that ends at `l` holds the entries up to `l`. -/
theorem sum_shift {M : ℕ} (g : Fin (M + 1) → EReal) (l : Fin (M + 1)) :
    (∑ w : Fin (M + 1), if hin : M ≤ l.val + w.val ∧ l.val + w.val - M < M + 1 then g ⟨l.val + w.val - M, hin.2⟩ else 0)
      = ∑ i ∈ Finset.univ.filter (fun i : Fin (M + 1) => i ≤ l), g i := by
  have e : (∑ w : Fin (M + 1), if hin : M ≤ l.val + w.val ∧ l.val + w.val - M < M + 1 then g ⟨l.val + w.val - M, hin.2⟩ else 0)
      = ∑ w ∈ Finset.univ.filter (fun w : Fin (M + 1) => M ≤ l.val + w.val), g ⟨l.val + w.val - M, by omega⟩ := by
    rw [Finset.sum_filter]
    refine Finset.sum_congr rfl fun w _ => ?_
    by_cases hw : M ≤ l.val + w.val
    · rw [dif_pos ⟨hw, by omega⟩, if_pos hw]
    · rw [dif_neg fun hh => hw hh.1, if_neg hw]
  rw [e]
  refine Finset.sum_bij' (fun w _ => (⟨l.val + w.val - M, by omega⟩ : Fin (M + 1))) (fun i hi => (⟨i.val + M - l.val, by
      have := (Finset.mem_filter.mp hi).2; have := Fin.le_def.mp this; omega⟩ : Fin (M + 1))) ?_ ?_ ?_ ?_ ?_
  · intro w hw
    simp only [Finset.mem_filter, Finset.mem_univ, true_and, Fin.le_def] at hw ⊢; omega
  · intro i hi
    simp only [Finset.mem_filter, Finset.mem_univ, true_and, Fin.le_def] at hi ⊢; omega
  · intro w hw
    simp only [Finset.mem_filter, Finset.mem_univ, true_and, Fin.le_def] at hw
    exact Fin.ext (by simp only []; omega)
  · intro i hi
    simp only [Finset.mem_filter, Finset.mem_univ, true_and, Fin.le_def] at hi
    exact Fin.ext (by simp only []; omega)
  · intro w hw
    rfl

/-- Running sums along the last of four axes. -/
theorem cumsum4 {A B C M : ℕ} (x : (⟨4, ![A, B, C, M + 1]⟩ : Shape).Idx → EReal)
    (h : (⟨4, ![A, B, C, M + 1]⟩ : Shape).ReduceWindows ![1, 1, 1, M + 1] ![1, 1, 1, 1] ![0, 0, 0, M] ![0, 0, 0, 0] ⟨4, ![A, B, C, M + 1]⟩)
    (a : Fin A) (b : Fin B) (c : Fin C) (l : Fin (M + 1)) :
    Ideal.hostReduceWindowAdd ![1, 1, 1, M + 1] ![1, 1, 1, 1] ![0, 0, 0, M] ![0, 0, 0, 0] h x 0 (ix4 a b c l)
      = ∑ i ∈ Finset.univ.filter (fun i : Fin (M + 1) => i ≤ l), x (ix4 a b c i) := by
  rw [window_sum, ← sum_shift (fun i => x (ix4 a b c i)) l]
  refine (sum_idx4 (n0 := 1) (n1 := 1) (n2 := 1) (n3 := M + 1) _).trans ?_
  simp only [Fin.sum_univ_one]
  refine Finset.sum_congr rfl fun w _ => ?_
  by_cases hw : M ≤ l.val + w.val
  · rw [dif_pos (by
      intro k; fin_cases k
      · show 0 ≤ a.val * 1 + 0 ∧ a.val * 1 + 0 - 0 < A; omega
      · show 0 ≤ b.val * 1 + 0 ∧ b.val * 1 + 0 - 0 < B; omega
      · show 0 ≤ c.val * 1 + 0 ∧ c.val * 1 + 0 - 0 < C; omega
      · show M ≤ l.val * 1 + w.val ∧ l.val * 1 + w.val - M < M + 1; omega), dif_pos ⟨hw, by omega⟩]
    refine congrArg x (funext fun k => Fin.ext ?_)
    fin_cases k
    · show a.val * 1 + 0 - 0 = a.val; omega
    · show b.val * 1 + 0 - 0 = b.val; omega
    · show c.val * 1 + 0 - 0 = c.val; omega
    · show l.val * 1 + w.val - M = l.val + w.val - M; omega
  · rw [dif_neg fun hh => hw (by have : M ≤ l.val * 1 + w.val := (hh 3).1; omega), dif_neg fun hh => hw hh.1]

/-- Running sums along the last of three axes. -/
theorem cumsum3 {A B M : ℕ} (x : (⟨3, ![A, B, M + 1]⟩ : Shape).Idx → EReal)
    (h : (⟨3, ![A, B, M + 1]⟩ : Shape).ReduceWindows ![1, 1, M + 1] ![1, 1, 1] ![0, 0, M] ![0, 0, 0] ⟨3, ![A, B, M + 1]⟩)
    (a : Fin A) (b : Fin B) (l : Fin (M + 1)) :
    Ideal.hostReduceWindowAdd ![1, 1, M + 1] ![1, 1, 1] ![0, 0, M] ![0, 0, 0] h x 0 (ix3 a b l)
      = ∑ i ∈ Finset.univ.filter (fun i : Fin (M + 1) => i ≤ l), x (ix3 a b i) := by
  rw [window_sum, ← sum_shift (fun i => x (ix3 a b i)) l]
  refine (sum_idx3 (n0 := 1) (n1 := 1) (n2 := M + 1) _).trans ?_
  simp only [Fin.sum_univ_one]
  refine Finset.sum_congr rfl fun w _ => ?_
  by_cases hw : M ≤ l.val + w.val
  · rw [dif_pos (by
      intro k; fin_cases k
      · show 0 ≤ a.val * 1 + 0 ∧ a.val * 1 + 0 - 0 < A; omega
      · show 0 ≤ b.val * 1 + 0 ∧ b.val * 1 + 0 - 0 < B; omega
      · show M ≤ l.val * 1 + w.val ∧ l.val * 1 + w.val - M < M + 1; omega), dif_pos ⟨hw, by omega⟩]
    refine congrArg x (funext fun k => Fin.ext ?_)
    fin_cases k
    · show a.val * 1 + 0 - 0 = a.val; omega
    · show b.val * 1 + 0 - 0 = b.val; omega
    · show l.val * 1 + w.val - M = l.val + w.val - M; omega
  · rw [dif_neg fun hh => hw (by have : M ≤ l.val * 1 + w.val := (hh 2).1; omega), dif_neg fun hh => hw hh.1]

/-- Running sums along the last of four axes, from a zero entry. -/
theorem running4 {A B C M : ℕ} {u : Shape} (x : FVec Ideal ⟨4, ![A, B, C, M + 1]⟩ .f32) (init : FVec Ideal u .f32)
    (h : (⟨4, ![A, B, C, M + 1]⟩ : Shape).ReduceWindows ![1, 1, 1, M + 1] ![1, 1, 1, 1] ![0, 0, 0, M] ![0, 0, 0, 0] ⟨4, ![A, B, C, M + 1]⟩)
    (hu : 0 < u.numel) (h0 : init (Shape.Idx.first hu) = (0 : EReal)) (a : Fin A) (b : Fin B) (c : Fin C) (l : Fin (M + 1)) :
    Host.reduceWindowAdd ![1, 1, 1, M + 1] ![1, 1, 1, 1] ![0, 0, 0, M] ![0, 0, 0, 0] x init h hu (ix4 a b c l)
      = ∑ i ∈ Finset.univ.filter (fun i : Fin (M + 1) => i ≤ l), x (ix4 a b c i) := by
  show Ideal.hostReduceWindowAdd _ _ _ _ h x (init (Shape.Idx.first hu)) _ = _
  rw [h0]
  exact cumsum4 x h a b c l

/-- Running sums along the last of three axes, from a zero entry. -/
theorem running3 {A B M : ℕ} {u : Shape} (x : FVec Ideal ⟨3, ![A, B, M + 1]⟩ .f32) (init : FVec Ideal u .f32)
    (h : (⟨3, ![A, B, M + 1]⟩ : Shape).ReduceWindows ![1, 1, M + 1] ![1, 1, 1] ![0, 0, M] ![0, 0, 0] ⟨3, ![A, B, M + 1]⟩)
    (hu : 0 < u.numel) (h0 : init (Shape.Idx.first hu) = (0 : EReal)) (a : Fin A) (b : Fin B) (l : Fin (M + 1)) :
    Host.reduceWindowAdd ![1, 1, M + 1] ![1, 1, 1] ![0, 0, M] ![0, 0, 0] x init h hu (ix3 a b l)
      = ∑ i ∈ Finset.univ.filter (fun i : Fin (M + 1) => i ≤ l), x (ix3 a b i) := by
  show Ideal.hostReduceWindowAdd _ _ _ _ h x (init (Shape.Idx.first hu)) _ = _
  rw [h0]
  exact cumsum3 x h a b l

end Cert.ScanSum

end
-- ==== Proof.SsdSpec.lean ====
module

public import proofs.«01_k».proof.Proof.SsdSum

@[expose] public section

set_option maxRecDepth 16384

noncomputable section

open Idealize.ShloMosaic
open scoped BigOperators

namespace Cert.ScanSum

/-- The smooth positive part that makes a step of a number. -/
def softplus (x : EReal) : EReal := max x 0 + Ideal.log1p (Ideal.exp (0 - max x (-x)))

/-- The entries the scan reads: channels, taps and their bias, steps, rates, step biases, the other direction's
    result and the skip weights. -/
structure Args where
  x : Fin 2 → Fin 8448 → Fin 2048 → EReal
  w : Fin 5 → Fin 2048 → EReal
  cb : Fin 2048 → EReal
  ds : Fin 2 → Fin 8448 → Fin 16 → EReal
  al : Fin 16 → EReal
  bs : Fin 16 → EReal
  yb : Fin 2 → Fin 8448 → Fin 1024 → EReal
  sk : Fin 16 → EReal

/-- The numbers the decays are made of are real. -/
structure Args.Finite (A : Args) : Prop where
  ds : ∀ b p h, ∃ r : ℝ, A.ds b p h = (r : EReal)
  al : ∀ h, ∃ r : ℝ, A.al h = (r : EReal)
  bs : ∀ h, ∃ r : ℝ, A.bs h = (r : EReal)

/-- Row `l` of chunk `c`. -/
def row (c : ℕ) (l : Fin 128) : Fin 8448 := ⟨(128 * c + l.val) % 8448, Nat.mod_lt _ (by decide)⟩

variable (A : Args)

/-- The entry `k - 2` rows on from row `p`, or zero where that leaves the part (context or latents) of the row. -/
def tap (b : Fin 2) (p : Fin 8448) (k : ℕ) (j : Fin 2048) : EReal :=
  if h : 2 ≤ p.val + k ∧ p.val + k - 2 < 8448 ∧ (p.val < 256 ↔ p.val + k - 2 < 256) then A.x b ⟨p.val + k - 2, h.2.1⟩ j else 0

/-- The five taps and the bias. -/
def conv (b : Fin 2) (p : Fin 8448) (j : Fin 2048) : EReal :=
  A.cb j + A.w 0 j * tap A b p 0 j + A.w 1 j * tap A b p 1 j + A.w 2 j * tap A b p 2 j + A.w 3 j * tap A b p 3 j
    + A.w 4 j * tap A b p 4 j

/-- The channels after the convolution. -/
def act (b : Fin 2) (p : Fin 8448) (j : Fin 2048) : EReal :=
  conv A b p j * Ideal.logistic (conv A b p j)

/-- The step sizes. -/
def stepOf (b : Fin 2) (p : Fin 8448) (h : Fin 16) : EReal := softplus (A.ds b p h + A.bs h)

/-- The decay rates. -/
def rateOf (h : Fin 16) : EReal := 0 - Ideal.exp (A.al h)

/-- The logarithm of the decay from the start of chunk `c` to the end of its row `l`. -/
def cum (b : Fin 2) (c : ℕ) (h : Fin 16) (l : Fin 128) : EReal :=
  ∑ i ∈ Finset.univ.filter (fun i : Fin 128 => i ≤ l), rateOf A h * stepOf A b (row c i) h

/-- The head of a column. -/
def headOf (J : Fin 1024) : Fin 16 := ⟨J.val / 64, by omega⟩

/-- A column among the channels. -/
def chX (J : Fin 1024) : Fin 2048 := ⟨J.val, by omega⟩

/-- Entry `n` of the input vector of a column's group among the channels. -/
def chB (J : Fin 1024) (n : Fin 128) : Fin 2048 := ⟨1024 + 128 * (J.val / 256) + n.val, by omega⟩

/-- Entry `n` of the output vector of a column's group among the channels. -/
def chC (J : Fin 1024) (n : Fin 128) : Fin 2048 := ⟨1536 + 128 * (J.val / 256) + n.val, by omega⟩

/-- What chunk `c` alone adds to the state. -/
def added (b : Fin 2) (c : ℕ) (J : Fin 1024) (n : Fin 128) : EReal :=
  ∑ l : Fin 128, act A b (row c l) (chB J n) * ((act A b (row c l) (chX J) * stepOf A b (row c l) (headOf J))
    * Ideal.exp (cum A b c (headOf J) 127 - cum A b c (headOf J) l))

/-- The state before chunk `c`. -/
def stateOf (b : Fin 2) (J : Fin 1024) (n : Fin 128) : ℕ → EReal
  | 0 => 0
  | c + 1 => stateOf b J n c * Ideal.exp (cum A b c (headOf J) 127) + added A b c J n

/-- The scan's part of the result: what the chunk's own rows give, and what the state before it gives. -/
def scanOf (b : Fin 2) (c : ℕ) (l : Fin 128) (J : Fin 1024) : EReal :=
  (∑ s : Fin 128, ((∑ n : Fin 128, act A b (row c l) (chC J n) * act A b (row c s) (chB J n))
      * Ideal.exp (if s ≤ l then cum A b c (headOf J) l - cum A b c (headOf J) s else (⊥ : EReal)))
        * (act A b (row c s) (chX J) * stepOf A b (row c s) (headOf J)))
    + (∑ n : Fin 128, act A b (row c l) (chC J n) * stateOf A b J n c) * Ideal.exp (cum A b c (headOf J) l)

/-- The result. -/
def outOf (b : Fin 2) (c : ℕ) (l : Fin 128) (J : Fin 1024) : EReal :=
  (scanOf A b c l J + A.yb b (row c l) J) + act A b (row c l) (chX J) * A.sk (headOf J)

theorem softplus_real (r : ℝ) : ∃ s : ℝ, softplus (r : EReal) = (s : EReal) := by
  have cm : ∀ a b : ℝ, max (a : EReal) (b : EReal) = ((max a b : ℝ) : EReal) := fun a b => (EReal.coe_strictMono.monotone.map_max).symm
  unfold softplus Ideal.log1p
  rw [← EReal.coe_neg, cm, zero_sub, ← EReal.coe_neg, Ideal.exp_coe, ← EReal.coe_zero, cm, ← EReal.coe_one,
    ← EReal.coe_add, Ideal.log_coe, if_neg (by have := Real.exp_pos (-max r (-r)); linarith), ← EReal.coe_add]
  exact ⟨_, rfl⟩

theorem sum_real {ι : Type} (s : Finset ι) (f : ι → EReal) (hf : ∀ i, ∃ r : ℝ, f i = (r : EReal)) :
    ∃ r : ℝ, ∑ i ∈ s, f i = (r : EReal) := by
  choose g hg using hf
  refine ⟨∑ i ∈ s, g i, ?_⟩
  simp only [hg]
  induction s using Finset.cons_induction with
  | empty => simp
  | cons a s ha ih => rw [Finset.sum_cons, Finset.sum_cons, ih, EReal.coe_add]

theorem cum_real (hA : A.Finite) (b : Fin 2) (c : ℕ) (h : Fin 16) (l : Fin 128) : ∃ r : ℝ, cum A b c h l = (r : EReal) := by
  refine sum_real _ _ fun i => ?_
  obtain ⟨a, ha⟩ := hA.al h
  obtain ⟨d, hd⟩ := hA.ds b (row c i) h
  obtain ⟨e, he⟩ := hA.bs h
  obtain ⟨s, hs⟩ := softplus_real (d + e)
  refine ⟨-Real.exp a * s, ?_⟩
  unfold rateOf stepOf
  rw [ha, hd, he, ← EReal.coe_add, hs, Ideal.exp_coe, zero_sub, ← EReal.coe_neg, EReal.coe_mul]

theorem sum_mul_real {ι : Type} (s : Finset ι) (f : ι → EReal) (r : ℝ) (hr : 0 ≤ r) :
    (∑ i ∈ s, f i) * (r : EReal) = ∑ i ∈ s, f i * (r : EReal) := by
  induction s using Finset.cons_induction with
  | empty => simp
  | cons a s ha ih =>
    rw [Finset.sum_cons, Finset.sum_cons, ← ih]
    exact EReal.right_distrib_of_nonneg_of_ne_top (EReal.coe_nonneg.mpr hr) (EReal.coe_ne_top r) _ _

/-- States carried by decays of whole chunks are what carrying them one chunk at a time gives. -/
theorem carry {K : ℕ} (st : ℕ → EReal) (e : ℕ → ℝ) (a : Fin K → EReal)
    (ha : ∀ z : Fin K, a z = ((∑ i ∈ Finset.range z.val, e i : ℝ) : EReal)) (R : ℕ → EReal) (h0 : R 0 = st 0)
    (hs : ∀ z, z + 1 < K → R (z + 1) = R z * Ideal.exp (e z : EReal) + st (z + 1)) (z : Fin K) :
    ∑ c : Fin K, st c.val * Ideal.exp (if c ≤ z then a z - a c else (⊥ : EReal)) = R z.val := by
  have key : ∀ z : ℕ, z < K → ∑ c ∈ Finset.range (z + 1), st c
      * ((Real.exp (∑ i ∈ Finset.range z, e i - ∑ i ∈ Finset.range c, e i) : ℝ) : EReal) = R z := by
    intro z
    induction z with
    | zero => intro _; simp [h0]
    | succ z ih =>
      intro hz
      rw [hs z hz, ← ih (by omega), Finset.sum_range_succ, Ideal.exp_coe, sum_mul_real _ _ _ (Real.exp_pos _).le, sub_self, Real.exp_zero,
        EReal.coe_one, mul_one]
      refine congrArg₂ (· + ·) (Finset.sum_congr rfl fun c _ => ?_) rfl
      rw [mul_assoc, ← EReal.coe_mul, ← Real.exp_add, Finset.sum_range_succ]
      congr 3
      ring
  rw [← key z.val z.isLt]
  have e1 : ∀ c : Fin K, st c.val * Ideal.exp (if c ≤ z then a z - a c else (⊥ : EReal))
      = if c.val < z.val + 1 then st c.val * ((Real.exp (∑ i ∈ Finset.range z.val, e i - ∑ i ∈ Finset.range c.val, e i) : ℝ) : EReal) else 0 := by
    intro c
    by_cases hc : c ≤ z
    · rw [if_pos hc, if_pos (by have := Fin.le_def.mp hc; omega), ha, ha, ← EReal.coe_sub, Ideal.exp_coe]
    · rw [if_neg hc, if_neg (by have := fun h => hc (Fin.le_def.mpr h); omega), Ideal.exp_bot, mul_zero]
  rw [Finset.sum_congr rfl fun c _ => e1 c,
    Fin.sum_univ_eq_sum_range (fun c => if c < z.val + 1 then st c * ((Real.exp (∑ i ∈ Finset.range z.val, e i - ∑ i ∈ Finset.range c, e i) : ℝ) : EReal) else 0) K,
    ← Finset.sum_filter]
  refine Finset.sum_congr ?_ fun _ _ => rfl
  ext c
  have := z.isLt
  simp only [Finset.mem_filter, Finset.mem_range]; omega

/-- Numbers set one place on, and summed up to a place, are the numbers before it. -/
theorem ends_sum {K : ℕ} (e : ℕ → ℝ) (z : Fin K) :
    ∑ i ∈ Finset.univ.filter (fun i : Fin K => i ≤ z), (if hi : 1 ≤ i.val then (e (i.val - 1) : EReal) else 0)
      = ((∑ i ∈ Finset.range z.val, e i : ℝ) : EReal) := by
  have hz := z.isLt
  have e1 : ∑ i ∈ Finset.univ.filter (fun i : Fin K => i ≤ z), (if hi : 1 ≤ i.val then (e (i.val - 1) : EReal) else 0)
      = ∑ i ∈ Finset.range (z.val + 1), (if hi : 1 ≤ i then (e (i - 1) : EReal) else 0) := by
    have e2 : ∀ i : Fin K, (if i ≤ z then (if hi : 1 ≤ i.val then (e (i.val - 1) : EReal) else 0) else 0)
        = (fun i : ℕ => if i ≤ z.val then (if hi : 1 ≤ i then (e (i - 1) : EReal) else 0) else 0) i.val := by
      intro i
      by_cases hi : i ≤ z
      · rw [if_pos hi]; dsimp only; rw [if_pos (Fin.le_def.mp hi)]
      · rw [if_neg hi]; dsimp only; rw [if_neg fun h => hi (Fin.le_def.mpr h)]
    rw [Finset.sum_filter, Finset.sum_congr rfl fun i _ => e2 i, Fin.sum_univ_eq_sum_range (fun i : ℕ => if i ≤ z.val then (if hi : 1 ≤ i then (e (i - 1) : EReal) else 0) else 0) K, ← Finset.sum_filter]
    refine Finset.sum_congr ?_ fun _ _ => rfl
    ext c
    simp only [Finset.mem_filter, Finset.mem_range]; omega
  rw [e1, Finset.sum_range_succ']
  simp only [Nat.le_add_left, dif_pos, Nat.add_sub_cancel]
  rw [dif_neg (by omega), add_zero]
  generalize z.val = k
  induction k with
  | zero => simp
  | succ k ih => rw [Finset.sum_range_succ, Finset.sum_range_succ, ih, EReal.coe_add]

/-- The reference's order of adding the taps is the kernel's. -/
theorem taps_comm (b a0 a1 a2 a3 a4 w0 w1 w2 w3 w4 : EReal) :
    a0 * w0 + a1 * w1 + a2 * w2 + a3 * w3 + a4 * w4 + b = b + w0 * a0 + w1 * a1 + w2 * a2 + w3 * a3 + w4 * a4 := by
  rw [mul_comm a0, mul_comm a1, mul_comm a2, mul_comm a3, mul_comm a4]
  abel

theorem zero_word : (FloatOps.sitofp (F := Ideal) .f32 (0#32 : BitVec 32) : EReal) = 0 := by
  show (((0#32 : BitVec 32).toInt : ℝ) : EReal) = 0
  simp

theorem zero_bits : Ideal.ofBits .f32 0#32 = (0 : EReal) := by
  simp [Ideal.ofBits, Ideal.ieee]

end Cert.ScanSum

end
-- ==== Proof.SsdScan.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.SsdSpec

@[expose] public section

set_option maxRecDepth 16384

noncomputable section

open Idealize.ShloMosaic Idealize.ShloMosaic.TcCoe Idealize.SL.Sem
open Idealize.ShloMosaic.Pipeline (Dat)
open scoped BigOperators
open Cert.ScanSum

namespace Cert.SsdIdeal.Proj

open Cert.SsdIdeal Cert.SsdIdeal.Gen

/-- Each entry with the one `k` places before it, where there is one. -/
def pairStep (k : ℕ) (f : Fin 128 → EReal) (i : Fin 128) : EReal :=
  f i + if h : k ≤ i.val then f ⟨i.val - k, by omega⟩ else 0

/-- The sum of the `w` entries that end at `i`, as far as there are so many. -/
def runSum (f : Fin 128 → EReal) (w : ℕ) (i : Fin 128) : EReal :=
  ∑ j ∈ Finset.univ.filter (fun j : Fin 128 => j.val ≤ i.val ∧ i.val < j.val + w), f j

theorem runSum_one (f : Fin 128 → EReal) : runSum f 1 = f := by
  funext i
  unfold runSum
  rw [show (Finset.univ.filter fun j : Fin 128 => j.val ≤ i.val ∧ i.val < j.val + 1) = {i} from by
    ext j; simp only [Finset.mem_filter, Finset.mem_univ, true_and, Finset.mem_singleton, Fin.ext_iff]; omega]
  exact Finset.sum_singleton _ _

theorem pairStep_runSum (f : Fin 128 → EReal) (w v : ℕ) (hv : v = w + w) : pairStep w (runSum f w) = runSum f v := by
  funext i
  subst hv
  unfold pairStep runSum
  have hd : Disjoint (Finset.univ.filter fun j : Fin 128 => j.val ≤ i.val ∧ i.val < j.val + w)
      (Finset.univ.filter fun j : Fin 128 => j.val + w ≤ i.val ∧ i.val < j.val + (w + w)) := by
    rw [Finset.disjoint_filter]; intro j _ hj; omega
  have hu : (Finset.univ.filter fun j : Fin 128 => j.val ≤ i.val ∧ i.val < j.val + (w + w))
      = (Finset.univ.filter fun j : Fin 128 => j.val ≤ i.val ∧ i.val < j.val + w)
        ∪ (Finset.univ.filter fun j : Fin 128 => j.val + w ≤ i.val ∧ i.val < j.val + (w + w)) := by
    ext j; simp only [Finset.mem_filter, Finset.mem_univ, true_and, Finset.mem_union]; omega
  rw [hu, Finset.sum_union hd]
  refine congrArg₂ (· + ·) rfl ?_
  split_ifs with h
  · refine Finset.sum_congr ?_ fun _ _ => rfl
    ext j; simp only [Finset.mem_filter, Finset.mem_univ, true_and]; omega
  · symm
    refine Finset.sum_eq_zero fun j hj => ?_
    rw [Finset.mem_filter] at hj; omega

theorem runSum_all (f : Fin 128 → EReal) (i : Fin 128) :
    runSum f 128 i = ∑ j ∈ Finset.univ.filter (fun j : Fin 128 => j ≤ i), f j := by
  unfold runSum
  refine Finset.sum_congr ?_ fun _ _ => rfl
  ext j; simp only [Finset.mem_filter, Finset.mem_univ, true_and, Fin.le_def]; omega

/-- A row's sums of 2 from its sums of 1. -/
def rowStep1 (a : FVec Ideal S16x128 .f32) : FVec Ideal S16x128 .f32 :=
  addf a (select (cmpi .sge (iota .tc S16x128 32 [1] iota_S16x128_d1_w32) (broadcast S16x128 1#32))
    (dynamicRotate 1 1#32 none a rotates_S16x128_d1) (broadcast S16x128 (Scalar.ofBits .f32 0x00000000#32)))

theorem rowStep1_at (a : FVec Ideal S16x128 .f32) (h : Fin 16) :
    (fun l => rowStep1 a (ix2 h l)) = pairStep 1 (fun i => a (ix2 h i)) := by
  funext l
  pointwise [rowStep1, pairStep]
  rw [WordCmp.cmpi_sge_ofNat (by omega) (by omega), WordCmp.select_ofBool]
  simp only [decide_eq_true_eq]
  refine congrArg₂ (· + ·) rfl ?_
  split_ifs <;> first | rfl | exact congrArg a (congrArg (ix2 h) (Fin.ext (by simp only []; omega)))

/-- A column's sums of 2 from its sums of 1. -/
def colStep1 (a : FVec Ideal S128x16 .f32) : FVec Ideal S128x16 .f32 :=
  addf a (select (cmpi .sge (iota .tc S128x16 32 [0] iota_S128x16_d0_w32) (broadcast S128x16 1#32))
    (dynamicRotate 0 1#32 none a rotates_S128x16_d0) (broadcast S128x16 (Scalar.ofBits .f32 0x00000000#32)))

theorem colStep1_at (a : FVec Ideal S128x16 .f32) (h : Fin 16) :
    (fun l => colStep1 a (ix2 l h)) = pairStep 1 (fun i => a (ix2 i h)) := by
  funext l
  pointwise [colStep1, pairStep]
  rw [WordCmp.cmpi_sge_ofNat (by omega) (by omega), WordCmp.select_ofBool]
  simp only [decide_eq_true_eq]
  refine congrArg₂ (· + ·) rfl ?_
  split_ifs <;> first | rfl | exact congrArg a (congrArg (fun i => ix2 i h) (Fin.ext (by simp only []; omega)))

/-- A row's sums of 4 from its sums of 2. -/
def rowStep2 (a : FVec Ideal S16x128 .f32) : FVec Ideal S16x128 .f32 :=
  addf a (select (cmpi .sge (iota .tc S16x128 32 [1] iota_S16x128_d1_w32) (broadcast S16x128 2#32))
    (dynamicRotate 1 2#32 none a rotates_S16x128_d1) (broadcast S16x128 (Scalar.ofBits .f32 0x00000000#32)))

theorem rowStep2_at (a : FVec Ideal S16x128 .f32) (h : Fin 16) :
    (fun l => rowStep2 a (ix2 h l)) = pairStep 2 (fun i => a (ix2 h i)) := by
  funext l
  pointwise [rowStep2, pairStep]
  rw [WordCmp.cmpi_sge_ofNat (by omega) (by omega), WordCmp.select_ofBool]
  simp only [decide_eq_true_eq]
  refine congrArg₂ (· + ·) rfl ?_
  split_ifs <;> first | rfl | exact congrArg a (congrArg (ix2 h) (Fin.ext (by simp only []; omega)))

/-- A column's sums of 4 from its sums of 2. -/
def colStep2 (a : FVec Ideal S128x16 .f32) : FVec Ideal S128x16 .f32 :=
  addf a (select (cmpi .sge (iota .tc S128x16 32 [0] iota_S128x16_d0_w32) (broadcast S128x16 2#32))
    (dynamicRotate 0 2#32 none a rotates_S128x16_d0) (broadcast S128x16 (Scalar.ofBits .f32 0x00000000#32)))

theorem colStep2_at (a : FVec Ideal S128x16 .f32) (h : Fin 16) :
    (fun l => colStep2 a (ix2 l h)) = pairStep 2 (fun i => a (ix2 i h)) := by
  funext l
  pointwise [colStep2, pairStep]
  rw [WordCmp.cmpi_sge_ofNat (by omega) (by omega), WordCmp.select_ofBool]
  simp only [decide_eq_true_eq]
  refine congrArg₂ (· + ·) rfl ?_
  split_ifs <;> first | rfl | exact congrArg a (congrArg (fun i => ix2 i h) (Fin.ext (by simp only []; omega)))

/-- A row's sums of 8 from its sums of 4. -/
def rowStep4 (a : FVec Ideal S16x128 .f32) : FVec Ideal S16x128 .f32 :=
  addf a (select (cmpi .sge (iota .tc S16x128 32 [1] iota_S16x128_d1_w32) (broadcast S16x128 4#32))
    (dynamicRotate 1 4#32 none a rotates_S16x128_d1) (broadcast S16x128 (Scalar.ofBits .f32 0x00000000#32)))

theorem rowStep4_at (a : FVec Ideal S16x128 .f32) (h : Fin 16) :
    (fun l => rowStep4 a (ix2 h l)) = pairStep 4 (fun i => a (ix2 h i)) := by
  funext l
  pointwise [rowStep4, pairStep]
  rw [WordCmp.cmpi_sge_ofNat (by omega) (by omega), WordCmp.select_ofBool]
  simp only [decide_eq_true_eq]
  refine congrArg₂ (· + ·) rfl ?_
  split_ifs <;> first | rfl | exact congrArg a (congrArg (ix2 h) (Fin.ext (by simp only []; omega)))

/-- A column's sums of 8 from its sums of 4. -/
def colStep4 (a : FVec Ideal S128x16 .f32) : FVec Ideal S128x16 .f32 :=
  addf a (select (cmpi .sge (iota .tc S128x16 32 [0] iota_S128x16_d0_w32) (broadcast S128x16 4#32))
    (dynamicRotate 0 4#32 none a rotates_S128x16_d0) (broadcast S128x16 (Scalar.ofBits .f32 0x00000000#32)))

theorem colStep4_at (a : FVec Ideal S128x16 .f32) (h : Fin 16) :
    (fun l => colStep4 a (ix2 l h)) = pairStep 4 (fun i => a (ix2 i h)) := by
  funext l
  pointwise [colStep4, pairStep]
  rw [WordCmp.cmpi_sge_ofNat (by omega) (by omega), WordCmp.select_ofBool]
  simp only [decide_eq_true_eq]
  refine congrArg₂ (· + ·) rfl ?_
  split_ifs <;> first | rfl | exact congrArg a (congrArg (fun i => ix2 i h) (Fin.ext (by simp only []; omega)))

/-- A row's sums of 16 from its sums of 8. -/
def rowStep8 (a : FVec Ideal S16x128 .f32) : FVec Ideal S16x128 .f32 :=
  addf a (select (cmpi .sge (iota .tc S16x128 32 [1] iota_S16x128_d1_w32) (broadcast S16x128 8#32))
    (dynamicRotate 1 8#32 none a rotates_S16x128_d1) (broadcast S16x128 (Scalar.ofBits .f32 0x00000000#32)))

theorem rowStep8_at (a : FVec Ideal S16x128 .f32) (h : Fin 16) :
    (fun l => rowStep8 a (ix2 h l)) = pairStep 8 (fun i => a (ix2 h i)) := by
  funext l
  pointwise [rowStep8, pairStep]
  rw [WordCmp.cmpi_sge_ofNat (by omega) (by omega), WordCmp.select_ofBool]
  simp only [decide_eq_true_eq]
  refine congrArg₂ (· + ·) rfl ?_
  split_ifs <;> first | rfl | exact congrArg a (congrArg (ix2 h) (Fin.ext (by simp only []; omega)))

/-- A column's sums of 16 from its sums of 8. -/
def colStep8 (a : FVec Ideal S128x16 .f32) : FVec Ideal S128x16 .f32 :=
  addf a (select (cmpi .sge (iota .tc S128x16 32 [0] iota_S128x16_d0_w32) (broadcast S128x16 8#32))
    (dynamicRotate 0 8#32 none a rotates_S128x16_d0) (broadcast S128x16 (Scalar.ofBits .f32 0x00000000#32)))

theorem colStep8_at (a : FVec Ideal S128x16 .f32) (h : Fin 16) :
    (fun l => colStep8 a (ix2 l h)) = pairStep 8 (fun i => a (ix2 i h)) := by
  funext l
  pointwise [colStep8, pairStep]
  rw [WordCmp.cmpi_sge_ofNat (by omega) (by omega), WordCmp.select_ofBool]
  simp only [decide_eq_true_eq]
  refine congrArg₂ (· + ·) rfl ?_
  split_ifs <;> first | rfl | exact congrArg a (congrArg (fun i => ix2 i h) (Fin.ext (by simp only []; omega)))

/-- A row's sums of 32 from its sums of 16. -/
def rowStep16 (a : FVec Ideal S16x128 .f32) : FVec Ideal S16x128 .f32 :=
  addf a (select (cmpi .sge (iota .tc S16x128 32 [1] iota_S16x128_d1_w32) (broadcast S16x128 16#32))
    (dynamicRotate 1 16#32 none a rotates_S16x128_d1) (broadcast S16x128 (Scalar.ofBits .f32 0x00000000#32)))

theorem rowStep16_at (a : FVec Ideal S16x128 .f32) (h : Fin 16) :
    (fun l => rowStep16 a (ix2 h l)) = pairStep 16 (fun i => a (ix2 h i)) := by
  funext l
  pointwise [rowStep16, pairStep]
  rw [WordCmp.cmpi_sge_ofNat (by omega) (by omega), WordCmp.select_ofBool]
  simp only [decide_eq_true_eq]
  refine congrArg₂ (· + ·) rfl ?_
  split_ifs <;> first | rfl | exact congrArg a (congrArg (ix2 h) (Fin.ext (by simp only []; omega)))

/-- A column's sums of 32 from its sums of 16. -/
def colStep16 (a : FVec Ideal S128x16 .f32) : FVec Ideal S128x16 .f32 :=
  addf a (select (cmpi .sge (iota .tc S128x16 32 [0] iota_S128x16_d0_w32) (broadcast S128x16 16#32))
    (dynamicRotate 0 16#32 none a rotates_S128x16_d0) (broadcast S128x16 (Scalar.ofBits .f32 0x00000000#32)))

theorem colStep16_at (a : FVec Ideal S128x16 .f32) (h : Fin 16) :
    (fun l => colStep16 a (ix2 l h)) = pairStep 16 (fun i => a (ix2 i h)) := by
  funext l
  pointwise [colStep16, pairStep]
  rw [WordCmp.cmpi_sge_ofNat (by omega) (by omega), WordCmp.select_ofBool]
  simp only [decide_eq_true_eq]
  refine congrArg₂ (· + ·) rfl ?_
  split_ifs <;> first | rfl | exact congrArg a (congrArg (fun i => ix2 i h) (Fin.ext (by simp only []; omega)))

/-- A row's sums of 64 from its sums of 32. -/
def rowStep32 (a : FVec Ideal S16x128 .f32) : FVec Ideal S16x128 .f32 :=
  addf a (select (cmpi .sge (iota .tc S16x128 32 [1] iota_S16x128_d1_w32) (broadcast S16x128 32#32))
    (dynamicRotate 1 32#32 none a rotates_S16x128_d1) (broadcast S16x128 (Scalar.ofBits .f32 0x00000000#32)))

theorem rowStep32_at (a : FVec Ideal S16x128 .f32) (h : Fin 16) :
    (fun l => rowStep32 a (ix2 h l)) = pairStep 32 (fun i => a (ix2 h i)) := by
  funext l
  pointwise [rowStep32, pairStep]
  rw [WordCmp.cmpi_sge_ofNat (by omega) (by omega), WordCmp.select_ofBool]
  simp only [decide_eq_true_eq]
  refine congrArg₂ (· + ·) rfl ?_
  split_ifs <;> first | rfl | exact congrArg a (congrArg (ix2 h) (Fin.ext (by simp only []; omega)))

/-- A column's sums of 64 from its sums of 32. -/
def colStep32 (a : FVec Ideal S128x16 .f32) : FVec Ideal S128x16 .f32 :=
  addf a (select (cmpi .sge (iota .tc S128x16 32 [0] iota_S128x16_d0_w32) (broadcast S128x16 32#32))
    (dynamicRotate 0 32#32 none a rotates_S128x16_d0) (broadcast S128x16 (Scalar.ofBits .f32 0x00000000#32)))

theorem colStep32_at (a : FVec Ideal S128x16 .f32) (h : Fin 16) :
    (fun l => colStep32 a (ix2 l h)) = pairStep 32 (fun i => a (ix2 i h)) := by
  funext l
  pointwise [colStep32, pairStep]
  rw [WordCmp.cmpi_sge_ofNat (by omega) (by omega), WordCmp.select_ofBool]
  simp only [decide_eq_true_eq]
  refine congrArg₂ (· + ·) rfl ?_
  split_ifs <;> first | rfl | exact congrArg a (congrArg (fun i => ix2 i h) (Fin.ext (by simp only []; omega)))

/-- A row's sums of 128 from its sums of 64. -/
def rowStep64 (a : FVec Ideal S16x128 .f32) : FVec Ideal S16x128 .f32 :=
  addf a (select (cmpi .sge (iota .tc S16x128 32 [1] iota_S16x128_d1_w32) (broadcast S16x128 64#32))
    (dynamicRotate 1 64#32 none a rotates_S16x128_d1) (broadcast S16x128 (Scalar.ofBits .f32 0x00000000#32)))

theorem rowStep64_at (a : FVec Ideal S16x128 .f32) (h : Fin 16) :
    (fun l => rowStep64 a (ix2 h l)) = pairStep 64 (fun i => a (ix2 h i)) := by
  funext l
  pointwise [rowStep64, pairStep]
  rw [WordCmp.cmpi_sge_ofNat (by omega) (by omega), WordCmp.select_ofBool]
  simp only [decide_eq_true_eq]
  refine congrArg₂ (· + ·) rfl ?_
  split_ifs <;> first | rfl | exact congrArg a (congrArg (ix2 h) (Fin.ext (by simp only []; omega)))

/-- A column's sums of 128 from its sums of 64. -/
def colStep64 (a : FVec Ideal S128x16 .f32) : FVec Ideal S128x16 .f32 :=
  addf a (select (cmpi .sge (iota .tc S128x16 32 [0] iota_S128x16_d0_w32) (broadcast S128x16 64#32))
    (dynamicRotate 0 64#32 none a rotates_S128x16_d0) (broadcast S128x16 (Scalar.ofBits .f32 0x00000000#32)))

theorem colStep64_at (a : FVec Ideal S128x16 .f32) (h : Fin 16) :
    (fun l => colStep64 a (ix2 l h)) = pairStep 64 (fun i => a (ix2 i h)) := by
  funext l
  pointwise [colStep64, pairStep]
  rw [WordCmp.cmpi_sge_ofNat (by omega) (by omega), WordCmp.select_ofBool]
  simp only [decide_eq_true_eq]
  refine congrArg₂ (· + ·) rfl ?_
  split_ifs <;> first | rfl | exact congrArg a (congrArg (fun i => ix2 i h) (Fin.ext (by simp only []; omega)))

/-- The rates times the steps, a head to a row. -/
def rowRates (v66 : Vec Ideal S1x16x128 .f32) (v68 : Vec Ideal S16x1 .f32) (v80 : Vec Ideal S16x1 .f32) : FVec Ideal S16x128 .f32 :=
  have v67 : FVec Ideal S16x128 .f32 := shapeCast S16x128 v66 shapeCasts_S1x16x128_S16x128
  have v69 : FVec Ideal S16x1 .f32 := shapeCast S16x1 v68 shapeCasts_S16x1_S16x1
  have v70 : FVec Ideal S16x128 .f32 := broadcastTo S16x128 v69 broadcasts_S16x1_S16x128
  have v71 : FVec Ideal S16x128 .f32 := addf v67 v70
  have cst_36 : Ideal .f32 := Scalar.ofBits .f32 0x00000000#32
  have v72 : FVec Ideal S16x128 .f32 := broadcast S16x128 cst_36
  have v73 : FVec Ideal S16x128 .f32 := maximumf v71 v72
  have v74 : FVec Ideal S16x128 .f32 := absf v71
  have cst_37 : Ideal .f32 := Scalar.ofBits .f32 0x00000000#32
  have v75 : FVec Ideal S16x128 .f32 := broadcast S16x128 cst_37
  have v76 : FVec Ideal S16x128 .f32 := subf v75 v74
  have v77 : FVec Ideal S16x128 .f32 := exp v76
  have v78 : FVec Ideal S16x128 .f32 := log1p v77
  have v79 : FVec Ideal S16x128 .f32 := addf v73 v78
  have v81 : FVec Ideal S16x1 .f32 := shapeCast S16x1 v80 shapeCasts_S16x1_S16x1
  have v82 : FVec Ideal S16x1 .f32 := exp v81
  have cst_40 : Ideal .f32 := Scalar.ofBits .f32 0x00000000#32
  have v83 : FVec Ideal S16x1 .f32 := broadcast S16x1 cst_40
  have v84 : FVec Ideal S16x1 .f32 := subf v83 v82
  have v85 : FVec Ideal S16x128 .f32 := broadcastTo S16x128 v84 broadcasts_S16x1_S16x128
  have v86 : FVec Ideal S16x128 .f32 := mulf v85 v79
  v86

/-- The rates times the steps, a head to a column. -/
def colRates (v143 : FVec Ideal S128x16 .f32) (v145 : FVec Ideal S1x16 .f32) : FVec Ideal S128x16 .f32 :=
  have v146 : FVec Ideal S1x16 .f32 := exp v145
  have cst_66 : Ideal .f32 := Scalar.ofBits .f32 0x00000000#32
  have v147 : FVec Ideal S1x16 .f32 := broadcast S1x16 cst_66
  have v148 : FVec Ideal S1x16 .f32 := subf v147 v146
  have v149 : FVec Ideal S128x16 .f32 := broadcastTo S128x16 v148 broadcasts_S1x16_S128x16
  have v150 : FVec Ideal S128x16 .f32 := mulf v149 v143
  v150

theorem rows_eq (w : Vec Ideal S1x16x128 .f32) (b a : Vec Ideal S16x1 .f32) :
    k0_pay8 (iota .tc S16x128 32 [1] iota_S16x128_d1_w32) (k0_pay7 w b a) 8#32
      = (rowStep64 (rowStep32 (rowStep16 (rowStep8 (rowStep4 (rowStep2 (rowStep1 (rowRates w b a)))))))) := rfl

theorem cols_eq (d : FVec Ideal S128x16 .f32) (a : FVec Ideal S1x16 .f32) :
    k0_pay13 (iota .tc S128x16 32 [0] iota_S128x16_d0_w32) (k0_pay11 d a) (k0_pay12 d a)
      = (colStep64 (colStep32 (colStep16 (colStep8 (colStep4 (colStep2 (colStep1 (colRates d a)))))))) := rfl

/-- Seven pairings make the sums from the start. -/
theorem rowSums (a : FVec Ideal S16x128 .f32) (h : Fin 16) (l : Fin 128) :
    (rowStep64 (rowStep32 (rowStep16 (rowStep8 (rowStep4 (rowStep2 (rowStep1 a))))))) (ix2 h l) = ∑ j ∈ Finset.univ.filter (fun j : Fin 128 => j ≤ l), a (ix2 h j) := by
  have e0 : (fun l => a (ix2 h l)) = runSum (fun i => a (ix2 h i)) 1 := (runSum_one _).symm
  have e1 : (fun l => (rowStep1 a) (ix2 h l)) = runSum (fun i => a (ix2 h i)) 2 := by
    rw [rowStep1_at]; exact (congrArg (pairStep 1) e0).trans (pairStep_runSum _ 1 2 rfl)
  have e2 : (fun l => (rowStep2 (rowStep1 a)) (ix2 h l)) = runSum (fun i => a (ix2 h i)) 4 := by
    rw [rowStep2_at]; exact (congrArg (pairStep 2) e1).trans (pairStep_runSum _ 2 4 rfl)
  have e4 : (fun l => (rowStep4 (rowStep2 (rowStep1 a))) (ix2 h l)) = runSum (fun i => a (ix2 h i)) 8 := by
    rw [rowStep4_at]; exact (congrArg (pairStep 4) e2).trans (pairStep_runSum _ 4 8 rfl)
  have e8 : (fun l => (rowStep8 (rowStep4 (rowStep2 (rowStep1 a)))) (ix2 h l)) = runSum (fun i => a (ix2 h i)) 16 := by
    rw [rowStep8_at]; exact (congrArg (pairStep 8) e4).trans (pairStep_runSum _ 8 16 rfl)
  have e16 : (fun l => (rowStep16 (rowStep8 (rowStep4 (rowStep2 (rowStep1 a))))) (ix2 h l)) = runSum (fun i => a (ix2 h i)) 32 := by
    rw [rowStep16_at]; exact (congrArg (pairStep 16) e8).trans (pairStep_runSum _ 16 32 rfl)
  have e32 : (fun l => (rowStep32 (rowStep16 (rowStep8 (rowStep4 (rowStep2 (rowStep1 a)))))) (ix2 h l)) = runSum (fun i => a (ix2 h i)) 64 := by
    rw [rowStep32_at]; exact (congrArg (pairStep 32) e16).trans (pairStep_runSum _ 32 64 rfl)
  have e64 : (fun l => (rowStep64 (rowStep32 (rowStep16 (rowStep8 (rowStep4 (rowStep2 (rowStep1 a))))))) (ix2 h l)) = runSum (fun i => a (ix2 h i)) 128 := by
    rw [rowStep64_at]; exact (congrArg (pairStep 64) e32).trans (pairStep_runSum _ 64 128 rfl)
  rw [← runSum_all]
  exact congrFun e64 l

/-- Seven pairings make the sums from the start. -/
theorem colSums (a : FVec Ideal S128x16 .f32) (h : Fin 16) (l : Fin 128) :
    (colStep64 (colStep32 (colStep16 (colStep8 (colStep4 (colStep2 (colStep1 a))))))) (ix2 l h) = ∑ j ∈ Finset.univ.filter (fun j : Fin 128 => j ≤ l), a (ix2 j h) := by
  have e0 : (fun l => a (ix2 l h)) = runSum (fun i => a (ix2 i h)) 1 := (runSum_one _).symm
  have e1 : (fun l => (colStep1 a) (ix2 l h)) = runSum (fun i => a (ix2 i h)) 2 := by
    rw [colStep1_at]; exact (congrArg (pairStep 1) e0).trans (pairStep_runSum _ 1 2 rfl)
  have e2 : (fun l => (colStep2 (colStep1 a)) (ix2 l h)) = runSum (fun i => a (ix2 i h)) 4 := by
    rw [colStep2_at]; exact (congrArg (pairStep 2) e1).trans (pairStep_runSum _ 2 4 rfl)
  have e4 : (fun l => (colStep4 (colStep2 (colStep1 a))) (ix2 l h)) = runSum (fun i => a (ix2 i h)) 8 := by
    rw [colStep4_at]; exact (congrArg (pairStep 4) e2).trans (pairStep_runSum _ 4 8 rfl)
  have e8 : (fun l => (colStep8 (colStep4 (colStep2 (colStep1 a)))) (ix2 l h)) = runSum (fun i => a (ix2 i h)) 16 := by
    rw [colStep8_at]; exact (congrArg (pairStep 8) e4).trans (pairStep_runSum _ 8 16 rfl)
  have e16 : (fun l => (colStep16 (colStep8 (colStep4 (colStep2 (colStep1 a))))) (ix2 l h)) = runSum (fun i => a (ix2 i h)) 32 := by
    rw [colStep16_at]; exact (congrArg (pairStep 16) e8).trans (pairStep_runSum _ 16 32 rfl)
  have e32 : (fun l => (colStep32 (colStep16 (colStep8 (colStep4 (colStep2 (colStep1 a)))))) (ix2 l h)) = runSum (fun i => a (ix2 i h)) 64 := by
    rw [colStep32_at]; exact (congrArg (pairStep 32) e16).trans (pairStep_runSum _ 32 64 rfl)
  have e64 : (fun l => (colStep64 (colStep32 (colStep16 (colStep8 (colStep4 (colStep2 (colStep1 a))))))) (ix2 l h)) = runSum (fun i => a (ix2 i h)) 128 := by
    rw [colStep64_at]; exact (congrArg (pairStep 64) e32).trans (pairStep_runSum _ 64 128 rfl)
  rw [← runSum_all]
  exact congrFun e64 l

theorem rowRates_at (w : Vec Ideal S1x16x128 .f32) (b a : Vec Ideal S16x1 .f32) (h : Fin 16) (l : Fin 128) :
    rowRates w b a (ix2 h l) = (0 - Ideal.exp (a (ix2 h 0))) * softplus (w (ix3 0 h l) + b (ix2 h 0)) := by
  pointwise [rowRates, softplus]
  rfl

theorem colRates_at (d : FVec Ideal S128x16 .f32) (a : FVec Ideal S1x16 .f32) (h : Fin 16) (l : Fin 128) :
    colRates d a (ix2 l h) = (0 - Ideal.exp (a (ix2 0 h))) * d (ix2 l h) := by
  pointwise [colRates]

theorem steps_at (w : Vec Ideal S1x128x16 .f32) (b : Vec Ideal S1x16 .f32) (h : Fin 16) (l : Fin 128) :
    k0_pay9 w b (ix2 l h) = softplus (w (ix3 0 l h) + b (ix2 0 h)) := by
  pointwise [k0_pay9, softplus]
  rfl

end Cert.SsdIdeal.Proj

end
-- ==== Proof.SsdHost.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.SsdScan

@[expose] public section

set_option maxRecDepth 16384

noncomputable section

open Idealize.ShloMosaic Idealize.ShloMosaic.TcCoe Idealize.SL.Sem
open Idealize.ShloMosaic.Pipeline (Dat)
open scoped BigOperators
open Cert.ScanSum

namespace Cert.SsdIdeal.Proj

open Cert.SsdIdeal Cert.SsdIdeal.Gen

variable (m : (ℓ : Loc nD τ sig) → Buf (Elt Ideal) ℓ)

/-- The entries of the arguments. -/
def argsOf (c : Dev nD) : Args where
  x b p j := (show FVec Ideal S2x8448x2048 .f32 from m ((c : Thread nD τ).loc main_arg0)) (ix3 b p j)
  w k j := (show FVec Ideal S5x2048 .f32 from m ((c : Thread nD τ).loc main_arg2)) (ix2 k j)
  cb j := (show FVec Ideal S2048 .f32 from m ((c : Thread nD τ).loc main_arg3)) (ix1 j)
  ds b p h := (show FVec Ideal S2x8448x32 .f32 from m ((c : Thread nD τ).loc main_arg1)) (ix3 b p ⟨h.val, by omega⟩)
  al h := (show FVec Ideal S2x16 .f32 from m ((c : Thread nD τ).loc main_arg4)) (ix2 0 h)
  bs h := (show FVec Ideal S2x16 .f32 from m ((c : Thread nD τ).loc main_arg5)) (ix2 0 h)
  yb b p J := (show FVec Ideal S2x8448x1024 .f32 from m ((c : Thread nD τ).loc main_arg6)) (ix3 b p J)
  sk h := (show FVec Ideal S16 .f32 from m ((c : Thread nD τ).loc main_arg7)) (ix1 h)

theorem idx : ∀ t : Fin cfg0.N, win0_0.index t = ![t.val / 66, 16 * (t.val % 66) - 1, 0]
    ∧ win0_1.index t = ![t.val / 66, t.val % 66, 0]
    ∧ win0_2.index t = ![t.val / 66, if t.val % 66 < 65 then 16 * (t.val % 66) + 16 else 1055, 0]
    ∧ win0_3.index t = ![0, 0]
    ∧ win0_4.index t = ![0, 0]
    ∧ win0_5.index t = ![t.val / 66, 0, t.val % 66]
    ∧ win0_6.index t = ![t.val / 66, t.val % 66, 0]
    ∧ win0_7.index t = ![0, 0]
    ∧ win0_8.index t = ![0, 0]
    ∧ win0_9.index t = ![t.val / 66, t.val % 66, 0]
    ∧ win0_10.index t = ![0, 0]
    ∧ win0_11.index t = ![t.val / 66, t.val % 66, 0] :=
  (by decide +kernel : ∀ t : Fin grid0.N, _)

theorem taps_at (c : Dev nD) (k : Fin 5) (j : Fin 2048) :
    V m c main_v18 (ix2 (⟨k.val, by omega⟩ : Fin 8) j) = (argsOf m c).w k j := by
  have e : V m c main_v18 = pad S8x2048 ![0, 0] ![3, 0] ![0, 0] (show FVec Ideal S5x2048 .f32 from m ((c : Thread nD τ).loc main_arg2)) (sitofp .f32 (constantI S_ 32 0#32) : FVec Ideal S_ .f32) pads_S5x2048_S8x2048_030_000 h_S_ := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  all_goals rfl
theorem bias_at (c : Dev nD) (j : Fin 2048) :
    V m c main_v19 (ix2 (0 : Fin 1) j) = (argsOf m c).cb j := by
  have e : V m c main_v19 = shapeCast S1x2048 (show FVec Ideal S2048 .f32 from m ((c : Thread nD τ).loc main_arg3)) shapeCasts_S2048_S1x2048 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  all_goals rfl
theorem rows_at (c : Dev nD) (b : Fin 2) (h : Fin 16) (p : Fin 8448) :
    V m c main_v5 (ix3 b h p) = (argsOf m c).ds b p h := by
  have e : V m c main_v5 = shapeCast S2x16x8448 (extractStridedSlice S2x1x16x8448 ![0, 0, 0, 0] (transpose S2x2x16x8448 [0, 2, 3, 1] (shapeCast S2x8448x2x16 (show FVec Ideal S2x8448x32 .f32 from m ((c : Thread nD τ).loc main_arg1)) shapeCasts_S2x8448x32_S2x8448x2x16) transposes_S2x8448x2x16_S2x2x16x8448_0_2_3_1 : FVec Ideal S2x2x16x8448 .f32) slices_S2x2x16x8448_S2x1x16x8448_0_0_0_0 : FVec Ideal S2x1x16x8448 .f32) shapeCasts_S2x1x16x8448_S2x16x8448 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  all_goals rfl
theorem cols_at (c : Dev nD) (b : Fin 2) (p : Fin 8448) (h : Fin 16) :
    V m c main_v7 (ix3 b p h) = (argsOf m c).ds b p h := by
  have e : V m c main_v7 = shapeCast S2x8448x16 (extractStridedSlice S2x1x8448x16 ![0, 0, 0, 0] (transpose S2x2x8448x16 [0, 2, 1, 3] (shapeCast S2x8448x2x16 (show FVec Ideal S2x8448x32 .f32 from m ((c : Thread nD τ).loc main_arg1)) shapeCasts_S2x8448x32_S2x8448x2x16) transposes_S2x8448x2x16_S2x2x8448x16_0_2_1_3 : FVec Ideal S2x2x8448x16 .f32) slices_S2x2x8448x16_S2x1x8448x16_0_0_0_0 : FVec Ideal S2x1x8448x16 .f32) shapeCasts_S2x1x8448x16_S2x8448x16 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  all_goals rfl
theorem parA_al (c : Dev nD) (h : Fin 16) :
    V m c main_v14 (ix2 h (0 : Fin 2)) = (argsOf m c).al h := by
  have e : V m c main_v14 = concatenate S16x2 1 [⟨S16x1, (broadcastInDim S16x1 ![0] bcast_S16_S16x1_0 (shapeCast S16 (extractStridedSlice S1x16 ![0, 0] (show FVec Ideal S2x16 .f32 from m ((c : Thread nD τ).loc main_arg4)) slices_S2x16_S1x16_0_0 : FVec Ideal S1x16 .f32) shapeCasts_S1x16_S16) : FVec Ideal S16x1 .f32)⟩, ⟨S16x1, (broadcastInDim S16x1 ![0] bcast_S16_S16x1_0 (shapeCast S16 (extractStridedSlice S1x16 ![0, 0] (show FVec Ideal S2x16 .f32 from m ((c : Thread nD τ).loc main_arg5)) slices_S2x16_S1x16_0_0 : FVec Ideal S1x16 .f32) shapeCasts_S1x16_S16) : FVec Ideal S16x1 .f32)⟩] concatenates_S16x1_S16x1_S16x2_d1 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  all_goals rfl
theorem parA_bs (c : Dev nD) (h : Fin 16) :
    V m c main_v14 (ix2 h (1 : Fin 2)) = (argsOf m c).bs h := by
  have e : V m c main_v14 = concatenate S16x2 1 [⟨S16x1, (broadcastInDim S16x1 ![0] bcast_S16_S16x1_0 (shapeCast S16 (extractStridedSlice S1x16 ![0, 0] (show FVec Ideal S2x16 .f32 from m ((c : Thread nD τ).loc main_arg4)) slices_S2x16_S1x16_0_0 : FVec Ideal S1x16 .f32) shapeCasts_S1x16_S16) : FVec Ideal S16x1 .f32)⟩, ⟨S16x1, (broadcastInDim S16x1 ![0] bcast_S16_S16x1_0 (shapeCast S16 (extractStridedSlice S1x16 ![0, 0] (show FVec Ideal S2x16 .f32 from m ((c : Thread nD τ).loc main_arg5)) slices_S2x16_S1x16_0_0 : FVec Ideal S1x16 .f32) shapeCasts_S1x16_S16) : FVec Ideal S16x1 .f32)⟩] concatenates_S16x1_S16x1_S16x2_d1 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  all_goals rfl
theorem parB_al (c : Dev nD) (h : Fin 16) :
    V m c main_v17 (ix2 (0 : Fin 2) h) = (argsOf m c).al h := by
  have e : V m c main_v17 = concatenate S2x16 0 [⟨S1x16, (broadcastInDim S1x16 ![1] bcast_S16_S1x16_1 (shapeCast S16 (extractStridedSlice S1x16 ![0, 0] (show FVec Ideal S2x16 .f32 from m ((c : Thread nD τ).loc main_arg4)) slices_S2x16_S1x16_0_0 : FVec Ideal S1x16 .f32) shapeCasts_S1x16_S16) : FVec Ideal S1x16 .f32)⟩, ⟨S1x16, (broadcastInDim S1x16 ![1] bcast_S16_S1x16_1 (shapeCast S16 (extractStridedSlice S1x16 ![0, 0] (show FVec Ideal S2x16 .f32 from m ((c : Thread nD τ).loc main_arg5)) slices_S2x16_S1x16_0_0 : FVec Ideal S1x16 .f32) shapeCasts_S1x16_S16) : FVec Ideal S1x16 .f32)⟩] concatenates_S1x16_S1x16_S2x16_d0 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  all_goals rfl
theorem parB_bs (c : Dev nD) (h : Fin 16) :
    V m c main_v17 (ix2 (1 : Fin 2) h) = (argsOf m c).bs h := by
  have e : V m c main_v17 = concatenate S2x16 0 [⟨S1x16, (broadcastInDim S1x16 ![1] bcast_S16_S1x16_1 (shapeCast S16 (extractStridedSlice S1x16 ![0, 0] (show FVec Ideal S2x16 .f32 from m ((c : Thread nD τ).loc main_arg4)) slices_S2x16_S1x16_0_0 : FVec Ideal S1x16 .f32) shapeCasts_S1x16_S16) : FVec Ideal S1x16 .f32)⟩, ⟨S1x16, (broadcastInDim S1x16 ![1] bcast_S16_S1x16_1 (shapeCast S16 (extractStridedSlice S1x16 ![0, 0] (show FVec Ideal S2x16 .f32 from m ((c : Thread nD τ).loc main_arg5)) slices_S2x16_S1x16_0_0 : FVec Ideal S1x16 .f32) shapeCasts_S1x16_S16) : FVec Ideal S1x16 .f32)⟩] concatenates_S1x16_S1x16_S2x16_d0 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  all_goals rfl
theorem skip_at (c : Dev nD) (J : Fin 1024) :
    V m c main_v22 (ix2 (0 : Fin 1) J) = (argsOf m c).sk (headOf J) := by
  have e : V m c main_v22 = shapeCast S1x1024 (shapeCast S1024 (broadcastInDim S16x64 ![0] bcast_S16_S16x64_0 (show FVec Ideal S16 .f32 from m ((c : Thread nD τ).loc main_arg7)) : FVec Ideal S16x64 .f32) shapeCasts_S16x64_S1024 : FVec Ideal S1024 .f32) shapeCasts_S1024_S1x1024 := by
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise
  all_goals rfl

end Cert.SsdIdeal.Proj

end
-- ==== Proof.SsdBlk.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.SsdHost

@[expose] public section

set_option maxRecDepth 16384

noncomputable section

open Idealize.ShloMosaic Idealize.ShloMosaic.TcCoe Idealize.SL.Sem
open Idealize.ShloMosaic.Pipeline (Dat)
open scoped BigOperators
open Cert.ScanSum

namespace Cert.SsdIdeal.Proj

open Cert.SsdIdeal Cert.SsdIdeal.Gen

variable (m : (ℓ : Loc nD τ sig) → Buf (Elt Ideal) ℓ)

/-- The batch row of a grid point. -/
def bat (t : Fin cfg0.N) : Fin 2 := ⟨t.val / 66, by have := lt_of_lt_of_eq t.isLt N_0; omega⟩

theorem blk1 (c : Dev nD) (t : Fin cfg0.N) (l : Fin 128) (j : Fin 2048) :
    iblk m c 1 t (ix3 (0 : Fin 1) l j) = (argsOf m c).x (bat t) (row (t.val % 66) l) j := by
  unfold argsOf
  blk_ext [iblk, V, idx t, row, bat]

theorem blk0 (c : Dev nD) (t : Fin cfg0.N) (i : Fin 8) (j : Fin 2048) (q : Fin 8448) (hq : q.val = (16 * (t.val % 66) - 1) * 8 + i.val) :
    iblk m c 0 t (ix3 (0 : Fin 1) i j) = (argsOf m c).x (bat t) q j := by
  unfold argsOf
  blk_ext [iblk, V, idx t, hq, bat]

theorem blk2 (c : Dev nD) (t : Fin cfg0.N) (i : Fin 8) (j : Fin 2048) (q : Fin 8448) (h : t.val % 66 < 65) (hq : q.val = (16 * (t.val % 66) + 16) * 8 + i.val) :
    iblk m c 2 t (ix3 (0 : Fin 1) i j) = (argsOf m c).x (bat t) q j := by
  have e : (if t.val % 66 < 65 then 16 * (t.val % 66) + 16 else 1055) = 16 * (t.val % 66) + 16 := if_pos h
  unfold argsOf
  blk_ext [iblk, V, idx t, hq, bat, e]

theorem blk3 (c : Dev nD) (t : Fin cfg0.N) (k : Fin 5) (j : Fin 2048) :
    iblk m c 3 t (ix2 (⟨k.val, by omega⟩ : Fin 8) j) = (argsOf m c).w k j := by
  refine Eq.trans ?_ (taps_at m c k j)
  blk_ext [iblk, idx t]

theorem blk4 (c : Dev nD) (t : Fin cfg0.N) (j : Fin 2048) :
    iblk m c 4 t (ix2 (0 : Fin 1) j) = (argsOf m c).cb j := by
  refine Eq.trans ?_ (bias_at m c j)
  blk_ext [iblk, idx t]

theorem blk5 (c : Dev nD) (t : Fin cfg0.N) (h : Fin 16) (l : Fin 128) :
    iblk m c 5 t (ix3 (0 : Fin 1) h l) = (argsOf m c).ds (bat t) (row (t.val % 66) l) h := by
  refine Eq.trans ?_ (rows_at m c _ h _)
  blk_ext [iblk, idx t, row, bat]

theorem blk6 (c : Dev nD) (t : Fin cfg0.N) (l : Fin 128) (h : Fin 16) :
    iblk m c 6 t (ix3 (0 : Fin 1) l h) = (argsOf m c).ds (bat t) (row (t.val % 66) l) h := by
  refine Eq.trans ?_ (cols_at m c _ _ h)
  blk_ext [iblk, idx t, row, bat]

theorem blk7a (c : Dev nD) (t : Fin cfg0.N) (h : Fin 16) : iblk m c 7 t (ix2 h (0 : Fin 2)) = (argsOf m c).al h := by
  refine Eq.trans ?_ (parA_al m c h)
  blk_ext [iblk, idx t]

theorem blk7b (c : Dev nD) (t : Fin cfg0.N) (h : Fin 16) : iblk m c 7 t (ix2 h (1 : Fin 2)) = (argsOf m c).bs h := by
  refine Eq.trans ?_ (parA_bs m c h)
  blk_ext [iblk, idx t]

theorem blk8a (c : Dev nD) (t : Fin cfg0.N) (h : Fin 16) : iblk m c 8 t (ix2 (0 : Fin 2) h) = (argsOf m c).al h := by
  refine Eq.trans ?_ (parB_al m c h)
  blk_ext [iblk, idx t]

theorem blk8b (c : Dev nD) (t : Fin cfg0.N) (h : Fin 16) : iblk m c 8 t (ix2 (1 : Fin 2) h) = (argsOf m c).bs h := by
  refine Eq.trans ?_ (parB_bs m c h)
  blk_ext [iblk, idx t]

theorem blk9 (c : Dev nD) (t : Fin cfg0.N) (l : Fin 128) (J : Fin 1024) :
    iblk m c 9 t (ix3 (0 : Fin 1) l J) = (argsOf m c).yb (bat t) (row (t.val % 66) l) J := by
  unfold argsOf
  blk_ext [iblk, V, idx t, row, bat]

theorem blk10 (c : Dev nD) (t : Fin cfg0.N) (J : Fin 1024) :
    iblk m c 10 t (ix2 (0 : Fin 1) J) = (argsOf m c).sk (headOf J) := by
  refine Eq.trans ?_ (skip_at m c J)
  blk_ext [iblk, idx t]

end Cert.SsdIdeal.Proj

end
-- ==== Proof.SsdPad.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.SsdBlk

@[expose] public section

set_option maxRecDepth 16384

noncomputable section

open Idealize.ShloMosaic Idealize.ShloMosaic.TcCoe Idealize.SL.Sem
open Idealize.ShloMosaic.Pipeline (Dat)
open scoped BigOperators
open Cert.ScanSum

namespace Cert.SsdIdeal.Proj

open Cert.SsdIdeal Cert.SsdIdeal.Gen

variable (m : (ℓ : Loc nD τ sig) → Buf (Elt Ideal) ℓ)

theorem word_edge_first (n : Fin 66) :
    Scalar.ori (Scalar.cmpi .eq (BitVec.ofNat 32 n.val) 0#32) (Scalar.cmpi .eq (BitVec.ofNat 32 n.val) 2#32) = if n.val = 0 ∨ n.val = 2 then 1#1 else 0#1 := by
  revert n; decide

theorem pay3_at (i : grid0.Coords) (v : Vec Ideal S1x8x2048 .f32) (a : Fin 8) (j : Fin 2048) :
    k0_pay3 i v (ix2 a j) = if (i 1).val = 0 ∨ (i 1).val = 2 then (0 : EReal) else v (ix3 0 a j) := by
  have e := word_edge_first ⟨(i 1).val, (i 1).isLt⟩
  dsimp only [k0_pay3]
  simp only [] at e
  rw [e]
  split_ifs with h
  · exact zero_bits
  · show shapeCast _ (shapeCast _ _ _) _ _ = _
    pointwise []

theorem word_edge_last (n : Fin 66) :
    Scalar.ori (Scalar.cmpi .eq (BitVec.ofNat 32 n.val) 1#32) (Scalar.cmpi .eq (BitVec.ofNat 32 n.val) 65#32) = if n.val = 1 ∨ n.val = 65 then 1#1 else 0#1 := by
  revert n; decide

theorem pay5_at (i : grid0.Coords) (v : Vec Ideal S1x8x2048 .f32) (a : Fin 8) (j : Fin 2048) :
    k0_pay5 i v (ix2 a j) = if (i 1).val = 1 ∨ (i 1).val = 65 then (0 : EReal) else v (ix3 0 a j) := by
  have e := word_edge_last ⟨(i 1).val, (i 1).isLt⟩
  dsimp only [k0_pay5]
  simp only [] at e
  rw [e]
  split_ifs with h
  · exact zero_bits
  · show shapeCast _ (shapeCast _ _ _) _ _ = _
    pointwise []

theorem pay4_at (v : Vec Ideal S1x128x2048 .f32) (l : Fin 128) (j : Fin 2048) :
    k0_pay4 v (ix2 l j) = v (ix3 0 l j) := by
  pointwise [k0_pay4]

theorem pay6_at (cb w0 : Vec Ideal S1x2048 .f32) (x0 : Vec Ideal S128x2048 .f32) (w1 : Vec Ideal S1x2048 .f32) (x1 : Vec Ideal S128x2048 .f32)
    (w2 : Vec Ideal S1x2048 .f32) (x2 : Vec Ideal S128x2048 .f32) (w3 : Vec Ideal S1x2048 .f32) (x3 : Vec Ideal S128x2048 .f32)
    (w4 : Vec Ideal S1x2048 .f32) (x4 : Vec Ideal S128x2048 .f32) (l : Fin 128) (j : Fin 2048) :
    k0_pay6 cb w0 x0 w1 x1 w2 x2 w3 x3 w4 x4 (ix2 l j)
      = (cb (ix2 0 j) + w0 (ix2 0 j) * x0 (ix2 l j) + w1 (ix2 0 j) * x1 (ix2 l j) + w2 (ix2 0 j) * x2 (ix2 l j) + w3 (ix2 0 j) * x3 (ix2 l j) + w4 (ix2 0 j) * x4 (ix2 l j))
        * Ideal.logistic (cb (ix2 0 j) + w0 (ix2 0 j) * x0 (ix2 l j) + w1 (ix2 0 j) * x1 (ix2 l j) + w2 (ix2 0 j) * x2 (ix2 l j) + w3 (ix2 0 j) * x3 (ix2 l j) + w4 (ix2 0 j) * x4 (ix2 l j)) := by
  pointwise [k0_pay6]

theorem coords_step : ∀ t : Fin cfg0.N, ((grid0.coords t) 1).val = t.val % 66 := by decide +kernel

/-- The rows of a chunk with the rows before and after it, as the kernel lays them out: the last write first. -/
abbrev padded (c : Dev nD) (t : Fin cfg0.N) : List (View.Piece (Elt Ideal) S144x2048 .f32) :=
  [⟨Rect.unit ![136, 0] ![8, 2048] inb_S144x2048_S8x2048_136_0, k0_pay5 (grid0.coords t) (iblk m c 2 t)⟩,
   ⟨Rect.unit ![8, 0] ![128, 2048] inb_S144x2048_S128x2048_8_0, k0_pay4 (iblk m c 1 t)⟩,
   ⟨Rect.unit ![0, 0] ![8, 2048] inb_S144x2048_S8x2048_0_0, k0_pay3 (grid0.coords t) (iblk m c 0 t)⟩]

theorem padded_last (c : Dev nD) (t : Fin cfg0.N) (i : Fin 144) (a : Fin 8) (j : Fin 2048) (h : i.val = 136 + a.val) :
    View.canon (padded m c t) (ix2 i j) = k0_pay5 (grid0.coords t) (iblk m c 2 t) (ix2 a j) := by
  have e : (ix2 i j : S144x2048.Idx) = (Rect.unit (s := S144x2048) ![136, 0] ![8, 2048] inb_S144x2048_S8x2048_136_0).emb (ix2 a j) := by
    funext x
    refine Fin.ext ?_
    match x with
    | 0 => show i.val = 136 + 1 * a.val; omega
    | 1 => show j.val = 0 + 1 * j.val; omega
  rw [e]
  exact View.canon_cons_emb _ _ _ _

theorem padded_mid (c : Dev nD) (t : Fin cfg0.N) (i : Fin 144) (a : Fin 128) (j : Fin 2048) (h : i.val = 8 + a.val) :
    View.canon (padded m c t) (ix2 i j) = k0_pay4 (iblk m c 1 t) (ix2 a j) := by
  have n1 : (ix2 i j : S144x2048.Idx) ∉ (Rect.unit (s := S144x2048) ![136, 0] ![8, 2048] inb_S144x2048_S8x2048_136_0).set := fun hh => by
    have h0 : 136 ≤ i.val := ((Rect.mem_set_unit.mp hh) 0).1
    clear hh
    omega
  have e : (ix2 i j : S144x2048.Idx) = (Rect.unit (s := S144x2048) ![8, 0] ![128, 2048] inb_S144x2048_S128x2048_8_0).emb (ix2 a j) := by
    funext x
    refine Fin.ext ?_
    match x with
    | 0 => show i.val = 8 + 1 * a.val; omega
    | 1 => show j.val = 0 + 1 * j.val; omega
  refine (View.canon_cons_of_not_mem (Val := Elt Ideal) (s := S144x2048) (e := .f32) ⟨Rect.unit (s := S144x2048) ![136, 0] ![8, 2048] inb_S144x2048_S8x2048_136_0, k0_pay5 (grid0.coords t) (iblk m c 2 t)⟩ _ n1).trans ?_
  rw [e]
  exact View.canon_cons_emb _ _ _ _

theorem padded_first (c : Dev nD) (t : Fin cfg0.N) (i : Fin 144) (a : Fin 8) (j : Fin 2048) (h : i.val = a.val) :
    View.canon (padded m c t) (ix2 i j) = k0_pay3 (grid0.coords t) (iblk m c 0 t) (ix2 a j) := by
  have n1 : (ix2 i j : S144x2048.Idx) ∉ (Rect.unit (s := S144x2048) ![136, 0] ![8, 2048] inb_S144x2048_S8x2048_136_0).set := fun hh => by
    have h0 : 136 ≤ i.val := ((Rect.mem_set_unit.mp hh) 0).1
    clear hh
    omega
  have n2 : (ix2 i j : S144x2048.Idx) ∉ (Rect.unit (s := S144x2048) ![8, 0] ![128, 2048] inb_S144x2048_S128x2048_8_0).set := fun hh => by
    have h0 : 8 ≤ i.val := ((Rect.mem_set_unit.mp hh) 0).1
    clear hh
    omega
  have e : (ix2 i j : S144x2048.Idx) = (Rect.unit (s := S144x2048) ![0, 0] ![8, 2048] inb_S144x2048_S8x2048_0_0).emb (ix2 a j) := by
    funext x
    refine Fin.ext ?_
    match x with
    | 0 => show i.val = 0 + 1 * a.val; omega
    | 1 => show j.val = 0 + 1 * j.val; omega
  refine (View.canon_cons_of_not_mem (Val := Elt Ideal) (s := S144x2048) (e := .f32) ⟨Rect.unit (s := S144x2048) ![136, 0] ![8, 2048] inb_S144x2048_S8x2048_136_0, k0_pay5 (grid0.coords t) (iblk m c 2 t)⟩ _ n1).trans ((View.canon_cons_of_not_mem (Val := Elt Ideal) (s := S144x2048) (e := .f32) ⟨Rect.unit (s := S144x2048) ![8, 0] ![128, 2048] inb_S144x2048_S128x2048_8_0, k0_pay4 (iblk m c 1 t)⟩ _ n2).trans ?_)
  rw [e]
  exact View.canon_cons_emb _ _ _ _

end Cert.SsdIdeal.Proj

end
-- ==== Proof.SsdTile.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.SsdPad

@[expose] public section

set_option maxRecDepth 16384

noncomputable section

open Idealize.ShloMosaic Idealize.ShloMosaic.TcCoe Idealize.SL.Sem
open Idealize.ShloMosaic.Pipeline (Dat)
open scoped BigOperators
open Cert.ScanSum

namespace Cert.SsdIdeal.Proj

open Cert.SsdIdeal Cert.SsdIdeal.Gen

variable (m : (ℓ : Loc nD τ sig) → Buf (Elt Ideal) ℓ)

/-- The laid out rows hold the taps of the convolution. -/
theorem padded_tap (c : Dev nD) (t : Fin cfg0.N) (k : ℕ) (hk : k ≤ 4) (l : Fin 128) (i : Fin 144) (j : Fin 2048) (hi : i.val = 6 + k + l.val) :
    View.canon (padded m c t) (ix2 i j) = tap (argsOf m c) (bat t) (row (t.val % 66) l) k j := by
  have hs := coords_step t
  have hr : (row (t.val % 66) l).val = 128 * (t.val % 66) + l.val := by
    show (128 * (t.val % 66) + l.val) % 8448 = _
    omega
  have hl := l.isLt
  have hi' := i.isLt
  have h66 : t.val % 66 < 66 := Nat.mod_lt _ (by decide)
  unfold tap
  rcases (by omega : i.val < 8 ∨ (8 ≤ i.val ∧ i.val < 136) ∨ 136 ≤ i.val) with h | h | h
  · rw [padded_first m c t i ⟨i.val, h⟩ j rfl, pay3_at, hs]
    split_ifs with h1 h2 h2
    · exfalso; omega
    · rfl
    · exact blk0 m c t _ j _ (by simp only [hr]; omega)
    · exfalso; omega
  · rw [padded_mid m c t i ⟨i.val - 8, by omega⟩ j (by simp only []; omega), pay4_at, blk1]
    split_ifs with h2
    · refine congrArg (fun q => (argsOf m c).x (bat t) q j) (Fin.ext ?_)
      simp only [hr, row]
      omega
    · exfalso; omega
  · rw [padded_last m c t i ⟨i.val - 136, by omega⟩ j (by simp only []; omega), pay5_at, hs]
    split_ifs with h1 h2 h2
    · exfalso; omega
    · rfl
    · exact blk2 m c t _ j _ (by omega) (by simp only [hr]; omega)
    · exfalso; omega

theorem tapRow (c : Dev nD) (t : Fin cfg0.N) (k : ℕ) (inb : ∀ a, ![k, 0] a + ![1, 2048] a ≤ S8x2048.size a) (hk : k < 5) (j : Fin 2048) :
    View.ld (iblk m c 3 t : Vec Ideal S8x2048 .f32) (Rect.unit ![k, 0] ![1, 2048] inb) (ix2 (0 : Fin 1) j) = (argsOf m c).w ⟨k, hk⟩ j := by
  refine Eq.trans (congrArg (iblk m c 3 t : Vec Ideal S8x2048 .f32) ?_) (blk3 m c t ⟨k, hk⟩ j)
  funext x
  refine Fin.ext ?_
  match x with
  | 0 => show k + 1 * 0 = k; omega
  | 1 => show 0 + 1 * j.val = j.val; omega

theorem paddedRead_idx (k : ℕ) (inb : ∀ a, ![6 + k, 0] a + ![128, 2048] a ≤ S144x2048.size a) (hk : k ≤ 4) (l : Fin 128) (j : Fin 2048) :
    (Rect.unit (s := S144x2048) ![6 + k, 0] ![128, 2048] inb).toLoadRect.idx (ix2 l j) = ix2 (⟨6 + k + l.val, by omega⟩ : Fin 144) j := by
  funext x
  refine Fin.ext ?_
  match x with
  | 0 => show 6 + k + 1 * l.val = 6 + k + l.val; omega
  | 1 => show 0 + 1 * j.val = j.val; omega

theorem paddedRead0 (c : Dev nD) (t : Fin cfg0.N) (l : Fin 128) (j : Fin 2048) :
    ((View.whole cc0_scratch1).readCov (padded m c t) (Rect.unit (s := S144x2048) ![6, 0] ![128, 2048] inb_S144x2048_S128x2048_6_0).toLoadRect) (ix2 l j) = tap (argsOf m c) (bat t) (row (t.val % 66) l) 0 j := by
  rw [View.readCov_eq_canon']
  exact (congrArg (View.canon (padded m c t)) (paddedRead_idx 0 inb_S144x2048_S128x2048_6_0 (by omega) l j)).trans
    (padded_tap m c t 0 (by omega) l _ j rfl)

theorem paddedRead1 (c : Dev nD) (t : Fin cfg0.N) (l : Fin 128) (j : Fin 2048) :
    ((View.whole cc0_scratch1).readCov (padded m c t) (Rect.unit (s := S144x2048) ![7, 0] ![128, 2048] inb_S144x2048_S128x2048_7_0).toLoadRect) (ix2 l j) = tap (argsOf m c) (bat t) (row (t.val % 66) l) 1 j := by
  rw [View.readCov_eq_canon']
  exact (congrArg (View.canon (padded m c t)) (paddedRead_idx 1 inb_S144x2048_S128x2048_7_0 (by omega) l j)).trans
    (padded_tap m c t 1 (by omega) l _ j rfl)

theorem paddedRead2 (c : Dev nD) (t : Fin cfg0.N) (l : Fin 128) (j : Fin 2048) :
    ((View.whole cc0_scratch1).readCov (padded m c t) (Rect.unit (s := S144x2048) ![8, 0] ![128, 2048] inb_S144x2048_S128x2048_8_0).toLoadRect) (ix2 l j) = tap (argsOf m c) (bat t) (row (t.val % 66) l) 2 j := by
  rw [View.readCov_eq_canon']
  exact (congrArg (View.canon (padded m c t)) (paddedRead_idx 2 inb_S144x2048_S128x2048_8_0 (by omega) l j)).trans
    (padded_tap m c t 2 (by omega) l _ j rfl)

theorem paddedRead3 (c : Dev nD) (t : Fin cfg0.N) (l : Fin 128) (j : Fin 2048) :
    ((View.whole cc0_scratch1).readCov (padded m c t) (Rect.unit (s := S144x2048) ![9, 0] ![128, 2048] inb_S144x2048_S128x2048_9_0).toLoadRect) (ix2 l j) = tap (argsOf m c) (bat t) (row (t.val % 66) l) 3 j := by
  rw [View.readCov_eq_canon']
  exact (congrArg (View.canon (padded m c t)) (paddedRead_idx 3 inb_S144x2048_S128x2048_9_0 (by omega) l j)).trans
    (padded_tap m c t 3 (by omega) l _ j rfl)

theorem paddedRead4 (c : Dev nD) (t : Fin cfg0.N) (l : Fin 128) (j : Fin 2048) :
    ((View.whole cc0_scratch1).readCov (padded m c t) (Rect.unit (s := S144x2048) ![10, 0] ![128, 2048] inb_S144x2048_S128x2048_10_0).toLoadRect) (ix2 l j) = tap (argsOf m c) (bat t) (row (t.val % 66) l) 4 j := by
  rw [View.readCov_eq_canon']
  exact (congrArg (View.canon (padded m c t)) (paddedRead_idx 4 inb_S144x2048_S128x2048_10_0 (by omega) l j)).trans
    (padded_tap m c t 4 (by omega) l _ j rfl)

/-- The channels of a chunk after the convolution, as the kernel computes them. -/
abbrev tileOf (c : Dev nD) (t : Fin cfg0.N) : FVec Ideal S128x2048 .f32 :=
  k0_pay6 (iblk m c 4 t) (View.ld (iblk m c 3 t : Vec Ideal S8x2048 .f32) (Rect.unit ![0, 0] ![1, 2048] inb_S8x2048_S1x2048_0_0)) ((View.whole cc0_scratch1).readCov (padded m c t) (Rect.unit (s := S144x2048) ![6, 0] ![128, 2048] inb_S144x2048_S128x2048_6_0).toLoadRect) (View.ld (iblk m c 3 t : Vec Ideal S8x2048 .f32) (Rect.unit ![1, 0] ![1, 2048] inb_S8x2048_S1x2048_1_0)) ((View.whole cc0_scratch1).readCov (padded m c t) (Rect.unit (s := S144x2048) ![7, 0] ![128, 2048] inb_S144x2048_S128x2048_7_0).toLoadRect) (View.ld (iblk m c 3 t : Vec Ideal S8x2048 .f32) (Rect.unit ![2, 0] ![1, 2048] inb_S8x2048_S1x2048_2_0)) ((View.whole cc0_scratch1).readCov (padded m c t) (Rect.unit (s := S144x2048) ![8, 0] ![128, 2048] inb_S144x2048_S128x2048_8_0).toLoadRect) (View.ld (iblk m c 3 t : Vec Ideal S8x2048 .f32) (Rect.unit ![3, 0] ![1, 2048] inb_S8x2048_S1x2048_3_0)) ((View.whole cc0_scratch1).readCov (padded m c t) (Rect.unit (s := S144x2048) ![9, 0] ![128, 2048] inb_S144x2048_S128x2048_9_0).toLoadRect) (View.ld (iblk m c 3 t : Vec Ideal S8x2048 .f32) (Rect.unit ![4, 0] ![1, 2048] inb_S8x2048_S1x2048_4_0)) ((View.whole cc0_scratch1).readCov (padded m c t) (Rect.unit (s := S144x2048) ![10, 0] ![128, 2048] inb_S144x2048_S128x2048_10_0).toLoadRect)

theorem act_of (A : Args) (b : Fin 2) (p : Fin 8448) (cb w0 : Vec Ideal S1x2048 .f32) (x0 : Vec Ideal S128x2048 .f32) (w1 : Vec Ideal S1x2048 .f32) (x1 : Vec Ideal S128x2048 .f32)
    (w2 : Vec Ideal S1x2048 .f32) (x2 : Vec Ideal S128x2048 .f32) (w3 : Vec Ideal S1x2048 .f32) (x3 : Vec Ideal S128x2048 .f32)
    (w4 : Vec Ideal S1x2048 .f32) (x4 : Vec Ideal S128x2048 .f32) (l : Fin 128) (j : Fin 2048)
    (hc : cb (ix2 0 j) = A.cb j) (h0 : w0 (ix2 0 j) = A.w 0 j) (g0 : x0 (ix2 l j) = tap A b p 0 j) (h1 : w1 (ix2 0 j) = A.w 1 j) (g1 : x1 (ix2 l j) = tap A b p 1 j)
    (h2 : w2 (ix2 0 j) = A.w 2 j) (g2 : x2 (ix2 l j) = tap A b p 2 j) (h3 : w3 (ix2 0 j) = A.w 3 j) (g3 : x3 (ix2 l j) = tap A b p 3 j)
    (h4 : w4 (ix2 0 j) = A.w 4 j) (g4 : x4 (ix2 l j) = tap A b p 4 j) :
    k0_pay6 cb w0 x0 w1 x1 w2 x2 w3 x3 w4 x4 (ix2 l j) = act A b p j := by
  rw [pay6_at, hc, h0, g0, h1, g1, h2, g2, h3, g3, h4, g4]
  rfl

/-- The channels of a chunk after the convolution. -/
theorem tile_at (c : Dev nD) (t : Fin cfg0.N) (l : Fin 128) (j : Fin 2048) :
    tileOf m c t (ix2 l j) = act (argsOf m c) (bat t) (row (t.val % 66) l) j :=
  act_of (argsOf m c) (bat t) (row (t.val % 66) l) _ _ _ _ _ _ _ _ _ _ _ l j (blk4 m c t j)
    (tapRow m c t 0 inb_S8x2048_S1x2048_0_0 (by decide) j) (paddedRead0 m c t l j) (tapRow m c t 1 inb_S8x2048_S1x2048_1_0 (by decide) j) (paddedRead1 m c t l j)
    (tapRow m c t 2 inb_S8x2048_S1x2048_2_0 (by decide) j) (paddedRead2 m c t l j) (tapRow m c t 3 inb_S8x2048_S1x2048_3_0 (by decide) j) (paddedRead3 m c t l j)
    (tapRow m c t 4 inb_S8x2048_S1x2048_4_0 (by decide) j) (paddedRead4 m c t l j)

theorem tileRead (T : Vec Ideal S128x2048 .f32) (k w : ℕ) (inb : ∀ a, ![0, k] a + ![128, w] a ≤ S128x2048.size a) (hk : k + w ≤ 2048) (l : Fin 128) (p : Fin w) :
    (View.whole cc0_scratch2).readCov [⟨Rect.unit (s := S128x2048) ![0, 0] ![128, 2048] inb_S128x2048_S128x2048_0_0, T⟩] (Rect.unit (s := S128x2048) ![0, k] ![128, w] inb).toLoadRect (ix2 l p)
      = T (ix2 l ⟨k + p.val, by omega⟩) := by
  rw [View.readCov_eq_canon']
  have e : (Rect.unit (s := S128x2048) ![0, k] ![128, w] inb).toLoadRect.idx (ix2 l p)
      = (Rect.unit (s := S128x2048) ![0, 0] ![128, 2048] inb_S128x2048_S128x2048_0_0).emb (ix2 l (⟨k + p.val, by omega⟩ : Fin 2048)) := by
    funext x
    refine Fin.ext ?_
    match x with
    | 0 => show 0 + 1 * l.val = 0 + 1 * l.val; omega
    | 1 => show k + 1 * p.val = 0 + 1 * (k + p.val); omega
  refine (congrArg (View.canon (Val := Elt Ideal) (s := S128x2048) (e := .f32) [⟨Rect.unit (s := S128x2048) ![0, 0] ![128, 2048] inb_S128x2048_S128x2048_0_0, T⟩]) e).trans ?_
  exact View.canon_cons_emb (Val := Elt Ideal) (s := S128x2048) (e := .f32) (Rect.unit (s := S128x2048) ![0, 0] ![128, 2048] inb_S128x2048_S128x2048_0_0) T [] (ix2 l (⟨k + p.val, by omega⟩ : Fin 2048))

/-- The logarithms of the decay in a chunk, a head a row. -/
abbrev rowsOf (c : Dev nD) (t : Fin cfg0.N) : FVec Ideal S16x128 .f32 :=
  k0_pay8 (iota Kind.tc S16x128 32 [1] iota_S16x128_d1_w32)
                (k0_pay7 (iblk m c 5 t) (View.ld (iblk m c 7 t : Vec Ideal S16x2 .f32) (Rect.unit ![0, 1] ![16, 1] inb_S16x2_S16x1_0_1))
                  (View.ld (iblk m c 7 t : Vec Ideal S16x2 .f32) (Rect.unit ![0, 0] ![16, 1] inb_S16x2_S16x1_0_0)))
                8#32

/-- The step sizes of a chunk. -/
abbrev stepsOf (c : Dev nD) (t : Fin cfg0.N) : FVec Ideal S128x16 .f32 :=
  k0_pay9 (iblk m c 6 t) (View.ld (iblk m c 8 t : Vec Ideal S2x16 .f32) (Rect.unit ![1, 0] ![1, 16] inb_S2x16_S1x16_1_0))

/-- The logarithms of the rates. -/
abbrev logsOf (c : Dev nD) (t : Fin cfg0.N) : FVec Ideal S1x16 .f32 :=
  k0_pay10 (View.ld (iblk m c 8 t : Vec Ideal S2x16 .f32) (Rect.unit ![0, 0] ![1, 16] inb_S2x16_S1x16_0_0))

/-- The logarithms of the decay in a chunk, a head a column. -/
abbrev colsOf (c : Dev nD) (t : Fin cfg0.N) : FVec Ideal S128x16 .f32 :=
  k0_pay13 (iota Kind.tc S128x16 32 [0] iota_S128x16_d0_w32) (k0_pay11 (stepsOf m c t) (logsOf m c t)) (k0_pay12 (stepsOf m c t) (logsOf m c t))

/-- The logarithms of the decay over a whole chunk. -/
abbrev endsOf (c : Dev nD) (t : Fin cfg0.N) : FVec Ideal S1x16 .f32 :=
  k0_pay14 (iota Kind.tc S128x16 32 [0] iota_S128x16_d0_w32) (k0_pay11 (stepsOf m c t) (logsOf m c t)) (k0_pay12 (stepsOf m c t) (logsOf m c t))

theorem colRead7 (c : Dev nD) (t : Fin cfg0.N) (k : ℕ) (hk : k < 2) (inb : ∀ a, ![0, k] a + ![16, 1] a ≤ S16x2.size a) (h : Fin 16) :
    View.ld (iblk m c 7 t : Vec Ideal S16x2 .f32) (Rect.unit ![0, k] ![16, 1] inb) (ix2 h (0 : Fin 1)) = (iblk m c 7 t : Vec Ideal S16x2 .f32) (ix2 h (⟨k, hk⟩ : Fin 2)) := by
  refine congrArg (iblk m c 7 t : Vec Ideal S16x2 .f32) ?_
  funext x
  refine Fin.ext ?_
  match x with
  | 0 => show 0 + 1 * h.val = h.val; omega
  | 1 => show k + 1 * 0 = k; omega

theorem rowRead8 (c : Dev nD) (t : Fin cfg0.N) (k : ℕ) (hk : k < 2) (inb : ∀ a, ![k, 0] a + ![1, 16] a ≤ S2x16.size a) (h : Fin 16) :
    View.ld (iblk m c 8 t : Vec Ideal S2x16 .f32) (Rect.unit ![k, 0] ![1, 16] inb) (ix2 (0 : Fin 1) h) = (iblk m c 8 t : Vec Ideal S2x16 .f32) (ix2 (⟨k, hk⟩ : Fin 2) h) := by
  refine congrArg (iblk m c 8 t : Vec Ideal S2x16 .f32) ?_
  funext x
  refine Fin.ext ?_
  match x with
  | 0 => show k + 1 * 0 = k; omega
  | 1 => show 0 + 1 * h.val = h.val; omega

theorem rowsOf_at (c : Dev nD) (t : Fin cfg0.N) (h : Fin 16) (l : Fin 128) :
    rowsOf m c t (ix2 h l) = cum (argsOf m c) (bat t) (t.val % 66) h l := by
  refine (congrFun (rows_eq _ _ _) (ix2 h l)).trans ((rowSums _ h l).trans ?_)
  unfold cum
  refine Finset.sum_congr rfl fun j _ => ?_
  rw [rowRates_at, colRead7 m c t 0 (by decide), colRead7 m c t 1 (by decide), blk5]
  exact congrArg₂ (· * ·) (congrArg (fun z => 0 - Ideal.exp z) (blk7a m c t h)) (congrArg softplus (congrArg₂ (· + ·) rfl (blk7b m c t h)))

theorem stepsOf_at (c : Dev nD) (t : Fin cfg0.N) (h : Fin 16) (l : Fin 128) :
    stepsOf m c t (ix2 l h) = stepOf (argsOf m c) (bat t) (row (t.val % 66) l) h := by
  unfold stepsOf
  rw [steps_at, rowRead8 m c t 1 (by decide), blk6]
  exact congrArg softplus (congrArg₂ (· + ·) rfl (blk8b m c t h))

theorem logs_id (v : Vec Ideal S1x16 .f32) (h : Fin 16) : k0_pay10 v (ix2 0 h) = v (ix2 0 h) := by
  pointwise [k0_pay10]

theorem logsOf_at (c : Dev nD) (t : Fin cfg0.N) (h : Fin 16) :
    logsOf m c t (ix2 0 h) = (argsOf m c).al h := by
  exact (logs_id _ h).trans ((rowRead8 m c t 0 (by decide) inb_S2x16_S1x16_0_0 h).trans (blk8a m c t h))

theorem colsOf_at (c : Dev nD) (t : Fin cfg0.N) (h : Fin 16) (l : Fin 128) :
    colsOf m c t (ix2 l h) = cum (argsOf m c) (bat t) (t.val % 66) h l := by
  refine (congrFun (cols_eq (stepsOf m c t) (logsOf m c t)) (ix2 l h)).trans ((colSums _ h l).trans ?_)
  unfold cum
  refine Finset.sum_congr rfl fun j _ => ?_
  exact (colRates_at _ _ h j).trans (congrArg₂ (· * ·) (congrArg (fun z => 0 - Ideal.exp z) (logsOf_at m c t h)) (stepsOf_at m c t h j))

theorem ends_at (io : IVec S128x16 32) (a b : FVec Ideal S128x16 .f32) (h : Fin 16) :
    k0_pay14 io a b (ix2 0 h) = k0_pay13 io a b (ix2 127 h) := by
  have e : k0_pay14 io a b = extractStridedSlice S1x16 ![127, 0] (k0_pay13 io a b) slices_S128x16_o127_0_S1x16 := rfl
  rw [e]
  generalize k0_pay13 io a b = z
  pointwise []

theorem endsOf_at (c : Dev nD) (t : Fin cfg0.N) (h : Fin 16) :
    endsOf m c t (ix2 0 h) = cum (argsOf m c) (bat t) (t.val % 66) h 127 := by
  exact (ends_at _ _ _ h).trans (colsOf_at m c t h 127)

theorem offRead (c : Dev nD) (t : Fin cfg0.N) (k : ℕ) (inb : ∀ a, ![0, 0, k] a + ![1, 128, 256] a ≤ S1x128x1024.size a) (hk : k + 256 ≤ 1024) (l : Fin 128) (q : Fin 256) :
    View.ld (iblk m c 9 t : Vec Ideal S1x128x1024 .f32) (Rect.unit ![0, 0, k] ![1, 128, 256] inb) (ix3 (0 : Fin 1) l q)
      = (argsOf m c).yb (bat t) (row (t.val % 66) l) ⟨k + q.val, by omega⟩ := by
  refine Eq.trans (congrArg (iblk m c 9 t : Vec Ideal S1x128x1024 .f32) ?_) (blk9 m c t l ⟨k + q.val, by omega⟩)
  funext x
  refine Fin.ext ?_
  match x with
  | 0 => show 0 + 1 * 0 = 0; omega
  | 1 => show 0 + 1 * l.val = l.val; omega
  | 2 => show k + 1 * q.val = k + q.val; omega

theorem skipRead (c : Dev nD) (t : Fin cfg0.N) (k : ℕ) (inb : ∀ a, ![0, k] a + ![1, 256] a ≤ S1x1024.size a) (hk : k + 256 ≤ 1024) (q : Fin 256) :
    View.ld (iblk m c 10 t : Vec Ideal S1x1024 .f32) (Rect.unit ![0, k] ![1, 256] inb) (ix2 (0 : Fin 1) q)
      = (argsOf m c).sk (headOf ⟨k + q.val, by omega⟩) := by
  refine Eq.trans (congrArg (iblk m c 10 t : Vec Ideal S1x1024 .f32) ?_) (blk10 m c t ⟨k + q.val, by omega⟩)
  funext x
  refine Fin.ext ?_
  match x with
  | 0 => show 0 + 1 * 0 = 0; omega
  | 1 => show k + 1 * q.val = k + q.val; omega

end Cert.SsdIdeal.Proj

end
-- ==== Proof.SsdGroups.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SsdIdeal.Proj

open Cert.SsdIdeal Cert.SsdIdeal.Gen

variable (m : (ℓ : Loc nD τ sig) → Buf (Elt Ideal) ℓ)

/-- A choice by a signed comparison of two row numbers. -/
theorem sel_le (x l : Fin 128) (a b : EReal) :
    Scalar.select (IntOp.cmpi .sle (BitVec.ofNat 32 x.val) (BitVec.ofNat 32 l.val)) a b = if x ≤ l then a else b := by
  rw [WordCmp.cmpi_sle_ofNat (by omega) (by omega), WordCmp.select_ofBool]
  simp only [decide_eq_true_eq, Fin.le_def]

/-- The masking constant's word is minus infinity. -/
theorem neg_inf_word : Ideal.ofBits .f32 4286578688#32 = (⊥ : EReal) := by
  simp [Ideal.ofBits, Ideal.ieee]

/-- The head that column `q` of group `g` belongs to. -/
def hd (g : Fin 4) (q : Fin 256) : Fin 16 := ⟨4 * g.val + q.val / 64, by omega⟩

/-- Column `q` of group `g` among the channels. -/
def colX (g : Fin 4) (q : Fin 256) : Fin 2048 := ⟨256 * g.val + q.val, by omega⟩

/-- Entry `n` of the input vector of group `g` among the channels. -/
def colB (g : Fin 4) (n : Fin 128) : Fin 2048 := ⟨1024 + 128 * g.val + n.val, by omega⟩

/-- Entry `n` of the output vector of group `g` among the channels. -/
def colC (g : Fin 4) (n : Fin 128) : Fin 2048 := ⟨1536 + 128 * g.val + n.val, by omega⟩

/-- The state of group 0 after a chunk. -/
theorem state_group0 (io : IVec S128x16 32) (v181 v186 : FVec Ideal S128x16 .f32)
    (d v193 : FVec Ideal S128x16 .f32) (v194 : FVec Ideal S1x16 .f32) (xb xc : Vec Ideal S128x128 .f32) (S : Vec Ideal S1x128x256 .f32)
    (x0 x1 x2 x3 : Vec Ideal S128x64 .f32)
    (X : Fin 128 → Fin 2048 → EReal)
    (e3 : k0_pay13 io v181 v186 = v193) (e4 : k0_pay14 io v181 v186 = v194)
    (hb : ∀ l n, xb (ix2 l n) = X l (colB 0 n)) (hc : ∀ l n, xc (ix2 l n) = X l (colC 0 n))
    (h0 : ∀ l p, x0 (ix2 l p) = X l ⟨0 + p.val, by omega⟩) (h1 : ∀ l p, x1 (ix2 l p) = X l ⟨64 + p.val, by omega⟩)
    (h2 : ∀ l p, x2 (ix2 l p) = X l ⟨128 + p.val, by omega⟩) (h3 : ∀ l p, x3 (ix2 l p) = X l ⟨192 + p.val, by omega⟩)
    (n : Fin 128) (q : Fin 256) :
    k0_pay41 (k0_pay40 d v193 v194 (k0_pay16 xb) (k0_pay19 S) (k0_pay25 (k0_pay22 d x0) (k0_pay24 io v181 v186)) (k0_pay26 v194) (k0_pay30 d v193 v194 x1) (k0_pay31 v194) (k0_pay32 v193) (k0_pay33 d x2) x3) (ix3 0 n q)
      = S (ix3 0 n q) * Ideal.exp (v194 (ix2 0 (hd 0 q)))
        + ∑ l : Fin 128, X l (colB 0 n) * ((X l (colX 0 q) * d (ix2 l (hd 0 q)))
            * Ideal.exp (v194 (ix2 0 (hd 0 q)) - v193 (ix2 l (hd 0 q)))) := by
  unfold k0_pay24
  simp only [e3, e4]
  pointwise [k0_pay16, k0_pay19, k0_pay21, k0_pay22, k0_pay25, k0_pay26, k0_pay27, k0_pay28, k0_pay30, k0_pay31, k0_pay32, k0_pay33, k0_pay37, k0_pay38, k0_pay40, k0_pay41]
  simp only [e3, e4, hb, h0, h1, h2, h3]
  rcases (by omega : q.val < 64 ∨ (64 ≤ q.val ∧ q.val < 128) ∨ (128 ≤ q.val ∧ q.val < 192) ∨ 192 ≤ q.val) with hq | hq | hq | hq
  · have e : hd 0 q = 0 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 0 q = 1 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 0 q = 2 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 0 q = 3 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))

/-- The output of group 0 in a chunk. -/
theorem out_group0 (io : IVec S128x16 32) (v181 v186 : FVec Ideal S128x16 .f32)
    (r : FVec Ideal S16x128 .f32) (d v193 : FVec Ideal S128x16 .f32) (v194 : FVec Ideal S1x16 .f32) (xb xc : Vec Ideal S128x128 .f32) (S : Vec Ideal S1x128x256 .f32)
    (x0 x1 x2 x3 : Vec Ideal S128x64 .f32)
    (yo : Vec Ideal S1x128x256 .f32) (xk : Vec Ideal S128x256 .f32) (dk : Vec Ideal S1x256 .f32)
    (X : Fin 128 → Fin 2048 → EReal)
    (e3 : k0_pay13 io v181 v186 = v193) (e4 : k0_pay14 io v181 v186 = v194)
    (hb : ∀ l n, xb (ix2 l n) = X l (colB 0 n)) (hc : ∀ l n, xc (ix2 l n) = X l (colC 0 n))
    (h0 : ∀ l p, x0 (ix2 l p) = X l ⟨0 + p.val, by omega⟩) (h1 : ∀ l p, x1 (ix2 l p) = X l ⟨64 + p.val, by omega⟩)
    (h2 : ∀ l p, x2 (ix2 l p) = X l ⟨128 + p.val, by omega⟩) (h3 : ∀ l p, x3 (ix2 l p) = X l ⟨192 + p.val, by omega⟩)
    (hk : ∀ l q, xk (ix2 l q) = X l (colX 0 q)) (l : Fin 128) (q : Fin 256) :
    k0_pay42 (k0_pay23 r d io v181 v186 xb xc S x0) (k0_pay29 r d v193 k0_pay15 (k0_pay18 xb xc) (k0_pay20 xc S) x1) (k0_pay36 (k0_pay20 xc S) (k0_pay32 v193) (k0_pay34 r v193 k0_pay15 (k0_pay18 xb xc)) (k0_pay35 d x2)) (k0_pay39 r d v193 k0_pay15 (k0_pay18 xb xc) (k0_pay20 xc S) x3) yo xk dk (ix3 0 l q)
      = (((∑ s : Fin 128, ((∑ n : Fin 128, X l (colC 0 n) * X s (colB 0 n))
            * Ideal.exp (if s ≤ l then v193 (ix2 l (hd 0 q)) - r (ix2 (hd 0 q) s) else (⊥ : EReal)))
              * (X s (colX 0 q) * d (ix2 s (hd 0 q))))
          + (∑ n : Fin 128, X l (colC 0 n) * S (ix3 0 n q)) * Ideal.exp (v193 (ix2 l (hd 0 q))))
          + yo (ix3 0 l q)) + X l (colX 0 q) * dk (ix2 0 q) := by
  unfold k0_pay23
  simp only [e3, e4]
  pointwise [k0_pay15, k0_pay16, k0_pay17, k0_pay18, k0_pay19, k0_pay20, k0_pay21, k0_pay22, k0_pay27, k0_pay28, k0_pay29, k0_pay32, k0_pay33, k0_pay34, k0_pay35, k0_pay36, k0_pay37, k0_pay38, k0_pay39, k0_pay42]
  simp only [e3, e4, hb, hc, h0, h1, h2, h3, hk]
  rcases (by omega : q.val < 64 ∨ (64 ≤ q.val ∧ q.val < 128) ∨ (128 ≤ q.val ∧ q.val < 192) ∨ 192 ≤ q.val) with hq | hq | hq | hq
  · have e : hd 0 q = 0 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 0 q = 1 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 0 q = 2 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 0 q = 3 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)

/-- The state of group 1 after a chunk. -/
theorem state_group1 (d v193 : FVec Ideal S128x16 .f32) (v194 : FVec Ideal S1x16 .f32) (xb xc : Vec Ideal S128x128 .f32) (S : Vec Ideal S1x128x256 .f32)
    (x0 x1 x2 x3 : Vec Ideal S128x64 .f32)
    (X : Fin 128 → Fin 2048 → EReal)
    (hb : ∀ l n, xb (ix2 l n) = X l (colB 1 n)) (hc : ∀ l n, xc (ix2 l n) = X l (colC 1 n))
    (h0 : ∀ l p, x0 (ix2 l p) = X l ⟨256 + p.val, by omega⟩) (h1 : ∀ l p, x1 (ix2 l p) = X l ⟨320 + p.val, by omega⟩)
    (h2 : ∀ l p, x2 (ix2 l p) = X l ⟨384 + p.val, by omega⟩) (h3 : ∀ l p, x3 (ix2 l p) = X l ⟨448 + p.val, by omega⟩)
    (n : Fin 128) (q : Fin 256) :
    k0_pay68 v194 (k0_pay43 xb) (k0_pay46 S) (k0_pay52 d v194 (k0_pay48 v193) x0) (k0_pay53 v194) (k0_pay57 d v193 v194 x1) (k0_pay58 v194) (k0_pay62 d v194 (k0_pay59 v193) x2) (k0_pay63 v194) (k0_pay64 v193) (k0_pay65 d x3) (k0_pay67 v194) (ix3 0 n q)
      = S (ix3 0 n q) * Ideal.exp (v194 (ix2 0 (hd 1 q)))
        + ∑ l : Fin 128, X l (colB 1 n) * ((X l (colX 1 q) * d (ix2 l (hd 1 q)))
            * Ideal.exp (v194 (ix2 0 (hd 1 q)) - v193 (ix2 l (hd 1 q)))) := by
  pointwise [k0_pay43, k0_pay46, k0_pay48, k0_pay50, k0_pay52, k0_pay53, k0_pay54, k0_pay55, k0_pay57, k0_pay58, k0_pay59, k0_pay60, k0_pay62, k0_pay63, k0_pay64, k0_pay65, k0_pay67, k0_pay68]
  simp only [hb, h0, h1, h2, h3]
  rcases (by omega : q.val < 64 ∨ (64 ≤ q.val ∧ q.val < 128) ∨ (128 ≤ q.val ∧ q.val < 192) ∨ 192 ≤ q.val) with hq | hq | hq | hq
  · have e : hd 1 q = 4 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 1 q = 5 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 1 q = 6 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 1 q = 7 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))

/-- The output of group 1 in a chunk. -/
theorem out_group1 (r : FVec Ideal S16x128 .f32) (d v193 : FVec Ideal S128x16 .f32) (v194 : FVec Ideal S1x16 .f32) (xb xc : Vec Ideal S128x128 .f32) (S : Vec Ideal S1x128x256 .f32)
    (x0 x1 x2 x3 : Vec Ideal S128x64 .f32)
    (yo : Vec Ideal S1x128x256 .f32) (xk : Vec Ideal S128x256 .f32) (dk : Vec Ideal S1x256 .f32)
    (X : Fin 128 → Fin 2048 → EReal)
    (hb : ∀ l n, xb (ix2 l n) = X l (colB 1 n)) (hc : ∀ l n, xc (ix2 l n) = X l (colC 1 n))
    (h0 : ∀ l p, x0 (ix2 l p) = X l ⟨256 + p.val, by omega⟩) (h1 : ∀ l p, x1 (ix2 l p) = X l ⟨320 + p.val, by omega⟩)
    (h2 : ∀ l p, x2 (ix2 l p) = X l ⟨384 + p.val, by omega⟩) (h3 : ∀ l p, x3 (ix2 l p) = X l ⟨448 + p.val, by omega⟩)
    (hk : ∀ l q, xk (ix2 l q) = X l (colX 1 q)) (l : Fin 128) (q : Fin 256) :
    k0_pay69 (k0_pay51 d (k0_pay45 xb xc) (k0_pay47 xc S) (k0_pay48 v193) (k0_pay49 r v193 k0_pay15) x0) (k0_pay56 r d v193 k0_pay15 (k0_pay45 xb xc) (k0_pay47 xc S) x1) (k0_pay61 r d k0_pay15 (k0_pay45 xb xc) (k0_pay47 xc S) (k0_pay59 v193) x2) (k0_pay66 r d v193 k0_pay15 (k0_pay45 xb xc) (k0_pay47 xc S) x3) yo xk dk (ix3 0 l q)
      = (((∑ s : Fin 128, ((∑ n : Fin 128, X l (colC 1 n) * X s (colB 1 n))
            * Ideal.exp (if s ≤ l then v193 (ix2 l (hd 1 q)) - r (ix2 (hd 1 q) s) else (⊥ : EReal)))
              * (X s (colX 1 q) * d (ix2 s (hd 1 q))))
          + (∑ n : Fin 128, X l (colC 1 n) * S (ix3 0 n q)) * Ideal.exp (v193 (ix2 l (hd 1 q))))
          + yo (ix3 0 l q)) + X l (colX 1 q) * dk (ix2 0 q) := by
  pointwise [k0_pay15, k0_pay43, k0_pay44, k0_pay45, k0_pay46, k0_pay47, k0_pay48, k0_pay49, k0_pay50, k0_pay51, k0_pay54, k0_pay55, k0_pay56, k0_pay59, k0_pay60, k0_pay61, k0_pay64, k0_pay65, k0_pay66, k0_pay69]
  simp only [hb, hc, h0, h1, h2, h3, hk]
  rcases (by omega : q.val < 64 ∨ (64 ≤ q.val ∧ q.val < 128) ∨ (128 ≤ q.val ∧ q.val < 192) ∨ 192 ≤ q.val) with hq | hq | hq | hq
  · have e : hd 1 q = 4 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 1 q = 5 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 1 q = 6 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 1 q = 7 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)

/-- The state of group 2 after a chunk. -/
theorem state_group2 (d v193 : FVec Ideal S128x16 .f32) (v194 : FVec Ideal S1x16 .f32) (xb xc : Vec Ideal S128x128 .f32) (S : Vec Ideal S1x128x256 .f32)
    (x0 x1 x2 x3 : Vec Ideal S128x64 .f32)
    (X : Fin 128 → Fin 2048 → EReal)
    (hb : ∀ l n, xb (ix2 l n) = X l (colB 2 n)) (hc : ∀ l n, xc (ix2 l n) = X l (colC 2 n))
    (h0 : ∀ l p, x0 (ix2 l p) = X l ⟨512 + p.val, by omega⟩) (h1 : ∀ l p, x1 (ix2 l p) = X l ⟨576 + p.val, by omega⟩)
    (h2 : ∀ l p, x2 (ix2 l p) = X l ⟨640 + p.val, by omega⟩) (h3 : ∀ l p, x3 (ix2 l p) = X l ⟨704 + p.val, by omega⟩)
    (n : Fin 128) (q : Fin 256) :
    k0_pay95 d v194 (k0_pay70 xb) (k0_pay73 S) (k0_pay78 d v193 v194 x0) (k0_pay79 v194) (k0_pay85 v194 (k0_pay80 v193) (k0_pay81 d x1)) (k0_pay86 v194) (k0_pay90 d v193 v194 x2) (k0_pay91 v194) (k0_pay92 v193) x3 (ix3 0 n q)
      = S (ix3 0 n q) * Ideal.exp (v194 (ix2 0 (hd 2 q)))
        + ∑ l : Fin 128, X l (colB 2 n) * ((X l (colX 2 q) * d (ix2 l (hd 2 q)))
            * Ideal.exp (v194 (ix2 0 (hd 2 q)) - v193 (ix2 l (hd 2 q)))) := by
  pointwise [k0_pay70, k0_pay73, k0_pay75, k0_pay76, k0_pay78, k0_pay79, k0_pay80, k0_pay81, k0_pay85, k0_pay86, k0_pay87, k0_pay88, k0_pay90, k0_pay91, k0_pay92, k0_pay94, k0_pay95]
  simp only [hb, h0, h1, h2, h3]
  rcases (by omega : q.val < 64 ∨ (64 ≤ q.val ∧ q.val < 128) ∨ (128 ≤ q.val ∧ q.val < 192) ∨ 192 ≤ q.val) with hq | hq | hq | hq
  · have e : hd 2 q = 8 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 2 q = 9 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 2 q = 10 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 2 q = 11 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))

/-- The output of group 2 in a chunk. -/
theorem out_group2 (r : FVec Ideal S16x128 .f32) (d v193 : FVec Ideal S128x16 .f32) (v194 : FVec Ideal S1x16 .f32) (xb xc : Vec Ideal S128x128 .f32) (S : Vec Ideal S1x128x256 .f32)
    (x0 x1 x2 x3 : Vec Ideal S128x64 .f32)
    (yo : Vec Ideal S1x128x256 .f32) (xk : Vec Ideal S128x256 .f32) (dk : Vec Ideal S1x256 .f32)
    (X : Fin 128 → Fin 2048 → EReal)
    (hb : ∀ l n, xb (ix2 l n) = X l (colB 2 n)) (hc : ∀ l n, xc (ix2 l n) = X l (colC 2 n))
    (h0 : ∀ l p, x0 (ix2 l p) = X l ⟨512 + p.val, by omega⟩) (h1 : ∀ l p, x1 (ix2 l p) = X l ⟨576 + p.val, by omega⟩)
    (h2 : ∀ l p, x2 (ix2 l p) = X l ⟨640 + p.val, by omega⟩) (h3 : ∀ l p, x3 (ix2 l p) = X l ⟨704 + p.val, by omega⟩)
    (hk : ∀ l q, xk (ix2 l q) = X l (colX 2 q)) (l : Fin 128) (q : Fin 256) :
    k0_pay97 (k0_pay96 d (k0_pay72 xb xc) (k0_pay74 (k0_pay71 xc) S) (k0_pay77 r d v193 k0_pay15 (k0_pay71 xc) (k0_pay72 xb xc) S x0) (k0_pay84 (k0_pay74 (k0_pay71 xc) S) (k0_pay80 v193) (k0_pay82 r v193 k0_pay15 (k0_pay72 xb xc)) (k0_pay83 d x1) (constant S128x64 .f32 0#32)) (k0_pay89 r d v193 k0_pay15 (k0_pay72 xb xc) (k0_pay74 (k0_pay71 xc) S) x2) (k0_pay92 v193) (k0_pay93 r v193 k0_pay15) x3 yo xk dk) (ix3 0 l q)
      = (((∑ s : Fin 128, ((∑ n : Fin 128, X l (colC 2 n) * X s (colB 2 n))
            * Ideal.exp (if s ≤ l then v193 (ix2 l (hd 2 q)) - r (ix2 (hd 2 q) s) else (⊥ : EReal)))
              * (X s (colX 2 q) * d (ix2 s (hd 2 q))))
          + (∑ n : Fin 128, X l (colC 2 n) * S (ix3 0 n q)) * Ideal.exp (v193 (ix2 l (hd 2 q))))
          + yo (ix3 0 l q)) + X l (colX 2 q) * dk (ix2 0 q) := by
  pointwise [k0_pay15, k0_pay70, k0_pay71, k0_pay72, k0_pay73, k0_pay74, k0_pay75, k0_pay76, k0_pay77, k0_pay80, k0_pay81, k0_pay82, k0_pay83, k0_pay84, k0_pay87, k0_pay88, k0_pay89, k0_pay92, k0_pay93, k0_pay94, k0_pay96, k0_pay97]
  simp only [hb, hc, h0, h1, h2, h3, hk]
  rcases (by omega : q.val < 64 ∨ (64 ≤ q.val ∧ q.val < 128) ∨ (128 ≤ q.val ∧ q.val < 192) ∨ 192 ≤ q.val) with hq | hq | hq | hq
  · have e : hd 2 q = 8 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 2 q = 9 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 2 q = 10 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 2 q = 11 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)

/-- The state of group 3 after a chunk. -/
theorem state_group3 (d v193 : FVec Ideal S128x16 .f32) (v194 : FVec Ideal S1x16 .f32) (xb xc : Vec Ideal S128x128 .f32) (S : Vec Ideal S1x128x256 .f32)
    (x0 x1 x2 x3 : Vec Ideal S128x64 .f32)
    (X : Fin 128 → Fin 2048 → EReal)
    (hb : ∀ l n, xb (ix2 l n) = X l (colB 3 n)) (hc : ∀ l n, xc (ix2 l n) = X l (colC 3 n))
    (h0 : ∀ l p, x0 (ix2 l p) = X l ⟨768 + p.val, by omega⟩) (h1 : ∀ l p, x1 (ix2 l p) = X l ⟨832 + p.val, by omega⟩)
    (h2 : ∀ l p, x2 (ix2 l p) = X l ⟨896 + p.val, by omega⟩) (h3 : ∀ l p, x3 (ix2 l p) = X l ⟨960 + p.val, by omega⟩)
    (n : Fin 128) (q : Fin 256) :
    k0_pay120 d v193 v194 (k0_pay98 xb) (k0_pay101 S) (k0_pay106 d v193 v194 x0) (k0_pay107 v194) (k0_pay112 d v194 (k0_pay108 v193) x1) (k0_pay113 v194) (k0_pay114 v193) (k0_pay115 d x2) (k0_pay117 v194) x3 (ix3 0 n q)
      = S (ix3 0 n q) * Ideal.exp (v194 (ix2 0 (hd 3 q)))
        + ∑ l : Fin 128, X l (colB 3 n) * ((X l (colX 3 q) * d (ix2 l (hd 3 q)))
            * Ideal.exp (v194 (ix2 0 (hd 3 q)) - v193 (ix2 l (hd 3 q)))) := by
  pointwise [k0_pay98, k0_pay101, k0_pay103, k0_pay104, k0_pay106, k0_pay107, k0_pay108, k0_pay110, k0_pay112, k0_pay113, k0_pay114, k0_pay115, k0_pay117, k0_pay118, k0_pay119, k0_pay120]
  simp only [hb, h0, h1, h2, h3]
  rcases (by omega : q.val < 64 ∨ (64 ≤ q.val ∧ q.val < 128) ∨ (128 ≤ q.val ∧ q.val < 192) ∨ 192 ≤ q.val) with hq | hq | hq | hq
  · have e : hd 3 q = 12 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 3 q = 13 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 3 q = 14 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))
  · have e : hd 3 q = 15 := Fin.ext (by simp only [hd]; omega)
    rw [e]
    split_ifs <;> first | omega | (refine congrArg₂ (· + ·) rfl (Finset.sum_congr rfl fun l _ => ?_); refine congrArg₂ (· * ·) rfl (congrArg₂ (· * ·) (congrArg₂ (· * ·) (congrArg (X l) (Fin.ext (by simp only [colX]; omega))) rfl) rfl))

/-- The output of group 3 in a chunk. -/
theorem out_group3 (r : FVec Ideal S16x128 .f32) (d v193 : FVec Ideal S128x16 .f32) (v194 : FVec Ideal S1x16 .f32) (xb xc : Vec Ideal S128x128 .f32) (S : Vec Ideal S1x128x256 .f32)
    (x0 x1 x2 x3 : Vec Ideal S128x64 .f32)
    (yo : Vec Ideal S1x128x256 .f32) (xk : Vec Ideal S128x256 .f32) (dk : Vec Ideal S1x256 .f32)
    (X : Fin 128 → Fin 2048 → EReal)
    (hb : ∀ l n, xb (ix2 l n) = X l (colB 3 n)) (hc : ∀ l n, xc (ix2 l n) = X l (colC 3 n))
    (h0 : ∀ l p, x0 (ix2 l p) = X l ⟨768 + p.val, by omega⟩) (h1 : ∀ l p, x1 (ix2 l p) = X l ⟨832 + p.val, by omega⟩)
    (h2 : ∀ l p, x2 (ix2 l p) = X l ⟨896 + p.val, by omega⟩) (h3 : ∀ l p, x3 (ix2 l p) = X l ⟨960 + p.val, by omega⟩)
    (hk : ∀ l q, xk (ix2 l q) = X l (colX 3 q)) (l : Fin 128) (q : Fin 256) :
    k0_pay1 (k0_pay121 r d v193 k0_pay15 (k0_pay100 xb xc) (k0_pay102 xc S) (k0_pay105 r d v193 k0_pay15 xb xc S x0) (k0_pay111 d k0_pay15 (k0_pay100 xb xc) (k0_pay102 xc S) (k0_pay108 v193) (k0_pay109 r) x1) (k0_pay116 r d v193 k0_pay15 (k0_pay100 xb xc) (k0_pay102 xc S) x2) x3) yo xk dk (ix3 0 l q)
      = (((∑ s : Fin 128, ((∑ n : Fin 128, X l (colC 3 n) * X s (colB 3 n))
            * Ideal.exp (if s ≤ l then v193 (ix2 l (hd 3 q)) - r (ix2 (hd 3 q) s) else (⊥ : EReal)))
              * (X s (colX 3 q) * d (ix2 s (hd 3 q))))
          + (∑ n : Fin 128, X l (colC 3 n) * S (ix3 0 n q)) * Ideal.exp (v193 (ix2 l (hd 3 q))))
          + yo (ix3 0 l q)) + X l (colX 3 q) * dk (ix2 0 q) := by
  pointwise [k0_pay1, k0_pay15, k0_pay98, k0_pay99, k0_pay100, k0_pay101, k0_pay102, k0_pay103, k0_pay104, k0_pay105, k0_pay108, k0_pay109, k0_pay110, k0_pay111, k0_pay114, k0_pay115, k0_pay116, k0_pay118, k0_pay119, k0_pay121]
  simp only [hb, hc, h0, h1, h2, h3, hk]
  rcases (by omega : q.val < 64 ∨ (64 ≤ q.val ∧ q.val < 128) ∨ (128 ≤ q.val ∧ q.val < 192) ∨ 192 ≤ q.val) with hq | hq | hq | hq
  · have e : hd 3 q = 12 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 3 q = 13 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 3 q = 14 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)
  · have e : hd 3 q = 15 := Fin.ext (by simp only [hd]; omega)
    rw [e]
    split_ifs <;> first | omega | skip
    refine congrArg₂ (· + ·) (congrArg₂ (· + ·) (congrArg₂ (· + ·) (Finset.sum_congr rfl fun s _ => ?_) (congrArg₂ (· * ·) (Finset.sum_congr rfl fun n _ => congrArg₂ (· * ·) rfl (congrArg S (congrArg (ix3 0 n) (Fin.ext (by first | rfl | (simp only []; omega)))))) rfl)) rfl) rfl
    rw [sel_le, neg_inf_word]
    exact congrArg₂ (· * ·) rfl (congrArg₂ (· * ·) (congrArg (X s) (Fin.ext (by simp only [colX]; omega))) rfl)

end Cert.SsdIdeal.Proj

end
-- ==== Proof.SsdStep.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.SsdTile
public import proofs.«01_k».proof.Proof.SsdGroups

@[expose] public section

set_option maxRecDepth 16384

noncomputable section

open Idealize.ShloMosaic Idealize.ShloMosaic.TcCoe Idealize.SL.Sem
open Idealize.ShloMosaic.Pipeline (Dat)
open scoped BigOperators
open Cert.ScanSum

namespace Cert.SsdIdeal.Proj

open Cert.SsdIdeal Cert.SsdIdeal.Gen

variable (m : (ℓ : Loc nD τ sig) → Buf (Elt Ideal) ℓ)

/-- Some of the channels of a chunk, as the kernel reads them back. -/
abbrev chan (c : Dev nD) (t : Fin cfg0.N) (k w : ℕ) (inb : ∀ a, ![0, k] a + ![128, w] a ≤ S128x2048.size a) : Vec Ideal (Rect.unit (s := S128x2048) ![0, k] ![128, w] inb).shape .f32 :=
  (View.whole cc0_scratch2).readCov [⟨Rect.unit (s := S128x2048) ![0, 0] ![128, 2048] inb_S128x2048_S128x2048_0_0, tileOf m c t⟩] (Rect.unit (s := S128x2048) ![0, k] ![128, w] inb).toLoadRect

theorem chan_at (c : Dev nD) (t : Fin cfg0.N) (k w : ℕ) (inb : ∀ a, ![0, k] a + ![128, w] a ≤ S128x2048.size a) (hk : k + w ≤ 2048) (l : Fin 128) (p : Fin w) (j : Fin 2048)
    (hj : j.val = k + p.val) : chan m c t k w inb (ix2 l p) = act (argsOf m c) (bat t) (row (t.val % 66) l) j := by
  refine (tileRead (tileOf m c t) k w inb hk l p).trans ((tile_at m c t l _).trans ?_)
  exact congrArg (act (argsOf m c) (bat t) (row (t.val % 66) l)) (Fin.ext hj.symm)

/-- Column `q` of group `g`. -/
def col (g : Fin 4) (q : Fin 256) : Fin 1024 := ⟨256 * g.val + q.val, by omega⟩

theorem hd_col (g : Fin 4) (q : Fin 256) : hd g q = headOf (col g q) := Fin.ext (by simp only [hd, headOf, col]; omega)
theorem colX_col (g : Fin 4) (q : Fin 256) : colX g q = chX (col g q) := Fin.ext (by simp only [colX, chX, col])
theorem colB_col (g : Fin 4) (q : Fin 256) (n : Fin 128) : colB g n = chB (col g q) n := Fin.ext (by simp only [colB, chB, col]; omega)
theorem colC_col (g : Fin 4) (q : Fin 256) (n : Fin 128) : colC g n = chC (col g q) n := Fin.ext (by simp only [colC, chC, col]; omega)

/-- What a chunk leaves in the state, in the terms of the scan. -/
theorem state_glue (A : Args) (b : Fin 2) (s : ℕ) (g : Fin 4) (n : Fin 128) (q : Fin 256) (d v : FVec Ideal S128x16 .f32) (e : FVec Ideal S1x16 .f32) (z : EReal)
    (hd' : ∀ h l, d (ix2 l h) = stepOf A b (row s l) h) (hv : ∀ h l, v (ix2 l h) = cum A b s h l) (he : ∀ h, e (ix2 0 h) = cum A b s h 127)
    (hz : z = stateOf A b (col g q) n s) :
    z * Ideal.exp (e (ix2 0 (hd g q)))
        + ∑ l : Fin 128, act A b (row s l) (colB g n) * ((act A b (row s l) (colX g q) * d (ix2 l (hd g q)))
            * Ideal.exp (e (ix2 0 (hd g q)) - v (ix2 l (hd g q)))) = stateOf A b (col g q) n (s + 1) := by
  simp only [hd', hv, he, hz, hd_col, colX_col, colB_col g q]
  rfl

/-- What a chunk gives, in the terms of the scan. -/
theorem out_glue (A : Args) (b : Fin 2) (s : ℕ) (g : Fin 4) (l : Fin 128) (q : Fin 256) (r : FVec Ideal S16x128 .f32) (d v : FVec Ideal S128x16 .f32) (z : Fin 128 → EReal) (y k : EReal)
    (hr : ∀ h l, r (ix2 h l) = cum A b s h l)
    (hd' : ∀ h l, d (ix2 l h) = stepOf A b (row s l) h) (hv : ∀ h l, v (ix2 l h) = cum A b s h l)
    (hz : ∀ n, z n = stateOf A b (col g q) n s) (hy : y = A.yb b (row s l) (col g q)) (hk : k = A.sk (headOf (col g q))) :
    (((∑ i : Fin 128, ((∑ n : Fin 128, act A b (row s l) (colC g n) * act A b (row s i) (colB g n))
            * Ideal.exp (if i ≤ l then v (ix2 l (hd g q)) - r (ix2 (hd g q) i) else (⊥ : EReal)))
              * (act A b (row s i) (colX g q) * d (ix2 i (hd g q))))
          + (∑ n : Fin 128, act A b (row s l) (colC g n) * z n) * Ideal.exp (v (ix2 l (hd g q))))
          + y) + act A b (row s l) (colX g q) * k = outOf A b s l (col g q) := by
  simp only [hr, hd', hv, hz, hy, hk, hd_col, colX_col, colB_col g q, colC_col g q]
  rfl

/-- The state of group 0 after a chunk. -/
theorem step_state0 (c : Dev nD) (t : Fin cfg0.N) (S : Vec Ideal S1x128x256 .f32)
    (hS : ∀ n q, S (ix3 0 n q) = stateOf (argsOf m c) (bat t) (col 0 q) n (t.val % 66)) (n : Fin 128) (q : Fin 256) :
    k0_pay41 (k0_pay40 (stepsOf m c t) (colsOf m c t) (endsOf m c t) (k0_pay16 (chan m c t 1024 128 inb_S128x2048_S128x128_0_1024)) (k0_pay19 S) (k0_pay25 (k0_pay22 (stepsOf m c t) (chan m c t 0 64 inb_S128x2048_S128x64_0_0)) (k0_pay24 (iota Kind.tc S128x16 32 [0] iota_S128x16_d0_w32) (k0_pay11 (stepsOf m c t) (logsOf m c t)) (k0_pay12 (stepsOf m c t) (logsOf m c t)))) (k0_pay26 (endsOf m c t)) (k0_pay30 (stepsOf m c t) (colsOf m c t) (endsOf m c t) (chan m c t 64 64 inb_S128x2048_S128x64_0_64)) (k0_pay31 (endsOf m c t)) (k0_pay32 (colsOf m c t)) (k0_pay33 (stepsOf m c t) (chan m c t 128 64 inb_S128x2048_S128x64_0_128)) (chan m c t 192 64 inb_S128x2048_S128x64_0_192)) (ix3 0 n q)
      = stateOf (argsOf m c) (bat t) (col 0 q) n (t.val % 66 + 1) := by
  refine (state_group0 _ _ _ (stepsOf m c t) (colsOf m c t) (endsOf m c t) _ (chan m c t 1536 128 inb_S128x2048_S128x128_0_1536) S _ _ _ _ (fun l j => act (argsOf m c) (bat t) (row (t.val % 66) l) j) rfl rfl
    (fun l p => chan_at m c t 1024 128 inb_S128x2048_S128x128_0_1024 (by decide) l p _ rfl) (fun l p => chan_at m c t 1536 128 inb_S128x2048_S128x128_0_1536 (by decide) l p _ rfl) (fun l p => chan_at m c t 0 64 inb_S128x2048_S128x64_0_0 (by decide) l p _ rfl) (fun l p => chan_at m c t 64 64 inb_S128x2048_S128x64_0_64 (by decide) l p _ rfl) (fun l p => chan_at m c t 128 64 inb_S128x2048_S128x64_0_128 (by decide) l p _ rfl) (fun l p => chan_at m c t 192 64 inb_S128x2048_S128x64_0_192 (by decide) l p _ rfl) n q).trans ?_
  exact state_glue (argsOf m c) (bat t) (t.val % 66) 0 n q (stepsOf m c t) (colsOf m c t) (endsOf m c t) _ (stepsOf_at m c t) (colsOf_at m c t) (endsOf_at m c t) (hS n q)

/-- The result of group 0 in a chunk. -/
theorem step_out0 (c : Dev nD) (t : Fin cfg0.N) (S : Vec Ideal S1x128x256 .f32)
    (hS : ∀ n q, S (ix3 0 n q) = stateOf (argsOf m c) (bat t) (col 0 q) n (t.val % 66)) (l : Fin 128) (q : Fin 256) :
    k0_pay42 (k0_pay23 (rowsOf m c t) (stepsOf m c t) (iota Kind.tc S128x16 32 [0] iota_S128x16_d0_w32) (k0_pay11 (stepsOf m c t) (logsOf m c t)) (k0_pay12 (stepsOf m c t) (logsOf m c t)) (chan m c t 1024 128 inb_S128x2048_S128x128_0_1024) (chan m c t 1536 128 inb_S128x2048_S128x128_0_1536) S (chan m c t 0 64 inb_S128x2048_S128x64_0_0)) (k0_pay29 (rowsOf m c t) (stepsOf m c t) (colsOf m c t) k0_pay15 (k0_pay18 (chan m c t 1024 128 inb_S128x2048_S128x128_0_1024) (chan m c t 1536 128 inb_S128x2048_S128x128_0_1536)) (k0_pay20 (chan m c t 1536 128 inb_S128x2048_S128x128_0_1536) S) (chan m c t 64 64 inb_S128x2048_S128x64_0_64)) (k0_pay36 (k0_pay20 (chan m c t 1536 128 inb_S128x2048_S128x128_0_1536) S) (k0_pay32 (colsOf m c t)) (k0_pay34 (rowsOf m c t) (colsOf m c t) k0_pay15 (k0_pay18 (chan m c t 1024 128 inb_S128x2048_S128x128_0_1024) (chan m c t 1536 128 inb_S128x2048_S128x128_0_1536))) (k0_pay35 (stepsOf m c t) (chan m c t 128 64 inb_S128x2048_S128x64_0_128))) (k0_pay39 (rowsOf m c t) (stepsOf m c t) (colsOf m c t) k0_pay15 (k0_pay18 (chan m c t 1024 128 inb_S128x2048_S128x128_0_1024) (chan m c t 1536 128 inb_S128x2048_S128x128_0_1536)) (k0_pay20 (chan m c t 1536 128 inb_S128x2048_S128x128_0_1536) S) (chan m c t 192 64 inb_S128x2048_S128x64_0_192)) (View.ld (iblk m c 9 t : Vec Ideal S1x128x1024 .f32) (Rect.unit ![0, 0, 0] ![1, 128, 256] inb_S1x128x1024_S1x128x256_0_0_0)) (chan m c t 0 256 inb_S128x2048_S128x256_0_0) (View.ld (iblk m c 10 t : Vec Ideal S1x1024 .f32) (Rect.unit ![0, 0] ![1, 256] inb_S1x1024_S1x256_0_0)) (ix3 0 l q)
      = outOf (argsOf m c) (bat t) (t.val % 66) l (col 0 q) := by
  refine (out_group0 _ _ _ (rowsOf m c t) (stepsOf m c t) (colsOf m c t) (endsOf m c t) _ _ S _ _ _ _ _ _ _ (fun l j => act (argsOf m c) (bat t) (row (t.val % 66) l) j) rfl rfl
    (fun l p => chan_at m c t 1024 128 inb_S128x2048_S128x128_0_1024 (by decide) l p _ rfl) (fun l p => chan_at m c t 1536 128 inb_S128x2048_S128x128_0_1536 (by decide) l p _ rfl) (fun l p => chan_at m c t 0 64 inb_S128x2048_S128x64_0_0 (by decide) l p _ rfl) (fun l p => chan_at m c t 64 64 inb_S128x2048_S128x64_0_64 (by decide) l p _ rfl) (fun l p => chan_at m c t 128 64 inb_S128x2048_S128x64_0_128 (by decide) l p _ rfl) (fun l p => chan_at m c t 192 64 inb_S128x2048_S128x64_0_192 (by decide) l p _ rfl) (fun l p => chan_at m c t 0 256 inb_S128x2048_S128x256_0_0 (by decide) l p _ rfl) l q).trans ?_
  exact out_glue (argsOf m c) (bat t) (t.val % 66) 0 l q (rowsOf m c t) (stepsOf m c t) (colsOf m c t) (fun n => S (ix3 0 n q)) _ _ (rowsOf_at m c t) (stepsOf_at m c t) (colsOf_at m c t)
    (fun n => hS n q) (offRead m c t 0 inb_S1x128x1024_S1x128x256_0_0_0 (by decide) l q) (skipRead m c t 0 inb_S1x1024_S1x256_0_0 (by decide) q)

/-- The state of group 1 after a chunk. -/
theorem step_state1 (c : Dev nD) (t : Fin cfg0.N) (S : Vec Ideal S1x128x256 .f32)
    (hS : ∀ n q, S (ix3 0 n q) = stateOf (argsOf m c) (bat t) (col 1 q) n (t.val % 66)) (n : Fin 128) (q : Fin 256) :
    k0_pay68 (endsOf m c t) (k0_pay43 (chan m c t 1152 128 inb_S128x2048_S128x128_0_1152)) (k0_pay46 S) (k0_pay52 (stepsOf m c t) (endsOf m c t) (k0_pay48 (colsOf m c t)) (chan m c t 256 64 inb_S128x2048_S128x64_0_256)) (k0_pay53 (endsOf m c t)) (k0_pay57 (stepsOf m c t) (colsOf m c t) (endsOf m c t) (chan m c t 320 64 inb_S128x2048_S128x64_0_320)) (k0_pay58 (endsOf m c t)) (k0_pay62 (stepsOf m c t) (endsOf m c t) (k0_pay59 (colsOf m c t)) (chan m c t 384 64 inb_S128x2048_S128x64_0_384)) (k0_pay63 (endsOf m c t)) (k0_pay64 (colsOf m c t)) (k0_pay65 (stepsOf m c t) (chan m c t 448 64 inb_S128x2048_S128x64_0_448)) (k0_pay67 (endsOf m c t)) (ix3 0 n q)
      = stateOf (argsOf m c) (bat t) (col 1 q) n (t.val % 66 + 1) := by
  refine (state_group1 (stepsOf m c t) (colsOf m c t) (endsOf m c t) _ (chan m c t 1664 128 inb_S128x2048_S128x128_0_1664) S _ _ _ _ (fun l j => act (argsOf m c) (bat t) (row (t.val % 66) l) j)
    (fun l p => chan_at m c t 1152 128 inb_S128x2048_S128x128_0_1152 (by decide) l p _ rfl) (fun l p => chan_at m c t 1664 128 inb_S128x2048_S128x128_0_1664 (by decide) l p _ rfl) (fun l p => chan_at m c t 256 64 inb_S128x2048_S128x64_0_256 (by decide) l p _ rfl) (fun l p => chan_at m c t 320 64 inb_S128x2048_S128x64_0_320 (by decide) l p _ rfl) (fun l p => chan_at m c t 384 64 inb_S128x2048_S128x64_0_384 (by decide) l p _ rfl) (fun l p => chan_at m c t 448 64 inb_S128x2048_S128x64_0_448 (by decide) l p _ rfl) n q).trans ?_
  exact state_glue (argsOf m c) (bat t) (t.val % 66) 1 n q (stepsOf m c t) (colsOf m c t) (endsOf m c t) _ (stepsOf_at m c t) (colsOf_at m c t) (endsOf_at m c t) (hS n q)

/-- The result of group 1 in a chunk. -/
theorem step_out1 (c : Dev nD) (t : Fin cfg0.N) (S : Vec Ideal S1x128x256 .f32)
    (hS : ∀ n q, S (ix3 0 n q) = stateOf (argsOf m c) (bat t) (col 1 q) n (t.val % 66)) (l : Fin 128) (q : Fin 256) :
    k0_pay69 (k0_pay51 (stepsOf m c t) (k0_pay45 (chan m c t 1152 128 inb_S128x2048_S128x128_0_1152) (chan m c t 1664 128 inb_S128x2048_S128x128_0_1664)) (k0_pay47 (chan m c t 1664 128 inb_S128x2048_S128x128_0_1664) S) (k0_pay48 (colsOf m c t)) (k0_pay49 (rowsOf m c t) (colsOf m c t) k0_pay15) (chan m c t 256 64 inb_S128x2048_S128x64_0_256)) (k0_pay56 (rowsOf m c t) (stepsOf m c t) (colsOf m c t) k0_pay15 (k0_pay45 (chan m c t 1152 128 inb_S128x2048_S128x128_0_1152) (chan m c t 1664 128 inb_S128x2048_S128x128_0_1664)) (k0_pay47 (chan m c t 1664 128 inb_S128x2048_S128x128_0_1664) S) (chan m c t 320 64 inb_S128x2048_S128x64_0_320)) (k0_pay61 (rowsOf m c t) (stepsOf m c t) k0_pay15 (k0_pay45 (chan m c t 1152 128 inb_S128x2048_S128x128_0_1152) (chan m c t 1664 128 inb_S128x2048_S128x128_0_1664)) (k0_pay47 (chan m c t 1664 128 inb_S128x2048_S128x128_0_1664) S) (k0_pay59 (colsOf m c t)) (chan m c t 384 64 inb_S128x2048_S128x64_0_384)) (k0_pay66 (rowsOf m c t) (stepsOf m c t) (colsOf m c t) k0_pay15 (k0_pay45 (chan m c t 1152 128 inb_S128x2048_S128x128_0_1152) (chan m c t 1664 128 inb_S128x2048_S128x128_0_1664)) (k0_pay47 (chan m c t 1664 128 inb_S128x2048_S128x128_0_1664) S) (chan m c t 448 64 inb_S128x2048_S128x64_0_448)) (View.ld (iblk m c 9 t : Vec Ideal S1x128x1024 .f32) (Rect.unit ![0, 0, 256] ![1, 128, 256] inb_S1x128x1024_S1x128x256_0_0_256)) (chan m c t 256 256 inb_S128x2048_S128x256_0_256) (View.ld (iblk m c 10 t : Vec Ideal S1x1024 .f32) (Rect.unit ![0, 256] ![1, 256] inb_S1x1024_S1x256_0_256)) (ix3 0 l q)
      = outOf (argsOf m c) (bat t) (t.val % 66) l (col 1 q) := by
  refine (out_group1 (rowsOf m c t) (stepsOf m c t) (colsOf m c t) (endsOf m c t) _ _ S _ _ _ _ _ _ _ (fun l j => act (argsOf m c) (bat t) (row (t.val % 66) l) j)
    (fun l p => chan_at m c t 1152 128 inb_S128x2048_S128x128_0_1152 (by decide) l p _ rfl) (fun l p => chan_at m c t 1664 128 inb_S128x2048_S128x128_0_1664 (by decide) l p _ rfl) (fun l p => chan_at m c t 256 64 inb_S128x2048_S128x64_0_256 (by decide) l p _ rfl) (fun l p => chan_at m c t 320 64 inb_S128x2048_S128x64_0_320 (by decide) l p _ rfl) (fun l p => chan_at m c t 384 64 inb_S128x2048_S128x64_0_384 (by decide) l p _ rfl) (fun l p => chan_at m c t 448 64 inb_S128x2048_S128x64_0_448 (by decide) l p _ rfl) (fun l p => chan_at m c t 256 256 inb_S128x2048_S128x256_0_256 (by decide) l p _ rfl) l q).trans ?_
  exact out_glue (argsOf m c) (bat t) (t.val % 66) 1 l q (rowsOf m c t) (stepsOf m c t) (colsOf m c t) (fun n => S (ix3 0 n q)) _ _ (rowsOf_at m c t) (stepsOf_at m c t) (colsOf_at m c t)
    (fun n => hS n q) (offRead m c t 256 inb_S1x128x1024_S1x128x256_0_0_256 (by decide) l q) (skipRead m c t 256 inb_S1x1024_S1x256_0_256 (by decide) q)

/-- The state of group 2 after a chunk. -/
theorem step_state2 (c : Dev nD) (t : Fin cfg0.N) (S : Vec Ideal S1x128x256 .f32)
    (hS : ∀ n q, S (ix3 0 n q) = stateOf (argsOf m c) (bat t) (col 2 q) n (t.val % 66)) (n : Fin 128) (q : Fin 256) :
    k0_pay95 (stepsOf m c t) (endsOf m c t) (k0_pay70 (chan m c t 1280 128 inb_S128x2048_S128x128_0_1280)) (k0_pay73 S) (k0_pay78 (stepsOf m c t) (colsOf m c t) (endsOf m c t) (chan m c t 512 64 inb_S128x2048_S128x64_0_512)) (k0_pay79 (endsOf m c t)) (k0_pay85 (endsOf m c t) (k0_pay80 (colsOf m c t)) (k0_pay81 (stepsOf m c t) (chan m c t 576 64 inb_S128x2048_S128x64_0_576))) (k0_pay86 (endsOf m c t)) (k0_pay90 (stepsOf m c t) (colsOf m c t) (endsOf m c t) (chan m c t 640 64 inb_S128x2048_S128x64_0_640)) (k0_pay91 (endsOf m c t)) (k0_pay92 (colsOf m c t)) (chan m c t 704 64 inb_S128x2048_S128x64_0_704) (ix3 0 n q)
      = stateOf (argsOf m c) (bat t) (col 2 q) n (t.val % 66 + 1) := by
  refine (state_group2 (stepsOf m c t) (colsOf m c t) (endsOf m c t) _ (chan m c t 1792 128 inb_S128x2048_S128x128_0_1792) S _ _ _ _ (fun l j => act (argsOf m c) (bat t) (row (t.val % 66) l) j)
    (fun l p => chan_at m c t 1280 128 inb_S128x2048_S128x128_0_1280 (by decide) l p _ rfl) (fun l p => chan_at m c t 1792 128 inb_S128x2048_S128x128_0_1792 (by decide) l p _ rfl) (fun l p => chan_at m c t 512 64 inb_S128x2048_S128x64_0_512 (by decide) l p _ rfl) (fun l p => chan_at m c t 576 64 inb_S128x2048_S128x64_0_576 (by decide) l p _ rfl) (fun l p => chan_at m c t 640 64 inb_S128x2048_S128x64_0_640 (by decide) l p _ rfl) (fun l p => chan_at m c t 704 64 inb_S128x2048_S128x64_0_704 (by decide) l p _ rfl) n q).trans ?_
  exact state_glue (argsOf m c) (bat t) (t.val % 66) 2 n q (stepsOf m c t) (colsOf m c t) (endsOf m c t) _ (stepsOf_at m c t) (colsOf_at m c t) (endsOf_at m c t) (hS n q)

/-- The result of group 2 in a chunk. -/
theorem step_out2 (c : Dev nD) (t : Fin cfg0.N) (S : Vec Ideal S1x128x256 .f32)
    (hS : ∀ n q, S (ix3 0 n q) = stateOf (argsOf m c) (bat t) (col 2 q) n (t.val % 66)) (l : Fin 128) (q : Fin 256) :
    k0_pay97 (k0_pay96 (stepsOf m c t) (k0_pay72 (chan m c t 1280 128 inb_S128x2048_S128x128_0_1280) (chan m c t 1792 128 inb_S128x2048_S128x128_0_1792)) (k0_pay74 (k0_pay71 (chan m c t 1792 128 inb_S128x2048_S128x128_0_1792)) S) (k0_pay77 (rowsOf m c t) (stepsOf m c t) (colsOf m c t) k0_pay15 (k0_pay71 (chan m c t 1792 128 inb_S128x2048_S128x128_0_1792)) (k0_pay72 (chan m c t 1280 128 inb_S128x2048_S128x128_0_1280) (chan m c t 1792 128 inb_S128x2048_S128x128_0_1792)) S (chan m c t 512 64 inb_S128x2048_S128x64_0_512)) (k0_pay84 (k0_pay74 (k0_pay71 (chan m c t 1792 128 inb_S128x2048_S128x128_0_1792)) S) (k0_pay80 (colsOf m c t)) (k0_pay82 (rowsOf m c t) (colsOf m c t) k0_pay15 (k0_pay72 (chan m c t 1280 128 inb_S128x2048_S128x128_0_1280) (chan m c t 1792 128 inb_S128x2048_S128x128_0_1792))) (k0_pay83 (stepsOf m c t) (chan m c t 576 64 inb_S128x2048_S128x64_0_576)) (constant S128x64 .f32 0#32)) (k0_pay89 (rowsOf m c t) (stepsOf m c t) (colsOf m c t) k0_pay15 (k0_pay72 (chan m c t 1280 128 inb_S128x2048_S128x128_0_1280) (chan m c t 1792 128 inb_S128x2048_S128x128_0_1792)) (k0_pay74 (k0_pay71 (chan m c t 1792 128 inb_S128x2048_S128x128_0_1792)) S) (chan m c t 640 64 inb_S128x2048_S128x64_0_640)) (k0_pay92 (colsOf m c t)) (k0_pay93 (rowsOf m c t) (colsOf m c t) k0_pay15) (chan m c t 704 64 inb_S128x2048_S128x64_0_704) (View.ld (iblk m c 9 t : Vec Ideal S1x128x1024 .f32) (Rect.unit ![0, 0, 512] ![1, 128, 256] inb_S1x128x1024_S1x128x256_0_0_512)) (chan m c t 512 256 inb_S128x2048_S128x256_0_512) (View.ld (iblk m c 10 t : Vec Ideal S1x1024 .f32) (Rect.unit ![0, 512] ![1, 256] inb_S1x1024_S1x256_0_512))) (ix3 0 l q)
      = outOf (argsOf m c) (bat t) (t.val % 66) l (col 2 q) := by
  refine (out_group2 (rowsOf m c t) (stepsOf m c t) (colsOf m c t) (endsOf m c t) _ _ S _ _ _ _ _ _ _ (fun l j => act (argsOf m c) (bat t) (row (t.val % 66) l) j)
    (fun l p => chan_at m c t 1280 128 inb_S128x2048_S128x128_0_1280 (by decide) l p _ rfl) (fun l p => chan_at m c t 1792 128 inb_S128x2048_S128x128_0_1792 (by decide) l p _ rfl) (fun l p => chan_at m c t 512 64 inb_S128x2048_S128x64_0_512 (by decide) l p _ rfl) (fun l p => chan_at m c t 576 64 inb_S128x2048_S128x64_0_576 (by decide) l p _ rfl) (fun l p => chan_at m c t 640 64 inb_S128x2048_S128x64_0_640 (by decide) l p _ rfl) (fun l p => chan_at m c t 704 64 inb_S128x2048_S128x64_0_704 (by decide) l p _ rfl) (fun l p => chan_at m c t 512 256 inb_S128x2048_S128x256_0_512 (by decide) l p _ rfl) l q).trans ?_
  exact out_glue (argsOf m c) (bat t) (t.val % 66) 2 l q (rowsOf m c t) (stepsOf m c t) (colsOf m c t) (fun n => S (ix3 0 n q)) _ _ (rowsOf_at m c t) (stepsOf_at m c t) (colsOf_at m c t)
    (fun n => hS n q) (offRead m c t 512 inb_S1x128x1024_S1x128x256_0_0_512 (by decide) l q) (skipRead m c t 512 inb_S1x1024_S1x256_0_512 (by decide) q)

/-- The state of group 3 after a chunk. -/
theorem step_state3 (c : Dev nD) (t : Fin cfg0.N) (S : Vec Ideal S1x128x256 .f32)
    (hS : ∀ n q, S (ix3 0 n q) = stateOf (argsOf m c) (bat t) (col 3 q) n (t.val % 66)) (n : Fin 128) (q : Fin 256) :
    k0_pay120 (stepsOf m c t) (colsOf m c t) (endsOf m c t) (k0_pay98 (chan m c t 1408 128 inb_S128x2048_S128x128_0_1408)) (k0_pay101 S) (k0_pay106 (stepsOf m c t) (colsOf m c t) (endsOf m c t) (chan m c t 768 64 inb_S128x2048_S128x64_0_768)) (k0_pay107 (endsOf m c t)) (k0_pay112 (stepsOf m c t) (endsOf m c t) (k0_pay108 (colsOf m c t)) (chan m c t 832 64 inb_S128x2048_S128x64_0_832)) (k0_pay113 (endsOf m c t)) (k0_pay114 (colsOf m c t)) (k0_pay115 (stepsOf m c t) (chan m c t 896 64 inb_S128x2048_S128x64_0_896)) (k0_pay117 (endsOf m c t)) (chan m c t 960 64 inb_S128x2048_S128x64_0_960) (ix3 0 n q)
      = stateOf (argsOf m c) (bat t) (col 3 q) n (t.val % 66 + 1) := by
  refine (state_group3 (stepsOf m c t) (colsOf m c t) (endsOf m c t) _ (chan m c t 1920 128 inb_S128x2048_S128x128_0_1920) S _ _ _ _ (fun l j => act (argsOf m c) (bat t) (row (t.val % 66) l) j)
    (fun l p => chan_at m c t 1408 128 inb_S128x2048_S128x128_0_1408 (by decide) l p _ rfl) (fun l p => chan_at m c t 1920 128 inb_S128x2048_S128x128_0_1920 (by decide) l p _ rfl) (fun l p => chan_at m c t 768 64 inb_S128x2048_S128x64_0_768 (by decide) l p _ rfl) (fun l p => chan_at m c t 832 64 inb_S128x2048_S128x64_0_832 (by decide) l p _ rfl) (fun l p => chan_at m c t 896 64 inb_S128x2048_S128x64_0_896 (by decide) l p _ rfl) (fun l p => chan_at m c t 960 64 inb_S128x2048_S128x64_0_960 (by decide) l p _ rfl) n q).trans ?_
  exact state_glue (argsOf m c) (bat t) (t.val % 66) 3 n q (stepsOf m c t) (colsOf m c t) (endsOf m c t) _ (stepsOf_at m c t) (colsOf_at m c t) (endsOf_at m c t) (hS n q)

/-- The result of group 3 in a chunk. -/
theorem step_out3 (c : Dev nD) (t : Fin cfg0.N) (S : Vec Ideal S1x128x256 .f32)
    (hS : ∀ n q, S (ix3 0 n q) = stateOf (argsOf m c) (bat t) (col 3 q) n (t.val % 66)) (l : Fin 128) (q : Fin 256) :
    k0_pay1 (k0_pay121 (rowsOf m c t) (stepsOf m c t) (colsOf m c t) k0_pay15 (k0_pay100 (chan m c t 1408 128 inb_S128x2048_S128x128_0_1408) (chan m c t 1920 128 inb_S128x2048_S128x128_0_1920)) (k0_pay102 (chan m c t 1920 128 inb_S128x2048_S128x128_0_1920) S) (k0_pay105 (rowsOf m c t) (stepsOf m c t) (colsOf m c t) k0_pay15 (chan m c t 1408 128 inb_S128x2048_S128x128_0_1408) (chan m c t 1920 128 inb_S128x2048_S128x128_0_1920) S (chan m c t 768 64 inb_S128x2048_S128x64_0_768)) (k0_pay111 (stepsOf m c t) k0_pay15 (k0_pay100 (chan m c t 1408 128 inb_S128x2048_S128x128_0_1408) (chan m c t 1920 128 inb_S128x2048_S128x128_0_1920)) (k0_pay102 (chan m c t 1920 128 inb_S128x2048_S128x128_0_1920) S) (k0_pay108 (colsOf m c t)) (k0_pay109 (rowsOf m c t)) (chan m c t 832 64 inb_S128x2048_S128x64_0_832)) (k0_pay116 (rowsOf m c t) (stepsOf m c t) (colsOf m c t) k0_pay15 (k0_pay100 (chan m c t 1408 128 inb_S128x2048_S128x128_0_1408) (chan m c t 1920 128 inb_S128x2048_S128x128_0_1920)) (k0_pay102 (chan m c t 1920 128 inb_S128x2048_S128x128_0_1920) S) (chan m c t 896 64 inb_S128x2048_S128x64_0_896)) (chan m c t 960 64 inb_S128x2048_S128x64_0_960)) (View.ld (iblk m c 9 t : Vec Ideal S1x128x1024 .f32) (Rect.unit ![0, 0, 768] ![1, 128, 256] inb_S1x128x1024_S1x128x256_0_0_768)) (chan m c t 768 256 inb_S128x2048_S128x256_0_768) (View.ld (iblk m c 10 t : Vec Ideal S1x1024 .f32) (Rect.unit ![0, 768] ![1, 256] inb_S1x1024_S1x256_0_768)) (ix3 0 l q)
      = outOf (argsOf m c) (bat t) (t.val % 66) l (col 3 q) := by
  refine (out_group3 (rowsOf m c t) (stepsOf m c t) (colsOf m c t) (endsOf m c t) _ _ S _ _ _ _ _ _ _ (fun l j => act (argsOf m c) (bat t) (row (t.val % 66) l) j)
    (fun l p => chan_at m c t 1408 128 inb_S128x2048_S128x128_0_1408 (by decide) l p _ rfl) (fun l p => chan_at m c t 1920 128 inb_S128x2048_S128x128_0_1920 (by decide) l p _ rfl) (fun l p => chan_at m c t 768 64 inb_S128x2048_S128x64_0_768 (by decide) l p _ rfl) (fun l p => chan_at m c t 832 64 inb_S128x2048_S128x64_0_832 (by decide) l p _ rfl) (fun l p => chan_at m c t 896 64 inb_S128x2048_S128x64_0_896 (by decide) l p _ rfl) (fun l p => chan_at m c t 960 64 inb_S128x2048_S128x64_0_960 (by decide) l p _ rfl) (fun l p => chan_at m c t 768 256 inb_S128x2048_S128x256_0_768 (by decide) l p _ rfl) l q).trans ?_
  exact out_glue (argsOf m c) (bat t) (t.val % 66) 3 l q (rowsOf m c t) (stepsOf m c t) (colsOf m c t) (fun n => S (ix3 0 n q)) _ _ (rowsOf_at m c t) (stepsOf_at m c t) (colsOf_at m c t)
    (fun n => hS n q) (offRead m c t 768 inb_S1x128x1024_S1x128x256_0_0_768 (by decide) l q) (skipRead m c t 768 inb_S1x1024_S1x256_0_768 (by decide) q)

end Cert.SsdIdeal.Proj

end
-- ==== Proof.SsdPieces.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.SsdStep

@[expose] public section

set_option maxRecDepth 16384

noncomputable section

open Idealize.ShloMosaic Idealize.ShloMosaic.TcCoe Idealize.SL.Sem
open Idealize.ShloMosaic.Pipeline (Dat)
open scoped BigOperators
open Cert.ScanSum

namespace Cert.SsdIdeal.Proj

open Cert.SsdIdeal Cert.SsdIdeal.Gen

variable (m : (ℓ : Loc nD τ sig) → Buf (Elt Ideal) ℓ)

theorem state_piece0 (w0 w1 w2 w3 : Vec Ideal S1x128x256 .f32) (L : List (View.Piece (Elt Ideal) S4x128x256 .f32)) (n : Fin 128) (q : Fin 256) :
    View.canon (Val := Elt Ideal) (s := S4x128x256) (e := .f32) (⟨Rect.unit (s := S4x128x256) ![3, 0, 0] ![1, 128, 256] inb_S4x128x256_S1x128x256_3_0_0, w3⟩ :: ⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) (ix3 (⟨0, by decide⟩ : Fin 4) n q) = w0 (ix3 0 n q) := by
  have e : (ix3 (⟨0, by decide⟩ : Fin 4) n q : S4x128x256.Idx) = (Rect.unit (s := S4x128x256) ![0, 0, 0] ![1, 128, 256] inb_S4x128x256_S1x128x256_0_0_0).emb (ix3 (0 : Fin 1) n q) := by
    funext x
    refine Fin.ext ?_
    match x with
    | 0 => show 0 = 0 + 1 * 0; omega
    | 1 => show n.val = 0 + 1 * n.val; omega
    | 2 => show q.val = 0 + 1 * q.val; omega
  have n3 : (ix3 (⟨0, by decide⟩ : Fin 4) n q : S4x128x256.Idx) ∉ (Rect.unit (s := S4x128x256) ![3, 0, 0] ![1, 128, 256] inb_S4x128x256_S1x128x256_3_0_0).set := fun hh => by
    have h0 : 3 ≤ 0 := ((Rect.mem_set_unit.mp hh) 0).1
    omega
  have n2 : (ix3 (⟨0, by decide⟩ : Fin 4) n q : S4x128x256.Idx) ∉ (Rect.unit (s := S4x128x256) ![2, 0, 0] ![1, 128, 256] inb_S4x128x256_S1x128x256_2_0_0).set := fun hh => by
    have h0 : 2 ≤ 0 := ((Rect.mem_set_unit.mp hh) 0).1
    omega
  have n1 : (ix3 (⟨0, by decide⟩ : Fin 4) n q : S4x128x256.Idx) ∉ (Rect.unit (s := S4x128x256) ![1, 0, 0] ![1, 128, 256] inb_S4x128x256_S1x128x256_1_0_0).set := fun hh => by
    have h0 : 1 ≤ 0 := ((Rect.mem_set_unit.mp hh) 0).1
    omega
  refine (View.canon_cons_of_not_mem (Val := Elt Ideal) (s := S4x128x256) (e := .f32) ⟨Rect.unit (s := S4x128x256) ![3, 0, 0] ![1, 128, 256] inb_S4x128x256_S1x128x256_3_0_0, w3⟩ (⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) n3).trans ?_
  refine (View.canon_cons_of_not_mem (Val := Elt Ideal) (s := S4x128x256) (e := .f32) ⟨Rect.unit (s := S4x128x256) ![2, 0, 0] ![1, 128, 256] inb_S4x128x256_S1x128x256_2_0_0, w2⟩ (⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) n2).trans ?_
  refine (View.canon_cons_of_not_mem (Val := Elt Ideal) (s := S4x128x256) (e := .f32) ⟨Rect.unit (s := S4x128x256) ![1, 0, 0] ![1, 128, 256] inb_S4x128x256_S1x128x256_1_0_0, w1⟩ (⟨Rect.unit (s := S4x128x256) ![0, 0, 0] ![1, 128, 256] inb_S4x128x256_S1x128x256_0_0_0, w0⟩ :: L) n1).trans ?_
  rw [e]
  exact View.canon_cons_emb (Val := Elt Ideal) (s := S4x128x256) (e := .f32) (Rect.unit (s := S4x128x256) ![0, 0, 0] ![1, 128, 256] inb_S4x128x256_S1x128x256_0_0_0) w0 (L) (ix3 (0 : Fin 1) n q)

theorem state_piece1 (w0 w1 w2 w3 : Vec Ideal S1x128x256 .f32) (L : List (View.Piece (Elt Ideal) S4x128x256 .f32)) (n : Fin 128) (q : Fin 256) :
    View.canon (Val := Elt Ideal) (s := S4x128x256) (e := .f32) (⟨Rect.unit (s := S4x128x256) ![3, 0, 0] ![1, 128, 256] inb_S4x128x256_S1x128x256_3_0_0, w3⟩ :: ⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) (ix3 (⟨1, by decide⟩ : Fin 4) n q) = w1 (ix3 0 n q) := by
  have e : (ix3 (⟨1, by decide⟩ : Fin 4) n q : S4x128x256.Idx) = (Rect.unit (s := S4x128x256) ![1, 0, 0] ![1, 128, 256] inb_S4x128x256_S1x128x256_1_0_0).emb (ix3 (0 : Fin 1) n q) := by
    funext x
    refine Fin.ext ?_
    match x with
    | 0 => show 1 = 1 + 1 * 0; omega
    | 1 => show n.val = 0 + 1 * n.val; omega
    | 2 => show q.val = 0 + 1 * q.val; omega
  have n3 : (ix3 (⟨1, by decide⟩ : Fin 4) n q : S4x128x256.Idx) ∉ (Rect.unit (s := S4x128x256) ![3, 0, 0] ![1, 128, 256] inb_S4x128x256_S1x128x256_3_0_0).set := fun hh => by
    have h0 : 3 ≤ 1 := ((Rect.mem_set_unit.mp hh) 0).1
    omega
  have n2 : (ix3 (⟨1, by decide⟩ : Fin 4) n q : S4x128x256.Idx) ∉ (Rect.unit (s := S4x128x256) ![2, 0, 0] ![1, 128, 256] inb_S4x128x256_S1x128x256_2_0_0).set := fun hh => by
    have h0 : 2 ≤ 1 := ((Rect.mem_set_unit.mp hh) 0).1
    omega
  refine (View.canon_cons_of_not_mem (Val := Elt Ideal) (s := S4x128x256) (e := .f32) ⟨Rect.unit (s := S4x128x256) ![3, 0, 0] ![1, 128, 256] inb_S4x128x256_S1x128x256_3_0_0, w3⟩ (⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) n3).trans ?_
  refine (View.canon_cons_of_not_mem (Val := Elt Ideal) (s := S4x128x256) (e := .f32) ⟨Rect.unit (s := S4x128x256) ![2, 0, 0] ![1, 128, 256] inb_S4x128x256_S1x128x256_2_0_0, w2⟩ (⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) n2).trans ?_
  rw [e]
  exact View.canon_cons_emb (Val := Elt Ideal) (s := S4x128x256) (e := .f32) (Rect.unit (s := S4x128x256) ![1, 0, 0] ![1, 128, 256] inb_S4x128x256_S1x128x256_1_0_0) w1 (⟨Rect.unit (s := S4x128x256) ![0, 0, 0] ![1, 128, 256] inb_S4x128x256_S1x128x256_0_0_0, w0⟩ :: L) (ix3 (0 : Fin 1) n q)

theorem state_piece2 (w0 w1 w2 w3 : Vec Ideal S1x128x256 .f32) (L : List (View.Piece (Elt Ideal) S4x128x256 .f32)) (n : Fin 128) (q : Fin 256) :
    View.canon (Val := Elt Ideal) (s := S4x128x256) (e := .f32) (⟨Rect.unit (s := S4x128x256) ![3, 0, 0] ![1, 128, 256] inb_S4x128x256_S1x128x256_3_0_0, w3⟩ :: ⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) (ix3 (⟨2, by decide⟩ : Fin 4) n q) = w2 (ix3 0 n q) := by
  have e : (ix3 (⟨2, by decide⟩ : Fin 4) n q : S4x128x256.Idx) = (Rect.unit (s := S4x128x256) ![2, 0, 0] ![1, 128, 256] inb_S4x128x256_S1x128x256_2_0_0).emb (ix3 (0 : Fin 1) n q) := by
    funext x
    refine Fin.ext ?_
    match x with
    | 0 => show 2 = 2 + 1 * 0; omega
    | 1 => show n.val = 0 + 1 * n.val; omega
    | 2 => show q.val = 0 + 1 * q.val; omega
  have n3 : (ix3 (⟨2, by decide⟩ : Fin 4) n q : S4x128x256.Idx) ∉ (Rect.unit (s := S4x128x256) ![3, 0, 0] ![1, 128, 256] inb_S4x128x256_S1x128x256_3_0_0).set := fun hh => by
    have h0 : 3 ≤ 2 := ((Rect.mem_set_unit.mp hh) 0).1
    omega
  refine (View.canon_cons_of_not_mem (Val := Elt Ideal) (s := S4x128x256) (e := .f32) ⟨Rect.unit (s := S4x128x256) ![3, 0, 0] ![1, 128, 256] inb_S4x128x256_S1x128x256_3_0_0, w3⟩ (⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) n3).trans ?_
  rw [e]
  exact View.canon_cons_emb (Val := Elt Ideal) (s := S4x128x256) (e := .f32) (Rect.unit (s := S4x128x256) ![2, 0, 0] ![1, 128, 256] inb_S4x128x256_S1x128x256_2_0_0) w2 (⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) (ix3 (0 : Fin 1) n q)

theorem state_piece3 (w0 w1 w2 w3 : Vec Ideal S1x128x256 .f32) (L : List (View.Piece (Elt Ideal) S4x128x256 .f32)) (n : Fin 128) (q : Fin 256) :
    View.canon (Val := Elt Ideal) (s := S4x128x256) (e := .f32) (⟨Rect.unit (s := S4x128x256) ![3, 0, 0] ![1, 128, 256] inb_S4x128x256_S1x128x256_3_0_0, w3⟩ :: ⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) (ix3 (⟨3, by decide⟩ : Fin 4) n q) = w3 (ix3 0 n q) := by
  have e : (ix3 (⟨3, by decide⟩ : Fin 4) n q : S4x128x256.Idx) = (Rect.unit (s := S4x128x256) ![3, 0, 0] ![1, 128, 256] inb_S4x128x256_S1x128x256_3_0_0).emb (ix3 (0 : Fin 1) n q) := by
    funext x
    refine Fin.ext ?_
    match x with
    | 0 => show 3 = 3 + 1 * 0; omega
    | 1 => show n.val = 0 + 1 * n.val; omega
    | 2 => show q.val = 0 + 1 * q.val; omega
  rw [e]
  exact View.canon_cons_emb (Val := Elt Ideal) (s := S4x128x256) (e := .f32) (Rect.unit (s := S4x128x256) ![3, 0, 0] ![1, 128, 256] inb_S4x128x256_S1x128x256_3_0_0) w3 (⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: L) (ix3 (0 : Fin 1) n q)

theorem out_piece0 (w0 w1 w2 w3 : Vec Ideal S1x128x256 .f32) (L : List (View.Piece (Elt Ideal) S1x128x1024 .f32)) (n : Fin 128) (q : Fin 256) :
    View.canon (Val := Elt Ideal) (s := S1x128x1024) (e := .f32) (⟨Rect.unit (s := S1x128x1024) ![0, 0, 768] ![1, 128, 256] inb_S1x128x1024_S1x128x256_0_0_768, w3⟩ :: ⟨Rect.unit (s := S1x128x1024) ![0, 0, 512] ![1, 128, 256] inb_S1x128x1024_S1x128x256_0_0_512, w2⟩ :: ⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) (ix3 (0 : Fin 1) n (col 0 q)) = w0 (ix3 0 n q) := by
  have e : (ix3 (0 : Fin 1) n (col 0 q) : S1x128x1024.Idx) = (Rect.unit (s := S1x128x1024) ![0, 0, 0] ![1, 128, 256] inb_S1x128x1024_S1x128x256_0_0_0).emb (ix3 (0 : Fin 1) n q) := by
    funext x
    refine Fin.ext ?_
    match x with
    | 0 => show 0 = 0 + 1 * 0; omega
    | 1 => show n.val = 0 + 1 * n.val; omega
    | 2 => show 256 * 0 + q.val = 0 + 1 * q.val; omega
  have n3 : (ix3 (0 : Fin 1) n (col 0 q) : S1x128x1024.Idx) ∉ (Rect.unit (s := S1x128x1024) ![0, 0, 768] ![1, 128, 256] inb_S1x128x1024_S1x128x256_0_0_768).set := fun hh => by
    have h0 : 768 ≤ 256 * 0 + q.val := ((Rect.mem_set_unit.mp hh) 2).1
    have := q.isLt
    clear hh
    omega
  have n2 : (ix3 (0 : Fin 1) n (col 0 q) : S1x128x1024.Idx) ∉ (Rect.unit (s := S1x128x1024) ![0, 0, 512] ![1, 128, 256] inb_S1x128x1024_S1x128x256_0_0_512).set := fun hh => by
    have h0 : 512 ≤ 256 * 0 + q.val := ((Rect.mem_set_unit.mp hh) 2).1
    have := q.isLt
    clear hh
    omega
  have n1 : (ix3 (0 : Fin 1) n (col 0 q) : S1x128x1024.Idx) ∉ (Rect.unit (s := S1x128x1024) ![0, 0, 256] ![1, 128, 256] inb_S1x128x1024_S1x128x256_0_0_256).set := fun hh => by
    have h0 : 256 ≤ 256 * 0 + q.val := ((Rect.mem_set_unit.mp hh) 2).1
    have := q.isLt
    clear hh
    omega
  refine (View.canon_cons_of_not_mem (Val := Elt Ideal) (s := S1x128x1024) (e := .f32) ⟨Rect.unit (s := S1x128x1024) ![0, 0, 768] ![1, 128, 256] inb_S1x128x1024_S1x128x256_0_0_768, w3⟩ (⟨Rect.unit (s := S1x128x1024) ![0, 0, 512] ![1, 128, 256] inb_S1x128x1024_S1x128x256_0_0_512, w2⟩ :: ⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) n3).trans ?_
  refine (View.canon_cons_of_not_mem (Val := Elt Ideal) (s := S1x128x1024) (e := .f32) ⟨Rect.unit (s := S1x128x1024) ![0, 0, 512] ![1, 128, 256] inb_S1x128x1024_S1x128x256_0_0_512, w2⟩ (⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) n2).trans ?_
  refine (View.canon_cons_of_not_mem (Val := Elt Ideal) (s := S1x128x1024) (e := .f32) ⟨Rect.unit (s := S1x128x1024) ![0, 0, 256] ![1, 128, 256] inb_S1x128x1024_S1x128x256_0_0_256, w1⟩ (⟨Rect.unit (s := S1x128x1024) ![0, 0, 0] ![1, 128, 256] inb_S1x128x1024_S1x128x256_0_0_0, w0⟩ :: L) n1).trans ?_
  rw [e]
  exact View.canon_cons_emb (Val := Elt Ideal) (s := S1x128x1024) (e := .f32) (Rect.unit (s := S1x128x1024) ![0, 0, 0] ![1, 128, 256] inb_S1x128x1024_S1x128x256_0_0_0) w0 (L) (ix3 (0 : Fin 1) n q)

theorem out_piece1 (w0 w1 w2 w3 : Vec Ideal S1x128x256 .f32) (L : List (View.Piece (Elt Ideal) S1x128x1024 .f32)) (n : Fin 128) (q : Fin 256) :
    View.canon (Val := Elt Ideal) (s := S1x128x1024) (e := .f32) (⟨Rect.unit (s := S1x128x1024) ![0, 0, 768] ![1, 128, 256] inb_S1x128x1024_S1x128x256_0_0_768, w3⟩ :: ⟨Rect.unit (s := S1x128x1024) ![0, 0, 512] ![1, 128, 256] inb_S1x128x1024_S1x128x256_0_0_512, w2⟩ :: ⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) (ix3 (0 : Fin 1) n (col 1 q)) = w1 (ix3 0 n q) := by
  have e : (ix3 (0 : Fin 1) n (col 1 q) : S1x128x1024.Idx) = (Rect.unit (s := S1x128x1024) ![0, 0, 256] ![1, 128, 256] inb_S1x128x1024_S1x128x256_0_0_256).emb (ix3 (0 : Fin 1) n q) := by
    funext x
    refine Fin.ext ?_
    match x with
    | 0 => show 0 = 0 + 1 * 0; omega
    | 1 => show n.val = 0 + 1 * n.val; omega
    | 2 => show 256 * 1 + q.val = 256 + 1 * q.val; omega
  have n3 : (ix3 (0 : Fin 1) n (col 1 q) : S1x128x1024.Idx) ∉ (Rect.unit (s := S1x128x1024) ![0, 0, 768] ![1, 128, 256] inb_S1x128x1024_S1x128x256_0_0_768).set := fun hh => by
    have h0 : 768 ≤ 256 * 1 + q.val := ((Rect.mem_set_unit.mp hh) 2).1
    have := q.isLt
    clear hh
    omega
  have n2 : (ix3 (0 : Fin 1) n (col 1 q) : S1x128x1024.Idx) ∉ (Rect.unit (s := S1x128x1024) ![0, 0, 512] ![1, 128, 256] inb_S1x128x1024_S1x128x256_0_0_512).set := fun hh => by
    have h0 : 512 ≤ 256 * 1 + q.val := ((Rect.mem_set_unit.mp hh) 2).1
    have := q.isLt
    clear hh
    omega
  refine (View.canon_cons_of_not_mem (Val := Elt Ideal) (s := S1x128x1024) (e := .f32) ⟨Rect.unit (s := S1x128x1024) ![0, 0, 768] ![1, 128, 256] inb_S1x128x1024_S1x128x256_0_0_768, w3⟩ (⟨Rect.unit (s := S1x128x1024) ![0, 0, 512] ![1, 128, 256] inb_S1x128x1024_S1x128x256_0_0_512, w2⟩ :: ⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) n3).trans ?_
  refine (View.canon_cons_of_not_mem (Val := Elt Ideal) (s := S1x128x1024) (e := .f32) ⟨Rect.unit (s := S1x128x1024) ![0, 0, 512] ![1, 128, 256] inb_S1x128x1024_S1x128x256_0_0_512, w2⟩ (⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) n2).trans ?_
  rw [e]
  exact View.canon_cons_emb (Val := Elt Ideal) (s := S1x128x1024) (e := .f32) (Rect.unit (s := S1x128x1024) ![0, 0, 256] ![1, 128, 256] inb_S1x128x1024_S1x128x256_0_0_256) w1 (⟨Rect.unit (s := S1x128x1024) ![0, 0, 0] ![1, 128, 256] inb_S1x128x1024_S1x128x256_0_0_0, w0⟩ :: L) (ix3 (0 : Fin 1) n q)

theorem out_piece2 (w0 w1 w2 w3 : Vec Ideal S1x128x256 .f32) (L : List (View.Piece (Elt Ideal) S1x128x1024 .f32)) (n : Fin 128) (q : Fin 256) :
    View.canon (Val := Elt Ideal) (s := S1x128x1024) (e := .f32) (⟨Rect.unit (s := S1x128x1024) ![0, 0, 768] ![1, 128, 256] inb_S1x128x1024_S1x128x256_0_0_768, w3⟩ :: ⟨Rect.unit (s := S1x128x1024) ![0, 0, 512] ![1, 128, 256] inb_S1x128x1024_S1x128x256_0_0_512, w2⟩ :: ⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) (ix3 (0 : Fin 1) n (col 2 q)) = w2 (ix3 0 n q) := by
  have e : (ix3 (0 : Fin 1) n (col 2 q) : S1x128x1024.Idx) = (Rect.unit (s := S1x128x1024) ![0, 0, 512] ![1, 128, 256] inb_S1x128x1024_S1x128x256_0_0_512).emb (ix3 (0 : Fin 1) n q) := by
    funext x
    refine Fin.ext ?_
    match x with
    | 0 => show 0 = 0 + 1 * 0; omega
    | 1 => show n.val = 0 + 1 * n.val; omega
    | 2 => show 256 * 2 + q.val = 512 + 1 * q.val; omega
  have n3 : (ix3 (0 : Fin 1) n (col 2 q) : S1x128x1024.Idx) ∉ (Rect.unit (s := S1x128x1024) ![0, 0, 768] ![1, 128, 256] inb_S1x128x1024_S1x128x256_0_0_768).set := fun hh => by
    have h0 : 768 ≤ 256 * 2 + q.val := ((Rect.mem_set_unit.mp hh) 2).1
    have := q.isLt
    clear hh
    omega
  refine (View.canon_cons_of_not_mem (Val := Elt Ideal) (s := S1x128x1024) (e := .f32) ⟨Rect.unit (s := S1x128x1024) ![0, 0, 768] ![1, 128, 256] inb_S1x128x1024_S1x128x256_0_0_768, w3⟩ (⟨Rect.unit (s := S1x128x1024) ![0, 0, 512] ![1, 128, 256] inb_S1x128x1024_S1x128x256_0_0_512, w2⟩ :: ⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) n3).trans ?_
  rw [e]
  exact View.canon_cons_emb (Val := Elt Ideal) (s := S1x128x1024) (e := .f32) (Rect.unit (s := S1x128x1024) ![0, 0, 512] ![1, 128, 256] inb_S1x128x1024_S1x128x256_0_0_512) w2 (⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) (ix3 (0 : Fin 1) n q)

theorem out_piece3 (w0 w1 w2 w3 : Vec Ideal S1x128x256 .f32) (L : List (View.Piece (Elt Ideal) S1x128x1024 .f32)) (n : Fin 128) (q : Fin 256) :
    View.canon (Val := Elt Ideal) (s := S1x128x1024) (e := .f32) (⟨Rect.unit (s := S1x128x1024) ![0, 0, 768] ![1, 128, 256] inb_S1x128x1024_S1x128x256_0_0_768, w3⟩ :: ⟨Rect.unit (s := S1x128x1024) ![0, 0, 512] ![1, 128, 256] inb_S1x128x1024_S1x128x256_0_0_512, w2⟩ :: ⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) (ix3 (0 : Fin 1) n (col 3 q)) = w3 (ix3 0 n q) := by
  have e : (ix3 (0 : Fin 1) n (col 3 q) : S1x128x1024.Idx) = (Rect.unit (s := S1x128x1024) ![0, 0, 768] ![1, 128, 256] inb_S1x128x1024_S1x128x256_0_0_768).emb (ix3 (0 : Fin 1) n q) := by
    funext x
    refine Fin.ext ?_
    match x with
    | 0 => show 0 = 0 + 1 * 0; omega
    | 1 => show n.val = 0 + 1 * n.val; omega
    | 2 => show 256 * 3 + q.val = 768 + 1 * q.val; omega
  rw [e]
  exact View.canon_cons_emb (Val := Elt Ideal) (s := S1x128x1024) (e := .f32) (Rect.unit (s := S1x128x1024) ![0, 0, 768] ![1, 128, 256] inb_S1x128x1024_S1x128x256_0_0_768) w3 (⟨Rect.unit (s := S1x128x1024) ![0, 0, 512] ![1, 128, 256] inb_S1x128x1024_S1x128x256_0_0_512, w2⟩ :: ⟨Rect.unit (s := S1x128x1024) ![0, 0, 256] ![1, 128, 256] inb_S1x128x1024_S1x128x256_0_0_256, w1⟩ :: ⟨Rect.unit (s := S1x128x1024) ![0, 0, 0] ![1, 128, 256] inb_S1x128x1024_S1x128x256_0_0_0, w0⟩ :: L) (ix3 (0 : Fin 1) n q)

theorem fresh0 (n : Fin 128) (q : Fin 256) :
    (View.whole cc0_scratch0).readCov (Val := Elt Ideal) ([⟨Rect.unit (s := S4x128x256) ![0, 0, 0] ![4, 128, 256] inb_S4x128x256_S4x128x256_0_0_0, (k0_pay2 (F := Ideal) : FVec Ideal S4x128x256 .f32)⟩]) (Rect.unit (s := S4x128x256) ![0, 0, 0] ![1, 128, 256] inb_S4x128x256_S1x128x256_0_0_0).toLoadRect (ix3 0 n q) = (0 : EReal) := by
  rw [View.readCov_eq_canon']
  have e1 : (Rect.unit (s := S4x128x256) ![0, 0, 0] ![1, 128, 256] inb_S4x128x256_S1x128x256_0_0_0).toLoadRect.idx (ix3 (0 : Fin 1) n q) = (ix3 (⟨0, by decide⟩ : Fin 4) n q : S4x128x256.Idx) := by
    funext x
    refine Fin.ext ?_
    match x with
    | 0 => show 0 + 1 * 0 = 0; omega
    | 1 => show 0 + 1 * n.val = n.val; omega
    | 2 => show 0 + 1 * q.val = q.val; omega
  have e : (ix3 (⟨0, by decide⟩ : Fin 4) n q : S4x128x256.Idx) = (Rect.unit (s := S4x128x256) ![0, 0, 0] ![4, 128, 256] inb_S4x128x256_S4x128x256_0_0_0).emb (ix3 (⟨0, by decide⟩ : Fin 4) n q) := by
    funext x
    refine Fin.ext ?_
    match x with
    | 0 => show 0 = 0 + 1 * 0; omega
    | 1 => show n.val = 0 + 1 * n.val; omega
    | 2 => show q.val = 0 + 1 * q.val; omega
  refine (congrArg (View.canon (Val := Elt Ideal) (s := S4x128x256) (e := .f32) ([⟨Rect.unit (s := S4x128x256) ![0, 0, 0] ![4, 128, 256] inb_S4x128x256_S4x128x256_0_0_0, (k0_pay2 (F := Ideal) : FVec Ideal S4x128x256 .f32)⟩])) e1).trans ?_
  rw [e]
  refine (View.canon_cons_emb (Val := Elt Ideal) (s := S4x128x256) (e := .f32) (Rect.unit (s := S4x128x256) ![0, 0, 0] ![4, 128, 256] inb_S4x128x256_S4x128x256_0_0_0) (k0_pay2 (F := Ideal) : FVec Ideal S4x128x256 .f32) [] (ix3 (⟨0, by decide⟩ : Fin 4) n q)).trans ?_
  exact zero_bits

theorem fresh1 (w0 : Vec Ideal S1x128x256 .f32) (n : Fin 128) (q : Fin 256) :
    (View.whole cc0_scratch0).readCov (Val := Elt Ideal) (⟨Rect.unit (s := S4x128x256) ![0, 0, 0] ![1, 128, 256] inb_S4x128x256_S1x128x256_0_0_0, w0⟩ :: [⟨Rect.unit (s := S4x128x256) ![0, 0, 0] ![4, 128, 256] inb_S4x128x256_S4x128x256_0_0_0, (k0_pay2 (F := Ideal) : FVec Ideal S4x128x256 .f32)⟩]) (Rect.unit (s := S4x128x256) ![1, 0, 0] ![1, 128, 256] inb_S4x128x256_S1x128x256_1_0_0).toLoadRect (ix3 0 n q) = (0 : EReal) := by
  rw [View.readCov_eq_canon']
  have e1 : (Rect.unit (s := S4x128x256) ![1, 0, 0] ![1, 128, 256] inb_S4x128x256_S1x128x256_1_0_0).toLoadRect.idx (ix3 (0 : Fin 1) n q) = (ix3 (⟨1, by decide⟩ : Fin 4) n q : S4x128x256.Idx) := by
    funext x
    refine Fin.ext ?_
    match x with
    | 0 => show 1 + 1 * 0 = 1; omega
    | 1 => show 0 + 1 * n.val = n.val; omega
    | 2 => show 0 + 1 * q.val = q.val; omega
  have e : (ix3 (⟨1, by decide⟩ : Fin 4) n q : S4x128x256.Idx) = (Rect.unit (s := S4x128x256) ![0, 0, 0] ![4, 128, 256] inb_S4x128x256_S4x128x256_0_0_0).emb (ix3 (⟨1, by decide⟩ : Fin 4) n q) := by
    funext x
    refine Fin.ext ?_
    match x with
    | 0 => show 1 = 0 + 1 * 1; omega
    | 1 => show n.val = 0 + 1 * n.val; omega
    | 2 => show q.val = 0 + 1 * q.val; omega
  have n0 : (ix3 (⟨1, by decide⟩ : Fin 4) n q : S4x128x256.Idx) ∉ (Rect.unit (s := S4x128x256) ![0, 0, 0] ![1, 128, 256] inb_S4x128x256_S1x128x256_0_0_0).set := fun hh => by
    have h0 : 1 < 0 + 1 := ((Rect.mem_set_unit.mp hh) 0).2
    omega
  refine (congrArg (View.canon (Val := Elt Ideal) (s := S4x128x256) (e := .f32) (⟨Rect.unit (s := S4x128x256) ![0, 0, 0] ![1, 128, 256] inb_S4x128x256_S1x128x256_0_0_0, w0⟩ :: [⟨Rect.unit (s := S4x128x256) ![0, 0, 0] ![4, 128, 256] inb_S4x128x256_S4x128x256_0_0_0, (k0_pay2 (F := Ideal) : FVec Ideal S4x128x256 .f32)⟩])) e1).trans ?_
  refine (View.canon_cons_of_not_mem (Val := Elt Ideal) (s := S4x128x256) (e := .f32) ⟨Rect.unit (s := S4x128x256) ![0, 0, 0] ![1, 128, 256] inb_S4x128x256_S1x128x256_0_0_0, w0⟩ ([⟨Rect.unit (s := S4x128x256) ![0, 0, 0] ![4, 128, 256] inb_S4x128x256_S4x128x256_0_0_0, (k0_pay2 (F := Ideal) : FVec Ideal S4x128x256 .f32)⟩]) n0).trans ?_
  rw [e]
  refine (View.canon_cons_emb (Val := Elt Ideal) (s := S4x128x256) (e := .f32) (Rect.unit (s := S4x128x256) ![0, 0, 0] ![4, 128, 256] inb_S4x128x256_S4x128x256_0_0_0) (k0_pay2 (F := Ideal) : FVec Ideal S4x128x256 .f32) [] (ix3 (⟨1, by decide⟩ : Fin 4) n q)).trans ?_
  exact zero_bits

theorem fresh2 (w0 w1 : Vec Ideal S1x128x256 .f32) (n : Fin 128) (q : Fin 256) :
    (View.whole cc0_scratch0).readCov (Val := Elt Ideal) (⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: [⟨Rect.unit (s := S4x128x256) ![0, 0, 0] ![4, 128, 256] inb_S4x128x256_S4x128x256_0_0_0, (k0_pay2 (F := Ideal) : FVec Ideal S4x128x256 .f32)⟩]) (Rect.unit (s := S4x128x256) ![2, 0, 0] ![1, 128, 256] inb_S4x128x256_S1x128x256_2_0_0).toLoadRect (ix3 0 n q) = (0 : EReal) := by
  rw [View.readCov_eq_canon']
  have e1 : (Rect.unit (s := S4x128x256) ![2, 0, 0] ![1, 128, 256] inb_S4x128x256_S1x128x256_2_0_0).toLoadRect.idx (ix3 (0 : Fin 1) n q) = (ix3 (⟨2, by decide⟩ : Fin 4) n q : S4x128x256.Idx) := by
    funext x
    refine Fin.ext ?_
    match x with
    | 0 => show 2 + 1 * 0 = 2; omega
    | 1 => show 0 + 1 * n.val = n.val; omega
    | 2 => show 0 + 1 * q.val = q.val; omega
  have e : (ix3 (⟨2, by decide⟩ : Fin 4) n q : S4x128x256.Idx) = (Rect.unit (s := S4x128x256) ![0, 0, 0] ![4, 128, 256] inb_S4x128x256_S4x128x256_0_0_0).emb (ix3 (⟨2, by decide⟩ : Fin 4) n q) := by
    funext x
    refine Fin.ext ?_
    match x with
    | 0 => show 2 = 0 + 1 * 2; omega
    | 1 => show n.val = 0 + 1 * n.val; omega
    | 2 => show q.val = 0 + 1 * q.val; omega
  have n1 : (ix3 (⟨2, by decide⟩ : Fin 4) n q : S4x128x256.Idx) ∉ (Rect.unit (s := S4x128x256) ![1, 0, 0] ![1, 128, 256] inb_S4x128x256_S1x128x256_1_0_0).set := fun hh => by
    have h0 : 2 < 1 + 1 := ((Rect.mem_set_unit.mp hh) 0).2
    omega
  have n0 : (ix3 (⟨2, by decide⟩ : Fin 4) n q : S4x128x256.Idx) ∉ (Rect.unit (s := S4x128x256) ![0, 0, 0] ![1, 128, 256] inb_S4x128x256_S1x128x256_0_0_0).set := fun hh => by
    have h0 : 2 < 0 + 1 := ((Rect.mem_set_unit.mp hh) 0).2
    omega
  refine (congrArg (View.canon (Val := Elt Ideal) (s := S4x128x256) (e := .f32) (⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: [⟨Rect.unit (s := S4x128x256) ![0, 0, 0] ![4, 128, 256] inb_S4x128x256_S4x128x256_0_0_0, (k0_pay2 (F := Ideal) : FVec Ideal S4x128x256 .f32)⟩])) e1).trans ?_
  refine (View.canon_cons_of_not_mem (Val := Elt Ideal) (s := S4x128x256) (e := .f32) ⟨Rect.unit (s := S4x128x256) ![1, 0, 0] ![1, 128, 256] inb_S4x128x256_S1x128x256_1_0_0, w1⟩ (⟨Rect.unit (s := S4x128x256) ![0, 0, 0] ![1, 128, 256] inb_S4x128x256_S1x128x256_0_0_0, w0⟩ :: [⟨Rect.unit (s := S4x128x256) ![0, 0, 0] ![4, 128, 256] inb_S4x128x256_S4x128x256_0_0_0, (k0_pay2 (F := Ideal) : FVec Ideal S4x128x256 .f32)⟩]) n1).trans ?_
  refine (View.canon_cons_of_not_mem (Val := Elt Ideal) (s := S4x128x256) (e := .f32) ⟨Rect.unit (s := S4x128x256) ![0, 0, 0] ![1, 128, 256] inb_S4x128x256_S1x128x256_0_0_0, w0⟩ ([⟨Rect.unit (s := S4x128x256) ![0, 0, 0] ![4, 128, 256] inb_S4x128x256_S4x128x256_0_0_0, (k0_pay2 (F := Ideal) : FVec Ideal S4x128x256 .f32)⟩]) n0).trans ?_
  rw [e]
  refine (View.canon_cons_emb (Val := Elt Ideal) (s := S4x128x256) (e := .f32) (Rect.unit (s := S4x128x256) ![0, 0, 0] ![4, 128, 256] inb_S4x128x256_S4x128x256_0_0_0) (k0_pay2 (F := Ideal) : FVec Ideal S4x128x256 .f32) [] (ix3 (⟨2, by decide⟩ : Fin 4) n q)).trans ?_
  exact zero_bits

theorem fresh3 (w0 w1 w2 : Vec Ideal S1x128x256 .f32) (n : Fin 128) (q : Fin 256) :
    (View.whole cc0_scratch0).readCov (Val := Elt Ideal) (⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: [⟨Rect.unit (s := S4x128x256) ![0, 0, 0] ![4, 128, 256] inb_S4x128x256_S4x128x256_0_0_0, (k0_pay2 (F := Ideal) : FVec Ideal S4x128x256 .f32)⟩]) (Rect.unit (s := S4x128x256) ![3, 0, 0] ![1, 128, 256] inb_S4x128x256_S1x128x256_3_0_0).toLoadRect (ix3 0 n q) = (0 : EReal) := by
  rw [View.readCov_eq_canon']
  have e1 : (Rect.unit (s := S4x128x256) ![3, 0, 0] ![1, 128, 256] inb_S4x128x256_S1x128x256_3_0_0).toLoadRect.idx (ix3 (0 : Fin 1) n q) = (ix3 (⟨3, by decide⟩ : Fin 4) n q : S4x128x256.Idx) := by
    funext x
    refine Fin.ext ?_
    match x with
    | 0 => show 3 + 1 * 0 = 3; omega
    | 1 => show 0 + 1 * n.val = n.val; omega
    | 2 => show 0 + 1 * q.val = q.val; omega
  have e : (ix3 (⟨3, by decide⟩ : Fin 4) n q : S4x128x256.Idx) = (Rect.unit (s := S4x128x256) ![0, 0, 0] ![4, 128, 256] inb_S4x128x256_S4x128x256_0_0_0).emb (ix3 (⟨3, by decide⟩ : Fin 4) n q) := by
    funext x
    refine Fin.ext ?_
    match x with
    | 0 => show 3 = 0 + 1 * 3; omega
    | 1 => show n.val = 0 + 1 * n.val; omega
    | 2 => show q.val = 0 + 1 * q.val; omega
  have n2 : (ix3 (⟨3, by decide⟩ : Fin 4) n q : S4x128x256.Idx) ∉ (Rect.unit (s := S4x128x256) ![2, 0, 0] ![1, 128, 256] inb_S4x128x256_S1x128x256_2_0_0).set := fun hh => by
    have h0 : 3 < 2 + 1 := ((Rect.mem_set_unit.mp hh) 0).2
    omega
  have n1 : (ix3 (⟨3, by decide⟩ : Fin 4) n q : S4x128x256.Idx) ∉ (Rect.unit (s := S4x128x256) ![1, 0, 0] ![1, 128, 256] inb_S4x128x256_S1x128x256_1_0_0).set := fun hh => by
    have h0 : 3 < 1 + 1 := ((Rect.mem_set_unit.mp hh) 0).2
    omega
  have n0 : (ix3 (⟨3, by decide⟩ : Fin 4) n q : S4x128x256.Idx) ∉ (Rect.unit (s := S4x128x256) ![0, 0, 0] ![1, 128, 256] inb_S4x128x256_S1x128x256_0_0_0).set := fun hh => by
    have h0 : 3 < 0 + 1 := ((Rect.mem_set_unit.mp hh) 0).2
    omega
  refine (congrArg (View.canon (Val := Elt Ideal) (s := S4x128x256) (e := .f32) (⟨Rect.unit (s := S4x128x256) ![2, 0, 0] ![1, 128, 256] inb_S4x128x256_S1x128x256_2_0_0, w2⟩ :: ⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: [⟨Rect.unit (s := S4x128x256) ![0, 0, 0] ![4, 128, 256] inb_S4x128x256_S4x128x256_0_0_0, (k0_pay2 (F := Ideal) : FVec Ideal S4x128x256 .f32)⟩])) e1).trans ?_
  refine (View.canon_cons_of_not_mem (Val := Elt Ideal) (s := S4x128x256) (e := .f32) ⟨Rect.unit (s := S4x128x256) ![2, 0, 0] ![1, 128, 256] inb_S4x128x256_S1x128x256_2_0_0, w2⟩ (⟨Rect.unit (s := S4x128x256) ![1, 0, 0] ![1, 128, 256] inb_S4x128x256_S1x128x256_1_0_0, w1⟩ :: ⟨Rect.unit (s := S4x128x256) ![0, 0, 0] ![1, 128, 256] inb_S4x128x256_S1x128x256_0_0_0, w0⟩ :: [⟨Rect.unit (s := S4x128x256) ![0, 0, 0] ![4, 128, 256] inb_S4x128x256_S4x128x256_0_0_0, (k0_pay2 (F := Ideal) : FVec Ideal S4x128x256 .f32)⟩]) n2).trans ?_
  refine (View.canon_cons_of_not_mem (Val := Elt Ideal) (s := S4x128x256) (e := .f32) ⟨Rect.unit (s := S4x128x256) ![1, 0, 0] ![1, 128, 256] inb_S4x128x256_S1x128x256_1_0_0, w1⟩ (⟨Rect.unit (s := S4x128x256) ![0, 0, 0] ![1, 128, 256] inb_S4x128x256_S1x128x256_0_0_0, w0⟩ :: [⟨Rect.unit (s := S4x128x256) ![0, 0, 0] ![4, 128, 256] inb_S4x128x256_S4x128x256_0_0_0, (k0_pay2 (F := Ideal) : FVec Ideal S4x128x256 .f32)⟩]) n1).trans ?_
  refine (View.canon_cons_of_not_mem (Val := Elt Ideal) (s := S4x128x256) (e := .f32) ⟨Rect.unit (s := S4x128x256) ![0, 0, 0] ![1, 128, 256] inb_S4x128x256_S1x128x256_0_0_0, w0⟩ ([⟨Rect.unit (s := S4x128x256) ![0, 0, 0] ![4, 128, 256] inb_S4x128x256_S4x128x256_0_0_0, (k0_pay2 (F := Ideal) : FVec Ideal S4x128x256 .f32)⟩]) n0).trans ?_
  rw [e]
  refine (View.canon_cons_emb (Val := Elt Ideal) (s := S4x128x256) (e := .f32) (Rect.unit (s := S4x128x256) ![0, 0, 0] ![4, 128, 256] inb_S4x128x256_S4x128x256_0_0_0) (k0_pay2 (F := Ideal) : FVec Ideal S4x128x256 .f32) [] (ix3 (⟨3, by decide⟩ : Fin 4) n q)).trans ?_
  exact zero_bits

theorem carried0 (h : (Memref.whole cc0_scratch0).IsWhole) (X : Vec Ideal S4x128x256 .f32) (n : Fin 128) (q : Fin 256) :
    View.ld (View.read (Elt Ideal) (View.whole cc0_scratch0) (h.unread X)) (Rect.unit (s := S4x128x256) ![0, 0, 0] ![1, 128, 256] inb_S4x128x256_S1x128x256_0_0_0) (ix3 0 n q) = X (ix3 (⟨0, by decide⟩ : Fin 4) n q) := by
  rw [read_unread_whole]
  refine congrArg X ?_
  funext x
  refine Fin.ext ?_
  match x with
  | 0 => show 0 + 1 * 0 = 0; omega
  | 1 => show 0 + 1 * n.val = n.val; omega
  | 2 => show 0 + 1 * q.val = q.val; omega

theorem carried1 (h : (Memref.whole cc0_scratch0).IsWhole) (X : Vec Ideal S4x128x256 .f32) (n : Fin 128) (q : Fin 256) :
    View.ld (View.read (Elt Ideal) (View.whole cc0_scratch0) (h.unread X)) (Rect.unit (s := S4x128x256) ![1, 0, 0] ![1, 128, 256] inb_S4x128x256_S1x128x256_1_0_0) (ix3 0 n q) = X (ix3 (⟨1, by decide⟩ : Fin 4) n q) := by
  rw [read_unread_whole]
  refine congrArg X ?_
  funext x
  refine Fin.ext ?_
  match x with
  | 0 => show 1 + 1 * 0 = 1; omega
  | 1 => show 0 + 1 * n.val = n.val; omega
  | 2 => show 0 + 1 * q.val = q.val; omega

theorem carried2 (h : (Memref.whole cc0_scratch0).IsWhole) (X : Vec Ideal S4x128x256 .f32) (n : Fin 128) (q : Fin 256) :
    View.ld (View.read (Elt Ideal) (View.whole cc0_scratch0) (h.unread X)) (Rect.unit (s := S4x128x256) ![2, 0, 0] ![1, 128, 256] inb_S4x128x256_S1x128x256_2_0_0) (ix3 0 n q) = X (ix3 (⟨2, by decide⟩ : Fin 4) n q) := by
  rw [read_unread_whole]
  refine congrArg X ?_
  funext x
  refine Fin.ext ?_
  match x with
  | 0 => show 2 + 1 * 0 = 2; omega
  | 1 => show 0 + 1 * n.val = n.val; omega
  | 2 => show 0 + 1 * q.val = q.val; omega

theorem carried3 (h : (Memref.whole cc0_scratch0).IsWhole) (X : Vec Ideal S4x128x256 .f32) (n : Fin 128) (q : Fin 256) :
    View.ld (View.read (Elt Ideal) (View.whole cc0_scratch0) (h.unread X)) (Rect.unit (s := S4x128x256) ![3, 0, 0] ![1, 128, 256] inb_S4x128x256_S1x128x256_3_0_0) (ix3 0 n q) = X (ix3 (⟨3, by decide⟩ : Fin 4) n q) := by
  rw [read_unread_whole]
  refine congrArg X ?_
  funext x
  refine Fin.ext ?_
  match x with
  | 0 => show 3 + 1 * 0 = 3; omega
  | 1 => show 0 + 1 * n.val = n.val; omega
  | 2 => show 0 + 1 * q.val = q.val; omega

end Cert.SsdIdeal.Proj

end
-- ==== Proof.SsdFrames.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.SsdPieces

@[expose] public section

set_option maxRecDepth 16384

noncomputable section

open Idealize.ShloMosaic Idealize.ShloMosaic.TcCoe Idealize.SL.Sem
open Idealize.ShloMosaic.Pipeline (Dat)
open scoped BigOperators
open Cert.ScanSum

namespace Cert.SsdIdeal.Proj

open Cert.SsdIdeal Cert.SsdIdeal.Gen

variable (m : (ℓ : Loc nD τ sig) → Buf (Elt Ideal) ℓ)

/-- In the first chunk of a batch row the state starts from zero. -/
theorem first_state (c : Dev nD) (t : Fin cfg0.N) (h0 : t.val % 66 = 0) (g : Fin 4) (n : Fin 128) (q : Fin 256) :
    (outsAt0 m c t.val t.isLt).2 (ix3 g n q) = stateOf (argsOf m c) (bat t) (col g q) n (t.val % 66 + 1) := by
  rw [outsAt0_A m c t h0]
  frame_out
  rcases g with ⟨_ | _ | _ | _ | g, hg⟩
  · refine (state_piece0 _ _ _ _ _ n q).trans ?_
    refine step_state0 m c t _ ?_ n q
    intro n q
    exact (fresh0  n q).trans (by rw [h0]; rfl)
  · refine (state_piece1 _ _ _ _ _ n q).trans ?_
    refine step_state1 m c t _ ?_ n q
    intro n q
    exact (fresh1 _ n q).trans (by rw [h0]; rfl)
  · refine (state_piece2 _ _ _ _ _ n q).trans ?_
    refine step_state2 m c t _ ?_ n q
    intro n q
    exact (fresh2 _ _ n q).trans (by rw [h0]; rfl)
  · refine (state_piece3 _ _ _ _ _ n q).trans ?_
    refine step_state3 m c t _ ?_ n q
    intro n q
    exact (fresh3 _ _ _ n q).trans (by rw [h0]; rfl)
  · omega

/-- In the first chunk of a batch row the state starts from zero, and the result reads it. -/
theorem first_out (c : Dev nD) (t : Fin cfg0.N) (h0 : t.val % 66 = 0) (g : Fin 4) (n : Fin 128) (q : Fin 256) :
    (outsAt0 m c t.val t.isLt).1 (ix3 0 n (col g q)) = outOf (argsOf m c) (bat t) (t.val % 66) n (col g q) := by
  rw [outsAt0_A m c t h0]
  frame_out
  rcases g with ⟨_ | _ | _ | _ | g, hg⟩
  · refine (out_piece0 _ _ _ _ _ n q).trans ?_
    refine step_out0 m c t _ ?_ n q
    intro n q
    exact (fresh0  n q).trans (by rw [h0]; rfl)
  · refine (out_piece1 _ _ _ _ _ n q).trans ?_
    refine step_out1 m c t _ ?_ n q
    intro n q
    exact (fresh1 _ n q).trans (by rw [h0]; rfl)
  · refine (out_piece2 _ _ _ _ _ n q).trans ?_
    refine step_out2 m c t _ ?_ n q
    intro n q
    exact (fresh2 _ _ n q).trans (by rw [h0]; rfl)
  · refine (out_piece3 _ _ _ _ _ n q).trans ?_
    refine step_out3 m c t _ ?_ n q
    intro n q
    exact (fresh3 _ _ _ n q).trans (by rw [h0]; rfl)
  · omega

/-- In a later chunk the state goes on from the chunk before. -/
theorem later_state (c : Dev nD) (t : Fin cfg0.N) (h0 : ¬ t.val % 66 = 0)
    (ih : ∀ (g : Fin 4) (n : Fin 128) (q : Fin 256), (outsAt0 m c (t.val - 1) (by omega)).2 (ix3 g n q) = stateOf (argsOf m c) (bat t) (col g q) n (t.val % 66)) (g : Fin 4) (n : Fin 128) (q : Fin 256) :
    (outsAt0 m c t.val t.isLt).2 (ix3 g n q) = stateOf (argsOf m c) (bat t) (col g q) n (t.val % 66 + 1) := by
  rw [outsAt0_B m c t h0]
  frame_out
  rcases g with ⟨_ | _ | _ | _ | g, hg⟩
  · refine (state_piece0 _ _ _ _ _ n q).trans ?_
    refine step_state0 m c t _ ?_ n q
    intro n q
    exact (carried0 _ _ n q).trans (ih 0 n q)
  · refine (state_piece1 _ _ _ _ _ n q).trans ?_
    refine step_state1 m c t _ ?_ n q
    intro n q
    exact (carried1 _ _ n q).trans (ih 1 n q)
  · refine (state_piece2 _ _ _ _ _ n q).trans ?_
    refine step_state2 m c t _ ?_ n q
    intro n q
    exact (carried2 _ _ n q).trans (ih 2 n q)
  · refine (state_piece3 _ _ _ _ _ n q).trans ?_
    refine step_state3 m c t _ ?_ n q
    intro n q
    exact (carried3 _ _ n q).trans (ih 3 n q)
  · omega

/-- In a later chunk the state goes on from the chunk before, and the result reads it. -/
theorem later_out (c : Dev nD) (t : Fin cfg0.N) (h0 : ¬ t.val % 66 = 0)
    (ih : ∀ (g : Fin 4) (n : Fin 128) (q : Fin 256), (outsAt0 m c (t.val - 1) (by omega)).2 (ix3 g n q) = stateOf (argsOf m c) (bat t) (col g q) n (t.val % 66)) (g : Fin 4) (n : Fin 128) (q : Fin 256) :
    (outsAt0 m c t.val t.isLt).1 (ix3 0 n (col g q)) = outOf (argsOf m c) (bat t) (t.val % 66) n (col g q) := by
  rw [outsAt0_B m c t h0]
  frame_out
  rcases g with ⟨_ | _ | _ | _ | g, hg⟩
  · refine (out_piece0 _ _ _ _ _ n q).trans ?_
    refine step_out0 m c t _ ?_ n q
    intro n q
    exact (carried0 _ _ n q).trans (ih 0 n q)
  · refine (out_piece1 _ _ _ _ _ n q).trans ?_
    refine step_out1 m c t _ ?_ n q
    intro n q
    exact (carried1 _ _ n q).trans (ih 1 n q)
  · refine (out_piece2 _ _ _ _ _ n q).trans ?_
    refine step_out2 m c t _ ?_ n q
    intro n q
    exact (carried2 _ _ n q).trans (ih 2 n q)
  · refine (out_piece3 _ _ _ _ _ n q).trans ?_
    refine step_out3 m c t _ ?_ n q
    intro n q
    exact (carried3 _ _ n q).trans (ih 3 n q)
  · omega

end Cert.SsdIdeal.Proj

end
-- ==== Proof.SsdRef.lean ====
module

public import proofs.«01_k».proof.Proof.Gen.SsdRefIdeal.Run
public import Idealize.ShloMosaic.Lib.Pipeline.ValueKit
public import Idealize.ShloMosaic.Lib.Pointwise
public import Idealize.ShloMosaic.Lib.Claim
public import proofs.«01_k».proof.Proof.SsdSpec

@[expose] public section

set_option maxRecDepth 16384

noncomputable section

open Idealize.ShloMosaic Idealize.ShloMosaic.TcCoe Idealize.SL.Sem
open scoped BigOperators
open Cert.ScanSum

namespace Cert.SsdRefIdeal.Proj

open Cert.SsdRefIdeal Cert.SsdRefIdeal.Gen Cert.SsdRefIdeal.Value

variable (V0 : Valuation τ sig (Elt Ideal))

/-- The entries of the arguments. -/
def argsOf : Args where
  x b p j := (show FVec Ideal S2x8448x2048 .f32 from V0 (Proc.devRef .tc main_arg0)) (ix3 b p j)
  w k j := (show FVec Ideal S5x2048 .f32 from V0 (Proc.devRef .tc main_arg2)) (ix2 k j)
  cb j := (show FVec Ideal S2048 .f32 from V0 (Proc.devRef .tc main_arg3)) (ix1 j)
  ds b p h := (show FVec Ideal S2x8448x32 .f32 from V0 (Proc.devRef .tc main_arg1)) (ix3 b p ⟨h.val, by omega⟩)
  al h := (show FVec Ideal S2x16 .f32 from V0 (Proc.devRef .tc main_arg4)) (ix2 0 h)
  bs h := (show FVec Ideal S2x16 .f32 from V0 (Proc.devRef .tc main_arg5)) (ix2 0 h)
  yb b p J := (show FVec Ideal S2x8448x1024 .f32 from V0 (Proc.devRef .tc main_arg6)) (ix3 b p J)
  sk h := (show FVec Ideal S16 .f32 from V0 (Proc.devRef .tc main_arg7)) (ix1 h)

/-- The padded channels of the context. -/
theorem ctx_pad (b : Fin 2) (p : Fin 260) (j : Fin 2048) :
    (show FVec Ideal S2x260x2048 .f32 from res_main_v1 V0) (ix3 b p j)
      = if h : 2 ≤ p.val ∧ p.val - 2 < 256 then (argsOf V0).x b ⟨0 + (p.val - 2), by omega⟩ j else 0 := by
  pointwise [res_main_v1]
  rw [zero_word]
  split_ifs <;> first | rfl | (exact congrArg (fun q => (argsOf V0).x b q j) (Fin.ext (by simp only []; omega)))

theorem ctx_tap (b : Fin 2) (p : Fin 256) (j : Fin 2048) (k : ℕ) (hk : k < 5) (q : Fin 260) (hq : q.val = k + p.val) :
    (show FVec Ideal S2x260x2048 .f32 from res_main_v1 V0) (ix3 b q j) = tap (argsOf V0) b ⟨p.val, by omega⟩ k j := by
  rw [ctx_pad]
  unfold tap
  have hp := p.isLt
  by_cases h : 2 ≤ q.val ∧ q.val - 2 < 256
  · rw [dif_pos h, dif_pos (by simp only []; omega)]
    exact congrArg (fun q => (argsOf V0).x b q j) (Fin.ext (by simp only []; omega))
  · rw [dif_neg h, dif_neg (by simp only []; omega)]

theorem ctx_conv (b : Fin 2) (p : Fin 256) (j : Fin 2048) :
    (show FVec Ideal S2x256x2048 .f32 from res_main_v38 V0) (ix3 b p j) = conv (argsOf V0) b ⟨p.val, by omega⟩ j := by
  pointwise [res_main_v38]
  have e := taps_comm ((argsOf V0).cb j) (tap (argsOf V0) b ⟨p.val, by omega⟩ 0 j) (tap (argsOf V0) b ⟨p.val, by omega⟩ 1 j) (tap (argsOf V0) b ⟨p.val, by omega⟩ 2 j)
    (tap (argsOf V0) b ⟨p.val, by omega⟩ 3 j) (tap (argsOf V0) b ⟨p.val, by omega⟩ 4 j) ((argsOf V0).w 0 j) ((argsOf V0).w 1 j) ((argsOf V0).w 2 j)
    ((argsOf V0).w 3 j) ((argsOf V0).w 4 j)
  refine Eq.trans ?_ e
  rw [← ctx_tap V0 b p j 0 (by omega) ⟨p.val, by omega⟩ (by simp), ← ctx_tap V0 b p j 1 (by omega) ⟨1 + p.val, by omega⟩ rfl,
      ← ctx_tap V0 b p j 2 (by omega) ⟨2 + p.val, by omega⟩ rfl, ← ctx_tap V0 b p j 3 (by omega) ⟨3 + p.val, by omega⟩ rfl,
      ← ctx_tap V0 b p j 4 (by omega) ⟨4 + p.val, by omega⟩ rfl]
  rfl

theorem ctx_act (b : Fin 2) (p : Fin 256) (j : Fin 2048) :
    (show FVec Ideal S2x256x2048 .f32 from res_main_v39 V0) (ix3 b p j) = act (argsOf V0) b ⟨p.val, by omega⟩ j := by
  pointwise [res_main_v39]
  have e := ctx_conv V0 b p j
  simp only [] at e
  rw [e]
  rfl

theorem ctx_step (b : Fin 2) (p : Fin 256) (h : Fin 16) :
    (show FVec Ideal S2x256x16 .f32 from res_main_v99 V0) (ix3 b p h) = stepOf (argsOf V0) b ⟨p.val, by omega⟩ h := by
  have e : (show FVec Ideal S2x256x16 .f32 from res_main_v98 V0) (ix3 b p h) = (argsOf V0).ds b ⟨p.val, by omega⟩ h + (argsOf V0).bs h := by
    pointwise [res_main_v98]
    first | rfl | exact congrArg₂ (· + ·) (congrArg (fun q => (argsOf V0).ds b q h) (Fin.ext (by simp only []; omega))) rfl
  simp only [] at e
  pointwise [res_main_v99, res_main_call4_v3, res_main_call4_cst]
  rw [if_neg (fun hh => hh rfl), e]
  unfold stepOf softplus
  rw [zero_sub]
  rfl

theorem ctx_xv (b : Fin 2) (z : Fin 2) (l : Fin 128) (h : Fin 16) (p : Fin 64) :
    (show FVec Ideal S2x2x128x16x64 .f32 from res_main_v109 V0) (ix5 b z l h p)
      = act (argsOf V0) b (row (z.val + 0) l) ⟨64 * h.val + p.val, by omega⟩ * stepOf (argsOf V0) b (row (z.val + 0) l) h := by
  pointwise [res_main_v109]
  refine congrArg₂ (· * ·) ((ctx_act V0 b _ _).trans ?_) ((ctx_step V0 b _ _).trans ?_)
  · exact congrArg₂ (act (argsOf V0) b) (Fin.ext (by simp only [row]; omega)) (Fin.ext (by simp only []; omega))
  · exact congrArg (fun q => stepOf (argsOf V0) b q h) (Fin.ext (by simp only [row]; omega))

theorem ctx_inp (b : Fin 2) (z : Fin 2) (l : Fin 128) (h : Fin 16) (n : Fin 128) :
    (show FVec Ideal S2x2x128x16x128 .f32 from res_main_v110 V0) (ix5 b z l h n)
      = act (argsOf V0) b (row (z.val + 0) l) ⟨1024 + 128 * (h.val / 4) + n.val, by omega⟩ := by
  pointwise [res_main_v110]
  refine (ctx_act V0 b _ _).trans ?_
  exact congrArg₂ (act (argsOf V0) b) (Fin.ext (by simp only [row]; omega)) (Fin.ext (by simp only []; omega))

theorem ctx_outp (b : Fin 2) (z : Fin 2) (l : Fin 128) (h : Fin 16) (n : Fin 128) :
    (show FVec Ideal S2x2x128x16x128 .f32 from res_main_v111 V0) (ix5 b z l h n)
      = act (argsOf V0) b (row (z.val + 0) l) ⟨1536 + 128 * (h.val / 4) + n.val, by omega⟩ := by
  pointwise [res_main_v111]
  refine (ctx_act V0 b _ _).trans ?_
  exact congrArg₂ (act (argsOf V0) b) (Fin.ext (by simp only [row]; omega)) (Fin.ext (by simp only []; omega))

theorem ctx_rate (b : Fin 2) (h : Fin 16) (z : Fin 2) (l : Fin 128) :
    (show FVec Ideal S2x16x2x128 .f32 from res_main_v113 V0) (ix4 b h z l) = rateOf (argsOf V0) h * stepOf (argsOf V0) b (row (z.val + 0) l) h := by
  pointwise [res_main_v113]
  refine congrArg₂ (· * ·) (zero_sub _).symm ((ctx_step V0 b _ _).trans ?_)
  exact congrArg (fun q => stepOf (argsOf V0) b q h) (Fin.ext (by simp only [row]; omega))

theorem ctx_cumv114 (b : Fin 2) (h : Fin 16) (z : Fin 2) (l : Fin 128) :
    (show FVec Ideal S2x16x2x128 .f32 from res_main_v114 V0) (ix4 b h z l) = cum (argsOf V0) b (z.val + 0) h l := by
  have e0 : (broadcastInDim S_ ![] bcast_S_S_ (constant S_ .f32 0x00000000#32) : FVec Ideal S_ .f32) (Shape.Idx.first h_S_) = (0 : EReal) := zero_bits
  refine (running4 (M := 127) _ _ _ _ e0 b h z l).trans ?_
  exact Finset.sum_congr rfl fun i _ => ctx_rate V0 b h z i

theorem ctx_cumv116 (b : Fin 2) (h : Fin 16) (z : Fin 2) (l : Fin 128) :
    (show FVec Ideal S2x16x2x128 .f32 from res_main_v116 V0) (ix4 b h z l) = cum (argsOf V0) b (z.val + 0) h l := by
  have e0 : (broadcastInDim S_ ![] bcast_S_S_ (constant S_ .f32 0x00000000#32) : FVec Ideal S_ .f32) (Shape.Idx.first h_S_) = (0 : EReal) := zero_bits
  refine (running4 (M := 127) _ _ _ _ e0 b h z l).trans ?_
  exact Finset.sum_congr rfl fun i _ => ctx_rate V0 b h z i

/-- The logarithm of the decay over the context's chunks before chunk `z`. -/
theorem ctx_ends (e : ℕ → ℝ) (b : Fin 2) (h : Fin 16) (he : ∀ c : Fin 2, cum (argsOf V0) b (c.val + 0) h 127 = (e c.val : EReal)) (z : Fin 3) :
    (show FVec Ideal S2x16x3 .f32 from res_main_v143 V0) (ix3 b h z) = ((∑ i ∈ Finset.range z.val, e i : ℝ) : EReal) := by
  have e0 : (broadcastInDim S_ ![] bcast_S_S_ (constant S_ .f32 0x00000000#32) : FVec Ideal S_ .f32) (Shape.Idx.first h_S_) = (0 : EReal) := zero_bits
  refine (running3 (M := 2) _ _ _ _ e0 b h z).trans ?_
  refine (Finset.sum_congr rfl fun i _ => (?_ : _ = if hi : 1 ≤ i.val then (e (i.val - 1) : EReal) else 0)).trans ?_
  · have hl : i.val < 3 := i.isLt
    pointwise
    rw [zero_word]
    by_cases hi : 1 ≤ i.val
    · rw [dif_pos ⟨hi, by omega⟩, dif_pos hi]
      exact (ctx_cumv114 V0 b h _ _).trans (he ⟨i.val - 1, by omega⟩)
    · rw [dif_neg (fun hh => hi hh.1), dif_neg hi]
  · exact ends_sum e z

end Cert.SsdRefIdeal.Proj

end
-- ==== Proof.SsdLat.lean ====
module

public import proofs.«01_k».proof.Proof.Gen.SsdRefIdeal.Run
public import Idealize.ShloMosaic.Lib.Pipeline.ValueKit
public import Idealize.ShloMosaic.Lib.Pointwise
public import Idealize.ShloMosaic.Lib.Claim
public import proofs.«01_k».proof.Proof.SsdRef

@[expose] public section

set_option maxRecDepth 16384

noncomputable section

open Idealize.ShloMosaic Idealize.ShloMosaic.TcCoe Idealize.SL.Sem
open scoped BigOperators
open Cert.ScanSum

namespace Cert.SsdRefIdeal.Proj

open Cert.SsdRefIdeal Cert.SsdRefIdeal.Gen Cert.SsdRefIdeal.Value

variable (V0 : Valuation τ sig (Elt Ideal))

/-- The padded channels of the latents. -/
theorem lat_pad (b : Fin 2) (p : Fin 8196) (j : Fin 2048) :
    (show FVec Ideal S2x8196x2048 .f32 from res_main_v41 V0) (ix3 b p j)
      = if h : 2 ≤ p.val ∧ p.val - 2 < 8192 then (argsOf V0).x b ⟨256 + (p.val - 2), by omega⟩ j else 0 := by
  pointwise [res_main_v41]
  rw [zero_word]
  split_ifs <;> first | rfl | (exact congrArg (fun q => (argsOf V0).x b q j) (Fin.ext (by simp only []; omega)))

theorem lat_tap (b : Fin 2) (p : Fin 8192) (j : Fin 2048) (k : ℕ) (hk : k < 5) (q : Fin 8196) (hq : q.val = k + p.val) :
    (show FVec Ideal S2x8196x2048 .f32 from res_main_v41 V0) (ix3 b q j) = tap (argsOf V0) b ⟨256 + p.val, by omega⟩ k j := by
  rw [lat_pad]
  unfold tap
  have hp := p.isLt
  by_cases h : 2 ≤ q.val ∧ q.val - 2 < 8192
  · rw [dif_pos h, dif_pos (by simp only []; omega)]
    exact congrArg (fun q => (argsOf V0).x b q j) (Fin.ext (by simp only []; omega))
  · rw [dif_neg h, dif_neg (by simp only []; omega)]

theorem lat_conv (b : Fin 2) (p : Fin 8192) (j : Fin 2048) :
    (show FVec Ideal S2x8192x2048 .f32 from res_main_v78 V0) (ix3 b p j) = conv (argsOf V0) b ⟨256 + p.val, by omega⟩ j := by
  pointwise [res_main_v78]
  have e := taps_comm ((argsOf V0).cb j) (tap (argsOf V0) b ⟨256 + p.val, by omega⟩ 0 j) (tap (argsOf V0) b ⟨256 + p.val, by omega⟩ 1 j) (tap (argsOf V0) b ⟨256 + p.val, by omega⟩ 2 j)
    (tap (argsOf V0) b ⟨256 + p.val, by omega⟩ 3 j) (tap (argsOf V0) b ⟨256 + p.val, by omega⟩ 4 j) ((argsOf V0).w 0 j) ((argsOf V0).w 1 j) ((argsOf V0).w 2 j)
    ((argsOf V0).w 3 j) ((argsOf V0).w 4 j)
  refine Eq.trans ?_ e
  rw [← lat_tap V0 b p j 0 (by omega) ⟨p.val, by omega⟩ (by simp), ← lat_tap V0 b p j 1 (by omega) ⟨1 + p.val, by omega⟩ rfl,
      ← lat_tap V0 b p j 2 (by omega) ⟨2 + p.val, by omega⟩ rfl, ← lat_tap V0 b p j 3 (by omega) ⟨3 + p.val, by omega⟩ rfl,
      ← lat_tap V0 b p j 4 (by omega) ⟨4 + p.val, by omega⟩ rfl]
  rfl

theorem lat_act (b : Fin 2) (p : Fin 8192) (j : Fin 2048) :
    (show FVec Ideal S2x8192x2048 .f32 from res_main_v79 V0) (ix3 b p j) = act (argsOf V0) b ⟨256 + p.val, by omega⟩ j := by
  pointwise [res_main_v79]
  have e := lat_conv V0 b p j
  simp only [] at e
  rw [e]
  rfl

theorem lat_step (b : Fin 2) (p : Fin 8192) (h : Fin 16) :
    (show FVec Ideal S2x8192x16 .f32 from res_main_v183 V0) (ix3 b p h) = stepOf (argsOf V0) b ⟨256 + p.val, by omega⟩ h := by
  have e : (show FVec Ideal S2x8192x16 .f32 from res_main_v182 V0) (ix3 b p h) = (argsOf V0).ds b ⟨256 + p.val, by omega⟩ h + (argsOf V0).bs h := by
    pointwise [res_main_v182]
    first | rfl | exact congrArg₂ (· + ·) (congrArg (fun q => (argsOf V0).ds b q h) (Fin.ext (by simp only []; omega))) rfl
  simp only [] at e
  pointwise [res_main_v183, res_main_call13_v3, res_main_call13_cst]
  rw [if_neg (fun hh => hh rfl), e]
  unfold stepOf softplus
  rw [zero_sub]
  rfl

end Cert.SsdRefIdeal.Proj

end
-- ==== Proof.SsdLat2.lean ====
module

public import proofs.«01_k».proof.Proof.Gen.SsdRefIdeal.Run
public import Idealize.ShloMosaic.Lib.Pipeline.ValueKit
public import Idealize.ShloMosaic.Lib.Pointwise
public import Idealize.ShloMosaic.Lib.Claim
public import proofs.«01_k».proof.Proof.SsdLat

@[expose] public section

set_option maxRecDepth 16384

noncomputable section

open Idealize.ShloMosaic Idealize.ShloMosaic.TcCoe Idealize.SL.Sem
open scoped BigOperators
open Cert.ScanSum

namespace Cert.SsdRefIdeal.Proj

open Cert.SsdRefIdeal Cert.SsdRefIdeal.Gen Cert.SsdRefIdeal.Value

variable (V0 : Valuation τ sig (Elt Ideal))

theorem split_rows (u : FVec Ideal S2x8192x16x64 .f32) (b : Fin 2) (z : Fin 64) (l : Fin 128) (h : Fin 16) (p : Fin 64) :
    shapeCast S2x64x128x16x64 u shapeCasts_S2x8192x16x64_S2x64x128x16x64 (ix5 b z l h p)
      = u (ix4 b ⟨z.val * 128 + l.val, by omega⟩ h p) := by
  pointwise

theorem split_columns (u : FVec Ideal S2x8192x1024 .f32) (b : Fin 2) (q : Fin 8192) (h : Fin 16) (p : Fin 64) :
    shapeCast S2x8192x16x64 u shapeCasts_S2x8192x1024_S2x8192x16x64 (ix4 b q h p)
      = u (ix3 b q ⟨h.val * 64 + p.val, by omega⟩) := by
  pointwise

theorem spread_columns (u : FVec Ideal S2x8192x16 .f32) (b : Fin 2) (q : Fin 8192) (h : Fin 16) (p : Fin 64) :
    (broadcastInDim S2x8192x16x64 ![0, 1, 2, 3] bcast_S2x8192x16x1_S2x8192x16x64_0_1_2_3 (broadcastInDim S2x8192x16x1 ![0, 1, 2] bcast_S2x8192x16_S2x8192x16x1_0_1_2 u : FVec Ideal S2x8192x16x1 .f32) : FVec Ideal S2x8192x16x64 .f32) (ix4 b q h p)
      = u (ix3 b q h) := by
  pointwise

theorem first_columns (u : FVec Ideal S2x8192x2048 .f32) (b : Fin 2) (q : Fin 8192) (j : Fin 1024) :
    (extractStridedSlice S2x8192x1024 ![0, 0, 0] u slices_S2x8192x2048_S2x8192x1024_0_0_0 : FVec Ideal S2x8192x1024 .f32) (ix3 b q j)
      = u (ix3 b q ⟨j.val, by omega⟩) := by
  pointwise

theorem times_at (u v : FVec Ideal S2x8192x16x64 .f32) (i : S2x8192x16x64.Idx) : mulf u v i = u i * v i := rfl

/-- The latents' columns times their steps, chunk by chunk. -/
theorem lat_xv_of (u : FVec Ideal S2x8192x2048 .f32) (v : FVec Ideal S2x8192x16 .f32) (b : Fin 2) (z : Fin 64) (l : Fin 128) (h : Fin 16) (p : Fin 64) :
    shapeCast S2x64x128x16x64 (mulf (shapeCast S2x8192x16x64 (extractStridedSlice S2x8192x1024 ![0, 0, 0] u slices_S2x8192x2048_S2x8192x1024_0_0_0 : FVec Ideal S2x8192x1024 .f32) shapeCasts_S2x8192x1024_S2x8192x16x64 : FVec Ideal S2x8192x16x64 .f32) (broadcastInDim S2x8192x16x64 ![0, 1, 2, 3] bcast_S2x8192x16x1_S2x8192x16x64_0_1_2_3 (broadcastInDim S2x8192x16x1 ![0, 1, 2] bcast_S2x8192x16_S2x8192x16x1_0_1_2 v : FVec Ideal S2x8192x16x1 .f32) : FVec Ideal S2x8192x16x64 .f32) : FVec Ideal S2x8192x16x64 .f32) shapeCasts_S2x8192x16x64_S2x64x128x16x64 (ix5 b z l h p)
      = u (ix3 b ⟨z.val * 128 + l.val, by omega⟩ ⟨h.val * 64 + p.val, by omega⟩) * v (ix3 b ⟨z.val * 128 + l.val, by omega⟩ h) := by
  rw [split_rows, times_at, split_columns, spread_columns, first_columns]

theorem lat_xv (b : Fin 2) (z : Fin 64) (l : Fin 128) (h : Fin 16) (p : Fin 64) :
    (show FVec Ideal S2x64x128x16x64 .f32 from res_main_v193 V0) (ix5 b z l h p)
      = act (argsOf V0) b (row (z.val + 2) l) ⟨64 * h.val + p.val, by omega⟩ * stepOf (argsOf V0) b (row (z.val + 2) l) h := by
  have hr : row (z.val + 2) l = (⟨256 + (z.val * 128 + l.val), by omega⟩ : Fin 8448) := Fin.ext (by simp only [row]; omega)
  have hj : (⟨64 * h.val + p.val, by omega⟩ : Fin 2048) = ⟨h.val * 64 + p.val, by omega⟩ := Fin.ext (by simp only []; omega)
  rw [hr, hj, ← lat_act V0 b ⟨z.val * 128 + l.val, by omega⟩ ⟨h.val * 64 + p.val, by omega⟩, ← lat_step V0 b ⟨z.val * 128 + l.val, by omega⟩ h]
  exact lat_xv_of (res_main_v79 V0) (res_main_v183 V0) b z l h p

theorem lat_inp (b : Fin 2) (z : Fin 64) (l : Fin 128) (h : Fin 16) (n : Fin 128) :
    (show FVec Ideal S2x64x128x16x128 .f32 from res_main_v194 V0) (ix5 b z l h n)
      = act (argsOf V0) b (row (z.val + 2) l) ⟨1024 + 128 * (h.val / 4) + n.val, by omega⟩ := by
  pointwise [res_main_v194]
  refine (lat_act V0 b _ _).trans ?_
  exact congrArg₂ (act (argsOf V0) b) (Fin.ext (by simp only [row]; omega)) (Fin.ext (by simp only []; omega))

theorem lat_outp (b : Fin 2) (z : Fin 64) (l : Fin 128) (h : Fin 16) (n : Fin 128) :
    (show FVec Ideal S2x64x128x16x128 .f32 from res_main_v195 V0) (ix5 b z l h n)
      = act (argsOf V0) b (row (z.val + 2) l) ⟨1536 + 128 * (h.val / 4) + n.val, by omega⟩ := by
  pointwise [res_main_v195]
  refine (lat_act V0 b _ _).trans ?_
  exact congrArg₂ (act (argsOf V0) b) (Fin.ext (by simp only [row]; omega)) (Fin.ext (by simp only []; omega))

theorem lat_rate (b : Fin 2) (h : Fin 16) (z : Fin 64) (l : Fin 128) :
    (show FVec Ideal S2x16x64x128 .f32 from res_main_v197 V0) (ix4 b h z l) = rateOf (argsOf V0) h * stepOf (argsOf V0) b (row (z.val + 2) l) h := by
  pointwise [res_main_v197]
  refine congrArg₂ (· * ·) (zero_sub _).symm ((lat_step V0 b _ _).trans ?_)
  exact congrArg (fun q => stepOf (argsOf V0) b q h) (Fin.ext (by simp only [row]; omega))

theorem lat_cumv198 (b : Fin 2) (h : Fin 16) (z : Fin 64) (l : Fin 128) :
    (show FVec Ideal S2x16x64x128 .f32 from res_main_v198 V0) (ix4 b h z l) = cum (argsOf V0) b (z.val + 2) h l := by
  have e0 : (broadcastInDim S_ ![] bcast_S_S_ (constant S_ .f32 0x00000000#32) : FVec Ideal S_ .f32) (Shape.Idx.first h_S_) = (0 : EReal) := zero_bits
  refine (running4 (M := 127) _ _ _ _ e0 b h z l).trans ?_
  exact Finset.sum_congr rfl fun i _ => lat_rate V0 b h z i

theorem lat_cumv200 (b : Fin 2) (h : Fin 16) (z : Fin 64) (l : Fin 128) :
    (show FVec Ideal S2x16x64x128 .f32 from res_main_v200 V0) (ix4 b h z l) = cum (argsOf V0) b (z.val + 2) h l := by
  have e0 : (broadcastInDim S_ ![] bcast_S_S_ (constant S_ .f32 0x00000000#32) : FVec Ideal S_ .f32) (Shape.Idx.first h_S_) = (0 : EReal) := zero_bits
  refine (running4 (M := 127) _ _ _ _ e0 b h z l).trans ?_
  exact Finset.sum_congr rfl fun i _ => lat_rate V0 b h z i

/-- The logarithm of the decay over the latents' chunks before chunk `z`. -/
theorem lat_ends (e : ℕ → ℝ) (b : Fin 2) (h : Fin 16) (he : ∀ c : Fin 64, cum (argsOf V0) b (c.val + 2) h 127 = (e c.val : EReal)) (z : Fin 65) :
    (show FVec Ideal S2x16x65 .f32 from res_main_v227 V0) (ix3 b h z) = ((∑ i ∈ Finset.range z.val, e i : ℝ) : EReal) := by
  have e0 : (broadcastInDim S_ ![] bcast_S_S_ (constant S_ .f32 0x00000000#32) : FVec Ideal S_ .f32) (Shape.Idx.first h_S_) = (0 : EReal) := zero_bits
  refine (running3 (M := 64) _ _ _ _ e0 b h z).trans ?_
  refine (Finset.sum_congr rfl fun i _ => (?_ : _ = if hi : 1 ≤ i.val then (e (i.val - 1) : EReal) else 0)).trans ?_
  · have hl : i.val < 65 := i.isLt
    pointwise
    rw [zero_word]
    by_cases hi : 1 ≤ i.val
    · rw [dif_pos ⟨hi, by omega⟩, dif_pos hi]
      exact (lat_cumv198 V0 b h _ _).trans (he ⟨i.val - 1, by omega⟩)
    · rw [dif_neg (fun hh => hi hh.1), dif_neg hi]
  · exact ends_sum e z

end Cert.SsdRefIdeal.Proj

end
-- ==== Proof.SsdOps.lean ====
module

public import proofs.«01_k».proof.Proof.Gen.SsdRefIdeal.Run
public import Idealize.ShloMosaic.Lib.Pipeline.ValueKit
public import Idealize.ShloMosaic.Lib.Pointwise
public import Idealize.ShloMosaic.Lib.Claim
public import proofs.«01_k».proof.Proof.SsdLat2
public import Idealize.ShloMosaic.Lib.WordCmp

@[expose] public section

set_option maxRecDepth 16384

noncomputable section

open Idealize.ShloMosaic Idealize.ShloMosaic.TcCoe Idealize.SL.Sem
open scoped BigOperators
open Cert.ScanSum

namespace Cert.SsdRefIdeal.Proj

open Cert.SsdRefIdeal Cert.SsdRefIdeal.Gen Cert.SsdRefIdeal.Value

variable (V0 : Valuation τ sig (Elt Ideal))

theorem neg_inf_bits : (constant S_ FTy.f32 4286578688#32 : FVec Ideal S_ .f32) ix0 = (⊥ : EReal) := by
  show Ideal.ofBits .f32 0xFF800000#32 = _
  simp [Ideal.ofBits, Ideal.ieee]

theorem lower_word (x y : ℕ) (hx : x < 128) (hy : y < 128) (a e : EReal) (he : e = (⊥ : EReal)) :
    Scalar.select (Scalar.select (IntOp.cmpi CmpIPredicate.sge (IntOp.addi (BitVec.ofNat 32 x) 0#32) (BitVec.ofNat 32 y)) 1#1 0#1) a e
      = if y ≤ x then a else (⊥ : EReal) := by
  have h0 : IntOp.addi (BitVec.ofNat 32 x) 0#32 = BitVec.ofNat 32 x := by simp [IntOp.addi]
  rw [h0, WordCmp.cmpi_sge_ofNat (by omega) (by omega), he]
  by_cases h : y ≤ x
  · rw [if_pos h, decide_eq_true h]; rfl
  · rw [if_neg h, decide_eq_false h]; rfl

theorem ctx_dotAdd (u : FVec Ideal S2x2x128x16x64 .f32) (v : FVec Ideal S2x2x128x16x128 .f32) (b : Fin 2) (z : Fin 2) (h : Fin 16) (p : Fin 64) (n : Fin 128) :
    (Host.dotGeneral dot_S2x2x128x16x64_S2x2x128x16x128_S2x2x16x64x128_2_2_4_4_013_013 none u v : FVec Ideal S2x2x16x64x128 .f32) (ix5 b z h p n)
      = ∑ l : Fin 128, u (ix5 b z l h p) * v (ix5 b z l h n) := by
  pointwise

theorem ctx_dotCarry (u : FVec Ideal S2x3x16x64x128 .f32) (v : FVec Ideal S2x16x3x3 .f32) (b : Fin 2) (z : Fin 3) (h : Fin 16) (p : Fin 64) (n : Fin 128) :
    (Host.dotGeneral dot_S2x3x16x64x128_S2x16x3x3_S2x16x64x128x3_1_3_34_2_02_01 none u v : FVec Ideal S2x16x64x128x3 .f32) (ix5 b h p n z)
      = ∑ c : Fin 3, u (ix5 b c h p n) * v (ix4 b h z c) := by
  pointwise

theorem ctx_turn (u : FVec Ideal S2x16x64x128x3 .f32) (b : Fin 2) (z : Fin 3) (h : Fin 16) (p : Fin 64) (n : Fin 128) :
    (transpose S2x3x16x64x128 [0, 4, 1, 2, 3] u transposes_S2x16x64x128x3_S2x3x16x64x128_0_4_1_2_3 : FVec Ideal S2x3x16x64x128 .f32) (ix5 b z h p n) = u (ix5 b h p n z) := by
  pointwise

theorem ctx_fade (v : FVec Ideal S2x2x128x16x128 .f32) (a : FVec Ideal S2x16x2x128 .f32) (b : Fin 2) (z : Fin 2) (l : Fin 128) (h : Fin 16) (n : Fin 128) :
    (mulf v (broadcastInDim S2x2x128x16x128 ![0, 1, 2, 3, 4] bcast_S2x2x128x16x1_S2x2x128x16x128_0_1_2_3_4 (broadcastInDim S2x2x128x16x1 ![0, 1, 2, 3] bcast_S2x2x128x16_S2x2x128x16x1_0_1_2_3 (transpose S2x2x128x16 [0, 2, 3, 1] (Host.exp (subf (broadcastInDim S2x16x2x128 ![0, 1, 2, 3] bcast_S2x16x2x1_S2x16x2x128_0_1_2_3 (extractStridedSlice S2x16x2x1 ![0, 0, 0, 127] a slices_S2x16x2x128_S2x16x2x1_0_0_0_127 : FVec Ideal S2x16x2x1 .f32) : FVec Ideal S2x16x2x128 .f32) a)) transposes_S2x16x2x128_S2x2x128x16_0_2_3_1 : FVec Ideal S2x2x128x16 .f32) : FVec Ideal S2x2x128x16x1 .f32) : FVec Ideal S2x2x128x16x128 .f32) : FVec Ideal S2x2x128x16x128 .f32) (ix5 b z l h n)
      = v (ix5 b z l h n) * Ideal.exp (a (ix4 b h z 127) - a (ix4 b h z l)) := by
  pointwise

theorem ctx_mask (w : FVec Ideal S2x16x3 .f32) (b : Fin 2) (h : Fin 16) (z c : Fin 3) :
    (Host.exp (select (broadcastInDim S2x16x3x3 ![2, 3] bcast_S3x3_S2x16x3x3_2_3 (select (cmpi .sge (addi (iotaInDim S3x3 32 0) (broadcastInDim S3x3 ![] bcast_S_S3x3 (constantI S_ 32 0#32))) (iotaInDim S3x3 32 1)) (broadcastInDim S3x3 ![] bcast_S_S3x3 (constantI S_ 1 1#1)) (broadcastInDim S3x3 ![] bcast_S_S3x3 (constantI S_ 1 0#1)) : IVec S3x3 1) : IVec S2x16x3x3 1) (subf (broadcastInDim S2x16x3x3 ![0, 1, 2, 3] bcast_S2x16x3x1_S2x16x3x3_0_1_2_3 (broadcastInDim S2x16x3x1 ![0, 1, 2] bcast_S2x16x3_S2x16x3x1_0_1_2 w : FVec Ideal S2x16x3x1 .f32) : FVec Ideal S2x16x3x3 .f32) (broadcastInDim S2x16x3x3 ![0, 1, 2, 3] bcast_S2x16x1x3_S2x16x3x3_0_1_2_3 (broadcastInDim S2x16x1x3 ![0, 1, 3] bcast_S2x16x3_S2x16x1x3_0_1_3 w : FVec Ideal S2x16x1x3 .f32) : FVec Ideal S2x16x3x3 .f32) : FVec Ideal S2x16x3x3 .f32) (broadcastInDim S2x16x3x3 ![] bcast_S_S2x16x3x3 (id (constant S_ .f32 0xFF800000#32 : FVec Ideal S_ .f32)) : FVec Ideal S2x16x3x3 .f32) : FVec Ideal S2x16x3x3 .f32) : FVec Ideal S2x16x3x3 .f32) (ix4 b h z c)
      = Ideal.exp (if c ≤ z then w (ix3 b h z) - w (ix3 b h c) else (⊥ : EReal)) := by
  pointwise
  exact congrArg Ideal.exp (lower_word z.val c.val (by omega) (by omega) _ _ neg_inf_bits)

theorem ctx_heads (u : FVec Ideal S2x16x64x128 .f32) (v : FVec Ideal S2x2x16x64x128 .f32) (b : Fin 2) (z : Fin 3) (h : Fin 16) (p : Fin 64) (n : Fin 128) :
    (concatenate S2x3x16x64x128 1 [⟨S2x1x16x64x128, (broadcastInDim S2x1x16x64x128 ![0, 2, 3, 4] bcast_S2x16x64x128_S2x1x16x64x128_0_2_3_4 u : FVec Ideal S2x1x16x64x128 .f32)⟩, ⟨S2x2x16x64x128, v⟩] concatenates_S2x1x16x64x128_S2x2x16x64x128_S2x3x16x64x128_d1 : FVec Ideal S2x3x16x64x128 .f32) (ix5 b z h p n)
      = if hz : z.val = 0 then u (ix4 b h p n) else v (ix5 b ⟨z.val - 1, by omega⟩ h p n) := by
  pointwise
  by_cases hz : z.val = 0
  · rw [dif_pos hz]
    split_ifs <;> first | rfl | (exfalso; omega)
  · rw [dif_neg hz]
    split_ifs <;> first | rfl | (exfalso; omega) | exact congrArg (fun q => v (ix5 b q h p n)) (Fin.ext rfl)

theorem ctx_tril (w : FVec Ideal S2x16x2x128 .f32) (b : Fin 2) (h : Fin 16) (z : Fin 2) (l s : Fin 128) :
    (Host.exp (select (broadcastInDim S2x16x2x128x128 ![3, 4] bcast_S128x128_S2x16x2x128x128_3_4 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : IVec S128x128 1) : IVec S2x16x2x128x128 1) (subf (broadcastInDim S2x16x2x128x128 ![0, 1, 2, 3, 4] bcast_S2x16x2x128x1_S2x16x2x128x128_0_1_2_3_4 (broadcastInDim S2x16x2x128x1 ![0, 1, 2, 3] bcast_S2x16x2x128_S2x16x2x128x1_0_1_2_3 w : FVec Ideal S2x16x2x128x1 .f32) : FVec Ideal S2x16x2x128x128 .f32) (broadcastInDim S2x16x2x128x128 ![0, 1, 2, 3, 4] bcast_S2x16x2x1x128_S2x16x2x128x128_0_1_2_3_4 (broadcastInDim S2x16x2x1x128 ![0, 1, 2, 4] bcast_S2x16x2x128_S2x16x2x1x128_0_1_2_4 w : FVec Ideal S2x16x2x1x128 .f32) : FVec Ideal S2x16x2x128x128 .f32) : FVec Ideal S2x16x2x128x128 .f32) (broadcastInDim S2x16x2x128x128 ![] bcast_S_S2x16x2x128x128 (id (constant S_ .f32 0xFF800000#32 : FVec Ideal S_ .f32)) : FVec Ideal S2x16x2x128x128 .f32) : FVec Ideal S2x16x2x128x128 .f32) : FVec Ideal S2x16x2x128x128 .f32) (ix5 b h z l s)
      = Ideal.exp (if s ≤ l then w (ix4 b h z l) - w (ix4 b h z s) else (⊥ : EReal)) := by
  pointwise
  exact congrArg Ideal.exp (lower_word l.val s.val (by omega) (by omega) _ _ neg_inf_bits)

theorem ctx_dotPairs (u v : FVec Ideal S2x2x128x16x128 .f32) (b : Fin 2) (z : Fin 2) (h : Fin 16) (l s : Fin 128) :
    (Host.dotGeneral dot_S2x2x128x16x128_S2x2x128x16x128_S2x16x2x128x128_4_4_2_2_031_031 none u v : FVec Ideal S2x16x2x128x128 .f32) (ix5 b h z l s)
      = ∑ n : Fin 128, u (ix5 b z l h n) * v (ix5 b z s h n) := by
  pointwise

theorem ctx_dotRows (u : FVec Ideal S2x2x128x16x64 .f32) (v : FVec Ideal S2x16x2x128x128 .f32) (b : Fin 2) (z : Fin 2) (h : Fin 16) (p : Fin 64) (l : Fin 128) :
    (Host.dotGeneral dot_S2x2x128x16x64_S2x16x2x128x128_S2x2x16x64x128_2_4_4_3_013_021 none u v : FVec Ideal S2x2x16x64x128 .f32) (ix5 b z h p l)
      = ∑ s : Fin 128, u (ix5 b z s h p) * v (ix5 b h z l s) := by
  pointwise

theorem ctx_turnRows (u : FVec Ideal S2x2x16x64x128 .f32) (b : Fin 2) (z : Fin 2) (l : Fin 128) (h : Fin 16) (p : Fin 64) :
    (transpose S2x2x128x16x64 [0, 1, 4, 2, 3] u transposes_S2x2x16x64x128_S2x2x128x16x64_0_1_4_2_3 : FVec Ideal S2x2x128x16x64 .f32) (ix5 b z l h p) = u (ix5 b z h p l) := by
  pointwise

theorem ctx_dotState (u : FVec Ideal S2x2x16x64x128 .f32) (v : FVec Ideal S2x2x128x16x128 .f32) (b : Fin 2) (z : Fin 2) (h : Fin 16) (p : Fin 64) (l : Fin 128) :
    (Host.dotGeneral dot_S2x2x16x64x128_S2x2x128x16x128_S2x2x16x64x128_4_4_3_2_012_013 none u v : FVec Ideal S2x2x16x64x128 .f32) (ix5 b z h p l)
      = ∑ n : Fin 128, u (ix5 b z h p n) * v (ix5 b z l h n) := by
  pointwise

theorem ctx_front (u : FVec Ideal S2x3x16x64x128 .f32) (b : Fin 2) (z : Fin 2) (h : Fin 16) (p : Fin 64) (n : Fin 128) :
    (extractStridedSlice S2x2x16x64x128 ![0, 0, 0, 0, 0] u slices_S2x3x16x64x128_S2x2x16x64x128_0_0_0_0_0 : FVec Ideal S2x2x16x64x128 .f32) (ix5 b z h p n)
      = u (ix5 b ⟨z.val, by omega⟩ h p n) := by
  pointwise

theorem ctx_decays (a : FVec Ideal S2x16x2x128 .f32) (b : Fin 2) (z : Fin 2) (l : Fin 128) (h : Fin 16) (p : Fin 64) :
    (broadcastInDim S2x2x128x16x64 ![0, 1, 2, 3, 4] bcast_S2x2x128x16x1_S2x2x128x16x64_0_1_2_3_4 (broadcastInDim S2x2x128x16x1 ![0, 1, 2, 3] bcast_S2x2x128x16_S2x2x128x16x1_0_1_2_3 (transpose S2x2x128x16 [0, 2, 3, 1] (Host.exp a) transposes_S2x16x2x128_S2x2x128x16_0_2_3_1 : FVec Ideal S2x2x128x16 .f32) : FVec Ideal S2x2x128x16x1 .f32) : FVec Ideal S2x2x128x16x64 .f32) (ix5 b z l h p)
      = Ideal.exp (a (ix4 b h z l)) := by
  pointwise

theorem ctx_joinRows (u : FVec Ideal S2x2x128x16x64 .f32) (b : Fin 2) (z : Fin 2) (l : Fin 128) (h : Fin 16) (p : Fin 64) (q : Fin 256) (hq : q.val = 128 * z.val + l.val) :
    shapeCast S2x256x16x64 u shapeCasts_S2x2x128x16x64_S2x256x16x64 (ix4 b q h p) = u (ix5 b z l h p) := by
  obtain ⟨r, hr⟩ := q
  change r = _ at hq
  subst hq
  pointwise
  all_goals rfl

theorem ctx_joinColumns (u : FVec Ideal S2x256x16x64 .f32) (b : Fin 2) (q : Fin 256) (J : Fin 1024) :
    shapeCast S2x256x1024 u shapeCasts_S2x256x16x64_S2x256x1024 (ix3 b q J) = u (ix4 b q ⟨J.val / 64, by omega⟩ ⟨J.val % 64, by omega⟩) := by
  pointwise

theorem ctx_skips (u : FVec Ideal S16 .f32) (b : Fin 2) (q : Fin 256) (h : Fin 16) (p : Fin 64) :
    (broadcastInDim S2x256x16x64 ![0, 1, 2, 3] bcast_S1x1x16x1_S2x256x16x64_0_1_2_3 (broadcastInDim S1x1x16x1 ![2, 3] bcast_S16x1_S1x1x16x1_2_3 (broadcastInDim S16x1 ![0] bcast_S16_S16x1_0 u : FVec Ideal S16x1 .f32) : FVec Ideal S1x1x16x1 .f32) : FVec Ideal S2x256x16x64 .f32) (ix4 b q h p) = u (ix1 h) := by
  pointwise

theorem lat_dotAdd (u : FVec Ideal S2x64x128x16x64 .f32) (v : FVec Ideal S2x64x128x16x128 .f32) (b : Fin 2) (z : Fin 64) (h : Fin 16) (p : Fin 64) (n : Fin 128) :
    (Host.dotGeneral dot_S2x64x128x16x64_S2x64x128x16x128_S2x64x16x64x128_2_2_4_4_013_013 none u v : FVec Ideal S2x64x16x64x128 .f32) (ix5 b z h p n)
      = ∑ l : Fin 128, u (ix5 b z l h p) * v (ix5 b z l h n) := by
  pointwise

theorem lat_dotCarry (u : FVec Ideal S2x65x16x64x128 .f32) (v : FVec Ideal S2x16x65x65 .f32) (b : Fin 2) (z : Fin 65) (h : Fin 16) (p : Fin 64) (n : Fin 128) :
    (Host.dotGeneral dot_S2x65x16x64x128_S2x16x65x65_S2x16x64x128x65_1_3_34_2_02_01 none u v : FVec Ideal S2x16x64x128x65 .f32) (ix5 b h p n z)
      = ∑ c : Fin 65, u (ix5 b c h p n) * v (ix4 b h z c) := by
  pointwise

theorem lat_turn (u : FVec Ideal S2x16x64x128x65 .f32) (b : Fin 2) (z : Fin 65) (h : Fin 16) (p : Fin 64) (n : Fin 128) :
    (transpose S2x65x16x64x128 [0, 4, 1, 2, 3] u transposes_S2x16x64x128x65_S2x65x16x64x128_0_4_1_2_3 : FVec Ideal S2x65x16x64x128 .f32) (ix5 b z h p n) = u (ix5 b h p n z) := by
  pointwise

theorem lat_fade (v : FVec Ideal S2x64x128x16x128 .f32) (a : FVec Ideal S2x16x64x128 .f32) (b : Fin 2) (z : Fin 64) (l : Fin 128) (h : Fin 16) (n : Fin 128) :
    (mulf v (broadcastInDim S2x64x128x16x128 ![0, 1, 2, 3, 4] bcast_S2x64x128x16x1_S2x64x128x16x128_0_1_2_3_4 (broadcastInDim S2x64x128x16x1 ![0, 1, 2, 3] bcast_S2x64x128x16_S2x64x128x16x1_0_1_2_3 (transpose S2x64x128x16 [0, 2, 3, 1] (Host.exp (subf (broadcastInDim S2x16x64x128 ![0, 1, 2, 3] bcast_S2x16x64x1_S2x16x64x128_0_1_2_3 (extractStridedSlice S2x16x64x1 ![0, 0, 0, 127] a slices_S2x16x64x128_S2x16x64x1_0_0_0_127 : FVec Ideal S2x16x64x1 .f32) : FVec Ideal S2x16x64x128 .f32) a)) transposes_S2x16x64x128_S2x64x128x16_0_2_3_1 : FVec Ideal S2x64x128x16 .f32) : FVec Ideal S2x64x128x16x1 .f32) : FVec Ideal S2x64x128x16x128 .f32) : FVec Ideal S2x64x128x16x128 .f32) (ix5 b z l h n)
      = v (ix5 b z l h n) * Ideal.exp (a (ix4 b h z 127) - a (ix4 b h z l)) := by
  pointwise

theorem lat_mask (w : FVec Ideal S2x16x65 .f32) (b : Fin 2) (h : Fin 16) (z c : Fin 65) :
    (Host.exp (select (broadcastInDim S2x16x65x65 ![2, 3] bcast_S65x65_S2x16x65x65_2_3 (select (cmpi .sge (addi (iotaInDim S65x65 32 0) (broadcastInDim S65x65 ![] bcast_S_S65x65 (constantI S_ 32 0#32))) (iotaInDim S65x65 32 1)) (broadcastInDim S65x65 ![] bcast_S_S65x65 (constantI S_ 1 1#1)) (broadcastInDim S65x65 ![] bcast_S_S65x65 (constantI S_ 1 0#1)) : IVec S65x65 1) : IVec S2x16x65x65 1) (subf (broadcastInDim S2x16x65x65 ![0, 1, 2, 3] bcast_S2x16x65x1_S2x16x65x65_0_1_2_3 (broadcastInDim S2x16x65x1 ![0, 1, 2] bcast_S2x16x65_S2x16x65x1_0_1_2 w : FVec Ideal S2x16x65x1 .f32) : FVec Ideal S2x16x65x65 .f32) (broadcastInDim S2x16x65x65 ![0, 1, 2, 3] bcast_S2x16x1x65_S2x16x65x65_0_1_2_3 (broadcastInDim S2x16x1x65 ![0, 1, 3] bcast_S2x16x65_S2x16x1x65_0_1_3 w : FVec Ideal S2x16x1x65 .f32) : FVec Ideal S2x16x65x65 .f32) : FVec Ideal S2x16x65x65 .f32) (broadcastInDim S2x16x65x65 ![] bcast_S_S2x16x65x65 (id (constant S_ .f32 0xFF800000#32 : FVec Ideal S_ .f32)) : FVec Ideal S2x16x65x65 .f32) : FVec Ideal S2x16x65x65 .f32) : FVec Ideal S2x16x65x65 .f32) (ix4 b h z c)
      = Ideal.exp (if c ≤ z then w (ix3 b h z) - w (ix3 b h c) else (⊥ : EReal)) := by
  pointwise
  exact congrArg Ideal.exp (lower_word z.val c.val (by omega) (by omega) _ _ neg_inf_bits)

theorem lat_heads (u : FVec Ideal S2x16x64x128 .f32) (v : FVec Ideal S2x64x16x64x128 .f32) (b : Fin 2) (z : Fin 65) (h : Fin 16) (p : Fin 64) (n : Fin 128) :
    (concatenate S2x65x16x64x128 1 [⟨S2x1x16x64x128, (broadcastInDim S2x1x16x64x128 ![0, 2, 3, 4] bcast_S2x16x64x128_S2x1x16x64x128_0_2_3_4 u : FVec Ideal S2x1x16x64x128 .f32)⟩, ⟨S2x64x16x64x128, v⟩] concatenates_S2x1x16x64x128_S2x64x16x64x128_S2x65x16x64x128_d1 : FVec Ideal S2x65x16x64x128 .f32) (ix5 b z h p n)
      = if hz : z.val = 0 then u (ix4 b h p n) else v (ix5 b ⟨z.val - 1, by omega⟩ h p n) := by
  pointwise
  by_cases hz : z.val = 0
  · rw [dif_pos hz]
    split_ifs <;> first | rfl | (exfalso; omega)
  · rw [dif_neg hz]
    split_ifs <;> first | rfl | (exfalso; omega) | exact congrArg (fun q => v (ix5 b q h p n)) (Fin.ext rfl)

theorem lat_tril (w : FVec Ideal S2x16x64x128 .f32) (b : Fin 2) (h : Fin 16) (z : Fin 64) (l s : Fin 128) :
    (Host.exp (select (broadcastInDim S2x16x64x128x128 ![3, 4] bcast_S128x128_S2x16x64x128x128_3_4 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : IVec S128x128 1) : IVec S2x16x64x128x128 1) (subf (broadcastInDim S2x16x64x128x128 ![0, 1, 2, 3, 4] bcast_S2x16x64x128x1_S2x16x64x128x128_0_1_2_3_4 (broadcastInDim S2x16x64x128x1 ![0, 1, 2, 3] bcast_S2x16x64x128_S2x16x64x128x1_0_1_2_3 w : FVec Ideal S2x16x64x128x1 .f32) : FVec Ideal S2x16x64x128x128 .f32) (broadcastInDim S2x16x64x128x128 ![0, 1, 2, 3, 4] bcast_S2x16x64x1x128_S2x16x64x128x128_0_1_2_3_4 (broadcastInDim S2x16x64x1x128 ![0, 1, 2, 4] bcast_S2x16x64x128_S2x16x64x1x128_0_1_2_4 w : FVec Ideal S2x16x64x1x128 .f32) : FVec Ideal S2x16x64x128x128 .f32) : FVec Ideal S2x16x64x128x128 .f32) (broadcastInDim S2x16x64x128x128 ![] bcast_S_S2x16x64x128x128 (id (constant S_ .f32 0xFF800000#32 : FVec Ideal S_ .f32)) : FVec Ideal S2x16x64x128x128 .f32) : FVec Ideal S2x16x64x128x128 .f32) : FVec Ideal S2x16x64x128x128 .f32) (ix5 b h z l s)
      = Ideal.exp (if s ≤ l then w (ix4 b h z l) - w (ix4 b h z s) else (⊥ : EReal)) := by
  pointwise
  exact congrArg Ideal.exp (lower_word l.val s.val (by omega) (by omega) _ _ neg_inf_bits)

theorem lat_dotPairs (u v : FVec Ideal S2x64x128x16x128 .f32) (b : Fin 2) (z : Fin 64) (h : Fin 16) (l s : Fin 128) :
    (Host.dotGeneral dot_S2x64x128x16x128_S2x64x128x16x128_S2x16x64x128x128_4_4_2_2_031_031 none u v : FVec Ideal S2x16x64x128x128 .f32) (ix5 b h z l s)
      = ∑ n : Fin 128, u (ix5 b z l h n) * v (ix5 b z s h n) := by
  pointwise

theorem lat_dotRows (u : FVec Ideal S2x64x128x16x64 .f32) (v : FVec Ideal S2x16x64x128x128 .f32) (b : Fin 2) (z : Fin 64) (h : Fin 16) (p : Fin 64) (l : Fin 128) :
    (Host.dotGeneral dot_S2x64x128x16x64_S2x16x64x128x128_S2x64x16x64x128_2_4_4_3_013_021 none u v : FVec Ideal S2x64x16x64x128 .f32) (ix5 b z h p l)
      = ∑ s : Fin 128, u (ix5 b z s h p) * v (ix5 b h z l s) := by
  pointwise

theorem lat_turnRows (u : FVec Ideal S2x64x16x64x128 .f32) (b : Fin 2) (z : Fin 64) (l : Fin 128) (h : Fin 16) (p : Fin 64) :
    (transpose S2x64x128x16x64 [0, 1, 4, 2, 3] u transposes_S2x64x16x64x128_S2x64x128x16x64_0_1_4_2_3 : FVec Ideal S2x64x128x16x64 .f32) (ix5 b z l h p) = u (ix5 b z h p l) := by
  pointwise

theorem lat_dotState (u : FVec Ideal S2x64x16x64x128 .f32) (v : FVec Ideal S2x64x128x16x128 .f32) (b : Fin 2) (z : Fin 64) (h : Fin 16) (p : Fin 64) (l : Fin 128) :
    (Host.dotGeneral dot_S2x64x16x64x128_S2x64x128x16x128_S2x64x16x64x128_4_4_3_2_012_013 none u v : FVec Ideal S2x64x16x64x128 .f32) (ix5 b z h p l)
      = ∑ n : Fin 128, u (ix5 b z h p n) * v (ix5 b z l h n) := by
  pointwise

theorem lat_front (u : FVec Ideal S2x65x16x64x128 .f32) (b : Fin 2) (z : Fin 64) (h : Fin 16) (p : Fin 64) (n : Fin 128) :
    (extractStridedSlice S2x64x16x64x128 ![0, 0, 0, 0, 0] u slices_S2x65x16x64x128_S2x64x16x64x128_0_0_0_0_0 : FVec Ideal S2x64x16x64x128 .f32) (ix5 b z h p n)
      = u (ix5 b ⟨z.val, by omega⟩ h p n) := by
  pointwise

theorem lat_decays (a : FVec Ideal S2x16x64x128 .f32) (b : Fin 2) (z : Fin 64) (l : Fin 128) (h : Fin 16) (p : Fin 64) :
    (broadcastInDim S2x64x128x16x64 ![0, 1, 2, 3, 4] bcast_S2x64x128x16x1_S2x64x128x16x64_0_1_2_3_4 (broadcastInDim S2x64x128x16x1 ![0, 1, 2, 3] bcast_S2x64x128x16_S2x64x128x16x1_0_1_2_3 (transpose S2x64x128x16 [0, 2, 3, 1] (Host.exp a) transposes_S2x16x64x128_S2x64x128x16_0_2_3_1 : FVec Ideal S2x64x128x16 .f32) : FVec Ideal S2x64x128x16x1 .f32) : FVec Ideal S2x64x128x16x64 .f32) (ix5 b z l h p)
      = Ideal.exp (a (ix4 b h z l)) := by
  pointwise

theorem lat_joinRows (u : FVec Ideal S2x64x128x16x64 .f32) (b : Fin 2) (z : Fin 64) (l : Fin 128) (h : Fin 16) (p : Fin 64) (q : Fin 8192) (hq : q.val = 128 * z.val + l.val) :
    shapeCast S2x8192x16x64 u shapeCasts_S2x64x128x16x64_S2x8192x16x64 (ix4 b q h p) = u (ix5 b z l h p) := by
  obtain ⟨r, hr⟩ := q
  change r = _ at hq
  subst hq
  pointwise
  all_goals rfl

theorem lat_joinColumns (u : FVec Ideal S2x8192x16x64 .f32) (b : Fin 2) (q : Fin 8192) (J : Fin 1024) :
    shapeCast S2x8192x1024 u shapeCasts_S2x8192x16x64_S2x8192x1024 (ix3 b q J) = u (ix4 b q ⟨J.val / 64, by omega⟩ ⟨J.val % 64, by omega⟩) := by
  pointwise

theorem lat_skips (u : FVec Ideal S16 .f32) (b : Fin 2) (q : Fin 8192) (h : Fin 16) (p : Fin 64) :
    (broadcastInDim S2x8192x16x64 ![0, 1, 2, 3] bcast_S1x1x16x1_S2x8192x16x64_0_1_2_3 (broadcastInDim S1x1x16x1 ![2, 3] bcast_S16x1_S1x1x16x1_2_3 (broadcastInDim S16x1 ![0] bcast_S16_S16x1_0 u : FVec Ideal S16x1 .f32) : FVec Ideal S1x1x16x1 .f32) : FVec Ideal S2x8192x16x64 .f32) (ix4 b q h p) = u (ix1 h) := by
  pointwise

theorem ctx_split_columns (u : FVec Ideal S2x256x1024 .f32) (b : Fin 2) (q : Fin 256) (h : Fin 16) (p : Fin 64) :
    shapeCast S2x256x16x64 u shapeCasts_S2x256x1024_S2x256x16x64 (ix4 b q h p)
      = u (ix3 b q ⟨h.val * 64 + p.val, by omega⟩) := by
  pointwise

theorem ctx_first_columns (u : FVec Ideal S2x256x2048 .f32) (b : Fin 2) (q : Fin 256) (j : Fin 1024) :
    (extractStridedSlice S2x256x1024 ![0, 0, 0] u slices_S2x256x2048_S2x256x1024_0_0_0 : FVec Ideal S2x256x1024 .f32) (ix3 b q j)
      = u (ix3 b q ⟨j.val, by omega⟩) := by
  pointwise

theorem ctx_none (b : Fin 2) (h : Fin 16) (p : Fin 64) (n : Fin 128) :
    (broadcastInDim S2x16x64x128 ![] bcast_S_S2x16x64x128 (constant S_ .f32 0x00000000#32 : FVec Ideal S_ .f32) : FVec Ideal S2x16x64x128 .f32) (ix4 b h p n) = (0 : EReal) := zero_bits

theorem lat_given (u : FVec Ideal S2x3x16x64x128 .f32) (b : Fin 2) (h : Fin 16) (p : Fin 64) (n : Fin 128) :
    shapeCast S2x16x64x128 (extractStridedSlice S2x1x16x64x128 ![0, 2, 0, 0, 0] u slices_S2x3x16x64x128_S2x1x16x64x128_0_2_0_0_0 : FVec Ideal S2x1x16x64x128 .f32) shapeCasts_S2x1x16x64x128_S2x16x64x128 (ix4 b h p n)
      = u (ix5 b 2 h p n) := by
  pointwise

theorem both_parts (u : FVec Ideal S2x256x1024 .f32) (v : FVec Ideal S2x8192x1024 .f32) (b : Fin 2) (p : Fin 8448) (J : Fin 1024) :
    (concatenate S2x8448x1024 1 [⟨S2x256x1024, u⟩, ⟨S2x8192x1024, v⟩] concatenates_S2x256x1024_S2x8192x1024_S2x8448x1024_d1 : FVec Ideal S2x8448x1024 .f32) (ix3 b p J)
      = if hp : p.val < 256 then u (ix3 b ⟨p.val, hp⟩ J) else v (ix3 b ⟨p.val - 256, by omega⟩ J) := by
  pointwise

theorem plus_at {s : Shape} (u v : FVec Ideal s .f32) (i : s.Idx) : addf u v i = u i + v i := rfl

theorem prod_at {s : Shape} (u v : FVec Ideal s .f32) (i : s.Idx) : mulf u v i = u i * v i := rfl

end Cert.SsdRefIdeal.Proj

end
-- ==== Proof.SsdState.lean ====
module

public import proofs.«01_k».proof.Proof.Gen.SsdRefIdeal.Run
public import Idealize.ShloMosaic.Lib.Pipeline.ValueKit
public import Idealize.ShloMosaic.Lib.Pointwise
public import Idealize.ShloMosaic.Lib.Claim
public import proofs.«01_k».proof.Proof.SsdOps
public import Idealize.ShloMosaic.Lib.WordCmp

@[expose] public section

set_option maxRecDepth 16384

noncomputable section

open Idealize.ShloMosaic Idealize.ShloMosaic.TcCoe Idealize.SL.Sem
open scoped BigOperators
open Cert.ScanSum

namespace Cert.SsdRefIdeal.Proj

open Cert.SsdRefIdeal Cert.SsdRefIdeal.Gen Cert.SsdRefIdeal.Value

variable (V0 : Valuation τ sig (Elt Ideal))

/-- The states before the chunks of the part, from the state before it. -/
def ctx_tab (h0 : FVec Ideal S2x16x64x128 .f32) (u : FVec Ideal S2x2x128x16x64 .f32) (v : FVec Ideal S2x2x128x16x128 .f32)
    (a : FVec Ideal S2x16x2x128 .f32) (w : FVec Ideal S2x16x3 .f32) : FVec Ideal S2x3x16x64x128 .f32 :=
  (transpose S2x3x16x64x128 [0, 4, 1, 2, 3] (Host.dotGeneral dot_S2x3x16x64x128_S2x16x3x3_S2x16x64x128x3_1_3_34_2_02_01 none
      (concatenate S2x3x16x64x128 1 [⟨S2x1x16x64x128, (broadcastInDim S2x1x16x64x128 ![0, 2, 3, 4] bcast_S2x16x64x128_S2x1x16x64x128_0_2_3_4 h0 : FVec Ideal S2x1x16x64x128 .f32)⟩, ⟨S2x2x16x64x128, (Host.dotGeneral dot_S2x2x128x16x64_S2x2x128x16x128_S2x2x16x64x128_2_2_4_4_013_013 none u (mulf v (broadcastInDim S2x2x128x16x128 ![0, 1, 2, 3, 4] bcast_S2x2x128x16x1_S2x2x128x16x128_0_1_2_3_4 (broadcastInDim S2x2x128x16x1 ![0, 1, 2, 3] bcast_S2x2x128x16_S2x2x128x16x1_0_1_2_3 (transpose S2x2x128x16 [0, 2, 3, 1] (Host.exp (subf (broadcastInDim S2x16x2x128 ![0, 1, 2, 3] bcast_S2x16x2x1_S2x16x2x128_0_1_2_3 (extractStridedSlice S2x16x2x1 ![0, 0, 0, 127] a slices_S2x16x2x128_S2x16x2x1_0_0_0_127 : FVec Ideal S2x16x2x1 .f32) : FVec Ideal S2x16x2x128 .f32) a)) transposes_S2x16x2x128_S2x2x128x16_0_2_3_1 : FVec Ideal S2x2x128x16 .f32) : FVec Ideal S2x2x128x16x1 .f32) : FVec Ideal S2x2x128x16x128 .f32) : FVec Ideal S2x2x128x16x128 .f32) : FVec Ideal S2x2x16x64x128 .f32)⟩] concatenates_S2x1x16x64x128_S2x2x16x64x128_S2x3x16x64x128_d1 : FVec Ideal S2x3x16x64x128 .f32)
      (Host.exp (select (broadcastInDim S2x16x3x3 ![2, 3] bcast_S3x3_S2x16x3x3_2_3 (select (cmpi .sge (addi (iotaInDim S3x3 32 0) (broadcastInDim S3x3 ![] bcast_S_S3x3 (constantI S_ 32 0#32))) (iotaInDim S3x3 32 1)) (broadcastInDim S3x3 ![] bcast_S_S3x3 (constantI S_ 1 1#1)) (broadcastInDim S3x3 ![] bcast_S_S3x3 (constantI S_ 1 0#1)) : IVec S3x3 1) : IVec S2x16x3x3 1) (subf (broadcastInDim S2x16x3x3 ![0, 1, 2, 3] bcast_S2x16x3x1_S2x16x3x3_0_1_2_3 (broadcastInDim S2x16x3x1 ![0, 1, 2] bcast_S2x16x3_S2x16x3x1_0_1_2 w : FVec Ideal S2x16x3x1 .f32) : FVec Ideal S2x16x3x3 .f32) (broadcastInDim S2x16x3x3 ![0, 1, 2, 3] bcast_S2x16x1x3_S2x16x3x3_0_1_2_3 (broadcastInDim S2x16x1x3 ![0, 1, 3] bcast_S2x16x3_S2x16x1x3_0_1_3 w : FVec Ideal S2x16x1x3 .f32) : FVec Ideal S2x16x3x3 .f32) : FVec Ideal S2x16x3x3 .f32) (broadcastInDim S2x16x3x3 ![] bcast_S_S2x16x3x3 (id (constant S_ .f32 0xFF800000#32 : FVec Ideal S_ .f32)) : FVec Ideal S2x16x3x3 .f32) : FVec Ideal S2x16x3x3 .f32) : FVec Ideal S2x16x3x3 .f32) : FVec Ideal S2x16x64x128x3 .f32) transposes_S2x16x64x128x3_S2x3x16x64x128_0_4_1_2_3 : FVec Ideal S2x3x16x64x128 .f32)

theorem ctx_stateRead (h0 : FVec Ideal S2x16x64x128 .f32) (u : FVec Ideal S2x2x128x16x64 .f32) (v : FVec Ideal S2x2x128x16x128 .f32)
    (a : FVec Ideal S2x16x2x128 .f32) (w : FVec Ideal S2x16x3 .f32) (b : Fin 2) (z : Fin 3) (h : Fin 16) (p : Fin 64) (n : Fin 128) :
    ctx_tab h0 u v a w (ix5 b z h p n)
      = ∑ c : Fin 3, (if hc : c.val = 0 then h0 (ix4 b h p n) else ∑ l : Fin 128, u (ix5 b ⟨c.val - 1, by omega⟩ l h p)
          * (v (ix5 b ⟨c.val - 1, by omega⟩ l h n) * Ideal.exp (a (ix4 b h ⟨c.val - 1, by omega⟩ 127) - a (ix4 b h ⟨c.val - 1, by omega⟩ l))))
        * Ideal.exp (if c ≤ z then w (ix3 b h z) - w (ix3 b h c) else (⊥ : EReal)) := by
  unfold ctx_tab
  rw [ctx_turn, ctx_dotCarry]
  refine Finset.sum_congr rfl fun c _ => ?_
  rw [ctx_heads, ctx_mask]
  by_cases hc : c.val = 0
  · rw [dif_pos hc, dif_pos hc]
  · rw [dif_neg hc, dif_neg hc, ctx_dotAdd]
    refine congrArg₂ (· * ·) (Finset.sum_congr rfl fun l _ => ?_) rfl
    rw [ctx_fade]

theorem ctx_tab_eq : (show FVec Ideal S2x3x16x64x128 .f32 from res_main_v154 V0) = ctx_tab (broadcastInDim S2x16x64x128 ![] bcast_S_S2x16x64x128 (constant S_ .f32 0x00000000#32 : FVec Ideal S_ .f32) : FVec Ideal S2x16x64x128 .f32) (res_main_v109 V0) (res_main_v110 V0) (res_main_v114 V0) (res_main_v143 V0) := by
  unfold res_main_v154 ctx_tab
  rfl

/-- The state before chunk `z` of the part. -/
theorem ctx_state (hA : (argsOf V0).Finite) (b : Fin 2) (z : Fin 3) (h : Fin 16) (p : Fin 64) (n : Fin 128) (J : Fin 1024) (hJ : J.val = 64 * h.val + p.val) :
    (show FVec Ideal S2x3x16x64x128 .f32 from res_main_v154 V0) (ix5 b z h p n) = stateOf (argsOf V0) b J n (z.val + 0) := by
  have hh : headOf J = h := Fin.ext (by simp only [headOf]; omega)
  have hX : chX J = ⟨64 * h.val + p.val, by omega⟩ := Fin.ext hJ
  have hB : chB J n = ⟨1024 + 128 * (h.val / 4) + n.val, by omega⟩ := Fin.ext (by simp only [chB]; omega)
  choose e he using fun c : ℕ => cum_real (argsOf V0) hA b (c + 0) h 127
  refine (congrFun (ctx_tab_eq V0) (ix5 b z h p n)).trans ((ctx_stateRead _ _ _ _ _ b z h p n).trans ?_)
  refine Eq.trans (Finset.sum_congr rfl fun c _ => congrArg₂ (· * ·) ?_ rfl)
    (carry (fun c => if c = 0 then stateOf (argsOf V0) b J n 0 else added (argsOf V0) b (c - 1 + 0) J n) e
      (fun z => (show FVec Ideal S2x16x3 .f32 from res_main_v143 V0) (ix3 b h z)) (ctx_ends V0 e b h fun c => he c.val)
      (fun z => stateOf (argsOf V0) b J n (z + 0)) ?_ ?_ z)
  · by_cases hc : c.val = 0
    · rw [dif_pos hc]
      simp only [hc, if_true]
      exact ctx_none b h p n
    · rw [dif_neg hc]
      simp only [hc, if_false]
      unfold added
      rw [hh, hX, hB]
      refine Finset.sum_congr rfl fun l _ => ?_
      have e1 := ctx_xv V0 b ⟨c.val - 1, by omega⟩ l h p
      have e2 := ctx_inp V0 b ⟨c.val - 1, by omega⟩ l h n
      have e3 := ctx_cumv114 V0 b h ⟨c.val - 1, by omega⟩ 127
      have e4 := ctx_cumv114 V0 b h ⟨c.val - 1, by omega⟩ l
      simp only [] at e1 e2 e3 e4
      rw [e1, e2, e3, e4, mul_left_comm]
  · simp
  · intro z hz
    have e0 : z + 1 + 0 = (z + 0) + 1 := by omega
    simp only [Nat.succ_ne_zero, if_false, Nat.add_sub_cancel]
    rw [e0, stateOf, hh, ← he z] <;> rfl

/-- The part's rows of the result, without the other direction's. -/
def ctx_rows (u : FVec Ideal S2x256x2048 .f32) (k : FVec Ideal S16 .f32) (x : FVec Ideal S2x2x128x16x64 .f32) (v y : FVec Ideal S2x2x128x16x128 .f32)
    (w a : FVec Ideal S2x16x2x128 .f32) (st : FVec Ideal S2x3x16x64x128 .f32) : FVec Ideal S2x256x1024 .f32 :=
  shapeCast S2x256x1024 (addf (mulf (shapeCast S2x256x16x64 (extractStridedSlice S2x256x1024 ![0, 0, 0] u slices_S2x256x2048_S2x256x1024_0_0_0 : FVec Ideal S2x256x1024 .f32) shapeCasts_S2x256x1024_S2x256x16x64 : FVec Ideal S2x256x16x64 .f32) (broadcastInDim S2x256x16x64 ![0, 1, 2, 3] bcast_S1x1x16x1_S2x256x16x64_0_1_2_3 (broadcastInDim S1x1x16x1 ![2, 3] bcast_S16x1_S1x1x16x1_2_3 (broadcastInDim S16x1 ![0] bcast_S16_S16x1_0 k : FVec Ideal S16x1 .f32) : FVec Ideal S1x1x16x1 .f32) : FVec Ideal S2x256x16x64 .f32) : FVec Ideal S2x256x16x64 .f32)
      (shapeCast S2x256x16x64 (addf (transpose S2x2x128x16x64 [0, 1, 4, 2, 3] (Host.dotGeneral dot_S2x2x128x16x64_S2x16x2x128x128_S2x2x16x64x128_2_4_4_3_013_021 none x (mulf (Host.dotGeneral dot_S2x2x128x16x128_S2x2x128x16x128_S2x16x2x128x128_4_4_2_2_031_031 none y v : FVec Ideal S2x16x2x128x128 .f32) (Host.exp (select (broadcastInDim S2x16x2x128x128 ![3, 4] bcast_S128x128_S2x16x2x128x128_3_4 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : IVec S128x128 1) : IVec S2x16x2x128x128 1) (subf (broadcastInDim S2x16x2x128x128 ![0, 1, 2, 3, 4] bcast_S2x16x2x128x1_S2x16x2x128x128_0_1_2_3_4 (broadcastInDim S2x16x2x128x1 ![0, 1, 2, 3] bcast_S2x16x2x128_S2x16x2x128x1_0_1_2_3 w : FVec Ideal S2x16x2x128x1 .f32) : FVec Ideal S2x16x2x128x128 .f32) (broadcastInDim S2x16x2x128x128 ![0, 1, 2, 3, 4] bcast_S2x16x2x1x128_S2x16x2x128x128_0_1_2_3_4 (broadcastInDim S2x16x2x1x128 ![0, 1, 2, 4] bcast_S2x16x2x128_S2x16x2x1x128_0_1_2_4 w : FVec Ideal S2x16x2x1x128 .f32) : FVec Ideal S2x16x2x128x128 .f32) : FVec Ideal S2x16x2x128x128 .f32) (broadcastInDim S2x16x2x128x128 ![] bcast_S_S2x16x2x128x128 (id (constant S_ .f32 0xFF800000#32 : FVec Ideal S_ .f32)) : FVec Ideal S2x16x2x128x128 .f32) : FVec Ideal S2x16x2x128x128 .f32) : FVec Ideal S2x16x2x128x128 .f32) : FVec Ideal S2x16x2x128x128 .f32) : FVec Ideal S2x2x16x64x128 .f32) transposes_S2x2x16x64x128_S2x2x128x16x64_0_1_4_2_3 : FVec Ideal S2x2x128x16x64 .f32)
        (mulf (transpose S2x2x128x16x64 [0, 1, 4, 2, 3] (Host.dotGeneral dot_S2x2x16x64x128_S2x2x128x16x128_S2x2x16x64x128_4_4_3_2_012_013 none (extractStridedSlice S2x2x16x64x128 ![0, 0, 0, 0, 0] st slices_S2x3x16x64x128_S2x2x16x64x128_0_0_0_0_0 : FVec Ideal S2x2x16x64x128 .f32) y : FVec Ideal S2x2x16x64x128 .f32) transposes_S2x2x16x64x128_S2x2x128x16x64_0_1_4_2_3 : FVec Ideal S2x2x128x16x64 .f32) (broadcastInDim S2x2x128x16x64 ![0, 1, 2, 3, 4] bcast_S2x2x128x16x1_S2x2x128x16x64_0_1_2_3_4 (broadcastInDim S2x2x128x16x1 ![0, 1, 2, 3] bcast_S2x2x128x16_S2x2x128x16x1_0_1_2_3 (transpose S2x2x128x16 [0, 2, 3, 1] (Host.exp a) transposes_S2x16x2x128_S2x2x128x16_0_2_3_1 : FVec Ideal S2x2x128x16 .f32) : FVec Ideal S2x2x128x16x1 .f32) : FVec Ideal S2x2x128x16x64 .f32) : FVec Ideal S2x2x128x16x64 .f32) : FVec Ideal S2x2x128x16x64 .f32) shapeCasts_S2x2x128x16x64_S2x256x16x64 : FVec Ideal S2x256x16x64 .f32) : FVec Ideal S2x256x16x64 .f32) shapeCasts_S2x256x16x64_S2x256x1024

theorem ctx_outRead (u : FVec Ideal S2x256x2048 .f32) (k : FVec Ideal S16 .f32) (x : FVec Ideal S2x2x128x16x64 .f32) (v y : FVec Ideal S2x2x128x16x128 .f32)
    (w a : FVec Ideal S2x16x2x128 .f32) (st : FVec Ideal S2x3x16x64x128 .f32) (b : Fin 2) (z : Fin 2) (l : Fin 128) (h : Fin 16) (p : Fin 64)
    (q : Fin 256) (J : Fin 1024) (hq : q.val = 128 * z.val + l.val) (hh : J.val / 64 = h.val) (hp : J.val % 64 = p.val) :
    ctx_rows u k x v y w a st (ix3 b q J)
      = u (ix3 b q ⟨J.val, by omega⟩) * k (ix1 h)
        + ((∑ s : Fin 128, x (ix5 b z s h p) * ((∑ n : Fin 128, y (ix5 b z l h n) * v (ix5 b z s h n))
            * Ideal.exp (if s ≤ l then w (ix4 b h z l) - w (ix4 b h z s) else (⊥ : EReal))))
          + (∑ n : Fin 128, st (ix5 b ⟨z.val, by omega⟩ h p n) * y (ix5 b z l h n)) * Ideal.exp (a (ix4 b h z l))) := by
  have e1 : (⟨J.val / 64, by omega⟩ : Fin 16) = h := Fin.ext hh
  have e2 : (⟨J.val % 64, by omega⟩ : Fin 64) = p := Fin.ext hp
  unfold ctx_rows
  rw [ctx_joinColumns, e1, e2, plus_at, prod_at, ctx_split_columns, ctx_first_columns, ctx_skips, ctx_joinRows _ b z l h p q hq, plus_at, prod_at, ctx_turnRows, ctx_turnRows,
    ctx_dotRows, ctx_dotState, ctx_decays]
  refine congrArg₂ (· + ·) (congrArg₂ (· * ·) (congrArg u (congrArg (ix3 b q) (Fin.ext (by simp only []; omega)))) rfl)
    (congrArg₂ (· + ·) (Finset.sum_congr rfl fun s _ => ?_) (congrArg₂ (· * ·) (Finset.sum_congr rfl fun n _ => ?_) rfl))
  · rw [prod_at, ctx_dotPairs, ctx_tril]
  · rw [ctx_front]

theorem ctx_rows_out (hA : (argsOf V0).Finite) (b : Fin 2) (q : Fin 256) (r : Fin 8448) (hr : r.val = q.val + 0) (J : Fin 1024) :
    ctx_rows (res_main_v39 V0) (V0 (Proc.devRef .tc main_arg7)) (res_main_v109 V0) (res_main_v110 V0) (res_main_v111 V0) (res_main_v116 V0) (res_main_v114 V0) (res_main_v154 V0) (ix3 b q J)
      = act (argsOf V0) b r (chX J) * (argsOf V0).sk (headOf J)
        + scanOf (argsOf V0) b (q.val / 128 + 0) ⟨q.val % 128, by omega⟩ J := by
  have hq := q.isLt
  have hrow : row (q.val / 128 + 0) (⟨q.val % 128, by omega⟩ : Fin 128) = r := Fin.ext (by simp only [row]; omega)
  refine (ctx_outRead _ _ _ _ _ _ _ _ b ⟨q.val / 128, by omega⟩ ⟨q.val % 128, by omega⟩ (headOf J) ⟨J.val % 64, by omega⟩ q J
    (by simp only []; omega) rfl rfl).trans ?_
  have hX : (⟨64 * (headOf J).val + J.val % 64, by simp only [headOf]; omega⟩ : Fin 2048) = chX J := Fin.ext (by simp only [headOf, chX]; omega)
  have hB : ∀ n : Fin 128, (⟨1024 + 128 * ((headOf J).val / 4) + n.val, by simp only [headOf]; omega⟩ : Fin 2048) = chB J n := fun n => Fin.ext (by simp only [headOf, chB]; omega)
  have hC : ∀ n : Fin 128, (⟨1536 + 128 * ((headOf J).val / 4) + n.val, by simp only [headOf]; omega⟩ : Fin 2048) = chC J n := fun n => Fin.ext (by simp only [headOf, chC]; omega)
  unfold scanOf
  have e0 := ctx_act V0 b q (chX J)
  have e1 : ∀ s : Fin 128, (show FVec Ideal S2x2x128x16x64 .f32 from res_main_v109 V0) (ix5 b ⟨q.val / 128, by omega⟩ s (headOf J) ⟨J.val % 64, by omega⟩) = _ := fun s => ctx_xv V0 b ⟨q.val / 128, by omega⟩ s (headOf J) ⟨J.val % 64, by omega⟩
  have e2 := fun (s n : Fin 128) => ctx_inp V0 b ⟨q.val / 128, by omega⟩ s (headOf J) n
  have e3 := fun n : Fin 128 => ctx_outp V0 b ⟨q.val / 128, by omega⟩ ⟨q.val % 128, by omega⟩ (headOf J) n
  have e4 := fun s : Fin 128 => ctx_cumv116 V0 b (headOf J) ⟨q.val / 128, by omega⟩ s
  have e5 := ctx_cumv114 V0 b (headOf J) ⟨q.val / 128, by omega⟩ ⟨q.val % 128, by omega⟩
  have e6 := fun n : Fin 128 => ctx_state V0 hA b ⟨q.val / 128, by omega⟩ (headOf J) ⟨J.val % 64, by omega⟩ n J (by simp only [headOf]; omega)
  simp only [hX, hB, hC] at e0 e1 e2 e3 e4 e5 e6
  refine congrArg₂ (· + ·) (congrArg₂ (· * ·) (e0.trans ?_) rfl) (congrArg₂ (· + ·) (Finset.sum_congr rfl fun s _ => ?_)
    (congrArg₂ (· * ·) (Finset.sum_congr rfl fun n _ => ?_) (congrArg Ideal.exp e5)))
  · exact congrArg (fun r => act (argsOf V0) b r (chX J)) (Fin.ext (by simp only []; omega))
  · rw [e1, e4, e4, mul_comm]
    refine congrArg₂ (· * ·) (congrArg₂ (· * ·) (Finset.sum_congr rfl fun n _ => ?_) rfl) rfl
    rw [e3, e2]
  · rw [e6, e3, mul_comm]

/-- The states before the chunks of the part, from the state before it. -/
def lat_tab (h0 : FVec Ideal S2x16x64x128 .f32) (u : FVec Ideal S2x64x128x16x64 .f32) (v : FVec Ideal S2x64x128x16x128 .f32)
    (a : FVec Ideal S2x16x64x128 .f32) (w : FVec Ideal S2x16x65 .f32) : FVec Ideal S2x65x16x64x128 .f32 :=
  (transpose S2x65x16x64x128 [0, 4, 1, 2, 3] (Host.dotGeneral dot_S2x65x16x64x128_S2x16x65x65_S2x16x64x128x65_1_3_34_2_02_01 none
      (concatenate S2x65x16x64x128 1 [⟨S2x1x16x64x128, (broadcastInDim S2x1x16x64x128 ![0, 2, 3, 4] bcast_S2x16x64x128_S2x1x16x64x128_0_2_3_4 h0 : FVec Ideal S2x1x16x64x128 .f32)⟩, ⟨S2x64x16x64x128, (Host.dotGeneral dot_S2x64x128x16x64_S2x64x128x16x128_S2x64x16x64x128_2_2_4_4_013_013 none u (mulf v (broadcastInDim S2x64x128x16x128 ![0, 1, 2, 3, 4] bcast_S2x64x128x16x1_S2x64x128x16x128_0_1_2_3_4 (broadcastInDim S2x64x128x16x1 ![0, 1, 2, 3] bcast_S2x64x128x16_S2x64x128x16x1_0_1_2_3 (transpose S2x64x128x16 [0, 2, 3, 1] (Host.exp (subf (broadcastInDim S2x16x64x128 ![0, 1, 2, 3] bcast_S2x16x64x1_S2x16x64x128_0_1_2_3 (extractStridedSlice S2x16x64x1 ![0, 0, 0, 127] a slices_S2x16x64x128_S2x16x64x1_0_0_0_127 : FVec Ideal S2x16x64x1 .f32) : FVec Ideal S2x16x64x128 .f32) a)) transposes_S2x16x64x128_S2x64x128x16_0_2_3_1 : FVec Ideal S2x64x128x16 .f32) : FVec Ideal S2x64x128x16x1 .f32) : FVec Ideal S2x64x128x16x128 .f32) : FVec Ideal S2x64x128x16x128 .f32) : FVec Ideal S2x64x16x64x128 .f32)⟩] concatenates_S2x1x16x64x128_S2x64x16x64x128_S2x65x16x64x128_d1 : FVec Ideal S2x65x16x64x128 .f32)
      (Host.exp (select (broadcastInDim S2x16x65x65 ![2, 3] bcast_S65x65_S2x16x65x65_2_3 (select (cmpi .sge (addi (iotaInDim S65x65 32 0) (broadcastInDim S65x65 ![] bcast_S_S65x65 (constantI S_ 32 0#32))) (iotaInDim S65x65 32 1)) (broadcastInDim S65x65 ![] bcast_S_S65x65 (constantI S_ 1 1#1)) (broadcastInDim S65x65 ![] bcast_S_S65x65 (constantI S_ 1 0#1)) : IVec S65x65 1) : IVec S2x16x65x65 1) (subf (broadcastInDim S2x16x65x65 ![0, 1, 2, 3] bcast_S2x16x65x1_S2x16x65x65_0_1_2_3 (broadcastInDim S2x16x65x1 ![0, 1, 2] bcast_S2x16x65_S2x16x65x1_0_1_2 w : FVec Ideal S2x16x65x1 .f32) : FVec Ideal S2x16x65x65 .f32) (broadcastInDim S2x16x65x65 ![0, 1, 2, 3] bcast_S2x16x1x65_S2x16x65x65_0_1_2_3 (broadcastInDim S2x16x1x65 ![0, 1, 3] bcast_S2x16x65_S2x16x1x65_0_1_3 w : FVec Ideal S2x16x1x65 .f32) : FVec Ideal S2x16x65x65 .f32) : FVec Ideal S2x16x65x65 .f32) (broadcastInDim S2x16x65x65 ![] bcast_S_S2x16x65x65 (id (constant S_ .f32 0xFF800000#32 : FVec Ideal S_ .f32)) : FVec Ideal S2x16x65x65 .f32) : FVec Ideal S2x16x65x65 .f32) : FVec Ideal S2x16x65x65 .f32) : FVec Ideal S2x16x64x128x65 .f32) transposes_S2x16x64x128x65_S2x65x16x64x128_0_4_1_2_3 : FVec Ideal S2x65x16x64x128 .f32)

theorem lat_stateRead (h0 : FVec Ideal S2x16x64x128 .f32) (u : FVec Ideal S2x64x128x16x64 .f32) (v : FVec Ideal S2x64x128x16x128 .f32)
    (a : FVec Ideal S2x16x64x128 .f32) (w : FVec Ideal S2x16x65 .f32) (b : Fin 2) (z : Fin 65) (h : Fin 16) (p : Fin 64) (n : Fin 128) :
    lat_tab h0 u v a w (ix5 b z h p n)
      = ∑ c : Fin 65, (if hc : c.val = 0 then h0 (ix4 b h p n) else ∑ l : Fin 128, u (ix5 b ⟨c.val - 1, by omega⟩ l h p)
          * (v (ix5 b ⟨c.val - 1, by omega⟩ l h n) * Ideal.exp (a (ix4 b h ⟨c.val - 1, by omega⟩ 127) - a (ix4 b h ⟨c.val - 1, by omega⟩ l))))
        * Ideal.exp (if c ≤ z then w (ix3 b h z) - w (ix3 b h c) else (⊥ : EReal)) := by
  unfold lat_tab
  rw [lat_turn, lat_dotCarry]
  refine Finset.sum_congr rfl fun c _ => ?_
  rw [lat_heads, lat_mask]
  by_cases hc : c.val = 0
  · rw [dif_pos hc, dif_pos hc]
  · rw [dif_neg hc, dif_neg hc, lat_dotAdd]
    refine congrArg₂ (· * ·) (Finset.sum_congr rfl fun l _ => ?_) rfl
    rw [lat_fade]

theorem lat_tab_eq : (show FVec Ideal S2x65x16x64x128 .f32 from res_main_v238 V0) = lat_tab (shapeCast S2x16x64x128 (extractStridedSlice S2x1x16x64x128 ![0, 2, 0, 0, 0] (res_main_v154 V0) slices_S2x3x16x64x128_S2x1x16x64x128_0_2_0_0_0 : FVec Ideal S2x1x16x64x128 .f32) shapeCasts_S2x1x16x64x128_S2x16x64x128) (res_main_v193 V0) (res_main_v194 V0) (res_main_v198 V0) (res_main_v227 V0) := by
  unfold res_main_v238 lat_tab
  rfl

/-- The state before chunk `z` of the part. -/
theorem lat_state (hA : (argsOf V0).Finite) (b : Fin 2) (z : Fin 65) (h : Fin 16) (p : Fin 64) (n : Fin 128) (J : Fin 1024) (hJ : J.val = 64 * h.val + p.val) :
    (show FVec Ideal S2x65x16x64x128 .f32 from res_main_v238 V0) (ix5 b z h p n) = stateOf (argsOf V0) b J n (z.val + 2) := by
  have hh : headOf J = h := Fin.ext (by simp only [headOf]; omega)
  have hX : chX J = ⟨64 * h.val + p.val, by omega⟩ := Fin.ext hJ
  have hB : chB J n = ⟨1024 + 128 * (h.val / 4) + n.val, by omega⟩ := Fin.ext (by simp only [chB]; omega)
  choose e he using fun c : ℕ => cum_real (argsOf V0) hA b (c + 2) h 127
  refine (congrFun (lat_tab_eq V0) (ix5 b z h p n)).trans ((lat_stateRead _ _ _ _ _ b z h p n).trans ?_)
  refine Eq.trans (Finset.sum_congr rfl fun c _ => congrArg₂ (· * ·) ?_ rfl)
    (carry (fun c => if c = 0 then stateOf (argsOf V0) b J n 2 else added (argsOf V0) b (c - 1 + 2) J n) e
      (fun z => (show FVec Ideal S2x16x65 .f32 from res_main_v227 V0) (ix3 b h z)) (lat_ends V0 e b h fun c => he c.val)
      (fun z => stateOf (argsOf V0) b J n (z + 2)) ?_ ?_ z)
  · by_cases hc : c.val = 0
    · rw [dif_pos hc]
      simp only [hc, if_true]
      exact (lat_given (res_main_v154 V0) b h p n).trans (ctx_state V0 hA b 2 h p n J hJ)
    · rw [dif_neg hc]
      simp only [hc, if_false]
      unfold added
      rw [hh, hX, hB]
      refine Finset.sum_congr rfl fun l _ => ?_
      have e1 := lat_xv V0 b ⟨c.val - 1, by omega⟩ l h p
      have e2 := lat_inp V0 b ⟨c.val - 1, by omega⟩ l h n
      have e3 := lat_cumv198 V0 b h ⟨c.val - 1, by omega⟩ 127
      have e4 := lat_cumv198 V0 b h ⟨c.val - 1, by omega⟩ l
      simp only [] at e1 e2 e3 e4
      rw [e1, e2, e3, e4, mul_left_comm]
  · simp
  · intro z hz
    have e0 : z + 1 + 2 = (z + 2) + 1 := by omega
    simp only [Nat.succ_ne_zero, if_false, Nat.add_sub_cancel]
    rw [e0, stateOf, hh, ← he z] <;> rfl

/-- The part's rows of the result, without the other direction's. -/
def lat_rows (u : FVec Ideal S2x8192x2048 .f32) (k : FVec Ideal S16 .f32) (x : FVec Ideal S2x64x128x16x64 .f32) (v y : FVec Ideal S2x64x128x16x128 .f32)
    (w a : FVec Ideal S2x16x64x128 .f32) (st : FVec Ideal S2x65x16x64x128 .f32) : FVec Ideal S2x8192x1024 .f32 :=
  shapeCast S2x8192x1024 (addf (mulf (shapeCast S2x8192x16x64 (extractStridedSlice S2x8192x1024 ![0, 0, 0] u slices_S2x8192x2048_S2x8192x1024_0_0_0 : FVec Ideal S2x8192x1024 .f32) shapeCasts_S2x8192x1024_S2x8192x16x64 : FVec Ideal S2x8192x16x64 .f32) (broadcastInDim S2x8192x16x64 ![0, 1, 2, 3] bcast_S1x1x16x1_S2x8192x16x64_0_1_2_3 (broadcastInDim S1x1x16x1 ![2, 3] bcast_S16x1_S1x1x16x1_2_3 (broadcastInDim S16x1 ![0] bcast_S16_S16x1_0 k : FVec Ideal S16x1 .f32) : FVec Ideal S1x1x16x1 .f32) : FVec Ideal S2x8192x16x64 .f32) : FVec Ideal S2x8192x16x64 .f32)
      (shapeCast S2x8192x16x64 (addf (transpose S2x64x128x16x64 [0, 1, 4, 2, 3] (Host.dotGeneral dot_S2x64x128x16x64_S2x16x64x128x128_S2x64x16x64x128_2_4_4_3_013_021 none x (mulf (Host.dotGeneral dot_S2x64x128x16x128_S2x64x128x16x128_S2x16x64x128x128_4_4_2_2_031_031 none y v : FVec Ideal S2x16x64x128x128 .f32) (Host.exp (select (broadcastInDim S2x16x64x128x128 ![3, 4] bcast_S128x128_S2x16x64x128x128_3_4 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : IVec S128x128 1) : IVec S2x16x64x128x128 1) (subf (broadcastInDim S2x16x64x128x128 ![0, 1, 2, 3, 4] bcast_S2x16x64x128x1_S2x16x64x128x128_0_1_2_3_4 (broadcastInDim S2x16x64x128x1 ![0, 1, 2, 3] bcast_S2x16x64x128_S2x16x64x128x1_0_1_2_3 w : FVec Ideal S2x16x64x128x1 .f32) : FVec Ideal S2x16x64x128x128 .f32) (broadcastInDim S2x16x64x128x128 ![0, 1, 2, 3, 4] bcast_S2x16x64x1x128_S2x16x64x128x128_0_1_2_3_4 (broadcastInDim S2x16x64x1x128 ![0, 1, 2, 4] bcast_S2x16x64x128_S2x16x64x1x128_0_1_2_4 w : FVec Ideal S2x16x64x1x128 .f32) : FVec Ideal S2x16x64x128x128 .f32) : FVec Ideal S2x16x64x128x128 .f32) (broadcastInDim S2x16x64x128x128 ![] bcast_S_S2x16x64x128x128 (id (constant S_ .f32 0xFF800000#32 : FVec Ideal S_ .f32)) : FVec Ideal S2x16x64x128x128 .f32) : FVec Ideal S2x16x64x128x128 .f32) : FVec Ideal S2x16x64x128x128 .f32) : FVec Ideal S2x16x64x128x128 .f32) : FVec Ideal S2x64x16x64x128 .f32) transposes_S2x64x16x64x128_S2x64x128x16x64_0_1_4_2_3 : FVec Ideal S2x64x128x16x64 .f32)
        (mulf (transpose S2x64x128x16x64 [0, 1, 4, 2, 3] (Host.dotGeneral dot_S2x64x16x64x128_S2x64x128x16x128_S2x64x16x64x128_4_4_3_2_012_013 none (extractStridedSlice S2x64x16x64x128 ![0, 0, 0, 0, 0] st slices_S2x65x16x64x128_S2x64x16x64x128_0_0_0_0_0 : FVec Ideal S2x64x16x64x128 .f32) y : FVec Ideal S2x64x16x64x128 .f32) transposes_S2x64x16x64x128_S2x64x128x16x64_0_1_4_2_3 : FVec Ideal S2x64x128x16x64 .f32) (broadcastInDim S2x64x128x16x64 ![0, 1, 2, 3, 4] bcast_S2x64x128x16x1_S2x64x128x16x64_0_1_2_3_4 (broadcastInDim S2x64x128x16x1 ![0, 1, 2, 3] bcast_S2x64x128x16_S2x64x128x16x1_0_1_2_3 (transpose S2x64x128x16 [0, 2, 3, 1] (Host.exp a) transposes_S2x16x64x128_S2x64x128x16_0_2_3_1 : FVec Ideal S2x64x128x16 .f32) : FVec Ideal S2x64x128x16x1 .f32) : FVec Ideal S2x64x128x16x64 .f32) : FVec Ideal S2x64x128x16x64 .f32) : FVec Ideal S2x64x128x16x64 .f32) shapeCasts_S2x64x128x16x64_S2x8192x16x64 : FVec Ideal S2x8192x16x64 .f32) : FVec Ideal S2x8192x16x64 .f32) shapeCasts_S2x8192x16x64_S2x8192x1024

theorem lat_outRead (u : FVec Ideal S2x8192x2048 .f32) (k : FVec Ideal S16 .f32) (x : FVec Ideal S2x64x128x16x64 .f32) (v y : FVec Ideal S2x64x128x16x128 .f32)
    (w a : FVec Ideal S2x16x64x128 .f32) (st : FVec Ideal S2x65x16x64x128 .f32) (b : Fin 2) (z : Fin 64) (l : Fin 128) (h : Fin 16) (p : Fin 64)
    (q : Fin 8192) (J : Fin 1024) (hq : q.val = 128 * z.val + l.val) (hh : J.val / 64 = h.val) (hp : J.val % 64 = p.val) :
    lat_rows u k x v y w a st (ix3 b q J)
      = u (ix3 b q ⟨J.val, by omega⟩) * k (ix1 h)
        + ((∑ s : Fin 128, x (ix5 b z s h p) * ((∑ n : Fin 128, y (ix5 b z l h n) * v (ix5 b z s h n))
            * Ideal.exp (if s ≤ l then w (ix4 b h z l) - w (ix4 b h z s) else (⊥ : EReal))))
          + (∑ n : Fin 128, st (ix5 b ⟨z.val, by omega⟩ h p n) * y (ix5 b z l h n)) * Ideal.exp (a (ix4 b h z l))) := by
  have e1 : (⟨J.val / 64, by omega⟩ : Fin 16) = h := Fin.ext hh
  have e2 : (⟨J.val % 64, by omega⟩ : Fin 64) = p := Fin.ext hp
  unfold lat_rows
  rw [lat_joinColumns, e1, e2, plus_at, prod_at, split_columns, first_columns, lat_skips, lat_joinRows _ b z l h p q hq, plus_at, prod_at, lat_turnRows, lat_turnRows,
    lat_dotRows, lat_dotState, lat_decays]
  refine congrArg₂ (· + ·) (congrArg₂ (· * ·) (congrArg u (congrArg (ix3 b q) (Fin.ext (by simp only []; omega)))) rfl)
    (congrArg₂ (· + ·) (Finset.sum_congr rfl fun s _ => ?_) (congrArg₂ (· * ·) (Finset.sum_congr rfl fun n _ => ?_) rfl))
  · rw [prod_at, lat_dotPairs, lat_tril]
  · rw [lat_front]

theorem lat_rows_out (hA : (argsOf V0).Finite) (b : Fin 2) (q : Fin 8192) (r : Fin 8448) (hr : r.val = q.val + 256) (J : Fin 1024) :
    lat_rows (res_main_v79 V0) (V0 (Proc.devRef .tc main_arg7)) (res_main_v193 V0) (res_main_v194 V0) (res_main_v195 V0) (res_main_v200 V0) (res_main_v198 V0) (res_main_v238 V0) (ix3 b q J)
      = act (argsOf V0) b r (chX J) * (argsOf V0).sk (headOf J)
        + scanOf (argsOf V0) b (q.val / 128 + 2) ⟨q.val % 128, by omega⟩ J := by
  have hq := q.isLt
  have hrow : row (q.val / 128 + 2) (⟨q.val % 128, by omega⟩ : Fin 128) = r := Fin.ext (by simp only [row]; omega)
  refine (lat_outRead _ _ _ _ _ _ _ _ b ⟨q.val / 128, by omega⟩ ⟨q.val % 128, by omega⟩ (headOf J) ⟨J.val % 64, by omega⟩ q J
    (by simp only []; omega) rfl rfl).trans ?_
  have hX : (⟨64 * (headOf J).val + J.val % 64, by simp only [headOf]; omega⟩ : Fin 2048) = chX J := Fin.ext (by simp only [headOf, chX]; omega)
  have hB : ∀ n : Fin 128, (⟨1024 + 128 * ((headOf J).val / 4) + n.val, by simp only [headOf]; omega⟩ : Fin 2048) = chB J n := fun n => Fin.ext (by simp only [headOf, chB]; omega)
  have hC : ∀ n : Fin 128, (⟨1536 + 128 * ((headOf J).val / 4) + n.val, by simp only [headOf]; omega⟩ : Fin 2048) = chC J n := fun n => Fin.ext (by simp only [headOf, chC]; omega)
  unfold scanOf
  have e0 := lat_act V0 b q (chX J)
  have e1 : ∀ s : Fin 128, (show FVec Ideal S2x64x128x16x64 .f32 from res_main_v193 V0) (ix5 b ⟨q.val / 128, by omega⟩ s (headOf J) ⟨J.val % 64, by omega⟩) = _ := fun s => lat_xv V0 b ⟨q.val / 128, by omega⟩ s (headOf J) ⟨J.val % 64, by omega⟩
  have e2 := fun (s n : Fin 128) => lat_inp V0 b ⟨q.val / 128, by omega⟩ s (headOf J) n
  have e3 := fun n : Fin 128 => lat_outp V0 b ⟨q.val / 128, by omega⟩ ⟨q.val % 128, by omega⟩ (headOf J) n
  have e4 := fun s : Fin 128 => lat_cumv200 V0 b (headOf J) ⟨q.val / 128, by omega⟩ s
  have e5 := lat_cumv198 V0 b (headOf J) ⟨q.val / 128, by omega⟩ ⟨q.val % 128, by omega⟩
  have e6 := fun n : Fin 128 => lat_state V0 hA b ⟨q.val / 128, by omega⟩ (headOf J) ⟨J.val % 64, by omega⟩ n J (by simp only [headOf]; omega)
  simp only [hX, hB, hC] at e0 e1 e2 e3 e4 e5 e6
  refine congrArg₂ (· + ·) (congrArg₂ (· * ·) (e0.trans ?_) rfl) (congrArg₂ (· + ·) (Finset.sum_congr rfl fun s _ => ?_)
    (congrArg₂ (· * ·) (Finset.sum_congr rfl fun n _ => ?_) (congrArg Ideal.exp e5)))
  · exact congrArg (fun r => act (argsOf V0) b r (chX J)) (Fin.ext (by simp only []; omega))
  · rw [e1, e4, e4, mul_comm]
    refine congrArg₂ (· * ·) (congrArg₂ (· * ·) (Finset.sum_congr rfl fun n _ => ?_) rfl) rfl
    rw [e3, e2]
  · rw [e6, e3, mul_comm]

/-- The reference's result. -/
def result : FVec Ideal S2x8448x1024 .f32 := addf (res_main_v267 V0 : FVec Ideal S2x8448x1024 .f32) (V0 (Proc.devRef .tc main_arg6) : FVec Ideal S2x8448x1024 .f32)

theorem rows_eq : (show FVec Ideal S2x8448x1024 .f32 from res_main_v267 V0)
    = (concatenate S2x8448x1024 1 [⟨S2x256x1024, ctx_rows (res_main_v39 V0) (V0 (Proc.devRef .tc main_arg7)) (res_main_v109 V0) (res_main_v110 V0) (res_main_v111 V0) (res_main_v116 V0) (res_main_v114 V0) (res_main_v154 V0)⟩,
        ⟨S2x8192x1024, lat_rows (res_main_v79 V0) (V0 (Proc.devRef .tc main_arg7)) (res_main_v193 V0) (res_main_v194 V0) (res_main_v195 V0) (res_main_v200 V0) (res_main_v198 V0) (res_main_v238 V0)⟩] concatenates_S2x256x1024_S2x8192x1024_S2x8448x1024_d1 : FVec Ideal S2x8448x1024 .f32) := by
  unfold res_main_v267 ctx_rows lat_rows
  rfl

/-- The reference's result at an index. -/
theorem result_at (hA : (argsOf V0).Finite) (b : Fin 2) (r : Fin 8448) (J : Fin 1024) :
    result V0 (ix3 b r J) = outOf (argsOf V0) b (r.val / 128) ⟨r.val % 128, by omega⟩ J := by
  have hr := r.isLt
  have hrow : row (r.val / 128) (⟨r.val % 128, by omega⟩ : Fin 128) = r := Fin.ext (by simp only [row]; omega)
  have key : (show FVec Ideal S2x8448x1024 .f32 from res_main_v267 V0) (ix3 b r J)
      = act (argsOf V0) b r (chX J) * (argsOf V0).sk (headOf J) + scanOf (argsOf V0) b (r.val / 128) ⟨r.val % 128, by omega⟩ J := by
    refine (congrFun (rows_eq V0) (ix3 b r J)).trans ((both_parts _ _ b r J).trans ?_)
    by_cases hp : r.val < 256
    · rw [dif_pos hp]
      exact ctx_rows_out V0 hA b ⟨r.val, hp⟩ r rfl J
    · rw [dif_neg hp]
      refine (lat_rows_out V0 hA b ⟨r.val - 256, by omega⟩ r (by simp only []; omega) J).trans ?_
      refine congrArg₂ (· + ·) rfl (congrArg₂ (fun c l => scanOf (argsOf V0) b c l J) ?_ (Fin.ext ?_))
      · simp only []; omega
      · simp only []; omega
  unfold outOf
  rw [hrow]
  refine (congrArg₂ (· + ·) key rfl : result V0 (ix3 b r J) = _ + (argsOf V0).yb b r J).trans ?_
  rw [add_comm (act (argsOf V0) b r (chX J) * (argsOf V0).sk (headOf J)), add_assoc, add_assoc, add_comm ((argsOf V0).yb b r J)]

end Cert.SsdRefIdeal.Proj

end
-- ==== Proof.SsdFinal.lean ====
module

public import proofs.«01_k».proof.Proof.Gen.SsdIdeal.Value
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.SsdFrames
public import proofs.«01_k».proof.Proof.SsdState
public import proofs.«01_k».proof.Proof.Gen.Pre_finite_steps
public import proofs.«01_k».proof.Pre_finite_steps

@[expose] public section

set_option maxRecDepth 16384

noncomputable section

open Idealize.ShloMosaic Idealize.ShloMosaic.TcCoe Idealize.SL.Sem
open Idealize.ShloMosaic.Pipeline (Dat)
open scoped BigOperators
open Cert.ScanSum

namespace Cert.SsdIdeal.Proj

open Cert.SsdIdeal Cert.SsdIdeal.Gen

variable (m : (ℓ : Loc nD τ sig) → Buf (Elt Ideal) ℓ)

/-- The state after a chunk is the scan's. -/
theorem state_inv (c : Dev nD) : ∀ (k : ℕ) (hk : k < cfg0.N) (g : Fin 4) (n : Fin 128) (q : Fin 256),
    (outsAt0 m c k hk).2 (ix3 g n q) = stateOf (argsOf m c) (bat ⟨k, hk⟩) (col g q) n (k % 66 + 1) := by
  intro k
  induction k with
  | zero => exact fun hk g n q => first_state m c ⟨0, hk⟩ rfl g n q
  | succ k ih =>
    intro hk g n q
    by_cases h0 : (k + 1) % 66 = 0
    · exact first_state m c ⟨k + 1, hk⟩ h0 g n q
    · refine later_state m c ⟨k + 1, hk⟩ h0 (fun g n q => ?_) g n q
      have e := ih (Nat.lt_of_succ_lt hk) g n q
      have hb : bat ⟨k, Nat.lt_of_succ_lt hk⟩ = bat ⟨k + 1, hk⟩ := Fin.ext (by simp only [bat]; omega)
      have hs : k % 66 + 1 = (k + 1) % 66 := by omega
      rw [hb, hs] at e
      exact e

/-- The result of a chunk is the scan's. -/
theorem out_inv (c : Dev nD) (t : Fin cfg0.N) (a : Fin 1) (l : Fin 128) (J : Fin 1024) :
    (outsAt0 m c t.val t.isLt).1 (ix3 a l J) = outOf (argsOf m c) (bat t) (t.val % 66) l J := by
  rw [Subsingleton.elim a 0]
  have e : J = col ⟨J.val / 256, by omega⟩ ⟨J.val % 256, by omega⟩ := Fin.ext (by simp only [col]; omega)
  rw [e]
  by_cases h0 : t.val % 66 = 0
  · exact first_out m c t h0 _ l _
  · refine later_out m c t h0 (fun g n q => ?_) _ l _
    have i := state_inv m c (t.val - 1) (by omega) g n q
    have hb : bat ⟨t.val - 1, by omega⟩ = bat t := Fin.ext (by simp only [bat]; omega)
    have hs : (t.val - 1) % 66 + 1 = t.val % 66 := by omega
    rw [hb, hs] at i
    exact i

theorem chunk_at (c : Dev nD) (R : FVec Ideal S2x8448x1024 .f32)
    (hR : ∀ (b : Fin 2) (r : Fin 8448) (J : Fin 1024), R (ix3 b r J) = outOf (argsOf m c) b (r.val / 128) ⟨r.val % 128, by omega⟩ J)
    (b : Fin 2) (s : ℕ) (hs : s < 66) (l : Fin 128) (J : Fin 1024) : R (ix3 b (row s l) J) = outOf (argsOf m c) b s l J := by
  have hv : (row s l).val = 128 * s + l.val := by
    show (128 * s + l.val) % 8448 = _
    omega
  have h1 : (row s l).val / 128 = s := by omega
  have h2 : (⟨(row s l).val % 128, by omega⟩ : Fin 128) = l := Fin.ext (by simp only [hv]; omega)
  rw [hR, h1, h2]

/-- The kernel's result is what the whole scan gives. -/
theorem final (c : Dev nD) (R : FVec Ideal S2x8448x1024 .f32)
    (hR : ∀ (b : Fin 2) (r : Fin 8448) (J : Fin 1024), R (ix3 b r J) = outOf (argsOf m c) b (r.val / 128) ⟨r.val % 128, by omega⟩ J) :
    (dats m 0 c).arrAt 11 (cfgs 0).N = R := by
  refine (dats m 0 c).arrAt_eq_of_covers 11 _ (by decide +kernel) fun t hf y => ?_
  blk_simp; rw [after0_11]
  refine (congrArg _ (eq_ix3 y)).trans ?_
  refine (out_inv m c t (y 0) (y 1) (y 2)).trans ?_
  have ht : t.val < 132 := lt_of_lt_of_eq t.isLt N_0
  refine (chunk_at m c R hR (bat t) (t.val % 66) (Nat.mod_lt _ (by decide)) (y 1) (y 2)).symm.trans ?_
  refine congrArg R ?_
  blk_ext [idx t, row, bat]

theorem inf_word : Ideal.ofBits .f32 0x7F800000#32 = (⊤ : EReal) := by
  simp [Ideal.ofBits, Ideal.ieee]

theorem real_of_abs_lt (x : EReal) (h : BitVec.ofBool (decide ((FloatOps.absf (F := Ideal) (φ := .f32) x : EReal) < Ideal.ofBits .f32 0x7F800000#32)) = 1#1) : ∃ r : ℝ, x = (r : EReal) := by
  rw [inf_word] at h
  have hl : (max x (-x) : EReal) < ⊤ := by
    by_contra hc
    have hd : decide ((FloatOps.absf (F := Ideal) (φ := .f32) x : EReal) < ⊤) = false := decide_eq_false hc
    rw [hd] at h
    exact absurd h (by decide)
  induction x with
  | bot => simp at hl
  | top => simp at hl
  | coe r => exact ⟨r, rfl⟩

theorem real_steps (x : FVec Ideal Cert.Pre_finite_steps.S2x8448x32 .f32) (b : Fin 2) (p : Fin 8448) (h : Fin 16)
    (e : (cmpf .olt (Host.absf (extractStridedSlice Cert.Pre_finite_steps.S2x8448x16 ![0, 0, 0] x Cert.Pre_finite_steps.Gen.facts.slices_S2x8448x32_S2x8448x16_0_0_0))
      (broadcastInDim Cert.Pre_finite_steps.S2x8448x16 ![] Cert.Pre_finite_steps.Gen.facts.bcast_S_S2x8448x16 (constant (F := Ideal) Cert.Pre_finite_steps.S_ .f32 0x7F800000#32)) : IVec Cert.Pre_finite_steps.S2x8448x16 1) (ix3 b p h) = 1#1) :
    ∃ r : ℝ, x (ix3 b p ⟨h.val, by omega⟩) = (r : EReal) := by
  refine real_of_abs_lt _ ?_
  rw [← e]
  pointwise []

theorem real_row (x : FVec Ideal Cert.Pre_finite_steps.S2x16 .f32) (h : Fin 16)
    (e : (cmpf .olt (Host.absf (shapeCast Cert.Pre_finite_steps.S16 (extractStridedSlice Cert.Pre_finite_steps.S1x16 ![0, 0] x Cert.Pre_finite_steps.Gen.facts.slices_S2x16_S1x16_0_0) Cert.Pre_finite_steps.Gen.facts.shapeCasts_S1x16_S16))
      (broadcastInDim Cert.Pre_finite_steps.S16 ![] Cert.Pre_finite_steps.Gen.facts.bcast_S_S16 (constant (F := Ideal) Cert.Pre_finite_steps.S_ .f32 0x7F800000#32)) : IVec Cert.Pre_finite_steps.S16 1) (ix1 h) = 1#1) :
    ∃ r : ℝ, x (ix2 0 h) = (r : EReal) := by
  refine real_of_abs_lt _ ?_
  rw [← e]
  pointwise []

/-- The claim's precondition makes the numbers of the decays real. -/
theorem finite_args (c : Dev nD)
    (x : FVec Ideal Cert.Pre_finite_steps.S2x8448x2048 .f32) (w : FVec Ideal Cert.Pre_finite_steps.S5x2048 .f32) (cb : FVec Ideal Cert.Pre_finite_steps.S2048 .f32)
    (yb : FVec Ideal Cert.Pre_finite_steps.S2x8448x1024 .f32) (sk : FVec Ideal Cert.Pre_finite_steps.S16 .f32)
    (h1 : (Cert.Pre_finite_steps.fn (F := Ideal) x (m ((c : Thread nD τ).loc main_arg1)) w cb (m ((c : Thread nD τ).loc main_arg4)) (m ((c : Thread nD τ).loc main_arg5)) yb sk).1 = fun _ => 1#1)
    (h2 : (Cert.Pre_finite_steps.fn (F := Ideal) x (m ((c : Thread nD τ).loc main_arg1)) w cb (m ((c : Thread nD τ).loc main_arg4)) (m ((c : Thread nD τ).loc main_arg5)) yb sk).2.1 = fun _ => 1#1)
    (h3 : (Cert.Pre_finite_steps.fn (F := Ideal) x (m ((c : Thread nD τ).loc main_arg1)) w cb (m ((c : Thread nD τ).loc main_arg4)) (m ((c : Thread nD τ).loc main_arg5)) yb sk).2.2 = fun _ => 1#1) :
    (argsOf m c).Finite where
  ds b p h := real_steps _ b p h (congrFun h1 (ix3 b p h))
  al h := real_row _ h (congrFun h2 (ix1 h))
  bs h := real_row _ h (congrFun h3 (ix1 h))

/-- The arguments of the reference's run, when they are the kernel's. -/
theorem args_eq (m' : (ℓ : Loc Cert.SsdRefIdeal.nD Cert.SsdRefIdeal.τ Cert.SsdRefIdeal.sig) → Buf (Elt Ideal) ℓ) (c : Dev nD)
    (h0 : m' ((c.tc : Thread Cert.SsdRefIdeal.nD Cert.SsdRefIdeal.τ).loc Cert.SsdRefIdeal.main_arg0) = m ((c.tc : Thread nD τ).loc main_arg0))
    (h1 : m' ((c.tc : Thread Cert.SsdRefIdeal.nD Cert.SsdRefIdeal.τ).loc Cert.SsdRefIdeal.main_arg1) = m ((c.tc : Thread nD τ).loc main_arg1))
    (h2 : m' ((c.tc : Thread Cert.SsdRefIdeal.nD Cert.SsdRefIdeal.τ).loc Cert.SsdRefIdeal.main_arg2) = m ((c.tc : Thread nD τ).loc main_arg2))
    (h3 : m' ((c.tc : Thread Cert.SsdRefIdeal.nD Cert.SsdRefIdeal.τ).loc Cert.SsdRefIdeal.main_arg3) = m ((c.tc : Thread nD τ).loc main_arg3))
    (h4 : m' ((c.tc : Thread Cert.SsdRefIdeal.nD Cert.SsdRefIdeal.τ).loc Cert.SsdRefIdeal.main_arg4) = m ((c.tc : Thread nD τ).loc main_arg4))
    (h5 : m' ((c.tc : Thread Cert.SsdRefIdeal.nD Cert.SsdRefIdeal.τ).loc Cert.SsdRefIdeal.main_arg5) = m ((c.tc : Thread nD τ).loc main_arg5))
    (h6 : m' ((c.tc : Thread Cert.SsdRefIdeal.nD Cert.SsdRefIdeal.τ).loc Cert.SsdRefIdeal.main_arg6) = m ((c.tc : Thread nD τ).loc main_arg6))
    (h7 : m' ((c.tc : Thread Cert.SsdRefIdeal.nD Cert.SsdRefIdeal.τ).loc Cert.SsdRefIdeal.main_arg7) = m ((c.tc : Thread nD τ).loc main_arg7)) :
    Cert.SsdRefIdeal.Proj.argsOf (StableHlo.launchContents m' c) = argsOf m c := by
  unfold argsOf
  rw [← h0, ← h1, ← h2, ← h3, ← h4, ← h5, ← h6, ← h7]
  rfl

end Cert.SsdIdeal.Proj

end
-- ==== Proof.SsdClaim.lean ====
module

public import proofs.«01_k».proof.Defs
public import proofs.«01_k».proof.Proof.Gen.Ssd.Frame
public import proofs.«01_k».proof.Proof.Gen.SsdIdeal.Value
public import proofs.«01_k».proof.Proof.Gen.SsdRefIdeal.Run
public import proofs.«01_k».proof.Proof.Gen.Pre_finite_steps
public import proofs.«01_k».proof.Proof.SsdFinal
public import Idealize.ShloMosaic.Lib.Claim
public import Idealize.ShloMosaic.Lib.Quiescent

@[expose] public section

set_option maxRecDepth 16384

noncomputable section

namespace Cert.Proof

open Idealize.ShloMosaic Idealize.SL.Sem

/-- The reference runs, keeps its arguments and has no counters to end away from zero. -/
theorem ssd_ref_still : Cert.quiescent_SsdRefIdeal := by
  intro m g _
  refine (θ_run Cert.SsdRefIdeal.defs _ _).mono ?_ (Cert.SsdRefIdeal.Value.run (F := Ideal) m g)
  intro r h
  exact ⟨fun c => (h c).2, sem_eq_zero_of_no_sems (by decide) r.2⟩

/-- The kernel runs and keeps its arguments under the precondition, as it does without. -/
theorem ssd_pre_still : Cert.quiescent_SsdIdeal_pre_finite_steps :=
  fun m g _ => Cert.SsdIdeal.Gen.frame m g

/-- So does the reference. -/
theorem ssd_ref_pre_still : Cert.quiescent_SsdRefIdeal_pre_finite_steps := by
  intro m g _
  refine (θ_run Cert.SsdRefIdeal.defs _ _).mono ?_ (Cert.SsdRefIdeal.Value.run (F := Ideal) m g)
  intro r h
  exact ⟨fun c => (h c).2, sem_eq_zero_of_no_sems (by decide) r.2⟩

/-- The kernel's result is the reference's, where the decays are made of real numbers. -/
theorem ssd_value : Cert.algebraic_SsdIdeal_SsdRefIdeal_pre_finite_steps := by
  pair_intro
  · run_from Cert.SsdIdeal.Value.run_blocks m g
  · run_from Cert.SsdRefIdeal.Value.run m' g'
    obtain ⟨h0, h1, h2, h3, h4, h5, h6, h7⟩ := hagree c
    obtain ⟨p1, p2, p3⟩ := hpre c
    have hA := Cert.SsdIdeal.Proj.args_eq m m' c h0 h1 h2 h3 h4 h5 h6 h7
    have hf := Cert.SsdIdeal.Proj.finite_args m c _ _ _ _ _ p1 p2 p3
    refine Eq.trans ?_ (Cert.SsdIdeal.Proj.final m c (Cert.SsdRefIdeal.Proj.result (StableHlo.launchContents m' c)) fun b r J => ?_).symm
    · rw [← h6]
      rfl
    · rw [← hA] at hf ⊢
      exact Cert.SsdRefIdeal.Proj.result_at (StableHlo.launchContents m' c) hf b r J

end Cert.Proof

end
-- ==== Proof.MergeRef.lean ====
module

public import proofs.«01_k».proof.Proof.Gen.MergeRefIdeal
public import Idealize.ShloMosaic.Lib.Pointwise

@[expose] public section

set_option maxRecDepth 16384

noncomputable section

namespace Cert.MergeRefIdeal.Spec

open Cert.MergeRefIdeal Cert.MergeRefIdeal.Gen Idealize.ShloMosaic Idealize.ShloMosaic.TcCoe
open scoped BigOperators

/-- The activation of the second branch. -/
def act (a2 : FVec Ideal S16896x1024 .f32) (a3 : FVec Ideal S16896x1024 .f32) : FVec Ideal S16896x1024 .f32 :=
  mulf (addf a2 a3) (mulf (broadcastInDim S16896x1024 ![] bcast_S_S16896x1024 (constant S_ .f32 0x3F000000#32)) (addf (broadcastInDim S16896x1024 ![] bcast_S_S16896x1024 (constant S_ .f32 0x3F800000#32)) (Host.tanh (mulf (broadcastInDim S16896x1024 ![] bcast_S_S16896x1024 (constant S_ .f32 0x3F4C422A#32)) (addf (addf a2 a3) (mulf (broadcastInDim S16896x1024 ![] bcast_S_S16896x1024 (constant S_ .f32 0x3D372713#32)) (mulf (mulf (addf a2 a3) (addf a2 a3)) (addf a2 a3))))))))

/-- The second branch: the activation times its own gate. -/
def branchB (a2 : FVec Ideal S16896x1024 .f32) (a3 : FVec Ideal S16896x1024 .f32) (a6 : FVec Ideal S1024x1024 .f32) (a7 : FVec Ideal S1024 .f32) : FVec Ideal S16896x1024 .f32 :=
  mulf (act a2 a3) (Host.divf (broadcastInDim S16896x1024 ![] bcast_S_S16896x1024 (constant S_ .f32 0x3F800000#32)) (addf (broadcastInDim S16896x1024 ![] bcast_S_S16896x1024 (constant S_ .f32 0x3F800000#32)) (Host.exp (Host.negf (addf (Host.dotGeneral dot_S16896x1024_S1024x1024_S16896x1024_1_0_0_1_n_n none (act a2 a3) a6) (broadcastInDim S16896x1024 ![0, 1] bcast_S1x1024_S16896x1024_0_1 (broadcastInDim S1x1024 ![1] bcast_S1024_S1x1024_1 a7)))))))

/-- The third branch before its norm. -/
def gated (a0 : FVec Ideal S16896x7168 .f32) (a4 : FVec Ideal S16896x1024 .f32) : FVec Ideal S16896x1024 .f32 :=
  mulf a4 (mulf (extractStridedSlice S16896x1024 ![0, 3072] a0 slices_S16896x7168_S16896x1024_0_3072) (Host.divf (broadcastInDim S16896x1024 ![] bcast_S_S16896x1024 (constant S_ .f32 0x3F800000#32)) (addf (broadcastInDim S16896x1024 ![] bcast_S_S16896x1024 (constant S_ .f32 0x3F800000#32)) (Host.exp (Host.negf (extractStridedSlice S16896x1024 ![0, 3072] a0 slices_S16896x7168_S16896x1024_0_3072))))))

/-- The third branch. -/
def branchC (a0 : FVec Ideal S16896x7168 .f32) (a4 : FVec Ideal S16896x1024 .f32) (a5 : FVec Ideal S1024 .f32) : FVec Ideal S16896x1024 .f32 :=
  mulf (mulf (gated a0 a4) (broadcastInDim S16896x1024 ![0, 1] bcast_S16896x1_S16896x1024_0_1 (Host.rsqrt (addf (Host.divf (broadcastInDim S16896x1 ![0] bcast_S16896_S16896x1_0 (Host.reduceAdd (mulf (gated a0 a4) (gated a0 a4)) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 a5))

/-- The gate of the first branch. -/
def gate0 (a0 : FVec Ideal S16896x7168 .f32) (a8 : FVec Ideal S3x512x4096 .f32) (a9 : FVec Ideal S3x4096 .f32) : FVec Ideal S16896x4096 .f32 :=
  Host.divf (broadcastInDim S16896x4096 ![] bcast_S_S16896x4096 (constant S_ .f32 0x3F800000#32)) (addf (broadcastInDim S16896x4096 ![] bcast_S_S16896x4096 (constant S_ .f32 0x3F800000#32)) (Host.exp (Host.negf (addf (Host.dotGeneral dot_S16896x512_S512x4096_S16896x4096_1_0_0_1_n_n none (extractStridedSlice S16896x512 ![0, 6144] a0 slices_S16896x7168_S16896x512_0_6144) (shapeCast _ (extractStridedSlice S1x512x4096 ![0, 0, 0] a8 slices_S3x512x4096_S1x512x4096_0_0_0) shapeCasts_S1x512x4096_S512x4096)) (broadcastInDim S16896x4096 ![0, 1] bcast_S1x4096_S16896x4096_0_1 (broadcastInDim S1x4096 ![1] bcast_S4096_S1x4096_1 (shapeCast _ (extractStridedSlice S1x4096 ![0, 0] a9 slices_S3x4096_S1x4096_0_0) shapeCasts_S1x4096_S4096)))))))

/-- The gate of the second branch. -/
def gate1 (a0 : FVec Ideal S16896x7168 .f32) (a8 : FVec Ideal S3x512x4096 .f32) (a9 : FVec Ideal S3x4096 .f32) : FVec Ideal S16896x4096 .f32 :=
  Host.divf (broadcastInDim S16896x4096 ![] bcast_S_S16896x4096 (constant S_ .f32 0x3F800000#32)) (addf (broadcastInDim S16896x4096 ![] bcast_S_S16896x4096 (constant S_ .f32 0x3F800000#32)) (Host.exp (Host.negf (addf (Host.dotGeneral dot_S16896x512_S512x4096_S16896x4096_1_0_0_1_n_n none (extractStridedSlice S16896x512 ![0, 6144] a0 slices_S16896x7168_S16896x512_0_6144) (shapeCast _ (extractStridedSlice S1x512x4096 ![1, 0, 0] a8 slices_S3x512x4096_S1x512x4096_1_0_0) shapeCasts_S1x512x4096_S512x4096)) (broadcastInDim S16896x4096 ![0, 1] bcast_S1x4096_S16896x4096_0_1 (broadcastInDim S1x4096 ![1] bcast_S4096_S1x4096_1 (shapeCast _ (extractStridedSlice S1x4096 ![1, 0] a9 slices_S3x4096_S1x4096_1_0) shapeCasts_S1x4096_S4096)))))))

/-- The gate of the third branch. -/
def gate2 (a0 : FVec Ideal S16896x7168 .f32) (a8 : FVec Ideal S3x512x4096 .f32) (a9 : FVec Ideal S3x4096 .f32) : FVec Ideal S16896x4096 .f32 :=
  Host.divf (broadcastInDim S16896x4096 ![] bcast_S_S16896x4096 (constant S_ .f32 0x3F800000#32)) (addf (broadcastInDim S16896x4096 ![] bcast_S_S16896x4096 (constant S_ .f32 0x3F800000#32)) (Host.exp (Host.negf (addf (Host.dotGeneral dot_S16896x512_S512x4096_S16896x4096_1_0_0_1_n_n none (extractStridedSlice S16896x512 ![0, 6144] a0 slices_S16896x7168_S16896x512_0_6144) (shapeCast _ (extractStridedSlice S1x512x4096 ![2, 0, 0] a8 slices_S3x512x4096_S1x512x4096_2_0_0) shapeCasts_S1x512x4096_S512x4096)) (broadcastInDim S16896x4096 ![0, 1] bcast_S1x4096_S16896x4096_0_1 (broadcastInDim S1x4096 ![1] bcast_S4096_S1x4096_1 (shapeCast _ (extractStridedSlice S1x4096 ![2, 0] a9 slices_S3x4096_S1x4096_2_0) shapeCasts_S1x4096_S4096)))))))

/-- The reference's result as one term of its arguments. -/
def ref (a0 : FVec Ideal S16896x7168 .f32) (a1 : FVec Ideal S16896x1024 .f32) (a2 : FVec Ideal S16896x1024 .f32) (a3 : FVec Ideal S16896x1024 .f32) (a4 : FVec Ideal S16896x1024 .f32) (a5 : FVec Ideal S1024 .f32) (a6 : FVec Ideal S1024x1024 .f32) (a7 : FVec Ideal S1024 .f32) (a8 : FVec Ideal S3x512x4096 .f32) (a9 : FVec Ideal S3x4096 .f32) (a10 : FVec Ideal S3x1024x4096 .f32) : FVec Ideal S16896x4096 .bf16 :=
  truncf .bf16 (addf (addf (mulf (gate0 a0 a8 a9) (Host.dotGeneral dot_S16896x1024_S1024x4096_S16896x4096_1_0_0_1_n_n none a1 (shapeCast _ (extractStridedSlice S1x1024x4096 ![0, 0, 0] a10 slices_S3x1024x4096_S1x1024x4096_0_0_0) shapeCasts_S1x1024x4096_S1024x4096))) (mulf (gate1 a0 a8 a9) (Host.dotGeneral dot_S16896x1024_S1024x4096_S16896x4096_1_0_0_1_n_n none (branchB a2 a3 a6 a7) (shapeCast _ (extractStridedSlice S1x1024x4096 ![1, 0, 0] a10 slices_S3x1024x4096_S1x1024x4096_1_0_0) shapeCasts_S1x1024x4096_S1024x4096)))) (mulf (gate2 a0 a8 a9) (Host.dotGeneral dot_S16896x1024_S1024x4096_S16896x4096_1_0_0_1_n_n none (branchC a0 a4 a5) (shapeCast _ (extractStridedSlice S1x1024x4096 ![2, 0, 0] a10 slices_S3x1024x4096_S1x1024x4096_2_0_0) shapeCasts_S1x1024x4096_S1024x4096)))) bitsLt_bf16_f32

/-- A gate's entry: the reference's logistic function of a projection of the token's gate channels. -/
def gateAt (a0 : FVec Ideal S16896x7168 .f32) (a8 : FVec Ideal S3x512x4096 .f32) (a9 : FVec Ideal S3x4096 .f32) (i : Fin 3) (r : Fin 16896) (j : Fin 4096) : EReal :=
  Ideal.div 1 (1 + Ideal.exp (-(∑ x : Fin 512, a0 (ix2 r ⟨6144 + x.val, by omega⟩) * a8 (ix3 i x j) + a9 (ix2 i j))))

/-- An entry of one of the three branches. -/
def branchAt (a0 : FVec Ideal S16896x7168 .f32) (a1 a2 a3 a4 : FVec Ideal S16896x1024 .f32) (a5 : FVec Ideal S1024 .f32) (a6 : FVec Ideal S1024x1024 .f32) (a7 : FVec Ideal S1024 .f32) (i : Fin 3) (r : Fin 16896) (k : Fin 1024) : EReal :=
  match i with
  | 0 => a1 (ix2 r k)
  | 1 => branchB a2 a3 a6 a7 (ix2 r k)
  | 2 => branchC a0 a4 a5 (ix2 r k)

theorem act_at (a2 a3 : FVec Ideal S16896x1024 .f32) (r : Fin 16896) (k : Fin 1024) :
    act a2 a3 (ix2 r k) = (a2 (ix2 r k) + a3 (ix2 r k)) * (Ideal.ofBits FTy.f32 1056964608#32 * (1 + Ideal.tanh (Ideal.ofBits FTy.f32 1061962282#32 *
      (a2 (ix2 r k) + a3 (ix2 r k) + Ideal.ofBits FTy.f32 1027024659#32 * ((a2 (ix2 r k) + a3 (ix2 r k)) * (a2 (ix2 r k) + a3 (ix2 r k)) * (a2 (ix2 r k) + a3 (ix2 r k))))))) := by
  pointwise [act]

theorem branchB_at (a2 a3 : FVec Ideal S16896x1024 .f32) (a6 : FVec Ideal S1024x1024 .f32) (a7 : FVec Ideal S1024 .f32) (r : Fin 16896) (k : Fin 1024) :
    branchB a2 a3 a6 a7 (ix2 r k) = act a2 a3 (ix2 r k) * Ideal.div 1 (1 + Ideal.exp (-(∑ x : Fin 1024, act a2 a3 (ix2 r x) * a6 (ix2 x k) + a7 (ix1 k)))) := by
  pointwise [branchB]

theorem gated_at (a0 : FVec Ideal S16896x7168 .f32) (a4 : FVec Ideal S16896x1024 .f32) (r : Fin 16896) (k : Fin 1024) :
    gated a0 a4 (ix2 r k) = a4 (ix2 r k) * (a0 (ix2 r ⟨3072 + k.val, by omega⟩) * Ideal.div 1 (1 + Ideal.exp (-a0 (ix2 r ⟨3072 + k.val, by omega⟩)))) := by
  pointwise [gated]

theorem branchC_at (a0 : FVec Ideal S16896x7168 .f32) (a4 : FVec Ideal S16896x1024 .f32) (a5 : FVec Ideal S1024 .f32) (r : Fin 16896) (k : Fin 1024) :
    branchC a0 a4 a5 (ix2 r k) = gated a0 a4 (ix2 r k) * Ideal.rsqrt (Ideal.div (∑ x : Fin 1024, gated a0 a4 (ix2 r x) * gated a0 a4 (ix2 r x)) (Ideal.ofBits FTy.f32 1149239296#32) + Ideal.ofBits FTy.f32 897988541#32)
      * a5 (ix1 k) := by
  pointwise [branchC]

theorem gate0_at (a0 : FVec Ideal S16896x7168 .f32) (a8 : FVec Ideal S3x512x4096 .f32) (a9 : FVec Ideal S3x4096 .f32) (r : Fin 16896) (j : Fin 4096) :
    gate0 a0 a8 a9 (ix2 r j) = gateAt a0 a8 a9 0 r j := by
  pointwise [gate0, gateAt]

theorem gate1_at (a0 : FVec Ideal S16896x7168 .f32) (a8 : FVec Ideal S3x512x4096 .f32) (a9 : FVec Ideal S3x4096 .f32) (r : Fin 16896) (j : Fin 4096) :
    gate1 a0 a8 a9 (ix2 r j) = gateAt a0 a8 a9 1 r j := by
  pointwise [gate1, gateAt]

theorem gate2_at (a0 : FVec Ideal S16896x7168 .f32) (a8 : FVec Ideal S3x512x4096 .f32) (a9 : FVec Ideal S3x4096 .f32) (r : Fin 16896) (j : Fin 4096) :
    gate2 a0 a8 a9 (ix2 r j) = gateAt a0 a8 a9 2 r j := by
  pointwise [gate2, gateAt]

theorem ref_at (a0 : FVec Ideal S16896x7168 .f32) (a1 a2 a3 a4 : FVec Ideal S16896x1024 .f32) (a5 : FVec Ideal S1024 .f32) (a6 : FVec Ideal S1024x1024 .f32) (a7 : FVec Ideal S1024 .f32) (a8 : FVec Ideal S3x512x4096 .f32) (a9 : FVec Ideal S3x4096 .f32) (a10 : FVec Ideal S3x1024x4096 .f32) (r : Fin 16896) (j : Fin 4096) :
    ref a0 a1 a2 a3 a4 a5 a6 a7 a8 a9 a10 (ix2 r j)
      = gateAt a0 a8 a9 0 r j * (∑ x : Fin 1024, branchAt a0 a1 a2 a3 a4 a5 a6 a7 0 r x * a10 (ix3 0 x j))
        + gateAt a0 a8 a9 1 r j * (∑ x : Fin 1024, branchAt a0 a1 a2 a3 a4 a5 a6 a7 1 r x * a10 (ix3 1 x j))
        + gateAt a0 a8 a9 2 r j * (∑ x : Fin 1024, branchAt a0 a1 a2 a3 a4 a5 a6 a7 2 r x * a10 (ix3 2 x j)) := by
  pointwise [ref]
  rw [gate0_at, gate1_at, gate2_at]
  rfl

end Cert.MergeRefIdeal.Spec

end
-- ==== Proof.MergeValue.lean ====
module

public import proofs.«01_k».proof.Proof.MergeRef
public import proofs.«01_k».proof.Proof.Gen.MergeIdeal.Frame
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MergeIdeal.Proj

open Cert.MergeIdeal Cert.MergeIdeal.Gen
open Cert.MergeRefIdeal.Spec (gateAt branchAt branchB branchC act gated act_at branchB_at gated_at branchC_at ref ref_at)

variable (m : (ℓ : Loc nD τ sig) → Buf (Elt Ideal) ℓ)

theorem idx : ∀ t : Fin cfg0.N, win0_0.index t = ![t.val / 4, 12]
    ∧ win0_1.index t = ![t.val / 4, 0]
    ∧ win0_2.index t = ![t.val / 4, 0]
    ∧ win0_3.index t = ![t.val / 4, 0]
    ∧ win0_4.index t = ![t.val / 4, 0]
    ∧ win0_5.index t = ![t.val / 4, 3]
    ∧ win0_6.index t = ![0, 0]
    ∧ win0_7.index t = ![0, 0]
    ∧ win0_8.index t = ![0, 0]
    ∧ win0_9.index t = ![0, 0, t.val % 4]
    ∧ win0_10.index t = ![0, 0, t.val % 4]
    ∧ win0_11.index t = ![0, 0, t.val % 4]
    ∧ win0_12.index t = ![t.val / 4, t.val % 4] :=
  (by decide +kernel : ∀ t : Fin grid0.N, _)

/-- The token of row `y` of the row tile `n`. -/
def row (n : ℕ) (y : Fin 512) : Fin 16896 := ⟨n % 33 * 512 + y.val, by omega⟩

theorem host5 (c : Dev nD) (g : Fin 1) (q : Fin 1024) : V m c main_v0 (ix2 g q) = m ((c : Thread nD τ).loc main_arg5) (ix1 q) := by
  have e : V m c main_v0 = shapeCast S1x1024 (show FVec Ideal S1024 .f32 from m ((c : Thread nD τ).loc main_arg5)) shapeCasts_S1024_S1x1024 := by
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

theorem host7 (c : Dev nD) (g : Fin 1) (q : Fin 1024) : V m c main_v2 (ix2 g q) = m ((c : Thread nD τ).loc main_arg7) (ix1 q) := by
  have e : V m c main_v2 = shapeCast S1x1024 (show FVec Ideal S1024 .f32 from m ((c : Thread nD τ).loc main_arg7)) shapeCasts_S1024_S1x1024 := by
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

theorem host6 (c : Dev nD) : V m c main_v1 = (truncf .bf16 (show FVec Ideal S1024x1024 .f32 from m ((c : Thread nD τ).loc main_arg6)) bitsLt_bf16_f32 : FVec Ideal S1024x1024 .bf16) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

theorem host8 (c : Dev nD) : V m c main_v3 = (truncf .bf16 (show FVec Ideal S3x512x4096 .f32 from m ((c : Thread nD τ).loc main_arg8)) bitsLt_bf16_f32 : FVec Ideal S3x512x4096 .bf16) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

theorem host10 (c : Dev nD) : V m c main_v5 = (truncf .bf16 (show FVec Ideal S3x1024x4096 .f32 from m ((c : Thread nD τ).loc main_arg10)) bitsLt_bf16_f32 : FVec Ideal S3x1024x4096 .bf16) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

theorem host9 (c : Dev nD) (i : Fin 3) (g : Fin 1) (q : Fin 4096) : V m c main_v4 (ix3 i g q) = m ((c : Thread nD τ).loc main_arg9) (ix2 i q) := by
  have e : V m c main_v4 = shapeCast S3x1x4096 (show FVec Ideal S3x4096 .f32 from m ((c : Thread nD τ).loc main_arg9)) shapeCasts_S3x4096_S3x1x4096 := by
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise

theorem b0 (c : Dev nD) (t : Fin cfg0.N) (a : Fin 512) (q : Fin 512) :
    iblk m c 0 t (ix2 a q) = m ((c : Thread nD τ).loc main_arg0) (ix2 (row (t.val / 4) a) ⟨6144 + q.val, by omega⟩) := by
  blk_ext [iblk, V, idx t, row]

theorem b1 (c : Dev nD) (t : Fin cfg0.N) (a : Fin 512) (q : Fin 1024) :
    iblk m c 1 t (ix2 a q) = m ((c : Thread nD τ).loc main_arg1) (ix2 (row (t.val / 4) a) q) := by
  blk_ext [iblk, V, idx t, row]

theorem b2 (c : Dev nD) (t : Fin cfg0.N) (a : Fin 512) (q : Fin 1024) :
    iblk m c 2 t (ix2 a q) = m ((c : Thread nD τ).loc main_arg2) (ix2 (row (t.val / 4) a) q) := by
  blk_ext [iblk, V, idx t, row]

theorem b3 (c : Dev nD) (t : Fin cfg0.N) (a : Fin 512) (q : Fin 1024) :
    iblk m c 3 t (ix2 a q) = m ((c : Thread nD τ).loc main_arg3) (ix2 (row (t.val / 4) a) q) := by
  blk_ext [iblk, V, idx t, row]

theorem b4 (c : Dev nD) (t : Fin cfg0.N) (a : Fin 512) (q : Fin 1024) :
    iblk m c 4 t (ix2 a q) = m ((c : Thread nD τ).loc main_arg4) (ix2 (row (t.val / 4) a) q) := by
  blk_ext [iblk, V, idx t, row]

theorem b5 (c : Dev nD) (t : Fin cfg0.N) (a : Fin 512) (q : Fin 1024) :
    iblk m c 5 t (ix2 a q) = m ((c : Thread nD τ).loc main_arg0) (ix2 (row (t.val / 4) a) ⟨3072 + q.val, by omega⟩) := by
  blk_ext [iblk, V, idx t, row]

theorem b6 (c : Dev nD) (t : Fin cfg0.N) (q : Fin 1024) : iblk m c 6 t (ix2 (0 : Fin 1) q) = m ((c : Thread nD τ).loc main_arg5) (ix1 q) := by
  refine Eq.trans ?_ (host5 m c 0 q)
  blk_ext [iblk, idx t]

theorem b7 (c : Dev nD) (t : Fin cfg0.N) (k q : Fin 1024) : iblk m c 7 t (ix2 k q) = m ((c : Thread nD τ).loc main_arg6) (ix2 k q) := by
  refine Eq.trans ?_ (congrFun (host6 m c) (ix2 k q))
  blk_ext [iblk, idx t]

theorem b8 (c : Dev nD) (t : Fin cfg0.N) (q : Fin 1024) : iblk m c 8 t (ix2 (0 : Fin 1) q) = m ((c : Thread nD τ).loc main_arg7) (ix1 q) := by
  refine Eq.trans ?_ (host7 m c 0 q)
  blk_ext [iblk, idx t]

theorem b9 (c : Dev nD) (t : Fin cfg0.N) (i : Fin 3) (k : Fin 512) (q : Fin 1024) : iblk m c 9 t (ix3 i k q) = m ((c : Thread nD τ).loc main_arg8) (ix3 i k ⟨t.val % 4 * 1024 + q.val, by omega⟩) := by
  refine Eq.trans ?_ (congrFun (host8 m c) (ix3 i k ⟨t.val % 4 * 1024 + q.val, by omega⟩))
  blk_ext [iblk, idx t]

theorem b10 (c : Dev nD) (t : Fin cfg0.N) (i : Fin 3) (q : Fin 1024) : iblk m c 10 t (ix3 i (0 : Fin 1) q) = m ((c : Thread nD τ).loc main_arg9) (ix2 i ⟨t.val % 4 * 1024 + q.val, by omega⟩) := by
  refine Eq.trans ?_ (host9 m c i 0 _)
  blk_ext [iblk, idx t]

theorem b11 (c : Dev nD) (t : Fin cfg0.N) (i : Fin 3) (k : Fin 1024) (q : Fin 1024) : iblk m c 11 t (ix3 i k q) = m ((c : Thread nD τ).loc main_arg10) (ix3 i k ⟨t.val % 4 * 1024 + q.val, by omega⟩) := by
  refine Eq.trans ?_ (congrFun (host10 m c) (ix3 i k ⟨t.val % 4 * 1024 + q.val, by omega⟩))
  blk_ext [iblk, idx t]

theorem pay2_at (v : Vec Ideal S512x512 .f32) (a k : Fin 512) : k0_pay2 (F := Ideal) v (ix2 a k) = v (ix2 a k) := by
  pointwise [k0_pay2]

theorem pay3_at (v : Vec Ideal S512x1024 .f32) (a : Fin 512) (k : Fin 1024) : k0_pay3 (F := Ideal) v (ix3 (0 : Fin 1) a k) = v (ix2 a k) := by
  pointwise [k0_pay3]

theorem pay5_at (v : Vec Ideal S512x1024 .f32) (a : Fin 512) (k : Fin 1024) : k0_pay5 (F := Ideal) v (ix3 (0 : Fin 1) a k) = v (ix2 a k) := by
  pointwise [k0_pay5]

theorem pay4_point (c : Dev nD) (t : Fin cfg0.N) (a : Fin 512) (k : Fin 1024) :
    k0_pay4 (F := Ideal) (iblk m c 2 t) (iblk m c 3 t) (iblk m c 7 t) (iblk m c 8 t) (ix2 a k) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 (row (t.val / 4) a) k := by
  pointwise [k0_pay4]
  simp only [b2 m c t a, b3 m c t a, b7 m c t, b8 m c t]
  refine Eq.trans ?_ (branchB_at (m ((c : Thread nD τ).loc main_arg2)) (m ((c : Thread nD τ).loc main_arg3)) (m ((c : Thread nD τ).loc main_arg6)) (m ((c : Thread nD τ).loc main_arg7)) (row (t.val / 4) a) k).symm
  simp only [act_at, mul_assoc]
  rfl

theorem pay6_point (c : Dev nD) (t : Fin cfg0.N) (a : Fin 512) (k : Fin 1024) :
    k0_pay6 (F := Ideal) (iblk m c 5 t) (iblk m c 4 t) (iblk m c 6 t) (ix3 (0 : Fin 1) a k) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 2 (row (t.val / 4) a) k := by
  pointwise [k0_pay6]
  simp only [b4 m c t a, b5 m c t a, b6 m c t]
  refine Eq.trans ?_ (branchC_at (m ((c : Thread nD τ).loc main_arg0)) (m ((c : Thread nD τ).loc main_arg4)) (m ((c : Thread nD τ).loc main_arg5)) (row (t.val / 4) a) k).symm
  simp only [gated_at]
  rfl

theorem pay7_at (v3 : Vec Ideal S512x512 .bf16) (v4 : Vec Ideal S1x512x1024 .bf16) (v7 : Vec Ideal S1x1x1024 .f32) (v12 : Vec Ideal S1x512x1024 .bf16) (v14 : Vec Ideal S1x1024x1024 .bf16) (a : Fin 512) (q : Fin 1024) :
    k0_pay7 (F := Ideal) v3 v4 v7 v12 v14 (ix2 a q) = Ideal.logistic (∑ x : Fin 512, v3 (ix2 a x) * v4 (ix3 0 x q) + v7 (ix3 0 0 q)) * ∑ x : Fin 1024, v12 (ix3 0 a x) * v14 (ix3 0 x q) := by
  pointwise [k0_pay7]

theorem pay8_at (v3 : Vec Ideal S512x512 .bf16) (v4 : Vec Ideal S1x512x1024 .bf16) (v7 : Vec Ideal S1x1x1024 .f32) (a : Fin 512) (q : Fin 1024) :
    k0_pay8 (F := Ideal) v3 v4 v7 (ix2 a q) = Ideal.logistic (∑ x : Fin 512, v3 (ix2 a x) * v4 (ix3 0 x q) + v7 (ix3 0 0 q)) := by
  pointwise [k0_pay8]

theorem pay1_at (v17 v26 : Vec Ideal S512x1024 .f32) (v27 : Vec Ideal S1x512x1024 .bf16) (v29 : Vec Ideal S1x1024x1024 .bf16) (v34 : Vec Ideal S512x512 .bf16) (v35 : Vec Ideal S1x512x1024 .bf16) (v38 : Vec Ideal S1x1x1024 .f32) (v43 : Vec Ideal S1x512x1024 .bf16) (v45 : Vec Ideal S1x1024x1024 .bf16) (a : Fin 512) (q : Fin 1024) :
    k0_pay1 (F := Ideal) v17 v26 v27 v29 v34 v35 v38 v43 v45 (ix2 a q) = v17 (ix2 a q) + v26 (ix2 a q) * (∑ x : Fin 1024, v27 (ix3 0 a x) * v29 (ix3 0 x q))
      + Ideal.logistic (∑ x : Fin 512, v34 (ix2 a x) * v35 (ix3 0 x q) + v38 (ix3 0 0 q)) * ∑ x : Fin 1024, v43 (ix3 0 a x) * v45 (ix3 0 x q) := by
  pointwise [k0_pay1]

/-- A gate of a point from the loaded slices. -/
theorem gate_point (c : Dev nD) (t : Fin cfg0.N) (i : Fin 3) (v3 : Vec Ideal S512x512 .bf16) (v4 : Vec Ideal S1x512x1024 .bf16) (v7 : Vec Ideal S1x1x1024 .f32) (a : Fin 512) (q : Fin 1024)
    (h3 : ∀ x, v3 (ix2 a x) = m ((c : Thread nD τ).loc main_arg0) (ix2 (row (t.val / 4) a) ⟨6144 + x.val, by omega⟩))
    (h4 : ∀ x, v4 (ix3 (0 : Fin 1) x q) = iblk m c 9 t (ix3 i x q)) (h7 : v7 (ix3 (0 : Fin 1) (0 : Fin 1) q) = iblk m c 10 t (ix3 i (0 : Fin 1) q)) :
    Ideal.logistic (∑ x : Fin 512, v3 (ix2 a x) * v4 (ix3 0 x q) + v7 (ix3 0 0 q)) = gateAt (m ((c : Thread nD τ).loc main_arg0)) (m ((c : Thread nD τ).loc main_arg8)) (m ((c : Thread nD τ).loc main_arg9)) i (row (t.val / 4) a) ⟨t.val % 4 * 1024 + q.val, by omega⟩ := by
  simp only [h3, h4, h7, b9 m c t, b10 m c t]
  rfl

/-- A branch's product of a point from the loaded slices. -/
theorem sum_point (c : Dev nD) (t : Fin cfg0.N) (i : Fin 3) (v12 : Vec Ideal S1x512x1024 .bf16) (v14 : Vec Ideal S1x1024x1024 .bf16) (a : Fin 512) (q : Fin 1024)
    (h12 : ∀ x, v12 (ix3 (0 : Fin 1) a x) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i (row (t.val / 4) a) x)
    (h14 : ∀ x, v14 (ix3 (0 : Fin 1) x q) = iblk m c 11 t (ix3 i x q)) :
    (∑ x : Fin 1024, v12 (ix3 0 a x) * v14 (ix3 0 x q)) = ∑ x : Fin 1024, branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i (row (t.val / 4) a) x * (m ((c : Thread nD τ).loc main_arg10)) (ix3 i x ⟨t.val % 4 * 1024 + q.val, by omega⟩) := by
  simp only [h12, h14, b11 m c t]

/-- The result's block of a point, when the scratch holds the row tile's gate channels and branches. -/
theorem prod_point (c : Dev nD) (t : Fin cfg0.N) (a : Fin 512) (q : Fin 1024) (u0 u1 u2 : Vec Ideal S512x512 .bf16) (g0 g1 g2 : Vec Ideal S1x512x1024 .bf16) (d0 d1 d2 : Vec Ideal S1x1x1024 .f32)
    (y0 y1 y2 : Vec Ideal S1x512x1024 .bf16) (w0 w1 w2 : Vec Ideal S1x1024x1024 .bf16)
    (hu0 : ∀ x, u0 (ix2 a x) = m ((c : Thread nD τ).loc main_arg0) (ix2 (row (t.val / 4) a) ⟨6144 + x.val, by omega⟩))
    (hu1 : ∀ x, u1 (ix2 a x) = m ((c : Thread nD τ).loc main_arg0) (ix2 (row (t.val / 4) a) ⟨6144 + x.val, by omega⟩))
    (hu2 : ∀ x, u2 (ix2 a x) = m ((c : Thread nD τ).loc main_arg0) (ix2 (row (t.val / 4) a) ⟨6144 + x.val, by omega⟩))
    (hg0 : ∀ x, g0 (ix3 (0 : Fin 1) x q) = iblk m c 9 t (ix3 (0 : Fin 3) x q)) (hg1 : ∀ x, g1 (ix3 (0 : Fin 1) x q) = iblk m c 9 t (ix3 (1 : Fin 3) x q)) (hg2 : ∀ x, g2 (ix3 (0 : Fin 1) x q) = iblk m c 9 t (ix3 (2 : Fin 3) x q))
    (hd0 : d0 (ix3 (0 : Fin 1) (0 : Fin 1) q) = iblk m c 10 t (ix3 (0 : Fin 3) (0 : Fin 1) q)) (hd1 : d1 (ix3 (0 : Fin 1) (0 : Fin 1) q) = iblk m c 10 t (ix3 (1 : Fin 3) (0 : Fin 1) q)) (hd2 : d2 (ix3 (0 : Fin 1) (0 : Fin 1) q) = iblk m c 10 t (ix3 (2 : Fin 3) (0 : Fin 1) q))
    (hy0 : ∀ x, y0 (ix3 (0 : Fin 1) a x) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 (row (t.val / 4) a) x)
    (hy1 : ∀ x, y1 (ix3 (0 : Fin 1) a x) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 (row (t.val / 4) a) x)
    (hy2 : ∀ x, y2 (ix3 (0 : Fin 1) a x) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 2 (row (t.val / 4) a) x)
    (hw0 : ∀ x, w0 (ix3 (0 : Fin 1) x q) = iblk m c 11 t (ix3 (0 : Fin 3) x q)) (hw1 : ∀ x, w1 (ix3 (0 : Fin 1) x q) = iblk m c 11 t (ix3 (1 : Fin 3) x q)) (hw2 : ∀ x, w2 (ix3 (0 : Fin 1) x q) = iblk m c 11 t (ix3 (2 : Fin 3) x q)) :
    k0_pay1 (F := Ideal) (k0_pay7 (F := Ideal) u0 g0 d0 y0 w0) (k0_pay8 (F := Ideal) u1 g1 d1) y1 w1 u2 g2 d2 y2 w2 (ix2 a q)
      = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row (t.val / 4) a) ⟨t.val % 4 * 1024 + q.val, by omega⟩) := by
  refine (pay1_at _ _ _ _ _ _ _ _ _ a q).trans (Eq.trans ?_ (ref_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (row (t.val / 4) a) ⟨t.val % 4 * 1024 + q.val, by omega⟩).symm)
  rw [pay7_at, pay8_at, gate_point m c t 0 u0 g0 d0 a q hu0 hg0 hd0, gate_point m c t 1 u1 g1 d1 a q hu1 hg1 hd1, gate_point m c t 2 u2 g2 d2 a q hu2 hg2 hd2,
    sum_point m c t 0 y0 w0 a q hy0 hw0, sum_point m c t 1 y1 w1 a q hy1 hw1, sum_point m c t 2 y2 w2 a q hy2 hw2]

/-- A load of one of the three gate slabs, at an index. -/
theorem ld_gate (X : Vec Ideal S3x512x1024 .bf16) (k : ℕ) (hk : k < 3) (inb : ∀ x : Fin 3, (![k, 0, 0] : Fin 3 → ℕ) x + (![1, 512, 1024] : Fin 3 → ℕ) x ≤ (⟨3, ![3, 512, 1024]⟩ : Shape).size x) (x : Fin 512) (q : Fin 1024) :
    View.ld X (Rect.unit (s := S3x512x1024) ![k, 0, 0] ![1, 512, 1024] inb) (ix3 (0 : Fin 1) x q) = X (ix3 (⟨k, hk⟩ : Fin 3) x q) := by
  refine View.ld_unit_apply_of X _ _ inb _ _ fun d => ?_
  match d with
  | 0 => show k = k + 0; omega
  | 1 => show x.val = 0 + x.val; omega
  | 2 => show q.val = 0 + q.val; omega

/-- A load of one of the three bias slabs, at an index. -/
theorem ld_bias (X : Vec Ideal S3x1x1024 .f32) (k : ℕ) (hk : k < 3) (inb : ∀ x : Fin 3, (![k, 0, 0] : Fin 3 → ℕ) x + (![1, 1, 1024] : Fin 3 → ℕ) x ≤ (⟨3, ![3, 1, 1024]⟩ : Shape).size x) (x : Fin 1) (q : Fin 1024) :
    View.ld X (Rect.unit (s := S3x1x1024) ![k, 0, 0] ![1, 1, 1024] inb) (ix3 (0 : Fin 1) x q) = X (ix3 (⟨k, hk⟩ : Fin 3) x q) := by
  refine View.ld_unit_apply_of X _ _ inb _ _ fun d => ?_
  match d with
  | 0 => show k = k + 0; omega
  | 1 => show x.val = 0 + x.val; omega
  | 2 => show q.val = 0 + q.val; omega

/-- A load of one of the three proj slabs, at an index. -/
theorem ld_proj (X : Vec Ideal S3x1024x1024 .bf16) (k : ℕ) (hk : k < 3) (inb : ∀ x : Fin 3, (![k, 0, 0] : Fin 3 → ℕ) x + (![1, 1024, 1024] : Fin 3 → ℕ) x ≤ (⟨3, ![3, 1024, 1024]⟩ : Shape).size x) (x : Fin 1024) (q : Fin 1024) :
    View.ld X (Rect.unit (s := S3x1024x1024) ![k, 0, 0] ![1, 1024, 1024] inb) (ix3 (0 : Fin 1) x q) = X (ix3 (⟨k, hk⟩ : Fin 3) x q) := by
  refine View.ld_unit_apply_of X _ _ inb _ _ fun d => ?_
  match d with
  | 0 => show k = k + 0; omega
  | 1 => show x.val = 0 + x.val; omega
  | 2 => show q.val = 0 + q.val; omega

/-- Branch 0 of the stored branches, at an index. -/
theorem store_piece0 (w0 w1 w2 : Vec Ideal S1x512x1024 .bf16) (n : Fin 512) (q : Fin 1024) :
    View.canon (Val := Elt Ideal) (s := S3x512x1024) (e := .bf16) [⟨(Rect.unit (s := S3x512x1024) ![2, 0, 0] ![1, 512, 1024] inb_S3x512x1024_S1x512x1024_2_0_0), w2⟩, ⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩] (ix3 (⟨0, by decide⟩ : Fin 3) n q) = w0 (ix3 (0 : Fin 1) n q) := by
  have e : (ix3 (⟨0, by decide⟩ : Fin 3) n q : S3x512x1024.Idx) = (Rect.unit (s := S3x512x1024) ![0, 0, 0] ![1, 512, 1024] inb_S3x512x1024_S1x512x1024_0_0_0).emb (ix3 (0 : Fin 1) n q) := by
    funext x
    refine Fin.ext ?_
    match x with
    | 0 => show 0 = 0 + 1 * 0; omega
    | 1 => show n.val = 0 + 1 * n.val; omega
    | 2 => show q.val = 0 + 1 * q.val; omega
  have n2 : (ix3 (⟨0, by decide⟩ : Fin 3) n q : S3x512x1024.Idx) ∉ (Rect.unit (s := S3x512x1024) ![2, 0, 0] ![1, 512, 1024] inb_S3x512x1024_S1x512x1024_2_0_0).set := fun hh => by
    have h0 : 2 ≤ 0 := ((Rect.mem_set_unit.mp hh) 0).1
    omega
  have n1 : (ix3 (⟨0, by decide⟩ : Fin 3) n q : S3x512x1024.Idx) ∉ (Rect.unit (s := S3x512x1024) ![1, 0, 0] ![1, 512, 1024] inb_S3x512x1024_S1x512x1024_1_0_0).set := fun hh => by
    have h0 : 1 ≤ 0 := ((Rect.mem_set_unit.mp hh) 0).1
    omega
  refine (View.canon_cons_of_not_mem (Val := Elt Ideal) (s := S3x512x1024) (e := .bf16) ⟨(Rect.unit (s := S3x512x1024) ![2, 0, 0] ![1, 512, 1024] inb_S3x512x1024_S1x512x1024_2_0_0), w2⟩ [⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩] n2).trans ?_
  refine (View.canon_cons_of_not_mem (Val := Elt Ideal) (s := S3x512x1024) (e := .bf16) ⟨(Rect.unit (s := S3x512x1024) ![1, 0, 0] ![1, 512, 1024] inb_S3x512x1024_S1x512x1024_1_0_0), w1⟩ [⟨(Rect.unit (s := S3x512x1024) ![0, 0, 0] ![1, 512, 1024] inb_S3x512x1024_S1x512x1024_0_0_0), w0⟩] n1).trans ?_
  rw [e]
  exact View.canon_cons_emb (Val := Elt Ideal) (s := S3x512x1024) (e := .bf16) (Rect.unit (s := S3x512x1024) ![0, 0, 0] ![1, 512, 1024] inb_S3x512x1024_S1x512x1024_0_0_0) w0 [] (ix3 (0 : Fin 1) n q)

/-- Branch 0 of the stored branches, read back as a slab. -/
theorem store_read0 (w0 w1 w2 : Vec Ideal S1x512x1024 .bf16) (n : Fin 512) (q : Fin 1024) :
    ((View.whole cc0_scratch1).readCov (Val := Elt Ideal) (s := S3x512x1024) (e := .bf16) [⟨(Rect.unit (s := S3x512x1024) ![2, 0, 0] ![1, 512, 1024] inb_S3x512x1024_S1x512x1024_2_0_0), w2⟩, ⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩] (Rect.unit (s := S3x512x1024) ![0, 0, 0] ![1, 512, 1024] inb_S3x512x1024_S1x512x1024_0_0_0).toLoadRect) (ix3 (0 : Fin 1) n q) = w0 (ix3 (0 : Fin 1) n q) := by
  rw [View.readCov_eq_canon']
  refine Eq.trans (congrArg (View.canon (Val := Elt Ideal) (s := S3x512x1024) (e := .bf16) [⟨(Rect.unit (s := S3x512x1024) ![2, 0, 0] ![1, 512, 1024] inb_S3x512x1024_S1x512x1024_2_0_0), w2⟩, ⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩]) ?_) (store_piece0 w0 w1 w2 n q)
  funext x
  refine Fin.ext ?_
  match x with
  | 0 => show 0 + 1 * 0 = 0; omega
  | 1 => show 0 + 1 * n.val = n.val; omega
  | 2 => show 0 + 1 * q.val = q.val; omega

/-- Branch 1 of the stored branches, at an index. -/
theorem store_piece1 (w0 w1 w2 : Vec Ideal S1x512x1024 .bf16) (n : Fin 512) (q : Fin 1024) :
    View.canon (Val := Elt Ideal) (s := S3x512x1024) (e := .bf16) [⟨(Rect.unit (s := S3x512x1024) ![2, 0, 0] ![1, 512, 1024] inb_S3x512x1024_S1x512x1024_2_0_0), w2⟩, ⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩] (ix3 (⟨1, by decide⟩ : Fin 3) n q) = w1 (ix3 (0 : Fin 1) n q) := by
  have e : (ix3 (⟨1, by decide⟩ : Fin 3) n q : S3x512x1024.Idx) = (Rect.unit (s := S3x512x1024) ![1, 0, 0] ![1, 512, 1024] inb_S3x512x1024_S1x512x1024_1_0_0).emb (ix3 (0 : Fin 1) n q) := by
    funext x
    refine Fin.ext ?_
    match x with
    | 0 => show 1 = 1 + 1 * 0; omega
    | 1 => show n.val = 0 + 1 * n.val; omega
    | 2 => show q.val = 0 + 1 * q.val; omega
  have n2 : (ix3 (⟨1, by decide⟩ : Fin 3) n q : S3x512x1024.Idx) ∉ (Rect.unit (s := S3x512x1024) ![2, 0, 0] ![1, 512, 1024] inb_S3x512x1024_S1x512x1024_2_0_0).set := fun hh => by
    have h0 : 2 ≤ 1 := ((Rect.mem_set_unit.mp hh) 0).1
    omega
  refine (View.canon_cons_of_not_mem (Val := Elt Ideal) (s := S3x512x1024) (e := .bf16) ⟨(Rect.unit (s := S3x512x1024) ![2, 0, 0] ![1, 512, 1024] inb_S3x512x1024_S1x512x1024_2_0_0), w2⟩ [⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩] n2).trans ?_
  rw [e]
  exact View.canon_cons_emb (Val := Elt Ideal) (s := S3x512x1024) (e := .bf16) (Rect.unit (s := S3x512x1024) ![1, 0, 0] ![1, 512, 1024] inb_S3x512x1024_S1x512x1024_1_0_0) w1 [⟨(Rect.unit (s := S3x512x1024) ![0, 0, 0] ![1, 512, 1024] inb_S3x512x1024_S1x512x1024_0_0_0), w0⟩] (ix3 (0 : Fin 1) n q)

/-- Branch 1 of the stored branches, read back as a slab. -/
theorem store_read1 (w0 w1 w2 : Vec Ideal S1x512x1024 .bf16) (n : Fin 512) (q : Fin 1024) :
    ((View.whole cc0_scratch1).readCov (Val := Elt Ideal) (s := S3x512x1024) (e := .bf16) [⟨(Rect.unit (s := S3x512x1024) ![2, 0, 0] ![1, 512, 1024] inb_S3x512x1024_S1x512x1024_2_0_0), w2⟩, ⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩] (Rect.unit (s := S3x512x1024) ![1, 0, 0] ![1, 512, 1024] inb_S3x512x1024_S1x512x1024_1_0_0).toLoadRect) (ix3 (0 : Fin 1) n q) = w1 (ix3 (0 : Fin 1) n q) := by
  rw [View.readCov_eq_canon']
  refine Eq.trans (congrArg (View.canon (Val := Elt Ideal) (s := S3x512x1024) (e := .bf16) [⟨(Rect.unit (s := S3x512x1024) ![2, 0, 0] ![1, 512, 1024] inb_S3x512x1024_S1x512x1024_2_0_0), w2⟩, ⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩]) ?_) (store_piece1 w0 w1 w2 n q)
  funext x
  refine Fin.ext ?_
  match x with
  | 0 => show 1 + 1 * 0 = 1; omega
  | 1 => show 0 + 1 * n.val = n.val; omega
  | 2 => show 0 + 1 * q.val = q.val; omega

/-- Branch 2 of the stored branches, at an index. -/
theorem store_piece2 (w0 w1 w2 : Vec Ideal S1x512x1024 .bf16) (n : Fin 512) (q : Fin 1024) :
    View.canon (Val := Elt Ideal) (s := S3x512x1024) (e := .bf16) [⟨(Rect.unit (s := S3x512x1024) ![2, 0, 0] ![1, 512, 1024] inb_S3x512x1024_S1x512x1024_2_0_0), w2⟩, ⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩] (ix3 (⟨2, by decide⟩ : Fin 3) n q) = w2 (ix3 (0 : Fin 1) n q) := by
  have e : (ix3 (⟨2, by decide⟩ : Fin 3) n q : S3x512x1024.Idx) = (Rect.unit (s := S3x512x1024) ![2, 0, 0] ![1, 512, 1024] inb_S3x512x1024_S1x512x1024_2_0_0).emb (ix3 (0 : Fin 1) n q) := by
    funext x
    refine Fin.ext ?_
    match x with
    | 0 => show 2 = 2 + 1 * 0; omega
    | 1 => show n.val = 0 + 1 * n.val; omega
    | 2 => show q.val = 0 + 1 * q.val; omega
  rw [e]
  exact View.canon_cons_emb (Val := Elt Ideal) (s := S3x512x1024) (e := .bf16) (Rect.unit (s := S3x512x1024) ![2, 0, 0] ![1, 512, 1024] inb_S3x512x1024_S1x512x1024_2_0_0) w2 [⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩] (ix3 (0 : Fin 1) n q)

/-- Branch 2 of the stored branches, read back as a slab. -/
theorem store_read2 (w0 w1 w2 : Vec Ideal S1x512x1024 .bf16) (n : Fin 512) (q : Fin 1024) :
    ((View.whole cc0_scratch1).readCov (Val := Elt Ideal) (s := S3x512x1024) (e := .bf16) [⟨(Rect.unit (s := S3x512x1024) ![2, 0, 0] ![1, 512, 1024] inb_S3x512x1024_S1x512x1024_2_0_0), w2⟩, ⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩] (Rect.unit (s := S3x512x1024) ![2, 0, 0] ![1, 512, 1024] inb_S3x512x1024_S1x512x1024_2_0_0).toLoadRect) (ix3 (0 : Fin 1) n q) = w2 (ix3 (0 : Fin 1) n q) := by
  rw [View.readCov_eq_canon']
  refine Eq.trans (congrArg (View.canon (Val := Elt Ideal) (s := S3x512x1024) (e := .bf16) [⟨(Rect.unit (s := S3x512x1024) ![2, 0, 0] ![1, 512, 1024] inb_S3x512x1024_S1x512x1024_2_0_0), w2⟩, ⟨(Rect.unit (s := S3x512x1024) ![1, 0, 0] ![1, 512, 1024] inb_S3x512x1024_S1x512x1024_1_0_0), w1⟩, ⟨(Rect.unit (s := S3x512x1024) ![0, 0, 0] ![1, 512, 1024] inb_S3x512x1024_S1x512x1024_0_0_0), w0⟩]) ?_) (store_piece2 w0 w1 w2 n q)
  funext x
  refine Fin.ext ?_
  match x with
  | 0 => show 2 + 1 * 0 = 2; omega
  | 1 => show 0 + 1 * n.val = n.val; omega
  | 2 => show 0 + 1 * q.val = q.val; omega

/-- The first branch as stored. -/
theorem y0_point (c : Dev nD) (t : Fin cfg0.N) (a : Fin 512) (k : Fin 1024) : k0_pay3 (F := Ideal) (iblk m c 1 t) (ix3 (0 : Fin 1) a k) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 (row (t.val / 4) a) k :=
  (pay3_at _ a k).trans (b1 m c t a k)

/-- The second branch as stored. -/
theorem y1_point (c : Dev nD) (t : Fin cfg0.N) (a : Fin 512) (k : Fin 1024) : k0_pay5 (F := Ideal) (k0_pay4 (F := Ideal) (iblk m c 2 t) (iblk m c 3 t) (iblk m c 7 t) (iblk m c 8 t)) (ix3 (0 : Fin 1) a k) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 (row (t.val / 4) a) k :=
  (pay5_at _ a k).trans (pay4_point m c t a k)

/-- The gates' channels as stored. -/
theorem gd_point (c : Dev nD) (t : Fin cfg0.N) (a : Fin 512) (k : Fin 512) : k0_pay2 (F := Ideal) (iblk m c 0 t) (ix2 a k) = (m ((c : Thread nD τ).loc main_arg0)) (ix2 (row (t.val / 4) a) ⟨6144 + k.val, by omega⟩) :=
  (pay2_at _ a k).trans (b0 m c t a k)

/-- The first point of a row tile: it stores the gates' channels and the branches, and writes the reference's block. -/
theorem stepA (c : Dev nD) (t : Fin cfg0.N) (h0 : t.val % 4 = 0) (a : Fin 512) :
    (∀ k, (outsAt0 m c t.val t.isLt).2.1 (ix2 a k) = (m ((c : Thread nD τ).loc main_arg0)) (ix2 (row (t.val / 4) a) ⟨6144 + k.val, by omega⟩)) ∧
    (∀ i k, (outsAt0 m c t.val t.isLt).2.2 (ix3 i a k) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i (row (t.val / 4) a) k) ∧
    (∀ q, (outsAt0 m c t.val t.isLt).1 (ix2 a q) = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row (t.val / 4) a) ⟨t.val % 4 * 1024 + q.val, by omega⟩)) := by
  rw [outsAt0_A m c t h0]
  refine ⟨?_, ?_, ?_⟩
  · intro k
    frame_out
    exact gd_point m c t a k
  · intro i k
    frame_out
    match i with
    | 0 => exact (store_piece0 _ _ _ a k).trans (y0_point m c t a k)
    | 1 => exact (store_piece1 _ _ _ a k).trans (y1_point m c t a k)
    | 2 => exact (store_piece2 _ _ _ a k).trans (pay6_point m c t a k)
  · intro q
    frame_out
    exact prod_point m c t a q _ _ _ _ _ _ _ _ _ _ _ _ _ _ _
      (gd_point m c t a) (gd_point m c t a) (gd_point m c t a)
      (fun x => ld_gate (iblk m c 9 t) 0 (by decide) _ x q) (fun x => ld_gate (iblk m c 9 t) 1 (by decide) _ x q) (fun x => ld_gate (iblk m c 9 t) 2 (by decide) _ x q)
      (ld_bias (iblk m c 10 t) 0 (by decide) _ 0 q) (ld_bias (iblk m c 10 t) 1 (by decide) _ 0 q) (ld_bias (iblk m c 10 t) 2 (by decide) _ 0 q)
      (fun x => (store_read0 _ _ _ a x).trans (y0_point m c t a x)) (fun x => (store_read1 _ _ _ a x).trans (y1_point m c t a x)) (fun x => (store_read2 _ _ _ a x).trans (pay6_point m c t a x))
      (fun x => ld_proj (iblk m c 11 t) 0 (by decide) _ x q) (fun x => ld_proj (iblk m c 11 t) 1 (by decide) _ x q) (fun x => ld_proj (iblk m c 11 t) 2 (by decide) _ x q)

/-- A later point of a row tile: it reads what the first one stored. -/
theorem stepB (c : Dev nD) (t : Fin cfg0.N) (h0 : ¬ t.val % 4 = 0) (a : Fin 512)
    (hp : ∀ k, (outsAt0 m c (t.val - 1) (Nat.lt_of_le_of_lt (Nat.sub_le _ _) t.isLt)).2.1 (ix2 a k) = (m ((c : Thread nD τ).loc main_arg0)) (ix2 (row (t.val / 4) a) ⟨6144 + k.val, by omega⟩))
    (hq : ∀ i k, (outsAt0 m c (t.val - 1) (Nat.lt_of_le_of_lt (Nat.sub_le _ _) t.isLt)).2.2 (ix3 i a k) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i (row (t.val / 4) a) k) :
    (∀ k, (outsAt0 m c t.val t.isLt).2.1 (ix2 a k) = (m ((c : Thread nD τ).loc main_arg0)) (ix2 (row (t.val / 4) a) ⟨6144 + k.val, by omega⟩)) ∧
    (∀ i k, (outsAt0 m c t.val t.isLt).2.2 (ix3 i a k) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i (row (t.val / 4) a) k) ∧
    (∀ q, (outsAt0 m c t.val t.isLt).1 (ix2 a q) = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row (t.val / 4) a) ⟨t.val % 4 * 1024 + q.val, by omega⟩)) := by
  rw [outsAt0_B m c t h0]
  refine ⟨hp, hq, ?_⟩
  intro q
  frame_out
  rw [read_unread_whole, read_unread_whole]
  exact prod_point m c t a q _ _ _ _ _ _ _ _ _ _ _ _ _ _ _
      hp hp hp
      (fun x => ld_gate (iblk m c 9 t) 0 (by decide) _ x q) (fun x => ld_gate (iblk m c 9 t) 1 (by decide) _ x q) (fun x => ld_gate (iblk m c 9 t) 2 (by decide) _ x q)
      (ld_bias (iblk m c 10 t) 0 (by decide) _ 0 q) (ld_bias (iblk m c 10 t) 1 (by decide) _ 0 q) (ld_bias (iblk m c 10 t) 2 (by decide) _ 0 q)
      (fun x => (ld_gate _ 0 (by decide) _ a x).trans (hq 0 x)) (fun x => (ld_gate _ 1 (by decide) _ a x).trans (hq 1 x)) (fun x => (ld_gate _ 2 (by decide) _ a x).trans (hq 2 x))
      (fun x => ld_proj (iblk m c 11 t) 0 (by decide) _ x q) (fun x => ld_proj (iblk m c 11 t) 1 (by decide) _ x q) (fun x => ld_proj (iblk m c 11 t) 2 (by decide) _ x q)

/-- The contents after every point: the row tile's gate channels and branches, and the reference's block. -/
theorem inv (c : Dev nD) (n : ℕ) : ∀ hn : n < cfg0.N, ∀ a : Fin 512,
    (∀ k, (outsAt0 m c n hn).2.1 (ix2 a k) = (m ((c : Thread nD τ).loc main_arg0)) (ix2 (row (n / 4) a) ⟨6144 + k.val, by omega⟩)) ∧
    (∀ i k, (outsAt0 m c n hn).2.2 (ix3 i a k) = branchAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i (row (n / 4) a) k) ∧
    (∀ q, (outsAt0 m c n hn).1 (ix2 a q) = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row (n / 4) a) ⟨n % 4 * 1024 + q.val, by omega⟩)) := by
  induction n with
  | zero =>
    intro hn a
    exact stepA m c ⟨0, hn⟩ (Nat.zero_mod 4) a
  | succ n ih =>
    intro hn a
    by_cases h0 : (n + 1) % 4 = 0
    · exact stepA m c ⟨n + 1, hn⟩ h0 a
    · have hd : (n + 1) / 4 = n / 4 := by omega
      obtain ⟨i2, i3, -⟩ := ih (Nat.lt_of_succ_lt hn) a
      rw [← hd] at i2 i3
      exact stepB m c ⟨n + 1, hn⟩ h0 a i2 i3

theorem final (c : Dev nD) : (dats m 0 c).arrAt 12 (cfgs 0).N = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp; rw [after0_12]
  refine (congrArg _ (eq_ix2 y)).trans ?_
  refine ((inv m c t.val t.isLt (y 0)).2.2 (y 1)).trans ?_
  have ht : t.val < 132 := lt_of_lt_of_eq t.isLt N_0
  refine congrArg _ ?_
  blk_ext [idx t, row]

end Cert.MergeIdeal.Proj

end
-- ==== Proof.MergeClaim.lean ====
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.MergeValue
public import Idealize.ShloMosaic.Lib.Claim
public import Idealize.ShloMosaic.Lib.Quiescent

@[expose] public section

set_option maxRecDepth 16384

noncomputable section

namespace Cert.Proof

open Idealize.ShloMosaic Idealize.SL.Sem

/-- The reference runs, keeps its arguments and has no counters to end away from zero. -/
theorem merge_ref_still : Cert.quiescent_MergeRefIdeal := by
  intro m g _
  refine (θ_run Cert.MergeRefIdeal.defs _ _).mono ?_ (Cert.MergeRefIdeal.Value.run (F := Ideal) m g)
  intro r h
  exact ⟨fun c => (h c).2, sem_eq_zero_of_no_sems (by decide) r.2⟩

/-- The kernel's result is the reference's, on all arguments. -/
theorem merge_value : Cert.algebraic_MergeIdeal_MergeRefIdeal := by
  pair_intro
  · run_from Cert.MergeIdeal.Value.run_blocks m g
  · run_from Cert.MergeRefIdeal.Value.run m' g'
    refine Eq.trans ?_ (Cert.MergeIdeal.Proj.final m c).symm
    obtain ⟨h0, h1, h2, h3, h4, h5, h6, h7, h8, h9, h10⟩ := hagree c
    rw [← h0, ← h1, ← h2, ← h3, ← h4, ← h5, ← h6, ← h7, ← h8, ← h9, ← h10]
    rfl

end Cert.Proof

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutRefIdeal
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.Pre_finite_steps
public import proofs.«01_k».proof.Proof.Gen.MlpIdeal.Value
public import proofs.«01_k».proof.Proof.Gen.MlpRefIdeal.Run
public import proofs.«01_k».proof.Proof.MlpClaim
public import proofs.«01_k».proof.Proof.Gen.WoutIdeal.Value
public import proofs.«01_k».proof.Proof.Gen.WoutRefIdeal.Run
public import proofs.«01_k».proof.Proof.WoutClaim
public import proofs.«01_k».proof.Proof.Gen.WinIdeal.Value
public import proofs.«01_k».proof.Proof.Gen.WinRefIdeal.Run
public import proofs.«01_k».proof.Proof.WinClaim
public import proofs.«01_k».proof.Proof.Gen.SsdIdeal.Value
public import proofs.«01_k».proof.Proof.Gen.SsdRefIdeal.Run
public import proofs.«01_k».proof.Proof.SsdClaim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.MergeClaim
public import Idealize.ShloMosaic.Adequacy
public import Idealize.ShloMosaic.Init

@[expose] public section

noncomputable section

namespace Cert.Proof

open Idealize.ShloMosaic Idealize.SL.Sem

theorem claim : Cert.Claim := ⟨Cert.Mlp.Gen.facts, Cert.MlpIdeal.Gen.facts, Cert.MlpRefIdeal.Gen.facts, Cert.Wout.Gen.facts, Cert.WoutIdeal.Gen.facts, Cert.WoutRefIdeal.Gen.facts, Cert.Win.Gen.facts, Cert.WinIdeal.Gen.facts, Cert.WinRefIdeal.Gen.facts, Cert.Merge.Gen.facts, Cert.MergeIdeal.Gen.facts, Cert.MergeRefIdeal.Gen.facts, Cert.Ssd.Gen.facts, Cert.SsdIdeal.Gen.facts, Cert.SsdRefIdeal.Gen.facts, Cert.Pre_finite_steps.Gen.facts,
  (fun m g _ => Cert.Mlp.Gen.frame m g),
  (fun m g _ => Cert.MlpIdeal.Gen.frame m g),
  mlp_ref_still,
  (fun m g _ => Cert.Wout.Gen.frame m g),
  (fun m g _ => Cert.WoutIdeal.Gen.frame m g),
  wout_ref_still,
  (fun m g _ => Cert.Win.Gen.frame m g),
  (fun m g _ => Cert.WinIdeal.Gen.frame m g),
  win_ref_still,
  (fun m g _ => Cert.Merge.Gen.frame m g),
  (fun m g _ => Cert.MergeIdeal.Gen.frame m g),
  merge_ref_still,
  (fun m g _ => Cert.Ssd.Gen.frame m g),
  (fun m g _ => Cert.SsdIdeal.Gen.frame m g),
  ssd_pre_still,
  ssd_ref_still,
  ssd_ref_pre_still,
  trivial,
  mlp_value,
  trivial,
  wout_value,
  trivial,
  win_value,
  trivial,
  merge_value,
  trivial,
  ssd_value⟩

end Cert.Proof

end
